-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)) (v1 : (c : Dev Cert.Kernel2Ideal.nD) → Buf (Elt Ideal) ((c.tc : Thread Cert.Kernel2Ideal.nD Cert.Kernel2Ideal.τ).loc Cert.Kernel2Ideal.main_v8)) (v2 : (c : Dev Cert.Kernel2Ideal.nD) → Buf (Elt Ideal) ((c.tc : Thread Cert.Kernel2Ideal.nD Cert.Kernel2Ideal.τ).loc Cert.Kernel2Ideal.main_v6)) (v3 : (c : Dev Cert.Kernel2Ideal.nD) → Buf (Elt Ideal) ((c.tc : Thread Cert.Kernel2Ideal.nD Cert.Kernel2Ideal.τ).loc Cert.Kernel2Ideal.main_v2_0)) (v4 : (c : Dev Cert.Kernel2Ideal.nD) → Buf (Elt Ideal) ((c.tc : Thread Cert.Kernel2Ideal.nD Cert.Kernel2Ideal.τ).loc Cert.Kernel2Ideal.main_v2_3)) (v5 : (c : Dev Cert.Kernel2Ideal.nD) → Buf (Elt Ideal) ((c.tc : Thread Cert.Kernel2Ideal.nD Cert.Kernel2Ideal.τ).loc Cert.Kernel2Ideal.main_v2_4)) (v6 : (c : Dev Cert.Kernel2Ideal.nD) → Buf (Elt Ideal) ((c.tc : Thread Cert.Kernel2Ideal.nD Cert.Kernel2Ideal.τ).loc Cert.Kernel2Ideal.main_v2_5)) (v7 : (c : Dev Cert.Kernel2Ideal.nD) → Buf (Elt Ideal) ((c.tc : Thread Cert.Kernel2Ideal.nD Cert.Kernel2Ideal.τ).loc Cert.Kernel2Ideal.main_v2_6)) (v8 : (c : Dev Cert.Kernel2Ideal.nD) → Buf (Elt Ideal) ((c.tc : Thread Cert.Kernel2Ideal.nD Cert.Kernel2Ideal.τ).loc Cert.Kernel2Ideal.main_v2_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_v8) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_v2_0) = v3 c
          ∧ r.2.mem ((c.tc : Thread Cert.Kernel2Ideal.nD Cert.Kernel2Ideal.τ).loc Cert.Kernel2Ideal.main_v2_3) = v4 c
          ∧ r.2.mem ((c.tc : Thread Cert.Kernel2Ideal.nD Cert.Kernel2Ideal.τ).loc Cert.Kernel2Ideal.main_v2_4) = v5 c
          ∧ r.2.mem ((c.tc : Thread Cert.Kernel2Ideal.nD Cert.Kernel2Ideal.τ).loc Cert.Kernel2Ideal.main_v2_5) = v6 c
          ∧ r.2.mem ((c.tc : Thread Cert.Kernel2Ideal.nD Cert.Kernel2Ideal.τ).loc Cert.Kernel2Ideal.main_v2_6) = v7 c
          ∧ r.2.mem ((c.tc : Thread Cert.Kernel2Ideal.nD Cert.Kernel2Ideal.τ).loc Cert.Kernel2Ideal.main_v2_7) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v36) = v4 c
          ∧ r.2.mem ((c.tc : Thread Cert.Reference2Ideal.nD Cert.Reference2Ideal.τ).loc Cert.Reference2Ideal.main_v37) = v5 c
          ∧ r.2.mem ((c.tc : Thread Cert.Reference2Ideal.nD Cert.Reference2Ideal.τ).loc Cert.Reference2Ideal.main_v38) = v6 c
          ∧ r.2.mem ((c.tc : Thread Cert.Reference2Ideal.nD Cert.Reference2Ideal.τ).loc Cert.Reference2Ideal.main_v39) = v7 c
          ∧ r.2.mem ((c.tc : Thread Cert.Reference2Ideal.nD Cert.Reference2Ideal.τ).loc Cert.Reference2Ideal.main_v40) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)) (v1 : (c : Dev Cert.Kernel4Ideal.nD) → Buf (Elt Ideal) ((c.tc : Thread Cert.Kernel4Ideal.nD Cert.Kernel4Ideal.τ).loc Cert.Kernel4Ideal.main_v7)) (v2 : (c : Dev Cert.Kernel4Ideal.nD) → Buf (Elt Ideal) ((c.tc : Thread Cert.Kernel4Ideal.nD Cert.Kernel4Ideal.τ).loc Cert.Kernel4Ideal.main_v8)) (v3 : (c : Dev Cert.Kernel4Ideal.nD) → Buf (Elt Ideal) ((c.tc : Thread Cert.Kernel4Ideal.nD Cert.Kernel4Ideal.τ).loc Cert.Kernel4Ideal.main_v3_0)) (v4 : (c : Dev Cert.Kernel4Ideal.nD) → Buf (Elt Ideal) ((c.tc : Thread Cert.Kernel4Ideal.nD Cert.Kernel4Ideal.τ).loc Cert.Kernel4Ideal.main_v3_3)) (v5 : (c : Dev Cert.Kernel4Ideal.nD) → Buf (Elt Ideal) ((c.tc : Thread Cert.Kernel4Ideal.nD Cert.Kernel4Ideal.τ).loc Cert.Kernel4Ideal.main_v3_4)) (v6 : (c : Dev Cert.Kernel4Ideal.nD) → Buf (Elt Ideal) ((c.tc : Thread Cert.Kernel4Ideal.nD Cert.Kernel4Ideal.τ).loc Cert.Kernel4Ideal.main_v3_5)) (v7 : (c : Dev Cert.Kernel4Ideal.nD) → Buf (Elt Ideal) ((c.tc : Thread Cert.Kernel4Ideal.nD Cert.Kernel4Ideal.τ).loc Cert.Kernel4Ideal.main_v3_6)) (v8 : (c : Dev Cert.Kernel4Ideal.nD) → Buf (Elt Ideal) ((c.tc : Thread Cert.Kernel4Ideal.nD Cert.Kernel4Ideal.τ).loc Cert.Kernel4Ideal.main_v3_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_v7) = v1 c
          ∧ r.2.mem ((c.tc : Thread Cert.Kernel4Ideal.nD Cert.Kernel4Ideal.τ).loc Cert.Kernel4Ideal.main_v8) = v2 c
          ∧ r.2.mem ((c.tc : Thread Cert.Kernel4Ideal.nD Cert.Kernel4Ideal.τ).loc Cert.Kernel4Ideal.main_v3_0) = v3 c
          ∧ r.2.mem ((c.tc : Thread Cert.Kernel4Ideal.nD Cert.Kernel4Ideal.τ).loc Cert.Kernel4Ideal.main_v3_3) = v4 c
          ∧ r.2.mem ((c.tc : Thread Cert.Kernel4Ideal.nD Cert.Kernel4Ideal.τ).loc Cert.Kernel4Ideal.main_v3_4) = v5 c
          ∧ r.2.mem ((c.tc : Thread Cert.Kernel4Ideal.nD Cert.Kernel4Ideal.τ).loc Cert.Kernel4Ideal.main_v3_5) = v6 c
          ∧ r.2.mem ((c.tc : Thread Cert.Kernel4Ideal.nD Cert.Kernel4Ideal.τ).loc Cert.Kernel4Ideal.main_v3_6) = v7 c
          ∧ r.2.mem ((c.tc : Thread Cert.Kernel4Ideal.nD Cert.Kernel4Ideal.τ).loc Cert.Kernel4Ideal.main_v3_7) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v24) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v38) = v5 c
          ∧ r.2.mem ((c.tc : Thread Cert.Reference4Ideal.nD Cert.Reference4Ideal.τ).loc Cert.Reference4Ideal.main_v39) = v6 c
          ∧ r.2.mem ((c.tc : Thread Cert.Reference4Ideal.nD Cert.Reference4Ideal.τ).loc Cert.Reference4Ideal.main_v40) = v7 c
          ∧ r.2.mem ((c.tc : Thread Cert.Reference4Ideal.nD Cert.Reference4Ideal.τ).loc Cert.Reference4Ideal.main_v41) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v246) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v250) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3_0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S16384x512 : Shape := ⟨2, ![16384, 512]⟩
abbrev S8 : Shape := ⟨1, ![8]⟩
abbrev S_ : Shape := ⟨0, ![]⟩
abbrev S256x128 : Shape := ⟨2, ![256, 128]⟩
abbrev S16384x128 : Shape := ⟨2, ![16384, 128]⟩
abbrev S2x256x128 : Shape := ⟨3, ![2, 256, 128]⟩
abbrev S1 : Shape := ⟨1, ![1]⟩
abbrev S256x256 : Shape := ⟨2, ![256, 256]⟩
abbrev S256x1 : Shape := ⟨2, ![256, 1]⟩
abbrev S1x256x128 : Shape := ⟨3, ![1, 256, 128]⟩

abbrev nBuf : Space → Nat
  | .hbm => 11
  | .vmem => 9
  | .smem => 1
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S256x128, .bf16⟩
  | .local _ .vmem, ⟨7, _⟩ => ⟨S256x128, .bf16⟩
  | .local _ .vmem, ⟨8, _⟩ => ⟨S2x256x128, .f32⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 64], ![false, false]⟩

def k0_off1 (i : grid0.Coords) : Fin 1 → Nat :=
  let c2_i32 : BitVec 32 := 2#32
  let arg0 : BitVec 32 := BitVec.ofNat 32 (i 0).val
  let v10 : BitVec 32 := Scalar.muli c2_i32 arg0
  let v11 : Index := Scalar.indexCast v10
  ![v11.toNat]
def k0_off2 (i : grid0.Coords) : Fin 1 → Nat :=
  let c2_i32_2 : BitVec 32 := 2#32
  let arg0 : BitVec 32 := BitVec.ofNat 32 (i 0).val
  let v13 : BitVec 32 := Scalar.muli c2_i32_2 arg0
  let c1_i32 : BitVec 32 := 1#32
  let v14 : BitVec 32 := Scalar.addi v13 c1_i32
  let v15 : Index := Scalar.indexCast v14
  ![v15.toNat]
def k0_mult1 (i : grid0.Coords) : BitVec 32 :=
  let arg1 : BitVec 32 := BitVec.ofNat 32 (i 1).val
  let c256_i32 : BitVec 32 := 256#32
  let v29 : BitVec 32 := Scalar.muli arg1 c256_i32
  v29
def k0_off3 (i : grid0.Coords) : Fin 2 → Nat :=
  let arg1 : BitVec 32 := BitVec.ofNat 32 (i 1).val
  let c256_i32 : BitVec 32 := 256#32
  let v29 : BitVec 32 := Scalar.muli arg1 c256_i32
  let v30 : BitVec 32 := v29
  let v31 : Index := Scalar.indexCast v30
  let c0_8 : Index := 0#32
  ![v31.toNat, 0]
def k0_mult2 (i : grid0.Coords) : BitVec 32 :=
  let arg1 : BitVec 32 := BitVec.ofNat 32 (i 1).val
  let c256_i32_15 : BitVec 32 := 256#32
  let v51 : BitVec 32 := Scalar.muli arg1 c256_i32_15
  v51
def k0_mult3 (i : grid0.Coords) : BitVec 32 :=
  let arg1 : BitVec 32 := BitVec.ofNat 32 (i 1).val
  let c256_i32_25 : BitVec 32 := 256#32
  let v72 : BitVec 32 := Scalar.muli arg1 c256_i32_25
  v72
def k0_mult4 (i : grid0.Coords) : BitVec 32 :=
  let arg1 : BitVec 32 := BitVec.ofNat 32 (i 1).val
  let c256_i32_33 : BitVec 32 := 256#32
  let v94 : BitVec 32 := Scalar.muli arg1 c256_i32_33
  v94
@[reducible] def k0_t1_loop (i : grid0.Coords) : Scf.Loop 32 :=
  let c0_i32_47 : BitVec 32 := 0#32
  let arg1 : BitVec 32 := BitVec.ofNat 32 (i 1).val
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_49 : BitVec 32 := 1#32
  ⟨c0_i32_47, v136, c1_i32_49⟩
def k0_mult5 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c0_i32_72 : BitVec 32 := 0#32
  let v168 : BitVec 32 := Scalar.subi v167 c0_i32_72
  let c256_i32_73 : BitVec 32 := 256#32
  let v169 : BitVec 32 := Scalar.muli v168 c256_i32_73
  v169
def k0_off4 (i : grid0.Coords) (k0_t1 : Fin (k0_t1_loop i).trips) (c0_i32_72 : BitVec 32) : Fin 2 → Nat :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let v168 : BitVec 32 := Scalar.subi v167 c0_i32_72
  let c256_i32_73 : BitVec 32 := 256#32
  let v169 : BitVec 32 := Scalar.muli v168 c256_i32_73
  let v170 : BitVec 32 := v169
  let v171 : Index := Scalar.indexCast v170
  let c0_74 : Index := 0#32
  ![v171.toNat, 0]
def k0_mult6 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c1_i32_80 : BitVec 32 := 1#32
  let v189 : BitVec 32 := Scalar.subi v167 c1_i32_80
  let c256_i32_81 : BitVec 32 := 256#32
  let v190 : BitVec 32 := Scalar.muli v189 c256_i32_81
  v190
def k0_mult7 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c2_i32_88 : BitVec 32 := 2#32
  let v210 : BitVec 32 := Scalar.subi v167 c2_i32_88
  let c256_i32_89 : BitVec 32 := 256#32
  let v211 : BitVec 32 := Scalar.muli v210 c256_i32_89
  v211
def k0_mult8 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c3_i32 : BitVec 32 := 3#32
  let v231 : BitVec 32 := Scalar.subi v167 c3_i32
  let c256_i32_96 : BitVec 32 := 256#32
  let v232 : BitVec 32 := Scalar.muli v231 c256_i32_96
  v232
def k0_mult9 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c0_i32_103 : BitVec 32 := 0#32
  let v252 : BitVec 32 := Scalar.subi v167 c0_i32_103
  let c256_i32_104 : BitVec 32 := 256#32
  let v253 : BitVec 32 := Scalar.muli v252 c256_i32_104
  v253
def k0_mult10 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c1_i32_113 : BitVec 32 := 1#32
  let v272 : BitVec 32 := Scalar.subi v167 c1_i32_113
  let c256_i32_114 : BitVec 32 := 256#32
  let v273 : BitVec 32 := Scalar.muli v272 c256_i32_114
  v273
def k0_mult11 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c2_i32_123 : BitVec 32 := 2#32
  let v292 : BitVec 32 := Scalar.subi v167 c2_i32_123
  let c256_i32_124 : BitVec 32 := 256#32
  let v293 : BitVec 32 := Scalar.muli v292 c256_i32_124
  v293
def k0_mult12 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c3_i32_133 : BitVec 32 := 3#32
  let v312 : BitVec 32 := Scalar.subi v167 c3_i32_133
  let c256_i32_134 : BitVec 32 := 256#32
  let v313 : BitVec 32 := Scalar.muli v312 c256_i32_134
  v313
def k0_mult13 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c0_i32_143 : BitVec 32 := 0#32
  let v332 : BitVec 32 := Scalar.subi v167 c0_i32_143
  let c256_i32_144 : BitVec 32 := 256#32
  let v333 : BitVec 32 := Scalar.muli v332 c256_i32_144
  v333
def k0_mult14 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c1_i32_151 : BitVec 32 := 1#32
  let v353 : BitVec 32 := Scalar.subi v167 c1_i32_151
  let c256_i32_152 : BitVec 32 := 256#32
  let v354 : BitVec 32 := Scalar.muli v353 c256_i32_152
  v354
def k0_mult15 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c2_i32_159 : BitVec 32 := 2#32
  let v374 : BitVec 32 := Scalar.subi v167 c2_i32_159
  let c256_i32_160 : BitVec 32 := 256#32
  let v375 : BitVec 32 := Scalar.muli v374 c256_i32_160
  v375
def k0_mult16 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c3_i32_167 : BitVec 32 := 3#32
  let v395 : BitVec 32 := Scalar.subi v167 c3_i32_167
  let c256_i32_168 : BitVec 32 := 256#32
  let v396 : BitVec 32 := Scalar.muli v395 c256_i32_168
  v396
def k0_mult17 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c0_i32_175 : BitVec 32 := 0#32
  let v416 : BitVec 32 := Scalar.subi v167 c0_i32_175
  let c256_i32_176 : BitVec 32 := 256#32
  let v417 : BitVec 32 := Scalar.muli v416 c256_i32_176
  v417
def k0_mult18 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c1_i32_185 : BitVec 32 := 1#32
  let v436 : BitVec 32 := Scalar.subi v167 c1_i32_185
  let c256_i32_186 : BitVec 32 := 256#32
  let v437 : BitVec 32 := Scalar.muli v436 c256_i32_186
  v437
def k0_mult19 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c2_i32_195 : BitVec 32 := 2#32
  let v456 : BitVec 32 := Scalar.subi v167 c2_i32_195
  let c256_i32_196 : BitVec 32 := 256#32
  let v457 : BitVec 32 := Scalar.muli v456 c256_i32_196
  v457
def k0_mult20 (i : grid0.Coords) (k0_t1 : Fin (k0_t1_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c1_i32_49 : BitVec 32 := 1#32
  let arg8 : BitVec 32 := Scf.iv c0_i32_47 c1_i32_49 k0_t1
  let v166 : BitVec 32 := Scalar.muli c4_i32_71 arg8
  let v167 : BitVec 32 := Scalar.subi v165 v166
  let c3_i32_205 : BitVec 32 := 3#32
  let v476 : BitVec 32 := Scalar.subi v167 c3_i32_205
  let c256_i32_206 : BitVec 32 := 256#32
  let v477 : BitVec 32 := Scalar.muli v476 c256_i32_206
  v477
@[reducible] def k0_t2_loop (i : grid0.Coords) : Scf.Loop 32 :=
  let c0_i32_47 : BitVec 32 := 0#32
  let arg1 : BitVec 32 := BitVec.ofNat 32 (i 1).val
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let v133 : BitVec 32 := Scalar.addi c0_i32_47 v132
  let c1_i32_50 : BitVec 32 := 1#32
  ⟨v136, v133, c1_i32_50⟩
def k0_mult21 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c0_i32_72 : BitVec 32 := 0#32
  let v168 : BitVec 32 := Scalar.subi v167 c0_i32_72
  let c256_i32_73 : BitVec 32 := 256#32
  let v169 : BitVec 32 := Scalar.muli v168 c256_i32_73
  v169
def k0_off5 (i : grid0.Coords) (k0_t2 : Fin (k0_t2_loop i).trips) (c0_i32_72 : BitVec 32) : Fin 2 → Nat :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let v168 : BitVec 32 := Scalar.subi v167 c0_i32_72
  let c256_i32_73 : BitVec 32 := 256#32
  let v169 : BitVec 32 := Scalar.muli v168 c256_i32_73
  let v170 : BitVec 32 := v169
  let v171 : Index := Scalar.indexCast v170
  let c0_74 : Index := 0#32
  ![v171.toNat, 0]
def k0_mult22 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c1_i32_80 : BitVec 32 := 1#32
  let v189 : BitVec 32 := Scalar.subi v167 c1_i32_80
  let c256_i32_81 : BitVec 32 := 256#32
  let v190 : BitVec 32 := Scalar.muli v189 c256_i32_81
  v190
def k0_mult23 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c2_i32_88 : BitVec 32 := 2#32
  let v210 : BitVec 32 := Scalar.subi v167 c2_i32_88
  let c256_i32_89 : BitVec 32 := 256#32
  let v211 : BitVec 32 := Scalar.muli v210 c256_i32_89
  v211
def k0_mult24 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c3_i32 : BitVec 32 := 3#32
  let v231 : BitVec 32 := Scalar.subi v167 c3_i32
  let c256_i32_96 : BitVec 32 := 256#32
  let v232 : BitVec 32 := Scalar.muli v231 c256_i32_96
  v232
def k0_mult25 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c0_i32_103 : BitVec 32 := 0#32
  let v252 : BitVec 32 := Scalar.subi v167 c0_i32_103
  let c256_i32_104 : BitVec 32 := 256#32
  let v253 : BitVec 32 := Scalar.muli v252 c256_i32_104
  v253
def k0_mult26 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c1_i32_113 : BitVec 32 := 1#32
  let v272 : BitVec 32 := Scalar.subi v167 c1_i32_113
  let c256_i32_114 : BitVec 32 := 256#32
  let v273 : BitVec 32 := Scalar.muli v272 c256_i32_114
  v273
def k0_mult27 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c2_i32_123 : BitVec 32 := 2#32
  let v292 : BitVec 32 := Scalar.subi v167 c2_i32_123
  let c256_i32_124 : BitVec 32 := 256#32
  let v293 : BitVec 32 := Scalar.muli v292 c256_i32_124
  v293
def k0_mult28 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c3_i32_133 : BitVec 32 := 3#32
  let v312 : BitVec 32 := Scalar.subi v167 c3_i32_133
  let c256_i32_134 : BitVec 32 := 256#32
  let v313 : BitVec 32 := Scalar.muli v312 c256_i32_134
  v313
def k0_mult29 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c0_i32_143 : BitVec 32 := 0#32
  let v332 : BitVec 32 := Scalar.subi v167 c0_i32_143
  let c256_i32_144 : BitVec 32 := 256#32
  let v333 : BitVec 32 := Scalar.muli v332 c256_i32_144
  v333
def k0_mult30 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c1_i32_151 : BitVec 32 := 1#32
  let v353 : BitVec 32 := Scalar.subi v167 c1_i32_151
  let c256_i32_152 : BitVec 32 := 256#32
  let v354 : BitVec 32 := Scalar.muli v353 c256_i32_152
  v354
def k0_mult31 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c2_i32_159 : BitVec 32 := 2#32
  let v374 : BitVec 32 := Scalar.subi v167 c2_i32_159
  let c256_i32_160 : BitVec 32 := 256#32
  let v375 : BitVec 32 := Scalar.muli v374 c256_i32_160
  v375
def k0_mult32 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c3_i32_167 : BitVec 32 := 3#32
  let v395 : BitVec 32 := Scalar.subi v167 c3_i32_167
  let c256_i32_168 : BitVec 32 := 256#32
  let v396 : BitVec 32 := Scalar.muli v395 c256_i32_168
  v396
def k0_mult33 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c0_i32_175 : BitVec 32 := 0#32
  let v416 : BitVec 32 := Scalar.subi v167 c0_i32_175
  let c256_i32_176 : BitVec 32 := 256#32
  let v417 : BitVec 32 := Scalar.muli v416 c256_i32_176
  v417
def k0_mult34 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c1_i32_185 : BitVec 32 := 1#32
  let v436 : BitVec 32 := Scalar.subi v167 c1_i32_185
  let c256_i32_186 : BitVec 32 := 256#32
  let v437 : BitVec 32 := Scalar.muli v436 c256_i32_186
  v437
def k0_mult35 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c2_i32_195 : BitVec 32 := 2#32
  let v456 : BitVec 32 := Scalar.subi v167 c2_i32_195
  let c256_i32_196 : BitVec 32 := 256#32
  let v457 : BitVec 32 := Scalar.muli v456 c256_i32_196
  v457
def k0_mult36 (i : grid0.Coords) (k0_t2 : Fin (k0_t2_loop i).trips) : BitVec 32 :=
  let arg1 : BitVec 32 := BitVec.ofNat 32 (i 1).val
  let c1_i32_70 : BitVec 32 := 1#32
  let v165 : BitVec 32 := Scalar.subi arg1 c1_i32_70
  let c4_i32_71 : BitVec 32 := 4#32
  let c0_i32_47 : BitVec 32 := 0#32
  let c0_i32 : BitVec 32 := 0#32
  let v116 : BitVec 1 := Scalar.cmpi .sgt arg1 c0_i32
  let v117 : BitVec 32 := Scalar.extui v116
  let c0_i32_42 : BitVec 32 := 0#32
  let v118 : BitVec 1 := Scalar.cmpi .slt arg1 c0_i32_42
  let v119 : BitVec 32 := Scalar.extui v118
  let v120 : BitVec 32 := Scalar.subi v117 v119
  let c4_i32 : BitVec 32 := 4#32
  let c0_i32_43 : BitVec 32 := 0#32
  let v121 : BitVec 1 := Scalar.cmpi .sgt c4_i32 c0_i32_43
  let v122 : BitVec 32 := Scalar.extui v121
  let c0_i32_44 : BitVec 32 := 0#32
  let v123 : BitVec 1 := Scalar.cmpi .slt c4_i32 c0_i32_44
  let v124 : BitVec 32 := Scalar.extui v123
  let v125 : BitVec 32 := Scalar.subi v122 v124
  let v126 : BitVec 1 := Scalar.cmpi .ne v120 v125
  let v127 : BitVec 32 := Scalar.remsi arg1 c4_i32
  let c0_i32_45 : BitVec 32 := 0#32
  let v128 : BitVec 1 := Scalar.cmpi .ne v127 c0_i32_45
  let v129 : BitVec 1 := Scalar.andi v126 v128
  let v115 : BitVec 32 := Scalar.divsi arg1 c4_i32
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg8 : BitVec 32 := Scf.iv v136 c1_i32_50 k0_t2
  let v166 : BitVec 32 := Scalar.muli c4_i32_71 arg8
  let v167 : BitVec 32 := Scalar.subi v165 v166
  let c3_i32_205 : BitVec 32 := 3#32
  let v476 : BitVec 32 := Scalar.subi v167 c3_i32_205
  let c256_i32_206 : BitVec 32 := 256#32
  let v477 : BitVec 32 := Scalar.muli v476 c256_i32_206
  v477
@[reducible] def k0_t3_loop (i : grid0.Coords) : Scf.Loop 32 :=
  let c0_i32_57 : BitVec 32 := 0#32
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_59 : BitVec 32 := 1#32
  ⟨c0_i32_57, v153, c1_i32_59⟩
def k0_mult37 (i : grid0.Coords) (k0_t3 : Fin (k0_t3_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let c1_i32_59 : BitVec 32 := 1#32
  let arg8 : BitVec 32 := Scf.iv c0_i32_57 c1_i32_59 k0_t3
  let v166 : BitVec 32 := Scalar.subi v165 arg8
  let c256_i32_71 : BitVec 32 := 256#32
  let v167 : BitVec 32 := Scalar.muli v166 c256_i32_71
  v167
def k0_off6 (i : grid0.Coords) (k0_t3 : Fin (k0_t3_loop i).trips) : Fin 2 → Nat :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let c1_i32_59 : BitVec 32 := 1#32
  let arg8 : BitVec 32 := Scf.iv c0_i32_57 c1_i32_59 k0_t3
  let v166 : BitVec 32 := Scalar.subi v165 arg8
  let c256_i32_71 : BitVec 32 := 256#32
  let v167 : BitVec 32 := Scalar.muli v166 c256_i32_71
  let v168 : BitVec 32 := v167
  let v169 : Index := Scalar.indexCast v168
  let c0_72 : Index := 0#32
  ![v169.toNat, 0]
def k0_mult38 (i : grid0.Coords) (k0_t3 : Fin (k0_t3_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let c1_i32_59 : BitVec 32 := 1#32
  let arg8 : BitVec 32 := Scf.iv c0_i32_57 c1_i32_59 k0_t3
  let v166 : BitVec 32 := Scalar.subi v165 arg8
  let c256_i32_78 : BitVec 32 := 256#32
  let v187 : BitVec 32 := Scalar.muli v166 c256_i32_78
  v187
def k0_mult39 (i : grid0.Coords) (k0_t3 : Fin (k0_t3_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let c1_i32_59 : BitVec 32 := 1#32
  let arg8 : BitVec 32 := Scf.iv c0_i32_57 c1_i32_59 k0_t3
  let v166 : BitVec 32 := Scalar.subi v165 arg8
  let c256_i32_87 : BitVec 32 := 256#32
  let v206 : BitVec 32 := Scalar.muli v166 c256_i32_87
  v206
def k0_mult40 (i : grid0.Coords) (k0_t3 : Fin (k0_t3_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let c1_i32_59 : BitVec 32 := 1#32
  let arg8 : BitVec 32 := Scf.iv c0_i32_57 c1_i32_59 k0_t3
  let v166 : BitVec 32 := Scalar.subi v165 arg8
  let c256_i32_94 : BitVec 32 := 256#32
  let v226 : BitVec 32 := Scalar.muli v166 c256_i32_94
  v226
@[reducible] def k0_t4_loop (i : grid0.Coords) : Scf.Loop 32 :=
  let c0_i32_57 : BitVec 32 := 0#32
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let v150 : BitVec 32 := Scalar.addi c0_i32_57 v149
  let c1_i32_60 : BitVec 32 := 1#32
  ⟨v153, v150, c1_i32_60⟩
def k0_mult41 (i : grid0.Coords) (k0_t4 : Fin (k0_t4_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_60 : BitVec 32 := 1#32
  let arg8 : BitVec 32 := Scf.iv v153 c1_i32_60 k0_t4
  let v166 : BitVec 32 := Scalar.subi v165 arg8
  let c256_i32_71 : BitVec 32 := 256#32
  let v167 : BitVec 32 := Scalar.muli v166 c256_i32_71
  v167
def k0_off7 (i : grid0.Coords) (k0_t4 : Fin (k0_t4_loop i).trips) : Fin 2 → Nat :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_60 : BitVec 32 := 1#32
  let arg8 : BitVec 32 := Scf.iv v153 c1_i32_60 k0_t4
  let v166 : BitVec 32 := Scalar.subi v165 arg8
  let c256_i32_71 : BitVec 32 := 256#32
  let v167 : BitVec 32 := Scalar.muli v166 c256_i32_71
  let v168 : BitVec 32 := v167
  let v169 : Index := Scalar.indexCast v168
  let c0_72 : Index := 0#32
  ![v169.toNat, 0]
def k0_mult42 (i : grid0.Coords) (k0_t4 : Fin (k0_t4_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_60 : BitVec 32 := 1#32
  let arg8 : BitVec 32 := Scf.iv v153 c1_i32_60 k0_t4
  let v166 : BitVec 32 := Scalar.subi v165 arg8
  let c256_i32_78 : BitVec 32 := 256#32
  let v187 : BitVec 32 := Scalar.muli v166 c256_i32_78
  v187
def k0_mult43 (i : grid0.Coords) (k0_t4 : Fin (k0_t4_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_60 : BitVec 32 := 1#32
  let arg8 : BitVec 32 := Scf.iv v153 c1_i32_60 k0_t4
  let v166 : BitVec 32 := Scalar.subi v165 arg8
  let c256_i32_87 : BitVec 32 := 256#32
  let v206 : BitVec 32 := Scalar.muli v166 c256_i32_87
  v206
def k0_mult44 (i : grid0.Coords) (k0_t4 : Fin (k0_t4_loop i).trips) : BitVec 32 :=
  let arg1 : BitVec 32 := BitVec.ofNat 32 (i 1).val
  let c4_i32_51 : BitVec 32 := 4#32
  let c0_i32_52 : BitVec 32 := 0#32
  let v139 : BitVec 1 := Scalar.cmpi .eq c4_i32_51 c0_i32_52
  let c1_i32_53 : BitVec 32 := 1#32
  let v140 : BitVec 32 := Scalar.select v139 c1_i32_53 c4_i32_51
  let v141 : BitVec 32 := Scalar.remsi arg1 v140
  let c0_i32_55 : BitVec 32 := 0#32
  let v143 : BitVec 1 := Scalar.cmpi .slt v141 c0_i32_55
  let c0_i32_56 : BitVec 32 := 0#32
  let v144 : BitVec 1 := Scalar.cmpi .slt v140 c0_i32_56
  let v145 : BitVec 1 := Scalar.xori v143 v144
  let c0_i32_54 : BitVec 32 := 0#32
  let v142 : BitVec 1 := Scalar.cmpi .ne v141 c0_i32_54
  let v146 : BitVec 1 := Scalar.andi v145 v142
  let v147 : BitVec 32 := Scalar.addi v141 v140
  let v148 : BitVec 32 := Scalar.select v146 v147 v141
  let c1_i32_70 : BitVec 32 := 1#32
  let v165 : BitVec 32 := Scalar.subi v148 c1_i32_70
  let c0_i32_57 : BitVec 32 := 0#32
  let v149 : BitVec 32 := Scalar.subi v148 c0_i32_57
  let c1_i32_58 : BitVec 32 := 1#32
  let v151 : BitVec 32 := Scalar.divsi v149 c1_i32_58
  let v152 : BitVec 32 := Scalar.muli v151 c1_i32_58
  let v153 : BitVec 32 := Scalar.addi c0_i32_57 v152
  let c1_i32_60 : BitVec 32 := 1#32
  let arg8 : BitVec 32 := Scf.iv v153 c1_i32_60 k0_t4
  let v166 : BitVec 32 := Scalar.subi v165 arg8
  let c256_i32_94 : BitVec 32 := 256#32
  let v226 : BitVec 32 := Scalar.muli v166 c256_i32_94
  v226
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x512 : Shape := ⟨2, ![16384, 512]⟩
abbrev S8 : Shape := ⟨1, ![8]⟩
abbrev S1x16384x8x64 : Shape := ⟨4, ![1, 16384, 8, 64]⟩
abbrev S16384 : Shape := ⟨1, ![16384]⟩
abbrev S1x8x16384x16384 : Shape := ⟨4, ![1, 8, 16384, 16384]⟩
abbrev S_ : Shape := ⟨0, ![]⟩
abbrev S1x8x1x1 : Shape := ⟨4, ![1, 8, 1, 1]⟩
abbrev S1x16384 : Shape := ⟨2, ![1, 16384]⟩
abbrev S16384x1 : Shape := ⟨2, ![16384, 1]⟩
abbrev S16384x16384 : Shape := ⟨2, ![16384, 16384]⟩
abbrev S1x8x64x16384 : Shape := ⟨4, ![1, 8, 64, 16384]⟩

abbrev nBuf : Space → Nat
  | .hbm => 74
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8, .f32⟩
  | .hbm, ⟨4, _⟩ => ⟨S1x16384x8x64, .f32⟩
  | .hbm, ⟨5, _⟩ => ⟨S1x16384x8x64, .f32⟩
  | .hbm, ⟨6, _⟩ => ⟨S1x16384x8x64, .f32⟩
  | .hbm, ⟨7, _⟩ => ⟨S16384, .i32⟩
  | .hbm, ⟨8, _⟩ => ⟨S16384, .i32⟩
  | .hbm, ⟨9, _⟩ => ⟨S1x8x16384x16384, .f32⟩
  | .hbm, ⟨10, _⟩ => ⟨S_, .f32⟩
  | .hbm, ⟨11, _⟩ => ⟨S1x8x16384x16384, .f32⟩
  | .hbm, ⟨12, _⟩ => ⟨S1x8x16384x16384, .f32⟩
  | .hbm, ⟨13, _⟩ => ⟨S1x8x1x1, .f32⟩
  | .hbm, ⟨14, _⟩ => ⟨S1x8x16384x16384, .f32⟩
  | .hbm, ⟨15, _⟩ => ⟨S1x8x16384x16384, .f32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S1x8x16384x16384, .f32⟩
  | .hbm, ⟨22, _⟩ => ⟨S1x8x16384x16384, .f32⟩
  | .hbm, ⟨23, _⟩ => ⟨S_, .f32⟩
  | .hbm, ⟨24, _⟩ => ⟨S1x8x16384x16384, .f32⟩
  | .hbm, ⟨25, _⟩ => ⟨S1x8x16384x16384, .f32⟩
  | .hbm, ⟨26, _⟩ => ⟨S1x8x16384x16384, .f32⟩
  | .hbm, ⟨27, _⟩ => ⟨S1x8x16384x16384, .f32⟩
  | .hbm, ⟨28, _⟩ => ⟨S1x8x16384x16384, .i1⟩
  | .hbm, ⟨29, _⟩ => ⟨S1x8x16384x16384, .f32⟩
  | .hbm, ⟨30, _⟩ => ⟨S1x8x16384x16384, .f32⟩
  | .hbm, ⟨31, _⟩ => ⟨S1x8x16384x16384, .f32⟩
  | .hbm, ⟨32, _⟩ => ⟨S1x8x16384x16384, .f32⟩
  | .hbm, ⟨33, _⟩ => ⟨S1x8x16384x16384, .f32⟩
  | .hbm, ⟨34, _⟩ => ⟨S1x8x16384x16384, .f32⟩
  | .hbm, ⟨35, _⟩ => ⟨S1x8x16384x16384, .f32⟩
  | .hbm, ⟨36, _⟩ => ⟨S1x8x16384x16384, .f32⟩
  | .hbm, ⟨37, _⟩ => ⟨S1x8x16384x16384, .f32⟩
  | .hbm, ⟨38, _⟩ => ⟨S_, .f32⟩
  | .hbm, ⟨39, _⟩ => ⟨S_, .f32⟩
  | .hbm, ⟨40, _⟩ => ⟨S1x8x16384x16384, .i1⟩
  | .hbm, ⟨41, _⟩ => ⟨S1x8x16384x16384, .f32⟩
  | .hbm, ⟨42, _⟩ => ⟨S1x8x16384x16384, .f32⟩
  | .hbm, ⟨43, _⟩ => ⟨S_, .f32⟩
  | .hbm, ⟨44, _⟩ => ⟨S_, .f32⟩
  | .hbm, ⟨45, _⟩ => ⟨S1x8x16384x16384, .f32⟩
  | .hbm, ⟨46, _⟩ => ⟨S1x8x16384x16384, .f32⟩
  | .hbm, ⟨47, _⟩ => ⟨S1x8x16384x16384, .f32⟩
  | .hbm, ⟨48, _⟩ => ⟨S_, .f32⟩
  | .hbm, ⟨49, _⟩ => ⟨S1x8x16384x16384, .f32⟩
  | .hbm, ⟨50, _⟩ => ⟨S1x8x16384x16384, .f32⟩
  | .hbm, ⟨51, _⟩ => ⟨S1x8x16384x16384, .f32⟩
  | .hbm, ⟨52, _⟩ => ⟨S1x8x16384x16384, .f32⟩
  | .hbm, ⟨53, _⟩ => ⟨S1x8x16384x16384, .i1⟩
  | .hbm, ⟨54, _⟩ => ⟨S1x8x16384x16384, .f32⟩
  | .hbm, ⟨55, _⟩ => ⟨S1x8x16384x16384, .f32⟩
  | .hbm, ⟨56, _⟩ => ⟨S1x8x16384x16384, .f32⟩
  | .hbm, ⟨57, _⟩ => ⟨S1x8x16384x16384, .f32⟩
  | .hbm, ⟨58, _⟩ => ⟨S1x8x16384x16384, .f32⟩
  | .hbm, ⟨59, _⟩ => ⟨S1x8x16384x16384, .f32⟩
  | .hbm, ⟨60, _⟩ => ⟨S1x8x16384x16384, .f32⟩
  | .hbm, ⟨61, _⟩ => ⟨S1x8x16384x16384, .f32⟩
  | .hbm, ⟨62, _⟩ => ⟨S1x8x16384x16384, .f32⟩
  | .hbm, ⟨63, _⟩ => ⟨S1x8x16384x16384, .f32⟩
  | .hbm, ⟨64, _⟩ => ⟨S1x8x16384x16384, .f32⟩
  | .hbm, ⟨65, _⟩ => ⟨S_, .f32⟩
  | .hbm, ⟨66, _⟩ => ⟨S_, .f32⟩
  | .hbm, ⟨67, _⟩ => ⟨S1x8x16384x16384, .i1⟩
  | .hbm, ⟨68, _⟩ => ⟨S1x8x16384x16384, .f32⟩
  | .hbm, ⟨69, _⟩ => ⟨S1x8x16384x16384, .f32⟩
  | .hbm, ⟨70, _⟩ => ⟨S1x8x64x16384, .f32⟩
  | .hbm, ⟨71, _⟩ => ⟨S1x16384x8x64, .f32⟩
  | .hbm, ⟨72, _⟩ => ⟨S16384x512, .f32⟩
  | .hbm, ⟨73, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4608 : Shape := ⟨2, ![1024, 4608]⟩
abbrev S1x1024 : Shape := ⟨2, ![1, 1024]⟩
abbrev S16384x512 : Shape := ⟨2, ![16384, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S1x16384x512 : Shape := ⟨3, ![1, 16384, 512]⟩
abbrev S_ : Shape := ⟨0, ![]⟩
abbrev S1x30x512 : Shape := ⟨3, ![1, 30, 512]⟩
abbrev S1x16414x512 : Shape := ⟨3, ![1, 16414, 512]⟩
abbrev S1x16384x8x64 : Shape := ⟨4, ![1, 16384, 8, 64]⟩

abbrev nBuf : Space → Nat
  | .hbm => 20
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4608, .f32⟩
  | .hbm, ⟨3, _⟩ => ⟨S1024x4608, .bf16⟩
  | .hbm, ⟨4, _⟩ => ⟨S1x1024, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S16384x1024, .f32⟩
  | .hbm, ⟨12, _⟩ => ⟨S16384x1024, .f32⟩
  | .hbm, ⟨13, _⟩ => ⟨S1x16384x512, .f32⟩
  | .hbm, ⟨14, _⟩ => ⟨S_, .f32⟩
  | .hbm, ⟨15, _⟩ => ⟨S1x30x512, .f32⟩
  | .hbm, ⟨16, _⟩ => ⟨S1x16414x512, .f32⟩
  | .hbm, ⟨17, _⟩ => ⟨S1x30x512, .f32⟩
  | .hbm, ⟨18, _⟩ => ⟨S1x16384x8x64, .f32⟩
  | .hbm, ⟨19, _⟩ => ⟨S1x16384x8x64, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S1024 : Shape := ⟨1, ![1024]⟩
abbrev S1024x4608 : Shape := ⟨2, ![1024, 4608]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4608 : Shape := ⟨2, ![16384, 4608]⟩
abbrev S16384x512 : Shape := ⟨2, ![16384, 512]⟩
abbrev S16384x2048 : Shape := ⟨2, ![16384, 2048]⟩
abbrev S1x30x512 : Shape := ⟨3, ![1, 30, 512]⟩
abbrev S1x16384x512 : Shape := ⟨3, ![1, 16384, 512]⟩
abbrev S1x16414x512 : Shape := ⟨3, ![1, 16414, 512]⟩
abbrev S1x16384x8x64 : Shape := ⟨4, ![1, 16384, 8, 64]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4608, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4608, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .bf16⟩
  | .hbm, ⟨48, _⟩ => ⟨S16384x512, .bf16⟩
  | .hbm, ⟨49, _⟩ => ⟨S16384x512, .bf16⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1x30x512, .f32⟩
  | .hbm, ⟨54, _⟩ => ⟨S1x16384x512, .f32⟩
  | .hbm, ⟨55, _⟩ => ⟨S1x16414x512, .f32⟩
  | .hbm, ⟨56, _⟩ => ⟨S1x16384x8x64, .f32⟩
  | .hbm, ⟨57, _⟩ => ⟨S1x16384x8x64, .f32⟩
  | .hbm, ⟨58, _⟩ => ⟨S1x30x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16x16384x128 : Shape := ⟨3, ![16, 16384, 128]⟩
abbrev S256x1024 : Shape := ⟨2, ![256, 1024]⟩
abbrev S256x512 : Shape := ⟨2, ![256, 512]⟩
abbrev S16x256x128 : Shape := ⟨3, ![16, 256, 128]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 18
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1024x2048, .bf16⟩
  | .hbm, ⟨14, _⟩ => ⟨S1x1024, .f32⟩
  | .hbm, ⟨15, _⟩ => ⟨S16384x1024, .f32⟩
  | .hbm, ⟨16, _⟩ => ⟨S16384x1024, .bf16⟩
  | .hbm, ⟨17, _⟩ => ⟨S16x16384x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S16x256x128, .f32⟩
  | .local _ .vmem, ⟨20, _⟩ => ⟨S16x256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x16x128 : Shape := ⟨3, ![16384, 16, 128]⟩
abbrev S16x16384x128 : Shape := ⟨3, ![16, 16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x1024, .f32⟩
  | .hbm, ⟨4, _⟩ => ⟨S16384x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S16384x512, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x2048, .f32⟩
  | .hbm, ⟨36, _⟩ => ⟨S16384x16x128, .f32⟩
  | .hbm, ⟨37, _⟩ => ⟨S16384x1024, .bf16⟩
  | .hbm, ⟨38, _⟩ => ⟨S16x16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel4.lean ====
abbrev S128x4x1024 : Shape := ⟨3, ![128, 4, 1024]⟩
abbrev S128x30x512 : Shape := ⟨3, ![128, 30, 512]⟩
abbrev S1024 : Shape := ⟨1, ![1024]⟩
abbrev S1024x4608 : Shape := ⟨2, ![1024, 4608]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩
abbrev S128x4x512 : Shape := ⟨3, ![128, 4, 512]⟩
abbrev S128x34x512 : Shape := ⟨3, ![128, 34, 512]⟩
abbrev S128x4x8x64 : Shape := ⟨4, ![128, 4, 8, 64]⟩

abbrev nBuf : Space → Nat
  | .hbm => 20
  | .vmem => 20
  | .smem => 0
  | _ => 0

abbrev bufTy : (tb : Table) → Fin (tcTables nBuf tb) → BufTy
  | .hbm, ⟨0, _⟩ => ⟨S128x4x1024, .f32⟩
  | .hbm, ⟨1, _⟩ => ⟨S128x30x512, .f32⟩
  | .hbm, ⟨2, _⟩ => ⟨S1024, .f32⟩
  | .hbm, ⟨3, _⟩ => ⟨S1024x4608, .f32⟩
  | .hbm, ⟨4, _⟩ => ⟨S512x1024, .f32⟩
  | .hbm, ⟨5, _⟩ => ⟨S1024x4608, .bf16⟩
  | .hbm, ⟨6, _⟩ => ⟨S1x1024, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .bf16⟩
  | .hbm, ⟨11, _⟩ => ⟨S512x512, .bf16⟩
  | .hbm, ⟨12, _⟩ => ⟨S512x512, .bf16⟩
  | .hbm, ⟨13, _⟩ => ⟨S512x1024, .f32⟩
  | .hbm, ⟨14, _⟩ => ⟨S512x1024, .f32⟩
  | .hbm, ⟨15, _⟩ => ⟨S128x4x512, .f32⟩
  | .hbm, ⟨16, _⟩ => ⟨S128x34x512, .f32⟩
  | .hbm, ⟨17, _⟩ => ⟨S128x4x8x64, .f32⟩
  | .hbm, ⟨18, _⟩ => ⟨S128x4x8x64, .f32⟩
  | .hbm, ⟨19, _⟩ => ⟨S128x30x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v3_4 : Ref sig .tc := ⟨.hbm, 11, rfl⟩
abbrev main_v3_5 : Ref sig .tc := ⟨.hbm, 12, rfl⟩
abbrev main_v3_6 : Ref sig .tc := ⟨.hbm, 13, rfl⟩
abbrev main_v3_7 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S128x4x1024 : Shape := ⟨3, ![128, 4, 1024]⟩
abbrev S128x30x512 : Shape := ⟨3, ![128, 30, 512]⟩
abbrev S1024 : Shape := ⟨1, ![1024]⟩
abbrev S1024x4608 : Shape := ⟨2, ![1024, 4608]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4608 : Shape := ⟨2, ![512, 4608]⟩
abbrev S512x512 : Shape := ⟨2, ![512, 512]⟩
abbrev S512x2048 : Shape := ⟨2, ![512, 2048]⟩
abbrev S128x4x512 : Shape := ⟨3, ![128, 4, 512]⟩
abbrev S128x34x512 : Shape := ⟨3, ![128, 34, 512]⟩
abbrev S128x4x8x64 : Shape := ⟨4, ![128, 4, 8, 64]⟩

abbrev nBuf : Space → Nat
  | .hbm => 59
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x30x512, .f32⟩
  | .hbm, ⟨2, _⟩ => ⟨S1024, .f32⟩
  | .hbm, ⟨3, _⟩ => ⟨S1024x4608, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S512x4608, .f32⟩
  | .hbm, ⟨22, _⟩ => ⟨S512x1024, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x2048, .f32⟩
  | .hbm, ⟨38, _⟩ => ⟨S512x2048, .f32⟩
  | .hbm, ⟨39, _⟩ => ⟨S512x2048, .f32⟩
  | .hbm, ⟨40, _⟩ => ⟨S_, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S512x512, .bf16⟩
  | .hbm, ⟨50, _⟩ => ⟨S512x512, .bf16⟩
  | .hbm, ⟨51, _⟩ => ⟨S512x512, .bf16⟩
  | .hbm, ⟨52, _⟩ => ⟨S512x1024, .f32⟩
  | .hbm, ⟨53, _⟩ => ⟨S512x1024, .f32⟩
  | .hbm, ⟨54, _⟩ => ⟨S128x4x512, .f32⟩
  | .hbm, ⟨55, _⟩ => ⟨S128x34x512, .f32⟩
  | .hbm, ⟨56, _⟩ => ⟨S128x4x8x64, .f32⟩
  | .hbm, ⟨57, _⟩ => ⟨S128x4x8x64, .f32⟩
  | .hbm, ⟨58, _⟩ => ⟨S128x30x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Kernel5.lean ====
abbrev S128x34x512 : Shape := ⟨3, ![128, 34, 512]⟩
abbrev S31x512 : Shape := ⟨2, ![31, 512]⟩
abbrev S512 : Shape := ⟨1, ![512]⟩
abbrev S34x128x512 : Shape := ⟨3, ![34, 128, 512]⟩
abbrev S1x512 : Shape := ⟨2, ![1, 512]⟩
abbrev S4x128x512 : Shape := ⟨3, ![4, 128, 512]⟩
abbrev S128x512 : Shape := ⟨2, ![128, 512]⟩
abbrev S1x128x512 : Shape := ⟨3, ![1, 128, 512]⟩
abbrev S128 : Shape := ⟨1, ![128]⟩
abbrev S128x1 : Shape := ⟨2, ![128, 1]⟩
abbrev S128x4x512 : Shape := ⟨3, ![128, 4, 512]⟩

abbrev nBuf : Space → Nat
  | .hbm => 11
  | .vmem => 6
  | .smem => 0
  | _ => 0

abbrev bufTy : (tb : Table) → Fin (tcTables nBuf tb) → BufTy
  | .hbm, ⟨0, _⟩ => ⟨S128x34x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S34x128x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S4x128x512, .bf16⟩
  | .hbm, ⟨10, _⟩ => ⟨S128x4x512, .bf16⟩
  | .local _ .vmem, ⟨0, _⟩ => ⟨S34x128x512, .f32⟩
  | .local _ .vmem, ⟨1, _⟩ => ⟨S31x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S4x128x512, .bf16⟩
  | _, _ => ⟨S128x34x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S34x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference5Ideal.lean ====
abbrev S128x34x512 : Shape := ⟨3, ![128, 34, 512]⟩
abbrev S31x512 : Shape := ⟨2, ![31, 512]⟩
abbrev S512 : Shape := ⟨1, ![512]⟩
abbrev S1x512 : Shape := ⟨2, ![1, 512]⟩
abbrev S128x4x512 : Shape := ⟨3, ![128, 4, 512]⟩
abbrev S1x1x512 : Shape := ⟨3, ![1, 1, 512]⟩
abbrev S_ : Shape := ⟨0, ![]⟩
abbrev S128x4 : Shape := ⟨2, ![128, 4]⟩
abbrev S128x4x1 : Shape := ⟨3, ![128, 4, 1]⟩

abbrev nBuf : Space → Nat
  | .hbm => 266
  | .vmem => 0
  | .smem => 0
  | _ => 0

abbrev hbmTy0_0 (i : Nat) : BufTy := match i % 128 with
  | 0 => ⟨S128x34x512, .f32⟩
  | 1 => ⟨S31x512, .f32⟩
  | 2 => ⟨S512, .f32⟩
  | 3 => ⟨S512, .f32⟩
  | 4 => ⟨S512, .f32⟩
  | 5 => ⟨S1x512, .f32⟩
  | 6 => ⟨S512, .f32⟩
  | 7 => ⟨S128x4x512, .f32⟩
  | 8 => ⟨S1x1x512, .f32⟩
  | 9 => ⟨S128x4x512, .f32⟩
  | 10 => ⟨S128x4x512, .f32⟩
  | 11 => ⟨S_, .f32⟩
  | 12 => ⟨S128x4x512, .f32⟩
  | 13 => ⟨S128x4x512, .f32⟩
  | 14 => ⟨S1x512, .f32⟩
  | 15 => ⟨S512, .f32⟩
  | 16 => ⟨S128x4x512, .f32⟩
  | 17 => ⟨S1x1x512, .f32⟩
  | 18 => ⟨S128x4x512, .f32⟩
  | 19 => ⟨S128x4x512, .f32⟩
  | 20 => ⟨S128x4x512, .f32⟩
  | 21 => ⟨S1x512, .f32⟩
  | 22 => ⟨S512, .f32⟩
  | 23 => ⟨S128x4x512, .f32⟩
  | 24 => ⟨S1x1x512, .f32⟩
  | 25 => ⟨S128x4x512, .f32⟩
  | 26 => ⟨S128x4x512, .f32⟩
  | 27 => ⟨S128x4x512, .f32⟩
  | 28 => ⟨S1x512, .f32⟩
  | 29 => ⟨S512, .f32⟩
  | 30 => ⟨S128x4x512, .f32⟩
  | 31 => ⟨S1x1x512, .f32⟩
  | 32 => ⟨S128x4x512, .f32⟩
  | 33 => ⟨S128x4x512, .f32⟩
  | 34 => ⟨S128x4x512, .f32⟩
  | 35 => ⟨S1x512, .f32⟩
  | 36 => ⟨S512, .f32⟩
  | 37 => ⟨S128x4x512, .f32⟩
  | 38 => ⟨S1x1x512, .f32⟩
  | 39 => ⟨S128x4x512, .f32⟩
  | 40 => ⟨S128x4x512, .f32⟩
  | 41 => ⟨S128x4x512, .f32⟩
  | 42 => ⟨S1x512, .f32⟩
  | 43 => ⟨S512, .f32⟩
  | 44 => ⟨S128x4x512, .f32⟩
  | 45 => ⟨S1x1x512, .f32⟩
  | 46 => ⟨S128x4x512, .f32⟩
  | 47 => ⟨S128x4x512, .f32⟩
  | 48 => ⟨S128x4x512, .f32⟩
  | 49 => ⟨S1x512, .f32⟩
  | 50 => ⟨S512, .f32⟩
  | 51 => ⟨S128x4x512, .f32⟩
  | 52 => ⟨S1x1x512, .f32⟩
  | 53 => ⟨S128x4x512, .f32⟩
  | 54 => ⟨S128x4x512, .f32⟩
  | 55 => ⟨S128x4x512, .f32⟩
  | 56 => ⟨S1x512, .f32⟩
  | 57 => ⟨S512, .f32⟩
  | 58 => ⟨S128x4x512, .f32⟩
  | 59 => ⟨S1x1x512, .f32⟩
  | 60 => ⟨S128x4x512, .f32⟩
  | 61 => ⟨S128x4x512, .f32⟩
  | 62 => ⟨S128x4x512, .f32⟩
  | 63 => ⟨S1x512, .f32⟩
  | 64 => ⟨S512, .f32⟩
  | 65 => ⟨S128x4x512, .f32⟩
  | 66 => ⟨S1x1x512, .f32⟩
  | 67 => ⟨S128x4x512, .f32⟩
  | 68 => ⟨S128x4x512, .f32⟩
  | 69 => ⟨S128x4x512, .f32⟩
  | 70 => ⟨S1x512, .f32⟩
  | 71 => ⟨S512, .f32⟩
  | 72 => ⟨S128x4x512, .f32⟩
  | 73 => ⟨S1x1x512, .f32⟩
  | 74 => ⟨S128x4x512, .f32⟩
  | 75 => ⟨S128x4x512, .f32⟩
  | 76 => ⟨S128x4x512, .f32⟩
  | 77 => ⟨S1x512, .f32⟩
  | 78 => ⟨S512, .f32⟩
  | 79 => ⟨S128x4x512, .f32⟩
  | 80 => ⟨S1x1x512, .f32⟩
  | 81 => ⟨S128x4x512, .f32⟩
  | 82 => ⟨S128x4x512, .f32⟩
  | 83 => ⟨S128x4x512, .f32⟩
  | 84 => ⟨S1x512, .f32⟩
  | 85 => ⟨S512, .f32⟩
  | 86 => ⟨S128x4x512, .f32⟩
  | 87 => ⟨S1x1x512, .f32⟩
  | 88 => ⟨S128x4x512, .f32⟩
  | 89 => ⟨S128x4x512, .f32⟩
  | 90 => ⟨S128x4x512, .f32⟩
  | 91 => ⟨S1x512, .f32⟩
  | 92 => ⟨S512, .f32⟩
  | 93 => ⟨S128x4x512, .f32⟩
  | 94 => ⟨S1x1x512, .f32⟩
  | 95 => ⟨S128x4x512, .f32⟩
  | 96 => ⟨S128x4x512, .f32⟩
  | 97 => ⟨S128x4x512, .f32⟩
  | 98 => ⟨S1x512, .f32⟩
  | 99 => ⟨S512, .f32⟩
  | 100 => ⟨S128x4x512, .f32⟩
  | 101 => ⟨S1x1x512, .f32⟩
  | 102 => ⟨S128x4x512, .f32⟩
  | 103 => ⟨S128x4x512, .f32⟩
  | 104 => ⟨S128x4x512, .f32⟩
  | 105 => ⟨S1x512, .f32⟩
  | 106 => ⟨S512, .f32⟩
  | 107 => ⟨S128x4x512, .f32⟩
  | 108 => ⟨S1x1x512, .f32⟩
  | 109 => ⟨S128x4x512, .f32⟩
  | 110 => ⟨S128x4x512, .f32⟩
  | 111 => ⟨S128x4x512, .f32⟩
  | 112 => ⟨S1x512, .f32⟩
  | 113 => ⟨S512, .f32⟩
  | 114 => ⟨S128x4x512, .f32⟩
  | 115 => ⟨S1x1x512, .f32⟩
  | 116 => ⟨S128x4x512, .f32⟩
  | 117 => ⟨S128x4x512, .f32⟩
  | 118 => ⟨S128x4x512, .f32⟩
  | 119 => ⟨S1x512, .f32⟩
  | 120 => ⟨S512, .f32⟩
  | 121 => ⟨S128x4x512, .f32⟩
  | 122 => ⟨S1x1x512, .f32⟩
  | 123 => ⟨S128x4x512, .f32⟩
  | 124 => ⟨S128x4x512, .f32⟩
  | 125 => ⟨S128x4x512, .f32⟩
  | 126 => ⟨S1x512, .f32⟩
  | 127 => ⟨S512, .f32⟩
  | _ => ⟨S128x34x512, .f32⟩

abbrev hbmTy0_1 (i : Nat) : BufTy := match i % 128 with
  | 0 => ⟨S128x4x512, .f32⟩
  | 1 => ⟨S1x1x512, .f32⟩
  | 2 => ⟨S128x4x512, .f32⟩
  | 3 => ⟨S128x4x512, .f32⟩
  | 4 => ⟨S128x4x512, .f32⟩
  | 5 => ⟨S1x512, .f32⟩
  | 6 => ⟨S512, .f32⟩
  | 7 => ⟨S128x4x512, .f32⟩
  | 8 => ⟨S1x1x512, .f32⟩
  | 9 => ⟨S128x4x512, .f32⟩
  | 10 => ⟨S128x4x512, .f32⟩
  | 11 => ⟨S128x4x512, .f32⟩
  | 12 => ⟨S1x512, .f32⟩
  | 13 => ⟨S512, .f32⟩
  | 14 => ⟨S128x4x512, .f32⟩
  | 15 => ⟨S1x1x512, .f32⟩
  | 16 => ⟨S128x4x512, .f32⟩
  | 17 => ⟨S128x4x512, .f32⟩
  | 18 => ⟨S128x4x512, .f32⟩
  | 19 => ⟨S1x512, .f32⟩
  | 20 => ⟨S512, .f32⟩
  | 21 => ⟨S128x4x512, .f32⟩
  | 22 => ⟨S1x1x512, .f32⟩
  | 23 => ⟨S128x4x512, .f32⟩
  | 24 => ⟨S128x4x512, .f32⟩
  | 25 => ⟨S128x4x512, .f32⟩
  | 26 => ⟨S1x512, .f32⟩
  | 27 => ⟨S512, .f32⟩
  | 28 => ⟨S128x4x512, .f32⟩
  | 29 => ⟨S1x1x512, .f32⟩
  | 30 => ⟨S128x4x512, .f32⟩
  | 31 => ⟨S128x4x512, .f32⟩
  | 32 => ⟨S128x4x512, .f32⟩
  | 33 => ⟨S1x512, .f32⟩
  | 34 => ⟨S512, .f32⟩
  | 35 => ⟨S128x4x512, .f32⟩
  | 36 => ⟨S1x1x512, .f32⟩
  | 37 => ⟨S128x4x512, .f32⟩
  | 38 => ⟨S128x4x512, .f32⟩
  | 39 => ⟨S128x4x512, .f32⟩
  | 40 => ⟨S1x512, .f32⟩
  | 41 => ⟨S512, .f32⟩
  | 42 => ⟨S128x4x512, .f32⟩
  | 43 => ⟨S1x1x512, .f32⟩
  | 44 => ⟨S128x4x512, .f32⟩
  | 45 => ⟨S128x4x512, .f32⟩
  | 46 => ⟨S128x4x512, .f32⟩
  | 47 => ⟨S1x512, .f32⟩
  | 48 => ⟨S512, .f32⟩
  | 49 => ⟨S128x4x512, .f32⟩
  | 50 => ⟨S1x1x512, .f32⟩
  | 51 => ⟨S128x4x512, .f32⟩
  | 52 => ⟨S128x4x512, .f32⟩
  | 53 => ⟨S128x4x512, .f32⟩
  | 54 => ⟨S1x512, .f32⟩
  | 55 => ⟨S512, .f32⟩
  | 56 => ⟨S128x4x512, .f32⟩
  | 57 => ⟨S1x1x512, .f32⟩
  | 58 => ⟨S128x4x512, .f32⟩
  | 59 => ⟨S128x4x512, .f32⟩
  | 60 => ⟨S128x4x512, .f32⟩
  | 61 => ⟨S1x512, .f32⟩
  | 62 => ⟨S512, .f32⟩
  | 63 => ⟨S128x4x512, .f32⟩
  | 64 => ⟨S1x1x512, .f32⟩
  | 65 => ⟨S128x4x512, .f32⟩
  | 66 => ⟨S128x4x512, .f32⟩
  | 67 => ⟨S128x4x512, .f32⟩
  | 68 => ⟨S1x512, .f32⟩
  | 69 => ⟨S512, .f32⟩
  | 70 => ⟨S128x4x512, .f32⟩
  | 71 => ⟨S1x1x512, .f32⟩
  | 72 => ⟨S128x4x512, .f32⟩
  | 73 => ⟨S128x4x512, .f32⟩
  | 74 => ⟨S128x4x512, .f32⟩
  | 75 => ⟨S1x512, .f32⟩
  | 76 => ⟨S512, .f32⟩
  | 77 => ⟨S128x4x512, .f32⟩
  | 78 => ⟨S1x1x512, .f32⟩
  | 79 => ⟨S128x4x512, .f32⟩
  | 80 => ⟨S128x4x512, .f32⟩
  | 81 => ⟨S128x4x512, .f32⟩
  | 82 => ⟨S1x512, .f32⟩
  | 83 => ⟨S512, .f32⟩
  | 84 => ⟨S128x4x512, .f32⟩
  | 85 => ⟨S1x1x512, .f32⟩
  | 86 => ⟨S128x4x512, .f32⟩
  | 87 => ⟨S128x4x512, .f32⟩
  | 88 => ⟨S128x4x512, .f32⟩
  | 89 => ⟨S1x512, .f32⟩
  | 90 => ⟨S512, .f32⟩
  | 91 => ⟨S128x4x512, .f32⟩
  | 92 => ⟨S1x1x512, .f32⟩
  | 93 => ⟨S128x4x512, .f32⟩
  | 94 => ⟨S128x4x512, .f32⟩
  | 95 => ⟨S128x4x512, .f32⟩
  | 96 => ⟨S1x1x512, .f32⟩
  | 97 => ⟨S128x4x512, .f32⟩
  | 98 => ⟨S128x4x512, .f32⟩
  | 99 => ⟨S_, .f32⟩
  | 100 => ⟨S128x4, .f32⟩
  | 101 => ⟨S128x4x1, .f32⟩
  | 102 => ⟨S_, .f32⟩
  | 103 => ⟨S128x4x1, .f32⟩
  | 104 => ⟨S128x4x1, .f32⟩
  | 105 => ⟨S128x4x512, .f32⟩
  | 106 => ⟨S128x4x512, .f32⟩
  | 107 => ⟨S128x4x512, .f32⟩
  | 108 => ⟨S_, .f32⟩
  | 109 => ⟨S128x4, .f32⟩
  | 110 => ⟨S128x4x1, .f32⟩
  | 111 => ⟨S_, .f32⟩
  | 112 => ⟨S128x4x1, .f32⟩
  | 113 => ⟨S128x4x1, .f32⟩
  | 114 => ⟨S128x4x512, .f32⟩
  | 115 => ⟨S128x4x512, .f32⟩
  | 116 => ⟨S_, .f32⟩
  | 117 => ⟨S128x4x1, .f32⟩
  | 118 => ⟨S128x4x1, .f32⟩
  | 119 => ⟨S128x4x1, .f32⟩
  | 120 => ⟨S128x4x512, .f32⟩
  | 121 => ⟨S128x4x512, .f32⟩
  | 122 => ⟨S1x1x512, .f32⟩
  | 123 => ⟨S128x4x512, .f32⟩
  | 124 => ⟨S128x4x512, .f32⟩
  | 125 => ⟨S1x1x512, .f32⟩
  | 126 => ⟨S128x4x512, .f32⟩
  | 127 => ⟨S128x4x512, .f32⟩
  | _ => ⟨S128x34x512, .f32⟩

abbrev hbmTy0_2 (i : Nat) : BufTy := match i % 128 with
  | 0 => ⟨S128x4x512, .f32⟩
  | 1 => ⟨S128x4x512, .f32⟩
  | 2 => ⟨S_, .f32⟩
  | 3 => ⟨S128x4x512, .f32⟩
  | 4 => ⟨S128x4x512, .f32⟩
  | 5 => ⟨S_, .f32⟩
  | 6 => ⟨S128x4x512, .f32⟩
  | 7 => ⟨S128x4x512, .f32⟩
  | 8 => ⟨S128x4x512, .f32⟩
  | 9 => ⟨S128x4x512, .bf16⟩
  | _ => ⟨S128x34x512, .f32⟩

abbrev hbmTy (i : Nat) : BufTy := match i / 128 with
  | 0 => hbmTy0_0 i
  | 1 => hbmTy0_1 i
  | 2 => hbmTy0_2 i
  | _ => ⟨S128x34x512, .f32⟩

abbrev bufTy : (tb : Table) → Fin (tcTables nBuf tb) → BufTy
  | .hbm, ⟨i, _⟩ => hbmTy i
  | _, _ => ⟨S128x34x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_v167 : Ref sig .tc := ⟨.hbm, 173, rfl⟩
abbrev main_v168 : Ref sig .tc := ⟨.hbm, 174, rfl⟩
abbrev main_v169 : Ref sig .tc := ⟨.hbm, 175, rfl⟩
abbrev main_v170 : Ref sig .tc := ⟨.hbm, 176, rfl⟩
abbrev main_v171 : Ref sig .tc := ⟨.hbm, 177, rfl⟩
abbrev main_v172 : Ref sig .tc := ⟨.hbm, 178, rfl⟩
abbrev main_v173 : Ref sig .tc := ⟨.hbm, 179, rfl⟩
abbrev main_v174 : Ref sig .tc := ⟨.hbm, 180, rfl⟩
abbrev main_v175 : Ref sig .tc := ⟨.hbm, 181, rfl⟩
abbrev main_v176 : Ref sig .tc := ⟨.hbm, 182, rfl⟩
abbrev main_v177 : Ref sig .tc := ⟨.hbm, 183, rfl⟩
abbrev main_v178 : Ref sig .tc := ⟨.hbm, 184, rfl⟩
abbrev main_v179 : Ref sig .tc := ⟨.hbm, 185, rfl⟩
abbrev main_v180 : Ref sig .tc := ⟨.hbm, 186, rfl⟩
abbrev main_v181 : Ref sig .tc := ⟨.hbm, 187, rfl⟩
abbrev main_v182 : Ref sig .tc := ⟨.hbm, 188, rfl⟩
abbrev main_v183 : Ref sig .tc := ⟨.hbm, 189, rfl⟩
abbrev main_v184 : Ref sig .tc := ⟨.hbm, 190, rfl⟩
abbrev main_v185 : Ref sig .tc := ⟨.hbm, 191, rfl⟩
abbrev main_v186 : Ref sig .tc := ⟨.hbm, 192, rfl⟩
abbrev main_v187 : Ref sig .tc := ⟨.hbm, 193, rfl⟩
abbrev main_v188 : Ref sig .tc := ⟨.hbm, 194, rfl⟩
abbrev main_v189 : Ref sig .tc := ⟨.hbm, 195, rfl⟩
abbrev main_v190 : Ref sig .tc := ⟨.hbm, 196, rfl⟩
abbrev main_v191 : Ref sig .tc := ⟨.hbm, 197, rfl⟩
abbrev main_v192 : Ref sig .tc := ⟨.hbm, 198, rfl⟩
abbrev main_v193 : Ref sig .tc := ⟨.hbm, 199, rfl⟩
abbrev main_v194 : Ref sig .tc := ⟨.hbm, 200, rfl⟩
abbrev main_v195 : Ref sig .tc := ⟨.hbm, 201, rfl⟩
abbrev main_v196 : Ref sig .tc := ⟨.hbm, 202, rfl⟩
abbrev main_v197 : Ref sig .tc := ⟨.hbm, 203, rfl⟩
abbrev main_v198 : Ref sig .tc := ⟨.hbm, 204, rfl⟩
abbrev main_v199 : Ref sig .tc := ⟨.hbm, 205, rfl⟩
abbrev main_v200 : Ref sig .tc := ⟨.hbm, 206, rfl⟩
abbrev main_v201 : Ref sig .tc := ⟨.hbm, 207, rfl⟩
abbrev main_v202 : Ref sig .tc := ⟨.hbm, 208, rfl⟩
abbrev main_v203 : Ref sig .tc := ⟨.hbm, 209, rfl⟩
abbrev main_v204 : Ref sig .tc := ⟨.hbm, 210, rfl⟩
abbrev main_v205 : Ref sig .tc := ⟨.hbm, 211, rfl⟩
abbrev main_v206 : Ref sig .tc := ⟨.hbm, 212, rfl⟩
abbrev main_v207 : Ref sig .tc := ⟨.hbm, 213, rfl⟩
abbrev main_v208 : Ref sig .tc := ⟨.hbm, 214, rfl⟩
abbrev main_v209 : Ref sig .tc := ⟨.hbm, 215, rfl⟩
abbrev main_v210 : Ref sig .tc := ⟨.hbm, 216, rfl⟩
abbrev main_v211 : Ref sig .tc := ⟨.hbm, 217, rfl⟩
abbrev main_v212 : Ref sig .tc := ⟨.hbm, 218, rfl⟩
abbrev main_v213 : Ref sig .tc := ⟨.hbm, 219, rfl⟩
abbrev main_v214 : Ref sig .tc := ⟨.hbm, 220, rfl⟩
abbrev main_v215 : Ref sig .tc := ⟨.hbm, 221, rfl⟩
abbrev main_v216 : Ref sig .tc := ⟨.hbm, 222, rfl⟩
abbrev main_v217 : Ref sig .tc := ⟨.hbm, 223, rfl⟩
abbrev main_v218 : Ref sig .tc := ⟨.hbm, 224, rfl⟩
abbrev main_v219 : Ref sig .tc := ⟨.hbm, 225, rfl⟩
abbrev main_v220 : Ref sig .tc := ⟨.hbm, 226, rfl⟩
abbrev main_cst_0 : Ref sig .tc := ⟨.hbm, 227, rfl⟩
abbrev main_v221 : Ref sig .tc := ⟨.hbm, 228, rfl⟩
abbrev main_v222 : Ref sig .tc := ⟨.hbm, 229, rfl⟩
abbrev main_cst_1 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_cst_2 : Ref sig .tc := ⟨.hbm, 236, rfl⟩
abbrev main_v228 : Ref sig .tc := ⟨.hbm, 237, rfl⟩
abbrev main_v229 : Ref sig .tc := ⟨.hbm, 238, rfl⟩
abbrev main_cst_3 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_4 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_v241 : Ref sig .tc := ⟨.hbm, 252, rfl⟩
abbrev main_v242 : Ref sig .tc := ⟨.hbm, 253, rfl⟩
abbrev main_v243 : Ref sig .tc := ⟨.hbm, 254, rfl⟩
abbrev main_v244 : Ref sig .tc := ⟨.hbm, 255, rfl⟩
abbrev main_call0_v0 : Ref sig .tc := ⟨.hbm, 256, rfl⟩
abbrev main_call0_v1 : Ref sig .tc := ⟨.hbm, 257, rfl⟩
abbrev main_call0_cst : Ref sig .tc := ⟨.hbm, 258, rfl⟩
abbrev main_call0_v2 : Ref sig .tc := ⟨.hbm, 259, rfl⟩
abbrev main_call0_v3 : Ref sig .tc := ⟨.hbm, 260, rfl⟩
abbrev main_call0_cst_0 : Ref sig .tc := ⟨.hbm, 261, rfl⟩
abbrev main_call0_v4 : Ref sig .tc := ⟨.hbm, 262, rfl⟩
abbrev main_call0_v5 : Ref sig .tc := ⟨.hbm, 263, rfl⟩
abbrev main_v245 : Ref sig .tc := ⟨.hbm, 264, rfl⟩
abbrev main_v246 : Ref sig .tc := ⟨.hbm, 265, rfl⟩

abbrev nD : Nat := 1
abbrev τ : Topo := Topo.v7x

variable {F : FTy → Type} [FloatOps F]
-- ==== Kernel6.lean ====
abbrev S16384x512 : Shape := ⟨2, ![16384, 512]⟩
abbrev S31x512 : Shape := ⟨2, ![31, 512]⟩
abbrev S512 : Shape := ⟨1, ![512]⟩
abbrev S1x512 : Shape := ⟨2, ![1, 512]⟩
abbrev S256x512 : Shape := ⟨2, ![256, 512]⟩
abbrev S32x512 : Shape := ⟨2, ![32, 512]⟩
abbrev S288x512 : Shape := ⟨2, ![288, 512]⟩
abbrev S32 : Shape := ⟨1, ![32]⟩
abbrev S32x1 : Shape := ⟨2, ![32, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S16384x512, .bf16⟩
  | .local _ .vmem, ⟨0, _⟩ => ⟨S256x512, .f32⟩
  | .local _ .vmem, ⟨1, _⟩ => ⟨S256x512, .f32⟩
  | .local _ .vmem, ⟨2, _⟩ => ⟨S32x512, .f32⟩
  | .local _ .vmem, ⟨3, _⟩ => ⟨S32x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S288x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S16384x512 : Shape := ⟨2, ![16384, 512]⟩
abbrev S31x512 : Shape := ⟨2, ![31, 512]⟩
abbrev S512 : Shape := ⟨1, ![512]⟩
abbrev S_ : Shape := ⟨0, ![]⟩
abbrev S1x30x512 : Shape := ⟨3, ![1, 30, 512]⟩
abbrev S1x16384x512 : Shape := ⟨3, ![1, 16384, 512]⟩
abbrev S1x16414x512 : Shape := ⟨3, ![1, 16414, 512]⟩
abbrev S1x512 : Shape := ⟨2, ![1, 512]⟩
abbrev S1x1x512 : Shape := ⟨3, ![1, 1, 512]⟩
abbrev S1x16384 : Shape := ⟨2, ![1, 16384]⟩
abbrev S1x16384x1 : Shape := ⟨3, ![1, 16384, 1]⟩

abbrev nBuf : Space → Nat
  | .hbm => 271
  | .vmem => 0
  | .smem => 0
  | _ => 0

abbrev hbmTy0_0 (i : Nat) : BufTy := match i % 128 with
  | 0 => ⟨S16384x512, .f32⟩
  | 1 => ⟨S31x512, .f32⟩
  | 2 => ⟨S512, .f32⟩
  | 3 => ⟨S512, .f32⟩
  | 4 => ⟨S512, .f32⟩
  | 5 => ⟨S_, .f32⟩
  | 6 => ⟨S1x30x512, .f32⟩
  | 7 => ⟨S1x16384x512, .f32⟩
  | 8 => ⟨S1x16414x512, .f32⟩
  | 9 => ⟨S1x512, .f32⟩
  | 10 => ⟨S512, .f32⟩
  | 11 => ⟨S1x16384x512, .f32⟩
  | 12 => ⟨S1x1x512, .f32⟩
  | 13 => ⟨S1x16384x512, .f32⟩
  | 14 => ⟨S1x16384x512, .f32⟩
  | 15 => ⟨S_, .f32⟩
  | 16 => ⟨S1x16384x512, .f32⟩
  | 17 => ⟨S1x16384x512, .f32⟩
  | 18 => ⟨S1x512, .f32⟩
  | 19 => ⟨S512, .f32⟩
  | 20 => ⟨S1x16384x512, .f32⟩
  | 21 => ⟨S1x1x512, .f32⟩
  | 22 => ⟨S1x16384x512, .f32⟩
  | 23 => ⟨S1x16384x512, .f32⟩
  | 24 => ⟨S1x16384x512, .f32⟩
  | 25 => ⟨S1x512, .f32⟩
  | 26 => ⟨S512, .f32⟩
  | 27 => ⟨S1x16384x512, .f32⟩
  | 28 => ⟨S1x1x512, .f32⟩
  | 29 => ⟨S1x16384x512, .f32⟩
  | 30 => ⟨S1x16384x512, .f32⟩
  | 31 => ⟨S1x16384x512, .f32⟩
  | 32 => ⟨S1x512, .f32⟩
  | 33 => ⟨S512, .f32⟩
  | 34 => ⟨S1x16384x512, .f32⟩
  | 35 => ⟨S1x1x512, .f32⟩
  | 36 => ⟨S1x16384x512, .f32⟩
  | 37 => ⟨S1x16384x512, .f32⟩
  | 38 => ⟨S1x16384x512, .f32⟩
  | 39 => ⟨S1x512, .f32⟩
  | 40 => ⟨S512, .f32⟩
  | 41 => ⟨S1x16384x512, .f32⟩
  | 42 => ⟨S1x1x512, .f32⟩
  | 43 => ⟨S1x16384x512, .f32⟩
  | 44 => ⟨S1x16384x512, .f32⟩
  | 45 => ⟨S1x16384x512, .f32⟩
  | 46 => ⟨S1x512, .f32⟩
  | 47 => ⟨S512, .f32⟩
  | 48 => ⟨S1x16384x512, .f32⟩
  | 49 => ⟨S1x1x512, .f32⟩
  | 50 => ⟨S1x16384x512, .f32⟩
  | 51 => ⟨S1x16384x512, .f32⟩
  | 52 => ⟨S1x16384x512, .f32⟩
  | 53 => ⟨S1x512, .f32⟩
  | 54 => ⟨S512, .f32⟩
  | 55 => ⟨S1x16384x512, .f32⟩
  | 56 => ⟨S1x1x512, .f32⟩
  | 57 => ⟨S1x16384x512, .f32⟩
  | 58 => ⟨S1x16384x512, .f32⟩
  | 59 => ⟨S1x16384x512, .f32⟩
  | 60 => ⟨S1x512, .f32⟩
  | 61 => ⟨S512, .f32⟩
  | 62 => ⟨S1x16384x512, .f32⟩
  | 63 => ⟨S1x1x512, .f32⟩
  | 64 => ⟨S1x16384x512, .f32⟩
  | 65 => ⟨S1x16384x512, .f32⟩
  | 66 => ⟨S1x16384x512, .f32⟩
  | 67 => ⟨S1x512, .f32⟩
  | 68 => ⟨S512, .f32⟩
  | 69 => ⟨S1x16384x512, .f32⟩
  | 70 => ⟨S1x1x512, .f32⟩
  | 71 => ⟨S1x16384x512, .f32⟩
  | 72 => ⟨S1x16384x512, .f32⟩
  | 73 => ⟨S1x16384x512, .f32⟩
  | 74 => ⟨S1x512, .f32⟩
  | 75 => ⟨S512, .f32⟩
  | 76 => ⟨S1x16384x512, .f32⟩
  | 77 => ⟨S1x1x512, .f32⟩
  | 78 => ⟨S1x16384x512, .f32⟩
  | 79 => ⟨S1x16384x512, .f32⟩
  | 80 => ⟨S1x16384x512, .f32⟩
  | 81 => ⟨S1x512, .f32⟩
  | 82 => ⟨S512, .f32⟩
  | 83 => ⟨S1x16384x512, .f32⟩
  | 84 => ⟨S1x1x512, .f32⟩
  | 85 => ⟨S1x16384x512, .f32⟩
  | 86 => ⟨S1x16384x512, .f32⟩
  | 87 => ⟨S1x16384x512, .f32⟩
  | 88 => ⟨S1x512, .f32⟩
  | 89 => ⟨S512, .f32⟩
  | 90 => ⟨S1x16384x512, .f32⟩
  | 91 => ⟨S1x1x512, .f32⟩
  | 92 => ⟨S1x16384x512, .f32⟩
  | 93 => ⟨S1x16384x512, .f32⟩
  | 94 => ⟨S1x16384x512, .f32⟩
  | 95 => ⟨S1x512, .f32⟩
  | 96 => ⟨S512, .f32⟩
  | 97 => ⟨S1x16384x512, .f32⟩
  | 98 => ⟨S1x1x512, .f32⟩
  | 99 => ⟨S1x16384x512, .f32⟩
  | 100 => ⟨S1x16384x512, .f32⟩
  | 101 => ⟨S1x16384x512, .f32⟩
  | 102 => ⟨S1x512, .f32⟩
  | 103 => ⟨S512, .f32⟩
  | 104 => ⟨S1x16384x512, .f32⟩
  | 105 => ⟨S1x1x512, .f32⟩
  | 106 => ⟨S1x16384x512, .f32⟩
  | 107 => ⟨S1x16384x512, .f32⟩
  | 108 => ⟨S1x16384x512, .f32⟩
  | 109 => ⟨S1x512, .f32⟩
  | 110 => ⟨S512, .f32⟩
  | 111 => ⟨S1x16384x512, .f32⟩
  | 112 => ⟨S1x1x512, .f32⟩
  | 113 => ⟨S1x16384x512, .f32⟩
  | 114 => ⟨S1x16384x512, .f32⟩
  | 115 => ⟨S1x16384x512, .f32⟩
  | 116 => ⟨S1x512, .f32⟩
  | 117 => ⟨S512, .f32⟩
  | 118 => ⟨S1x16384x512, .f32⟩
  | 119 => ⟨S1x1x512, .f32⟩
  | 120 => ⟨S1x16384x512, .f32⟩
  | 121 => ⟨S1x16384x512, .f32⟩
  | 122 => ⟨S1x16384x512, .f32⟩
  | 123 => ⟨S1x512, .f32⟩
  | 124 => ⟨S512, .f32⟩
  | 125 => ⟨S1x16384x512, .f32⟩
  | 126 => ⟨S1x1x512, .f32⟩
  | 127 => ⟨S1x16384x512, .f32⟩
  | _ => ⟨S16384x512, .f32⟩

abbrev hbmTy0_1 (i : Nat) : BufTy := match i % 128 with
  | 0 => ⟨S1x16384x512, .f32⟩
  | 1 => ⟨S1x16384x512, .f32⟩
  | 2 => ⟨S1x512, .f32⟩
  | 3 => ⟨S512, .f32⟩
  | 4 => ⟨S1x16384x512, .f32⟩
  | 5 => ⟨S1x1x512, .f32⟩
  | 6 => ⟨S1x16384x512, .f32⟩
  | 7 => ⟨S1x16384x512, .f32⟩
  | 8 => ⟨S1x16384x512, .f32⟩
  | 9 => ⟨S1x512, .f32⟩
  | 10 => ⟨S512, .f32⟩
  | 11 => ⟨S1x16384x512, .f32⟩
  | 12 => ⟨S1x1x512, .f32⟩
  | 13 => ⟨S1x16384x512, .f32⟩
  | 14 => ⟨S1x16384x512, .f32⟩
  | 15 => ⟨S1x16384x512, .f32⟩
  | 16 => ⟨S1x512, .f32⟩
  | 17 => ⟨S512, .f32⟩
  | 18 => ⟨S1x16384x512, .f32⟩
  | 19 => ⟨S1x1x512, .f32⟩
  | 20 => ⟨S1x16384x512, .f32⟩
  | 21 => ⟨S1x16384x512, .f32⟩
  | 22 => ⟨S1x16384x512, .f32⟩
  | 23 => ⟨S1x512, .f32⟩
  | 24 => ⟨S512, .f32⟩
  | 25 => ⟨S1x16384x512, .f32⟩
  | 26 => ⟨S1x1x512, .f32⟩
  | 27 => ⟨S1x16384x512, .f32⟩
  | 28 => ⟨S1x16384x512, .f32⟩
  | 29 => ⟨S1x16384x512, .f32⟩
  | 30 => ⟨S1x512, .f32⟩
  | 31 => ⟨S512, .f32⟩
  | 32 => ⟨S1x16384x512, .f32⟩
  | 33 => ⟨S1x1x512, .f32⟩
  | 34 => ⟨S1x16384x512, .f32⟩
  | 35 => ⟨S1x16384x512, .f32⟩
  | 36 => ⟨S1x16384x512, .f32⟩
  | 37 => ⟨S1x512, .f32⟩
  | 38 => ⟨S512, .f32⟩
  | 39 => ⟨S1x16384x512, .f32⟩
  | 40 => ⟨S1x1x512, .f32⟩
  | 41 => ⟨S1x16384x512, .f32⟩
  | 42 => ⟨S1x16384x512, .f32⟩
  | 43 => ⟨S1x16384x512, .f32⟩
  | 44 => ⟨S1x512, .f32⟩
  | 45 => ⟨S512, .f32⟩
  | 46 => ⟨S1x16384x512, .f32⟩
  | 47 => ⟨S1x1x512, .f32⟩
  | 48 => ⟨S1x16384x512, .f32⟩
  | 49 => ⟨S1x16384x512, .f32⟩
  | 50 => ⟨S1x16384x512, .f32⟩
  | 51 => ⟨S1x512, .f32⟩
  | 52 => ⟨S512, .f32⟩
  | 53 => ⟨S1x16384x512, .f32⟩
  | 54 => ⟨S1x1x512, .f32⟩
  | 55 => ⟨S1x16384x512, .f32⟩
  | 56 => ⟨S1x16384x512, .f32⟩
  | 57 => ⟨S1x16384x512, .f32⟩
  | 58 => ⟨S1x512, .f32⟩
  | 59 => ⟨S512, .f32⟩
  | 60 => ⟨S1x16384x512, .f32⟩
  | 61 => ⟨S1x1x512, .f32⟩
  | 62 => ⟨S1x16384x512, .f32⟩
  | 63 => ⟨S1x16384x512, .f32⟩
  | 64 => ⟨S1x16384x512, .f32⟩
  | 65 => ⟨S1x512, .f32⟩
  | 66 => ⟨S512, .f32⟩
  | 67 => ⟨S1x16384x512, .f32⟩
  | 68 => ⟨S1x1x512, .f32⟩
  | 69 => ⟨S1x16384x512, .f32⟩
  | 70 => ⟨S1x16384x512, .f32⟩
  | 71 => ⟨S1x16384x512, .f32⟩
  | 72 => ⟨S1x512, .f32⟩
  | 73 => ⟨S512, .f32⟩
  | 74 => ⟨S1x16384x512, .f32⟩
  | 75 => ⟨S1x1x512, .f32⟩
  | 76 => ⟨S1x16384x512, .f32⟩
  | 77 => ⟨S1x16384x512, .f32⟩
  | 78 => ⟨S1x16384x512, .f32⟩
  | 79 => ⟨S1x512, .f32⟩
  | 80 => ⟨S512, .f32⟩
  | 81 => ⟨S1x16384x512, .f32⟩
  | 82 => ⟨S1x1x512, .f32⟩
  | 83 => ⟨S1x16384x512, .f32⟩
  | 84 => ⟨S1x16384x512, .f32⟩
  | 85 => ⟨S1x16384x512, .f32⟩
  | 86 => ⟨S1x512, .f32⟩
  | 87 => ⟨S512, .f32⟩
  | 88 => ⟨S1x16384x512, .f32⟩
  | 89 => ⟨S1x1x512, .f32⟩
  | 90 => ⟨S1x16384x512, .f32⟩
  | 91 => ⟨S1x16384x512, .f32⟩
  | 92 => ⟨S1x16384x512, .f32⟩
  | 93 => ⟨S1x512, .f32⟩
  | 94 => ⟨S512, .f32⟩
  | 95 => ⟨S1x16384x512, .f32⟩
  | 96 => ⟨S1x1x512, .f32⟩
  | 97 => ⟨S1x16384x512, .f32⟩
  | 98 => ⟨S1x16384x512, .f32⟩
  | 99 => ⟨S1x16384x512, .f32⟩
  | 100 => ⟨S1x1x512, .f32⟩
  | 101 => ⟨S1x16384x512, .f32⟩
  | 102 => ⟨S1x16384x512, .f32⟩
  | 103 => ⟨S_, .f32⟩
  | 104 => ⟨S1x16384, .f32⟩
  | 105 => ⟨S1x16384x1, .f32⟩
  | 106 => ⟨S_, .f32⟩
  | 107 => ⟨S1x16384x1, .f32⟩
  | 108 => ⟨S1x16384x1, .f32⟩
  | 109 => ⟨S1x16384x512, .f32⟩
  | 110 => ⟨S1x16384x512, .f32⟩
  | 111 => ⟨S1x16384x512, .f32⟩
  | 112 => ⟨S_, .f32⟩
  | 113 => ⟨S1x16384, .f32⟩
  | 114 => ⟨S1x16384x1, .f32⟩
  | 115 => ⟨S_, .f32⟩
  | 116 => ⟨S1x16384x1, .f32⟩
  | 117 => ⟨S1x16384x1, .f32⟩
  | 118 => ⟨S1x16384x512, .f32⟩
  | 119 => ⟨S1x16384x512, .f32⟩
  | 120 => ⟨S_, .f32⟩
  | 121 => ⟨S1x16384x1, .f32⟩
  | 122 => ⟨S1x16384x1, .f32⟩
  | 123 => ⟨S1x16384x1, .f32⟩
  | 124 => ⟨S1x16384x512, .f32⟩
  | 125 => ⟨S1x16384x512, .f32⟩
  | 126 => ⟨S1x1x512, .f32⟩
  | 127 => ⟨S1x16384x512, .f32⟩
  | _ => ⟨S16384x512, .f32⟩

abbrev hbmTy0_2 (i : Nat) : BufTy := match i % 128 with
  | 0 => ⟨S1x16384x512, .f32⟩
  | 1 => ⟨S1x1x512, .f32⟩
  | 2 => ⟨S1x16384x512, .f32⟩
  | 3 => ⟨S1x16384x512, .f32⟩
  | 4 => ⟨S1x16384x512, .f32⟩
  | 5 => ⟨S1x16384x512, .f32⟩
  | 6 => ⟨S_, .f32⟩
  | 7 => ⟨S1x16384x512, .f32⟩
  | 8 => ⟨S1x16384x512, .f32⟩
  | 9 => ⟨S_, .f32⟩
  | 10 => ⟨S1x16384x512, .f32⟩
  | 11 => ⟨S1x16384x512, .f32⟩
  | 12 => ⟨S1x16384x512, .f32⟩
  | 13 => ⟨S16384x512, .f32⟩
  | 14 => ⟨S16384x512, .bf16⟩
  | _ => ⟨S16384x512, .f32⟩

abbrev hbmTy (i : Nat) : BufTy := match i / 128 with
  | 0 => hbmTy0_0 i
  | 1 => hbmTy0_1 i
  | 2 => hbmTy0_2 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_cst_1 : Ref sig .tc := ⟨.hbm, 231, rfl⟩
abbrev main_v224 : Ref sig .tc := ⟨.hbm, 232, rfl⟩
abbrev main_v225 : Ref sig .tc := ⟨.hbm, 233, rfl⟩
abbrev main_cst_2 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_cst_3 : Ref sig .tc := ⟨.hbm, 240, rfl⟩
abbrev main_v231 : Ref sig .tc := ⟨.hbm, 241, rfl⟩
abbrev main_v232 : Ref sig .tc := ⟨.hbm, 242, rfl⟩
abbrev main_cst_4 : Ref sig .tc := ⟨.hbm, 243, rfl⟩
abbrev main_v233 : Ref sig .tc := ⟨.hbm, 244, rfl⟩
abbrev main_v234 : Ref sig .tc := ⟨.hbm, 245, rfl⟩
abbrev main_v235 : Ref sig .tc := ⟨.hbm, 246, rfl⟩
abbrev main_v236 : Ref sig .tc := ⟨.hbm, 247, rfl⟩
abbrev main_cst_5 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_call0_v0 : Ref sig .tc := ⟨.hbm, 260, rfl⟩
abbrev main_call0_v1 : Ref sig .tc := ⟨.hbm, 261, rfl⟩
abbrev main_call0_cst : Ref sig .tc := ⟨.hbm, 262, rfl⟩
abbrev main_call0_v2 : Ref sig .tc := ⟨.hbm, 263, rfl⟩
abbrev main_call0_v3 : Ref sig .tc := ⟨.hbm, 264, rfl⟩
abbrev main_call0_cst_0 : Ref sig .tc := ⟨.hbm, 265, rfl⟩
abbrev main_call0_v4 : Ref sig .tc := ⟨.hbm, 266, rfl⟩
abbrev main_call0_v5 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩

abbrev nD : Nat := 1
abbrev τ : Topo := Topo.v7x

variable {F : FTy → Type} [FloatOps F]
-- ==== Kernel7.lean ====
abbrev S128x4x1024 : Shape := ⟨3, ![128, 4, 1024]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16x512x128 : Shape := ⟨3, ![16, 512, 128]⟩
abbrev S256x1024 : Shape := ⟨2, ![256, 1024]⟩
abbrev S256x512 : Shape := ⟨2, ![256, 512]⟩
abbrev S16x256x128 : Shape := ⟨3, ![16, 256, 128]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 19
  | .vmem => 21
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S512x1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x2048, .bf16⟩
  | .hbm, ⟨15, _⟩ => ⟨S1x1024, .f32⟩
  | .hbm, ⟨16, _⟩ => ⟨S512x1024, .f32⟩
  | .hbm, ⟨17, _⟩ => ⟨S512x1024, .bf16⟩
  | .hbm, ⟨18, _⟩ => ⟨S16x512x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x2048, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S16x256x128, .f32⟩
  | .local _ .vmem, ⟨20, _⟩ => ⟨S16x256x128, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference7Ideal.lean ====
abbrev S128x4x1024 : Shape := ⟨3, ![128, 4, 1024]⟩
abbrev S512x512 : Shape := ⟨2, ![512, 512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2048 : Shape := ⟨2, ![512, 2048]⟩
abbrev S512x16x128 : Shape := ⟨3, ![512, 16, 128]⟩
abbrev S16x512x128 : Shape := ⟨3, ![16, 512, 128]⟩

abbrev nBuf : Space → Nat
  | .hbm => 40
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S512x512, .bf16⟩
  | .hbm, ⟨2, _⟩ => ⟨S512x512, .bf16⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x2048, .f32⟩
  | .hbm, ⟨10, _⟩ => ⟨S512x1024, .f32⟩
  | .hbm, ⟨11, _⟩ => ⟨S512x512, .f32⟩
  | .hbm, ⟨12, _⟩ => ⟨S512x1024, .f32⟩
  | .hbm, ⟨13, _⟩ => ⟨S512x512, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S_, .f32⟩
  | .hbm, ⟨28, _⟩ => ⟨S512x1, .f32⟩
  | .hbm, ⟨29, _⟩ => ⟨S512x1, .f32⟩
  | .hbm, ⟨30, _⟩ => ⟨S512x1, .f32⟩
  | .hbm, ⟨31, _⟩ => ⟨S512x1024, .f32⟩
  | .hbm, ⟨32, _⟩ => ⟨S512x1024, .f32⟩
  | .hbm, ⟨33, _⟩ => ⟨S1x1024, .f32⟩
  | .hbm, ⟨34, _⟩ => ⟨S512x1024, .f32⟩
  | .hbm, ⟨35, _⟩ => ⟨S512x1024, .f32⟩
  | .hbm, ⟨36, _⟩ => ⟨S512x2048, .f32⟩
  | .hbm, ⟨37, _⟩ => ⟨S512x16x128, .f32⟩
  | .hbm, ⟨38, _⟩ => ⟨S512x1024, .bf16⟩
  | .hbm, ⟨39, _⟩ => ⟨S16x512x128, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel8.lean ====
abbrev S16x16384x128 : Shape := ⟨3, ![16, 16384, 128]⟩
abbrev S2x8x128x128 : Shape := ⟨4, ![2, 8, 128, 128]⟩
abbrev S8x2x128x128 : Shape := ⟨4, ![8, 2, 128, 128]⟩
abbrev S16x128x128 : Shape := ⟨3, ![16, 128, 128]⟩
abbrev S2x8x128x16384 : Shape := ⟨4, ![2, 8, 128, 16384]⟩
abbrev S8x8x16384 : Shape := ⟨3, ![8, 8, 16384]⟩
abbrev S16x512x128 : Shape := ⟨3, ![16, 512, 128]⟩
abbrev S2x8x128x512 : Shape := ⟨4, ![2, 8, 128, 512]⟩
abbrev S8x8x512 : Shape := ⟨3, ![8, 8, 512]⟩
abbrev S8x512 : Shape := ⟨2, ![8, 512]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S1x8x512 : Shape := ⟨3, ![1, 8, 512]⟩
abbrev S1x1x8x512 : Shape := ⟨4, ![1, 1, 8, 512]⟩

abbrev nBuf : Space → Nat
  | .hbm => 8
  | .vmem => 9
  | .smem => 0
  | _ => 0

abbrev bufTy : (tb : Table) → Fin (tcTables nBuf tb) → BufTy
  | .hbm, ⟨0, _⟩ => ⟨S16x16384x128, .f32⟩
  | .hbm, ⟨1, _⟩ => ⟨S2x8x128x128, .f32⟩
  | .hbm, ⟨2, _⟩ => ⟨S2x8x128x128, .bf16⟩
  | .hbm, ⟨3, _⟩ => ⟨S8x2x128x128, .bf16⟩
  | .hbm, ⟨4, _⟩ => ⟨S16x128x128, .bf16⟩
  | .hbm, ⟨5, _⟩ => ⟨S2x8x128x16384, .f32⟩
  | .hbm, ⟨6, _⟩ => ⟨S2x8x128x16384, .f32⟩
  | .hbm, ⟨7, _⟩ => ⟨S8x8x16384, .f32⟩
  | .local _ .vmem, ⟨0, _⟩ => ⟨S16x512x128, .f32⟩
  | .local _ .vmem, ⟨1, _⟩ => ⟨S16x512x128, .f32⟩
  | .local _ .vmem, ⟨2, _⟩ => ⟨S16x128x128, .bf16⟩
  | .local _ .vmem, ⟨3, _⟩ => ⟨S2x8x128x512, .f32⟩
  | .local _ .vmem, ⟨4, _⟩ => ⟨S2x8x128x512, .f32⟩
  | .local _ .vmem, ⟨5, _⟩ => ⟨S2x8x128x512, .f32⟩
  | .local _ .vmem, ⟨6, _⟩ => ⟨S2x8x128x512, .f32⟩
  | .local _ .vmem, ⟨7, _⟩ => ⟨S8x8x512, .f32⟩
  | .local _ .vmem, ⟨8, _⟩ => ⟨S8x8x512, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let v3 : BitVec 32 := Scalar.addi v2 c0_i32_1
  let v4 : Index := Scalar.indexCast v3
  let c0 : Index := 0#32
  let c0_2 : Index := 0#32
  ![v4.toNat, 0, 0]
def k0_off2 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let v3 : BitVec 32 := Scalar.addi v2 c0_i32_1
  let v7 : Index := Scalar.indexCast v3
  let c0_3 : Index := 0#32
  let c0_4 : Index := 0#32
  ![v7.toNat, 0, 0]
def k0_off3 (k0_t1 : Fin k0_t1_loop.trips) : Fin 4 → Nat :=
  let c0_5 : Index := 0#32
  let c0_i32 : BitVec 32 := 0#32
  let c1_i32 : BitVec 32 := 1#32
  let arg6 : BitVec 32 := Scf.iv c0_i32 c1_i32 k0_t1
  let v12 : Index := Scalar.indexCast arg6
  let c0_6 : Index := 0#32
  let c0_7 : Index := 0#32
  ![0, v12.toNat, 0, 0]
def k0_off4 (k0_t1 : Fin k0_t1_loop.trips) : Fin 4 → Nat :=
  let c1 : Index := 1#32
  let c0_i32 : BitVec 32 := 0#32
  let c1_i32 : BitVec 32 := 1#32
  let arg6 : BitVec 32 := Scf.iv c0_i32 c1_i32 k0_t1
  let v456 : Index := Scalar.indexCast arg6
  let c0_62 : Index := 0#32
  let c0_63 : Index := 0#32
  ![1, v456.toNat, 0, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1380 : Index := Scalar.indexCast arg6
  let c0_172 : Index := 0#32
  let c0_173 : Index := 0#32
  ![v1380.toNat, 0, 0]
def k0_off6 (k0_t1 : Fin k0_t1_loop.trips) : Fin 4 → Nat :=
  let c0_174 : Index := 0#32
  let c0_i32 : BitVec 32 := 0#32
  let c1_i32 : BitVec 32 := 1#32
  let arg6 : BitVec 32 := Scf.iv c0_i32 c1_i32 k0_t1
  let v1387 : Index := Scalar.indexCast arg6
  let c0_175 : Index := 0#32
  let c0_176 : Index := 0#32
  ![0, v1387.toNat, 0, 0]
def k0_off7 (k0_t1 : Fin k0_t1_loop.trips) : Fin 4 → Nat :=
  let c1_177 : Index := 1#32
  let c0_i32 : BitVec 32 := 0#32
  let c1_i32 : BitVec 32 := 1#32
  let arg6 : BitVec 32 := Scf.iv c0_i32 c1_i32 k0_t1
  let v1393 : Index := Scalar.indexCast arg6
  let c0_178 : Index := 0#32
  let c0_179 : Index := 0#32
  ![1, v1393.toNat, 0, 0]
def k0_off8 (k0_t1 : Fin k0_t1_loop.trips) : Fin 4 → Nat :=
  let c0_180 : Index := 0#32
  let c0_i32 : BitVec 32 := 0#32
  let c1_i32 : BitVec 32 := 1#32
  let arg6 : BitVec 32 := Scf.iv c0_i32 c1_i32 k0_t1
  let v1400 : Index := Scalar.indexCast arg6
  let c8 : Index := 8#32
  let c0_181 : Index := 0#32
  ![0, v1400.toNat, 8, 0]
def k0_off9 (k0_t1 : Fin k0_t1_loop.trips) : Fin 4 → Nat :=
  let c1_182 : Index := 1#32
  let c0_i32 : BitVec 32 := 0#32
  let c1_i32 : BitVec 32 := 1#32
  let arg6 : BitVec 32 := Scf.iv c0_i32 c1_i32 k0_t1
  let v1406 : Index := Scalar.indexCast arg6
  let c8_183 : Index := 8#32
  let c0_184 : Index := 0#32
  ![1, v1406.toNat, 8, 0]
def k0_off10 (k0_t1 : Fin k0_t1_loop.trips) : Fin 4 → Nat :=
  let c0_185 : Index := 0#32
  let c0_i32 : BitVec 32 := 0#32
  let c1_i32 : BitVec 32 := 1#32
  let arg6 : BitVec 32 := Scf.iv c0_i32 c1_i32 k0_t1
  let v1413 : Index := Scalar.indexCast arg6
  let c16 : Index := 16#32
  let c0_186 : Index := 0#32
  ![0, v1413.toNat, 16, 0]
def k0_off11 (k0_t1 : Fin k0_t1_loop.trips) : Fin 4 → Nat :=
  let c1_187 : Index := 1#32
  let c0_i32 : BitVec 32 := 0#32
  let c1_i32 : BitVec 32 := 1#32
  let arg6 : BitVec 32 := Scf.iv c0_i32 c1_i32 k0_t1
  let v1419 : Index := Scalar.indexCast arg6
  let c16_188 : Index := 16#32
  let c0_189 : Index := 0#32
  ![1, v1419.toNat, 16, 0]
def k0_off12 (k0_t1 : Fin k0_t1_loop.trips) : Fin 4 → Nat :=
  let c0_190 : Index := 0#32
  let c0_i32 : BitVec 32 := 0#32
  let c1_i32 : BitVec 32 := 1#32
  let arg6 : BitVec 32 := Scf.iv c0_i32 c1_i32 k0_t1
  let v1426 : Index := Scalar.indexCast arg6
  let c24 : Index := 24#32
  let c0_191 : Index := 0#32
  ![0, v1426.toNat, 24, 0]
def k0_off13 (k0_t1 : Fin k0_t1_loop.trips) : Fin 4 → Nat :=
  let c1_192 : Index := 1#32
  let c0_i32 : BitVec 32 := 0#32
  let c1_i32 : BitVec 32 := 1#32
  let arg6 : BitVec 32 := Scf.iv c0_i32 c1_i32 k0_t1
  let v1432 : Index := Scalar.indexCast arg6
  let c24_193 : Index := 24#32
  let c0_194 : Index := 0#32
  ![1, v1432.toNat, 24, 0]
def k0_off14 (k0_t1 : Fin k0_t1_loop.trips) : Fin 4 → Nat :=
  let c0_195 : Index := 0#32
  let c0_i32 : BitVec 32 := 0#32
  let c1_i32 : BitVec 32 := 1#32
  let arg6 : BitVec 32 := Scf.iv c0_i32 c1_i32 k0_t1
  let v1439 : Index := Scalar.indexCast arg6
  let c32 : Index := 32#32
  let c0_196 : Index := 0#32
  ![0, v1439.toNat, 32, 0]
def k0_off15 (k0_t1 : Fin k0_t1_loop.trips) : Fin 4 → Nat :=
  let c1_197 : Index := 1#32
  let c0_i32 : BitVec 32 := 0#32
  let c1_i32 : BitVec 32 := 1#32
  let arg6 : BitVec 32 := Scf.iv c0_i32 c1_i32 k0_t1
  let v1445 : Index := Scalar.indexCast arg6
  let c32_198 : Index := 32#32
  let c0_199 : Index := 0#32
  ![1, v1445.toNat, 32, 0]
def k0_off16 (k0_t1 : Fin k0_t1_loop.trips) : Fin 4 → Nat :=
  let c0_200 : Index := 0#32
  let c0_i32 : BitVec 32 := 0#32
  let c1_i32 : BitVec 32 := 1#32
  let arg6 : BitVec 32 := Scf.iv c0_i32 c1_i32 k0_t1
  let v1452 : Index := Scalar.indexCast arg6
  let c40 : Index := 40#32
  let c0_201 : Index := 0#32
  ![0, v1452.toNat, 40, 0]
def k0_off17 (k0_t1 : Fin k0_t1_loop.trips) : Fin 4 → Nat :=
  let c1_202 : Index := 1#32
  let c0_i32 : BitVec 32 := 0#32
  let c1_i32 : BitVec 32 := 1#32
  let arg6 : BitVec 32 := Scf.iv c0_i32 c1_i32 k0_t1
  let v1458 : Index := Scalar.indexCast arg6
  let c40_203 : Index := 40#32
  let c0_204 : Index := 0#32
  ![1, v1458.toNat, 40, 0]
def k0_off18 (k0_t1 : Fin k0_t1_loop.trips) : Fin 4 → Nat :=
  let c0_205 : Index := 0#32
  let c0_i32 : BitVec 32 := 0#32
  let c1_i32 : BitVec 32 := 1#32
  let arg6 : BitVec 32 := Scf.iv c0_i32 c1_i32 k0_t1
  let v1465 : Index := Scalar.indexCast arg6
  let c48 : Index := 48#32
  let c0_206 : Index := 0#32
  ![0, v1465.toNat, 48, 0]
def k0_off19 (k0_t1 : Fin k0_t1_loop.trips) : Fin 4 → Nat :=
  let c1_207 : Index := 1#32
  let c0_i32 : BitVec 32 := 0#32
  let c1_i32 : BitVec 32 := 1#32
  let arg6 : BitVec 32 := Scf.iv c0_i32 c1_i32 k0_t1
  let v1471 : Index := Scalar.indexCast arg6
  let c48_208 : Index := 48#32
  let c0_209 : Index := 0#32
  ![1, v1471.toNat, 48, 0]
def k0_off20 (k0_t1 : Fin k0_t1_loop.trips) : Fin 4 → Nat :=
  let c0_210 : Index := 0#32
  let c0_i32 : BitVec 32 := 0#32
  let c1_i32 : BitVec 32 := 1#32
  let arg6 : BitVec 32 := Scf.iv c0_i32 c1_i32 k0_t1
  let v1478 : Index := Scalar.indexCast arg6
  let c56 : Index := 56#32
  let c0_211 : Index := 0#32
  ![0, v1478.toNat, 56, 0]
def k0_off21 (k0_t1 : Fin k0_t1_loop.trips) : Fin 4 → Nat :=
  let c1_212 : Index := 1#32
  let c0_i32 : BitVec 32 := 0#32
  let c1_i32 : BitVec 32 := 1#32
  let arg6 : BitVec 32 := Scf.iv c0_i32 c1_i32 k0_t1
  let v1484 : Index := Scalar.indexCast arg6
  let c56_213 : Index := 56#32
  let c0_214 : Index := 0#32
  ![1, v1484.toNat, 56, 0]
def k0_off22 (k0_t1 : Fin k0_t1_loop.trips) : Fin 4 → Nat :=
  let c0_215 : Index := 0#32
  let c0_i32 : BitVec 32 := 0#32
  let c1_i32 : BitVec 32 := 1#32
  let arg6 : BitVec 32 := Scf.iv c0_i32 c1_i32 k0_t1
  let v1491 : Index := Scalar.indexCast arg6
  let c64 : Index := 64#32
  let c0_216 : Index := 0#32
  ![0, v1491.toNat, 64, 0]
def k0_off23 (k0_t1 : Fin k0_t1_loop.trips) : Fin 4 → Nat :=
  let c1_217 : Index := 1#32
  let c0_i32 : BitVec 32 := 0#32
  let c1_i32 : BitVec 32 := 1#32
  let arg6 : BitVec 32 := Scf.iv c0_i32 c1_i32 k0_t1
  let v1497 : Index := Scalar.indexCast arg6
  let c64_218 : Index := 64#32
  let c0_219 : Index := 0#32
  ![1, v1497.toNat, 64, 0]
def k0_off24 (k0_t1 : Fin k0_t1_loop.trips) : Fin 4 → Nat :=
  let c0_220 : Index := 0#32
  let c0_i32 : BitVec 32 := 0#32
  let c1_i32 : BitVec 32 := 1#32
  let arg6 : BitVec 32 := Scf.iv c0_i32 c1_i32 k0_t1
  let v1504 : Index := Scalar.indexCast arg6
  let c72 : Index := 72#32
  let c0_221 : Index := 0#32
  ![0, v1504.toNat, 72, 0]
def k0_off25 (k0_t1 : Fin k0_t1_loop.trips) : Fin 4 → Nat :=
  let c1_222 : Index := 1#32
  let c0_i32 : BitVec 32 := 0#32
  let c1_i32 : BitVec 32 := 1#32
  let arg6 : BitVec 32 := Scf.iv c0_i32 c1_i32 k0_t1
  let v1510 : Index := Scalar.indexCast arg6
  let c72_223 : Index := 72#32
  let c0_224 : Index := 0#32
  ![1, v1510.toNat, 72, 0]
def k0_off26 (k0_t1 : Fin k0_t1_loop.trips) : Fin 4 → Nat :=
  let c0_225 : Index := 0#32
  let c0_i32 : BitVec 32 := 0#32
  let c1_i32 : BitVec 32 := 1#32
  let arg6 : BitVec 32 := Scf.iv c0_i32 c1_i32 k0_t1
  let v1517 : Index := Scalar.indexCast arg6
  let c80 : Index := 80#32
  let c0_226 : Index := 0#32
  ![0, v1517.toNat, 80, 0]
def k0_off27 (k0_t1 : Fin k0_t1_loop.trips) : Fin 4 → Nat :=
  let c1_227 : Index := 1#32
  let c0_i32 : BitVec 32 := 0#32
  let c1_i32 : BitVec 32 := 1#32
  let arg6 : BitVec 32 := Scf.iv c0_i32 c1_i32 k0_t1
  let v1523 : Index := Scalar.indexCast arg6
  let c80_228 : Index := 80#32
  let c0_229 : Index := 0#32
  ![1, v1523.toNat, 80, 0]
def k0_off28 (k0_t1 : Fin k0_t1_loop.trips) : Fin 4 → Nat :=
  let c0_230 : Index := 0#32
  let c0_i32 : BitVec 32 := 0#32
  let c1_i32 : BitVec 32 := 1#32
  let arg6 : BitVec 32 := Scf.iv c0_i32 c1_i32 k0_t1
  let v1530 : Index := Scalar.indexCast arg6
  let c88 : Index := 88#32
  let c0_231 : Index := 0#32
  ![0, v1530.toNat, 88, 0]
def k0_off29 (k0_t1 : Fin k0_t1_loop.trips) : Fin 4 → Nat :=
  let c1_232 : Index := 1#32
  let c0_i32 : BitVec 32 := 0#32
  let c1_i32 : BitVec 32 := 1#32
  let arg6 : BitVec 32 := Scf.iv c0_i32 c1_i32 k0_t1
  let v1536 : Index := Scalar.indexCast arg6
  let c88_233 : Index := 88#32
  let c0_234 : Index := 0#32
  ![1, v1536.toNat, 88, 0]
def k0_off30 (k0_t1 : Fin k0_t1_loop.trips) : Fin 4 → Nat :=
  let c0_235 : Index := 0#32
  let c0_i32 : BitVec 32 := 0#32
  let c1_i32 : BitVec 32 := 1#32
  let arg6 : BitVec 32 := Scf.iv c0_i32 c1_i32 k0_t1
  let v1543 : Index := Scalar.indexCast arg6
  let c96 : Index := 96#32
  let c0_236 : Index := 0#32
  ![0, v1543.toNat, 96, 0]
def k0_off31 (k0_t1 : Fin k0_t1_loop.trips) : Fin 4 → Nat :=
  let c1_237 : Index := 1#32
  let c0_i32 : BitVec 32 := 0#32
  let c1_i32 : BitVec 32 := 1#32
  let arg6 : BitVec 32 := Scf.iv c0_i32 c1_i32 k0_t1
  let v1549 : Index := Scalar.indexCast arg6
  let c96_238 : Index := 96#32
  let c0_239 : Index := 0#32
  ![1, v1549.toNat, 96, 0]
def k0_off32 (k0_t1 : Fin k0_t1_loop.trips) : Fin 4 → Nat :=
  let c0_240 : Index := 0#32
  let c0_i32 : BitVec 32 := 0#32
  let c1_i32 : BitVec 32 := 1#32
  let arg6 : BitVec 32 := Scf.iv c0_i32 c1_i32 k0_t1
  let v1556 : Index := Scalar.indexCast arg6
  let c104 : Index := 104#32
  let c0_241 : Index := 0#32
  ![0, v1556.toNat, 104, 0]
def k0_off33 (k0_t1 : Fin k0_t1_loop.trips) : Fin 4 → Nat :=
  let c1_242 : Index := 1#32
  let c0_i32 : BitVec 32 := 0#32
  let c1_i32 : BitVec 32 := 1#32
  let arg6 : BitVec 32 := Scf.iv c0_i32 c1_i32 k0_t1
  let v1562 : Index := Scalar.indexCast arg6
  let c104_243 : Index := 104#32
  let c0_244 : Index := 0#32
  ![1, v1562.toNat, 104, 0]
def k0_off34 (k0_t1 : Fin k0_t1_loop.trips) : Fin 4 → Nat :=
  let c0_245 : Index := 0#32
  let c0_i32 : BitVec 32 := 0#32
  let c1_i32 : BitVec 32 := 1#32
  let arg6 : BitVec 32 := Scf.iv c0_i32 c1_i32 k0_t1
  let v1569 : Index := Scalar.indexCast arg6
  let c112 : Index := 112#32
  let c0_246 : Index := 0#32
  ![0, v1569.toNat, 112, 0]
def k0_off35 (k0_t1 : Fin k0_t1_loop.trips) : Fin 4 → Nat :=
  let c1_247 : Index := 1#32
  let c0_i32 : BitVec 32 := 0#32
  let c1_i32 : BitVec 32 := 1#32
  let arg6 : BitVec 32 := Scf.iv c0_i32 c1_i32 k0_t1
  let v1575 : Index := Scalar.indexCast arg6
  let c112_248 : Index := 112#32
  let c0_249 : Index := 0#32
  ![1, v1575.toNat, 112, 0]
def k0_off36 (k0_t1 : Fin k0_t1_loop.trips) : Fin 4 → Nat :=
  let c0_250 : Index := 0#32
  let c0_i32 : BitVec 32 := 0#32
  let c1_i32 : BitVec 32 := 1#32
  let arg6 : BitVec 32 := Scf.iv c0_i32 c1_i32 k0_t1
  let v1582 : Index := Scalar.indexCast arg6
  let c120 : Index := 120#32
  let c0_251 : Index := 0#32
  ![0, v1582.toNat, 120, 0]
def k0_off37 (k0_t1 : Fin k0_t1_loop.trips) : Fin 4 → Nat :=
  let c1_252 : Index := 1#32
  let c0_i32 : BitVec 32 := 0#32
  let c1_i32 : BitVec 32 := 1#32
  let arg6 : BitVec 32 := Scf.iv c0_i32 c1_i32 k0_t1
  let v1588 : Index := Scalar.indexCast arg6
  let c120_253 : Index := 120#32
  let c0_254 : Index := 0#32
  ![1, v1588.toNat, 120, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S16x16384x128 : Shape := ⟨3, ![16, 16384, 128]⟩
abbrev S2x8x128x128 : Shape := ⟨4, ![2, 8, 128, 128]⟩
abbrev S16384x16x128 : Shape := ⟨3, ![16384, 16, 128]⟩
abbrev S16384x8x256 : Shape := ⟨3, ![16384, 8, 256]⟩
abbrev S16384x8x128 : Shape := ⟨3, ![16384, 8, 128]⟩
abbrev S1x8x128x128 : Shape := ⟨4, ![1, 8, 128, 128]⟩
abbrev S8x128x128 : Shape := ⟨3, ![8, 128, 128]⟩
abbrev S8x128x16384 : Shape := ⟨3, ![8, 128, 16384]⟩
abbrev S1x16384x8x128 : Shape := ⟨4, ![1, 16384, 8, 128]⟩
abbrev S2x16384x8x128 : Shape := ⟨4, ![2, 16384, 8, 128]⟩
abbrev S2x8x128x16384 : Shape := ⟨4, ![2, 8, 128, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S2x8x128x128, .f32⟩
  | .hbm, ⟨2, _⟩ => ⟨S16384x16x128, .f32⟩
  | .hbm, ⟨3, _⟩ => ⟨S16384x8x256, .f32⟩
  | .hbm, ⟨4, _⟩ => ⟨S16384x8x128, .f32⟩
  | .hbm, ⟨5, _⟩ => ⟨S16384x8x128, .f32⟩
  | .hbm, ⟨6, _⟩ => ⟨S1x8x128x128, .f32⟩
  | .hbm, ⟨7, _⟩ => ⟨S8x128x128, .f32⟩
  | .hbm, ⟨8, _⟩ => ⟨S8x128x16384, .f32⟩
  | .hbm, ⟨9, _⟩ => ⟨S16384x8x128, .f32⟩
  | .hbm, ⟨10, _⟩ => ⟨S1x8x128x128, .f32⟩
  | .hbm, ⟨11, _⟩ => ⟨S8x128x128, .f32⟩
  | .hbm, ⟨12, _⟩ => ⟨S8x128x16384, .f32⟩
  | .hbm, ⟨13, _⟩ => ⟨S16384x8x128, .f32⟩
  | .hbm, ⟨14, _⟩ => ⟨S1x16384x8x128, .f32⟩
  | .hbm, ⟨15, _⟩ => ⟨S1x16384x8x128, .f32⟩
  | .hbm, ⟨16, _⟩ => ⟨S2x16384x8x128, .f32⟩
  | .hbm, ⟨17, _⟩ => ⟨S2x8x128x16384, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Kernel9.lean ====
abbrev S16x512x128 : Shape := ⟨3, ![16, 512, 128]⟩
abbrev S2x8x128x128 : Shape := ⟨4, ![2, 8, 128, 128]⟩
abbrev S8x2x128x128 : Shape := ⟨4, ![8, 2, 128, 128]⟩
abbrev S16x128x128 : Shape := ⟨3, ![16, 128, 128]⟩
abbrev S2x8x128x512 : Shape := ⟨4, ![2, 8, 128, 512]⟩
abbrev S8x8x512 : Shape := ⟨3, ![8, 8, 512]⟩
abbrev S8x512 : Shape := ⟨2, ![8, 512]⟩
abbrev S1x128x128 : Shape := ⟨3, ![1, 128, 128]⟩
abbrev S128x128 : Shape := ⟨2, ![128, 128]⟩
abbrev S1x512x128 : Shape := ⟨3, ![1, 512, 128]⟩
abbrev S512x128 : Shape := ⟨2, ![512, 128]⟩
abbrev S128x512 : Shape := ⟨2, ![128, 512]⟩
abbrev S1x1x128x512 : Shape := ⟨4, ![1, 1, 128, 512]⟩
abbrev S1x8x512 : Shape := ⟨3, ![1, 8, 512]⟩
abbrev S1x1x8x512 : Shape := ⟨4, ![1, 1, 8, 512]⟩

abbrev nBuf : Space → Nat
  | .hbm => 8
  | .vmem => 5
  | .smem => 0
  | _ => 0

abbrev bufTy : (tb : Table) → Fin (tcTables nBuf tb) → BufTy
  | .hbm, ⟨0, _⟩ => ⟨S16x512x128, .f32⟩
  | .hbm, ⟨1, _⟩ => ⟨S2x8x128x128, .f32⟩
  | .hbm, ⟨2, _⟩ => ⟨S2x8x128x128, .bf16⟩
  | .hbm, ⟨3, _⟩ => ⟨S8x2x128x128, .bf16⟩
  | .hbm, ⟨4, _⟩ => ⟨S16x128x128, .bf16⟩
  | .hbm, ⟨5, _⟩ => ⟨S2x8x128x512, .f32⟩
  | .hbm, ⟨6, _⟩ => ⟨S2x8x128x512, .f32⟩
  | .hbm, ⟨7, _⟩ => ⟨S8x8x512, .f32⟩
  | .local _ .vmem, ⟨0, _⟩ => ⟨S16x512x128, .f32⟩
  | .local _ .vmem, ⟨1, _⟩ => ⟨S16x128x128, .bf16⟩
  | .local _ .vmem, ⟨2, _⟩ => ⟨S2x8x128x512, .f32⟩
  | .local _ .vmem, ⟨3, _⟩ => ⟨S2x8x128x512, .f32⟩
  | .local _ .vmem, ⟨4, _⟩ => ⟨S8x8x512, .f32⟩
  | _, _ => ⟨S16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let v3 : BitVec 32 := Scalar.addi v2 c0_i32_1
  let v4 : Index := Scalar.indexCast v3
  let c0 : Index := 0#32
  let c0_2 : Index := 0#32
  ![v4.toNat, 0, 0]
def k0_off2 (k0_t1 : Fin k0_t1_loop.trips) (c0_i32_1 : BitVec 32) : Fin 3 → Nat :=
  let c2_i32 : BitVec 32 := 2#32
  let c0_i32 : BitVec 32 := 0#32
  let c1_i32 : BitVec 32 := 1#32
  let arg6 : BitVec 32 := Scf.iv c0_i32 c1_i32 k0_t1
  let v2 : BitVec 32 := Scalar.muli c2_i32 arg6
  let v3 : BitVec 32 := Scalar.addi v2 c0_i32_1
  let v7 : Index := Scalar.indexCast v3
  let c0_3 : Index := 0#32
  let c0_4 : Index := 0#32
  ![v7.toNat, 0, 0]
def k0_off3 (k0_t1 : Fin k0_t1_loop.trips) : Fin 4 → Nat :=
  let c0_5 : Index := 0#32
  let c0_i32 : BitVec 32 := 0#32
  let c1_i32 : BitVec 32 := 1#32
  let arg6 : BitVec 32 := Scf.iv c0_i32 c1_i32 k0_t1
  let v12 : Index := Scalar.indexCast arg6
  let c0_6 : Index := 0#32
  let c0_7 : Index := 0#32
  ![0, v12.toNat, 0, 0]
def k0_off4 (k0_t1 : Fin k0_t1_loop.trips) : Fin 4 → Nat :=
  let c1 : Index := 1#32
  let c0_i32 : BitVec 32 := 0#32
  let c1_i32 : BitVec 32 := 1#32
  let arg6 : BitVec 32 := Scf.iv c0_i32 c1_i32 k0_t1
  let v456 : Index := Scalar.indexCast arg6
  let c0_62 : Index := 0#32
  let c0_63 : Index := 0#32
  ![1, v456.toNat, 0, 0]
def k0_off5 (k0_t1 : Fin k0_t1_loop.trips) : Fin 3 → Nat :=
  let c0_i32 : BitVec 32 := 0#32
  let c1_i32 : BitVec 32 := 1#32
  let arg6 : BitVec 32 := Scf.iv c0_i32 c1_i32 k0_t1
  let v1380 : Index := Scalar.indexCast arg6
  let c0_172 : Index := 0#32
  let c0_173 : Index := 0#32
  ![v1380.toNat, 0, 0]
def k0_off6 (k0_t1 : Fin k0_t1_loop.trips) : Fin 4 → Nat :=
  let c0_174 : Index := 0#32
  let c0_i32 : BitVec 32 := 0#32
  let c1_i32 : BitVec 32 := 1#32
  let arg6 : BitVec 32 := Scf.iv c0_i32 c1_i32 k0_t1
  let v1387 : Index := Scalar.indexCast arg6
  let c0_175 : Index := 0#32
  let c0_176 : Index := 0#32
  ![0, v1387.toNat, 0, 0]
def k0_off7 (k0_t1 : Fin k0_t1_loop.trips) : Fin 4 → Nat :=
  let c1_177 : Index := 1#32
  let c0_i32 : BitVec 32 := 0#32
  let c1_i32 : BitVec 32 := 1#32
  let arg6 : BitVec 32 := Scf.iv c0_i32 c1_i32 k0_t1
  let v1393 : Index := Scalar.indexCast arg6
  let c0_178 : Index := 0#32
  let c0_179 : Index := 0#32
  ![1, v1393.toNat, 0, 0]
def k0_off8 (k0_t1 : Fin k0_t1_loop.trips) : Fin 4 → Nat :=
  let c0_180 : Index := 0#32
  let c0_i32 : BitVec 32 := 0#32
  let c1_i32 : BitVec 32 := 1#32
  let arg6 : BitVec 32 := Scf.iv c0_i32 c1_i32 k0_t1
  let v1400 : Index := Scalar.indexCast arg6
  let c8 : Index := 8#32
  let c0_181 : Index := 0#32
  ![0, v1400.toNat, 8, 0]
def k0_off9 (k0_t1 : Fin k0_t1_loop.trips) : Fin 4 → Nat :=
  let c1_182 : Index := 1#32
  let c0_i32 : BitVec 32 := 0#32
  let c1_i32 : BitVec 32 := 1#32
  let arg6 : BitVec 32 := Scf.iv c0_i32 c1_i32 k0_t1
  let v1406 : Index := Scalar.indexCast arg6
  let c8_183 : Index := 8#32
  let c0_184 : Index := 0#32
  ![1, v1406.toNat, 8, 0]
def k0_off10 (k0_t1 : Fin k0_t1_loop.trips) : Fin 4 → Nat :=
  let c0_185 : Index := 0#32
  let c0_i32 : BitVec 32 := 0#32
  let c1_i32 : BitVec 32 := 1#32
  let arg6 : BitVec 32 := Scf.iv c0_i32 c1_i32 k0_t1
  let v1413 : Index := Scalar.indexCast arg6
  let c16 : Index := 16#32
  let c0_186 : Index := 0#32
  ![0, v1413.toNat, 16, 0]
def k0_off11 (k0_t1 : Fin k0_t1_loop.trips) : Fin 4 → Nat :=
  let c1_187 : Index := 1#32
  let c0_i32 : BitVec 32 := 0#32
  let c1_i32 : BitVec 32 := 1#32
  let arg6 : BitVec 32 := Scf.iv c0_i32 c1_i32 k0_t1
  let v1419 : Index := Scalar.indexCast arg6
  let c16_188 : Index := 16#32
  let c0_189 : Index := 0#32
  ![1, v1419.toNat, 16, 0]
def k0_off12 (k0_t1 : Fin k0_t1_loop.trips) : Fin 4 → Nat :=
  let c0_190 : Index := 0#32
  let c0_i32 : BitVec 32 := 0#32
  let c1_i32 : BitVec 32 := 1#32
  let arg6 : BitVec 32 := Scf.iv c0_i32 c1_i32 k0_t1
  let v1426 : Index := Scalar.indexCast arg6
  let c24 : Index := 24#32
  let c0_191 : Index := 0#32
  ![0, v1426.toNat, 24, 0]
def k0_off13 (k0_t1 : Fin k0_t1_loop.trips) : Fin 4 → Nat :=
  let c1_192 : Index := 1#32
  let c0_i32 : BitVec 32 := 0#32
  let c1_i32 : BitVec 32 := 1#32
  let arg6 : BitVec 32 := Scf.iv c0_i32 c1_i32 k0_t1
  let v1432 : Index := Scalar.indexCast arg6
  let c24_193 : Index := 24#32
  let c0_194 : Index := 0#32
  ![1, v1432.toNat, 24, 0]
def k0_off14 (k0_t1 : Fin k0_t1_loop.trips) : Fin 4 → Nat :=
  let c0_195 : Index := 0#32
  let c0_i32 : BitVec 32 := 0#32
  let c1_i32 : BitVec 32 := 1#32
  let arg6 : BitVec 32 := Scf.iv c0_i32 c1_i32 k0_t1
  let v1439 : Index := Scalar.indexCast arg6
  let c32 : Index := 32#32
  let c0_196 : Index := 0#32
  ![0, v1439.toNat, 32, 0]
def k0_off15 (k0_t1 : Fin k0_t1_loop.trips) : Fin 4 → Nat :=
  let c1_197 : Index := 1#32
  let c0_i32 : BitVec 32 := 0#32
  let c1_i32 : BitVec 32 := 1#32
  let arg6 : BitVec 32 := Scf.iv c0_i32 c1_i32 k0_t1
  let v1445 : Index := Scalar.indexCast arg6
  let c32_198 : Index := 32#32
  let c0_199 : Index := 0#32
  ![1, v1445.toNat, 32, 0]
def k0_off16 (k0_t1 : Fin k0_t1_loop.trips) : Fin 4 → Nat :=
  let c0_200 : Index := 0#32
  let c0_i32 : BitVec 32 := 0#32
  let c1_i32 : BitVec 32 := 1#32
  let arg6 : BitVec 32 := Scf.iv c0_i32 c1_i32 k0_t1
  let v1452 : Index := Scalar.indexCast arg6
  let c40 : Index := 40#32
  let c0_201 : Index := 0#32
  ![0, v1452.toNat, 40, 0]
def k0_off17 (k0_t1 : Fin k0_t1_loop.trips) : Fin 4 → Nat :=
  let c1_202 : Index := 1#32
  let c0_i32 : BitVec 32 := 0#32
  let c1_i32 : BitVec 32 := 1#32
  let arg6 : BitVec 32 := Scf.iv c0_i32 c1_i32 k0_t1
  let v1458 : Index := Scalar.indexCast arg6
  let c40_203 : Index := 40#32
  let c0_204 : Index := 0#32
  ![1, v1458.toNat, 40, 0]
def k0_off18 (k0_t1 : Fin k0_t1_loop.trips) : Fin 4 → Nat :=
  let c0_205 : Index := 0#32
  let c0_i32 : BitVec 32 := 0#32
  let c1_i32 : BitVec 32 := 1#32
  let arg6 : BitVec 32 := Scf.iv c0_i32 c1_i32 k0_t1
  let v1465 : Index := Scalar.indexCast arg6
  let c48 : Index := 48#32
  let c0_206 : Index := 0#32
  ![0, v1465.toNat, 48, 0]
def k0_off19 (k0_t1 : Fin k0_t1_loop.trips) : Fin 4 → Nat :=
  let c1_207 : Index := 1#32
  let c0_i32 : BitVec 32 := 0#32
  let c1_i32 : BitVec 32 := 1#32
  let arg6 : BitVec 32 := Scf.iv c0_i32 c1_i32 k0_t1
  let v1471 : Index := Scalar.indexCast arg6
  let c48_208 : Index := 48#32
  let c0_209 : Index := 0#32
  ![1, v1471.toNat, 48, 0]
def k0_off20 (k0_t1 : Fin k0_t1_loop.trips) : Fin 4 → Nat :=
  let c0_210 : Index := 0#32
  let c0_i32 : BitVec 32 := 0#32
  let c1_i32 : BitVec 32 := 1#32
  let arg6 : BitVec 32 := Scf.iv c0_i32 c1_i32 k0_t1
  let v1478 : Index := Scalar.indexCast arg6
  let c56 : Index := 56#32
  let c0_211 : Index := 0#32
  ![0, v1478.toNat, 56, 0]
def k0_off21 (k0_t1 : Fin k0_t1_loop.trips) : Fin 4 → Nat :=
  let c1_212 : Index := 1#32
  let c0_i32 : BitVec 32 := 0#32
  let c1_i32 : BitVec 32 := 1#32
  let arg6 : BitVec 32 := Scf.iv c0_i32 c1_i32 k0_t1
  let v1484 : Index := Scalar.indexCast arg6
  let c56_213 : Index := 56#32
  let c0_214 : Index := 0#32
  ![1, v1484.toNat, 56, 0]
def k0_off22 (k0_t1 : Fin k0_t1_loop.trips) : Fin 4 → Nat :=
  let c0_215 : Index := 0#32
  let c0_i32 : BitVec 32 := 0#32
  let c1_i32 : BitVec 32 := 1#32
  let arg6 : BitVec 32 := Scf.iv c0_i32 c1_i32 k0_t1
  let v1491 : Index := Scalar.indexCast arg6
  let c64 : Index := 64#32
  let c0_216 : Index := 0#32
  ![0, v1491.toNat, 64, 0]
def k0_off23 (k0_t1 : Fin k0_t1_loop.trips) : Fin 4 → Nat :=
  let c1_217 : Index := 1#32
  let c0_i32 : BitVec 32 := 0#32
  let c1_i32 : BitVec 32 := 1#32
  let arg6 : BitVec 32 := Scf.iv c0_i32 c1_i32 k0_t1
  let v1497 : Index := Scalar.indexCast arg6
  let c64_218 : Index := 64#32
  let c0_219 : Index := 0#32
  ![1, v1497.toNat, 64, 0]
def k0_off24 (k0_t1 : Fin k0_t1_loop.trips) : Fin 4 → Nat :=
  let c0_220 : Index := 0#32
  let c0_i32 : BitVec 32 := 0#32
  let c1_i32 : BitVec 32 := 1#32
  let arg6 : BitVec 32 := Scf.iv c0_i32 c1_i32 k0_t1
  let v1504 : Index := Scalar.indexCast arg6
  let c72 : Index := 72#32
  let c0_221 : Index := 0#32
  ![0, v1504.toNat, 72, 0]
def k0_off25 (k0_t1 : Fin k0_t1_loop.trips) : Fin 4 → Nat :=
  let c1_222 : Index := 1#32
  let c0_i32 : BitVec 32 := 0#32
  let c1_i32 : BitVec 32 := 1#32
  let arg6 : BitVec 32 := Scf.iv c0_i32 c1_i32 k0_t1
  let v1510 : Index := Scalar.indexCast arg6
  let c72_223 : Index := 72#32
  let c0_224 : Index := 0#32
  ![1, v1510.toNat, 72, 0]
def k0_off26 (k0_t1 : Fin k0_t1_loop.trips) : Fin 4 → Nat :=
  let c0_225 : Index := 0#32
  let c0_i32 : BitVec 32 := 0#32
  let c1_i32 : BitVec 32 := 1#32
  let arg6 : BitVec 32 := Scf.iv c0_i32 c1_i32 k0_t1
  let v1517 : Index := Scalar.indexCast arg6
  let c80 : Index := 80#32
  let c0_226 : Index := 0#32
  ![0, v1517.toNat, 80, 0]
def k0_off27 (k0_t1 : Fin k0_t1_loop.trips) : Fin 4 → Nat :=
  let c1_227 : Index := 1#32
  let c0_i32 : BitVec 32 := 0#32
  let c1_i32 : BitVec 32 := 1#32
  let arg6 : BitVec 32 := Scf.iv c0_i32 c1_i32 k0_t1
  let v1523 : Index := Scalar.indexCast arg6
  let c80_228 : Index := 80#32
  let c0_229 : Index := 0#32
  ![1, v1523.toNat, 80, 0]
def k0_off28 (k0_t1 : Fin k0_t1_loop.trips) : Fin 4 → Nat :=
  let c0_230 : Index := 0#32
  let c0_i32 : BitVec 32 := 0#32
  let c1_i32 : BitVec 32 := 1#32
  let arg6 : BitVec 32 := Scf.iv c0_i32 c1_i32 k0_t1
  let v1530 : Index := Scalar.indexCast arg6
  let c88 : Index := 88#32
  let c0_231 : Index := 0#32
  ![0, v1530.toNat, 88, 0]
def k0_off29 (k0_t1 : Fin k0_t1_loop.trips) : Fin 4 → Nat :=
  let c1_232 : Index := 1#32
  let c0_i32 : BitVec 32 := 0#32
  let c1_i32 : BitVec 32 := 1#32
  let arg6 : BitVec 32 := Scf.iv c0_i32 c1_i32 k0_t1
  let v1536 : Index := Scalar.indexCast arg6
  let c88_233 : Index := 88#32
  let c0_234 : Index := 0#32
  ![1, v1536.toNat, 88, 0]
def k0_off30 (k0_t1 : Fin k0_t1_loop.trips) : Fin 4 → Nat :=
  let c0_235 : Index := 0#32
  let c0_i32 : BitVec 32 := 0#32
  let c1_i32 : BitVec 32 := 1#32
  let arg6 : BitVec 32 := Scf.iv c0_i32 c1_i32 k0_t1
  let v1543 : Index := Scalar.indexCast arg6
  let c96 : Index := 96#32
  let c0_236 : Index := 0#32
  ![0, v1543.toNat, 96, 0]
def k0_off31 (k0_t1 : Fin k0_t1_loop.trips) : Fin 4 → Nat :=
  let c1_237 : Index := 1#32
  let c0_i32 : BitVec 32 := 0#32
  let c1_i32 : BitVec 32 := 1#32
  let arg6 : BitVec 32 := Scf.iv c0_i32 c1_i32 k0_t1
  let v1549 : Index := Scalar.indexCast arg6
  let c96_238 : Index := 96#32
  let c0_239 : Index := 0#32
  ![1, v1549.toNat, 96, 0]
def k0_off32 (k0_t1 : Fin k0_t1_loop.trips) : Fin 4 → Nat :=
  let c0_240 : Index := 0#32
  let c0_i32 : BitVec 32 := 0#32
  let c1_i32 : BitVec 32 := 1#32
  let arg6 : BitVec 32 := Scf.iv c0_i32 c1_i32 k0_t1
  let v1556 : Index := Scalar.indexCast arg6
  let c104 : Index := 104#32
  let c0_241 : Index := 0#32
  ![0, v1556.toNat, 104, 0]
def k0_off33 (k0_t1 : Fin k0_t1_loop.trips) : Fin 4 → Nat :=
  let c1_242 : Index := 1#32
  let c0_i32 : BitVec 32 := 0#32
  let c1_i32 : BitVec 32 := 1#32
  let arg6 : BitVec 32 := Scf.iv c0_i32 c1_i32 k0_t1
  let v1562 : Index := Scalar.indexCast arg6
  let c104_243 : Index := 104#32
  let c0_244 : Index := 0#32
  ![1, v1562.toNat, 104, 0]
def k0_off34 (k0_t1 : Fin k0_t1_loop.trips) : Fin 4 → Nat :=
  let c0_245 : Index := 0#32
  let c0_i32 : BitVec 32 := 0#32
  let c1_i32 : BitVec 32 := 1#32
  let arg6 : BitVec 32 := Scf.iv c0_i32 c1_i32 k0_t1
  let v1569 : Index := Scalar.indexCast arg6
  let c112 : Index := 112#32
  let c0_246 : Index := 0#32
  ![0, v1569.toNat, 112, 0]
def k0_off35 (k0_t1 : Fin k0_t1_loop.trips) : Fin 4 → Nat :=
  let c1_247 : Index := 1#32
  let c0_i32 : BitVec 32 := 0#32
  let c1_i32 : BitVec 32 := 1#32
  let arg6 : BitVec 32 := Scf.iv c0_i32 c1_i32 k0_t1
  let v1575 : Index := Scalar.indexCast arg6
  let c112_248 : Index := 112#32
  let c0_249 : Index := 0#32
  ![1, v1575.toNat, 112, 0]
def k0_off36 (k0_t1 : Fin k0_t1_loop.trips) : Fin 4 → Nat :=
  let c0_250 : Index := 0#32
  let c0_i32 : BitVec 32 := 0#32
  let c1_i32 : BitVec 32 := 1#32
  let arg6 : BitVec 32 := Scf.iv c0_i32 c1_i32 k0_t1
  let v1582 : Index := Scalar.indexCast arg6
  let c120 : Index := 120#32
  let c0_251 : Index := 0#32
  ![0, v1582.toNat, 120, 0]
def k0_off37 (k0_t1 : Fin k0_t1_loop.trips) : Fin 4 → Nat :=
  let c1_252 : Index := 1#32
  let c0_i32 : BitVec 32 := 0#32
  let c1_i32 : BitVec 32 := 1#32
  let arg6 : BitVec 32 := Scf.iv c0_i32 c1_i32 k0_t1
  let v1588 : Index := Scalar.indexCast arg6
  let c120_253 : Index := 120#32
  let c0_254 : Index := 0#32
  ![1, v1588.toNat, 120, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S16x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x8x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== Reference9Ideal.lean ====
abbrev S16x512x128 : Shape := ⟨3, ![16, 512, 128]⟩
abbrev S2x8x128x128 : Shape := ⟨4, ![2, 8, 128, 128]⟩
abbrev S512x16x128 : Shape := ⟨3, ![512, 16, 128]⟩
abbrev S512x8x256 : Shape := ⟨3, ![512, 8, 256]⟩
abbrev S512x8x128 : Shape := ⟨3, ![512, 8, 128]⟩
abbrev S1x8x128x128 : Shape := ⟨4, ![1, 8, 128, 128]⟩
abbrev S8x128x128 : Shape := ⟨3, ![8, 128, 128]⟩
abbrev S8x128x512 : Shape := ⟨3, ![8, 128, 512]⟩
abbrev S1x512x8x128 : Shape := ⟨4, ![1, 512, 8, 128]⟩
abbrev S2x512x8x128 : Shape := ⟨4, ![2, 512, 8, 128]⟩
abbrev S2x8x128x512 : Shape := ⟨4, ![2, 8, 128, 512]⟩

abbrev nBuf : Space → Nat
  | .hbm => 18
  | .vmem => 0
  | .smem => 0
  | _ => 0

abbrev bufTy : (tb : Table) → Fin (tcTables nBuf tb) → BufTy
  | .hbm, ⟨0, _⟩ => ⟨S16x512x128, .f32⟩
  | .hbm, ⟨1, _⟩ => ⟨S2x8x128x128, .f32⟩
  | .hbm, ⟨2, _⟩ => ⟨S512x16x128, .f32⟩
  | .hbm, ⟨3, _⟩ => ⟨S512x8x256, .f32⟩
  | .hbm, ⟨4, _⟩ => ⟨S512x8x128, .f32⟩
  | .hbm, ⟨5, _⟩ => ⟨S512x8x128, .f32⟩
  | .hbm, ⟨6, _⟩ => ⟨S1x8x128x128, .f32⟩
  | .hbm, ⟨7, _⟩ => ⟨S8x128x128, .f32⟩
  | .hbm, ⟨8, _⟩ => ⟨S8x128x512, .f32⟩
  | .hbm, ⟨9, _⟩ => ⟨S512x8x128, .f32⟩
  | .hbm, ⟨10, _⟩ => ⟨S1x8x128x128, .f32⟩
  | .hbm, ⟨11, _⟩ => ⟨S8x128x128, .f32⟩
  | .hbm, ⟨12, _⟩ => ⟨S8x128x512, .f32⟩
  | .hbm, ⟨13, _⟩ => ⟨S512x8x128, .f32⟩
  | .hbm, ⟨14, _⟩ => ⟨S1x512x8x128, .f32⟩
  | .hbm, ⟨15, _⟩ => ⟨S1x512x8x128, .f32⟩
  | .hbm, ⟨16, _⟩ => ⟨S2x512x8x128, .f32⟩
  | .hbm, ⟨17, _⟩ => ⟨S2x8x128x512, .f32⟩
  | _, _ => ⟨S16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Proof.Rows.lean ====
/- Rows of the layer over the extended reals: the row normalised by its mean square, its product with a weight's column,
   the logistic function, and how a block of 256 whole rows lies in an array. Nothing here belongs to one program. -/
module

public import Idealize.ShloMosaic.PureOps.Ideal
public import Idealize.ShloMosaic.PureOps.Ideal.Laws
public import Idealize.ShloMosaic.Lib.MatmulPlain
public import Idealize.ShloMosaic.Lib.ValueLayout
public import Idealize.ShloMosaic.Lib.IdealHost
public import Idealize.ShloMosaic.Lib.Pipeline.Value

@[expose] public section

set_option maxRecDepth 16384

noncomputable section

namespace Cert.Rows

open Idealize.ShloMosaic Idealize.ShloMosaic.ValueIdx

/-- An array of `m` rows and `n` columns. -/
abbrev Sh (m n : ℕ) : Shape := ⟨2, ![m, n]⟩

/-- The number of columns a row's mean is taken over, one millionth, one and one eighth, as the programs write them. -/
abbrev dim : EReal := Ideal.ofBits .f32 0x44800000#32
abbrev eps : EReal := Ideal.ofBits .f32 0x358637BD#32
abbrev one : EReal := Ideal.ofBits .f32 0x3F800000#32
abbrev eighth : EReal := Ideal.ofBits .f32 0x3E000000#32

/-- The row `x`, divided by the root of its mean square and weighted by `g`. -/
def nrm (x g : Fin 1024 → EReal) (d : Fin 1024) : EReal :=
  x d * Ideal.rsqrt (Ideal.div (∑ e : Fin 1024, x e * x e) dim + eps) * g d

/-- The normalised row times a column of a weight. -/
def prj (x g w : Fin 1024 → EReal) : EReal := ∑ d : Fin 1024, nrm x g d * w d

/-- The logistic function. -/
def sg (x : EReal) : EReal := Ideal.div one (one + Ideal.exp (-x))

theorem sub_zero_left (x : EReal) : Ideal.ofBits .f32 0x00000000#32 - x = -x := by
  rw [Ideal.ofBits_zero_f32, sub_eq_add_neg, zero_add]

/-- A block's normalised rows, as the kernels write them. -/
theorem nrm_apply (X : FVec Ideal (Sh 256 1024) .f32) (g : FVec Ideal (Sh 1 1024) .f32)
    (hr : Shape.Reduces (Sh 256 1024) [1] ⟨1, ![256]⟩) (hc : Shape.ShapeCasts ⟨1, ![256]⟩ (Sh 256 1))
    (hb : Shape.Broadcasts (Sh 256 1) (Sh 256 1024)) (hg : Shape.Broadcasts (Sh 1 1024) (Sh 256 1024))
    (hφ : FKind.Formats .f32) (hn : 0x00000000#32 = FKind.add.neutral .f32 hφ) (r : Fin 256) (d : Fin 1024) :
    mulf (mulf X (broadcastTo (Sh 256 1024) (rsqrt (addf (divf (shapeCast (Sh 256 1)
        (multiReduction .add [1] ⟨1, ![256]⟩ (mulf X X) 0x00000000#32 hr hφ hn) hc)
        (broadcast (Sh 256 1) (Scalar.ofBits .f32 0x44800000#32)))
        (broadcast (Sh 256 1) (Scalar.ofBits .f32 0x358637BD#32)))) hb)) (broadcastTo (Sh 256 1024) g hg) (ix2 r d)
      = nrm (fun e => X (ix2 r e)) (fun e => g (ix2 0 e)) d := by
  show X (ix2 r d) * broadcastTo (Sh 256 1024) _ hb (ix2 r d) * broadcastTo (Sh 256 1024) g hg (ix2 r d) = _
  rw [broadcastTo_apply _ hb (ix2 r d) (ix2 r 0) (fun a => by match a with | ⟨0, _⟩ => rfl | ⟨1, _⟩ => rfl),
    broadcastTo_apply _ hg (ix2 r d) (ix2 0 d) (fun a => by match a with | ⟨0, _⟩ => rfl | ⟨1, _⟩ => rfl)]
  show X (ix2 r d) * Ideal.rsqrt (Ideal.div (shapeCast (Sh 256 1) _ hc (ix2 r 0)) dim + eps) * g (ix2 0 d) = _
  rw [shapeCast_apply _ hc (ix2 r 0) (ix1 r) (by
      rw [Shape.rowMajor_val_two, Shape.rowMajor_val_one]; show r.val = r.val * 1 + 0; omega), Ideal.multiReduction_add_single]
  refine congrArg (fun s => X (ix2 r d) * Ideal.rsqrt (Ideal.div s dim + eps) * g (ix2 0 d)) ?_
  refine Finset.sum_congr rfl fun k _ => ?_
  have hk : hr.lift (ix1 r) k = ix2 r k := funext fun a => Fin.ext (by match a with | ⟨0, _⟩ => rfl | ⟨1, _⟩ => rfl)
  rw [hk]
  rfl

/-- Where a block of 256 whole rows lies. -/
theorem row_emb {M N : ℕ} {off : Fin 2 → ℕ} (inb : ∀ a, off a + (![256, N] : Fin 2 → ℕ) a ≤ (Sh M N).size a) {t : ℕ}
    (h0 : off 0 = t * 256) (h1 : off 1 = 0) (r : Fin 256) (l : Fin N) (hr : t * 256 + r.val < M) :
    (Rect.unit (s := Sh M N) off ![256, N] inb).emb (ix2 r l) = ix2 ⟨t * 256 + r.val, hr⟩ l :=
  funext fun a => Fin.ext (by
    match a with
    | ⟨0, _⟩ => show off 0 + 1 * r.val = t * 256 + r.val; omega
    | ⟨1, _⟩ => show off 1 + 1 * l.val = l.val; omega)

/-- A block that holds the function `G` of its rows is the block of the array of `G`. -/
theorem rows_read {M N : ℕ} {off : Fin 2 → ℕ} (inb : ∀ a, off a + (![256, N] : Fin 2 → ℕ) a ≤ (Sh M N).size a) {t : ℕ}
    (h0 : off 0 = t * 256) (h1 : off 1 = 0) (ht : t * 256 + 256 ≤ M) (B : (Sh 256 N).Idx → EReal) (G : Fin M → Fin N → EReal)
    (hB : ∀ (r : Fin 256) (l : Fin N) (hr : t * 256 + r.val < M), B (ix2 r l) = G ⟨t * 256 + r.val, hr⟩ l) (y : (Sh 256 N).Idx) :
    B y = (fun j : (Sh M N).Idx => G (j 0) (j 1)) ((Rect.unit (s := Sh M N) off ![256, N] inb).emb y) := by
  obtain ⟨r, l, rfl⟩ : ∃ (r : Fin 256) (l : Fin N), y = ix2 r l := ⟨y 0, y 1, eq_ix2 y⟩
  have hr : t * 256 + r.val < M := by have := r.isLt; omega
  rw [row_emb inb h0 h1 r l hr]
  exact hB r l hr

/-- The block of rows from `t * 256` holds the indices of those rows. -/
theorem rows_mem {M N : ℕ} {off : Fin 2 → ℕ} (inb : ∀ a, off a + (![256, N] : Fin 2 → ℕ) a ≤ (Sh M N).size a) {t : ℕ}
    (h0 : off 0 = t * 256) (h1 : off 1 = 0) (i : (Sh M N).Idx) (hi : (i 0).val / 256 = t) :
    i ∈ (Rect.unit (s := Sh M N) off ![256, N] inb).set := by
  rw [Rect.mem_set_unit]
  have b1 : (i 1).val < N := (i 1).isLt
  intro a
  match a with
  | ⟨0, _⟩ => show off 0 ≤ (i 0).val ∧ (i 0).val < off 0 + 256; omega
  | ⟨1, _⟩ => show off 1 ≤ (i 1).val ∧ (i 1).val < off 1 + N; omega

/-- Column `o + l` of an array of `n` columns. -/
def colAt {n N : ℕ} (o : ℕ) (h : o + N ≤ n) (l : Fin N) : Fin n := ⟨o + l.val, by omega⟩

/-- Row `t` of the projection by column `c` of the weight `w`, its rows normalised and weighted by `g`. -/
def proj {M n : ℕ} (x : (Sh M 1024).Idx → EReal) (g : (⟨1, ![1024]⟩ : Shape).Idx → EReal) (w : (Sh 1024 n).Idx → EReal)
    (t : Fin M) (c : Fin n) : EReal :=
  prj (fun e => x (ix2 t e)) (fun e => g (ix1 e)) (fun d => w (ix2 d c))

/-- What a matrix product from a zero accumulator holds. -/
theorem matmul_zero {K N : ℕ} {φ₁ φ₂ : FTy} (a : FVec Ideal (Sh 256 K) φ₁) (b : FVec Ideal (Sh K N) φ₂) (r : Fin 256) (l : Fin N) :
    FloatOps.matmul (DotDims.plain 256 K N) none a b (constant (Sh 256 N) .f32 0x00000000#32) (ix2 r l)
      = ∑ k : Fin K, a (ix2 r k) * b (ix2 k l) := by
  rw [Ideal.matmul_plain_apply]
  show Ideal.ofBits .f32 0x00000000#32 + _ = _
  rw [Ideal.ofBits_zero_f32, zero_add]

end Cert.Rows

end
-- ==== Proof.Merge.lean ====
/- The merge of the layer's two branches over the extended reals, row by row: the gated sum of the branches' products, the
   layer's row after its output product, the row normalised, and the queries made of it. Nothing here belongs to one
   program. -/
module

public import proofs.«01_k».proof.Proof.Rows

@[expose] public section

set_option maxRecDepth 16384

noncomputable section

namespace Cert.Rows

open Idealize.ShloMosaic Idealize.ShloMosaic.ValueIdx

variable {M : ℕ} (x : (Sh M 1024).Idx → EReal) (cn an : (Sh M 512).Idx → EReal) (a b : (Sh M 1024).Idx → EReal)
  (wc wt : (Sh 512 1024).Idx → EReal) (wo : (Sh 1024 1024).Idx → EReal) (g : Fin 1024 → EReal) (wq : (Sh 1024 2048).Idx → EReal)

/-- The branches' products, weighted by the gates and added. -/
def both (t : Fin M) (d : Fin 1024) : EReal :=
  a (ix2 t d) * (∑ k : Fin 512, cn (ix2 t k) * wc (ix2 k d)) + b (ix2 t d) * (∑ k : Fin 512, an (ix2 t k) * wt (ix2 k d))

/-- The row with its branches added. -/
def mgX (t : Fin M) (e : Fin 1024) : EReal :=
  x (ix2 t e) + ∑ d : Fin 1024, both cn an a b wc wt t d * wo (ix2 d e)

/-- That row normalised. -/
def mgH (t : Fin M) (d : Fin 1024) : EReal := nrm (mgX x cn an a b wc wt wo t) g d

/-- The queries of the normalised row. -/
def mgQ (t : Fin M) (c : Fin 2048) : EReal := prj (mgX x cn an a b wc wt wo t) g (fun d => wq (ix2 d c))

/-- Rows of a block that are rows of an array give the array's merged rows. -/
theorem mgX_block {m : ℕ} {X : (Sh m 1024).Idx → EReal} {C N : (Sh m 512).Idx → EReal} {A B : (Sh m 1024).Idx → EReal}
    {WC WT : (Sh 512 1024).Idx → EReal} {WO : (Sh 1024 1024).Idx → EReal} {r : Fin m} {t : Fin M}
    (hx : ∀ e, X (ix2 r e) = x (ix2 t e)) (hc : ∀ k, C (ix2 r k) = cn (ix2 t k)) (hn : ∀ k, N (ix2 r k) = an (ix2 t k))
    (ha : ∀ e, A (ix2 r e) = a (ix2 t e)) (hb : ∀ e, B (ix2 r e) = b (ix2 t e)) (hwc : ∀ k d, WC (ix2 k d) = wc (ix2 k d))
    (hwt : ∀ k d, WT (ix2 k d) = wt (ix2 k d)) (hwo : ∀ k d, WO (ix2 k d) = wo (ix2 k d)) :
    mgX X C N A B WC WT WO r = mgX x cn an a b wc wt wo t := by
  refine funext fun e => ?_
  unfold mgX both
  simp only [hx, hc, hn, ha, hb, hwc, hwt, hwo]

/-- A load of a whole block. -/
theorem ld_whole {m n : ℕ} {e : EltTy} (X : Vec Ideal (Sh m n) e) (inb : ∀ i, (![0, 0] : Fin 2 → ℕ) i + (![m, n] : Fin 2 → ℕ) i ≤ (Sh m n).size i) :
    (View.ld X (Rect.unit (s := Sh m n) ![0, 0] ![m, n] inb) : Vec Ideal (Sh m n) e) = X := by
  refine funext fun j => congrArg X (funext fun i => Fin.ext ?_)
  match i with
  | ⟨0, _⟩ => show 0 + 1 * (j 0).val = (j 0).val; omega
  | ⟨1, _⟩ => show 0 + 1 * (j 1).val = (j 1).val; omega

/-- What one store of a whole block leaves in it. -/
theorem canon_whole {m n : ℕ} {e : EltTy} (inb : ∀ i, (![0, 0] : Fin 2 → ℕ) i + (![m, n] : Fin 2 → ℕ) i ≤ (Sh m n).size i)
    (p : Vec Ideal (Sh m n) e) (r : Fin m) (l : Fin n) :
    View.canon (Val := Elt Ideal) [⟨Rect.unit (s := Sh m n) ![0, 0] ![m, n] inb, p⟩] (ix2 r l) = p (ix2 r l) := by
  have h := View.canon_cons_emb (Val := Elt Ideal) (Rect.unit (s := Sh m n) ![0, 0] ![m, n] inb) p [] (ix2 r l)
  have he : (Rect.unit (s := Sh m n) ![0, 0] ![m, n] inb).emb (ix2 r l) = ix2 r l := funext fun i => Fin.ext (by
    match i with
    | ⟨0, _⟩ => show 0 + 1 * r.val = r.val; omega
    | ⟨1, _⟩ => show 0 + 1 * l.val = l.val; omega)
  rwa [he] at h

end Cert.Rows

end
-- ==== Proof.ConvRows.lean ====
/- The depthwise convolution's rows over the extended reals: a sum of taps, the row centred, divided by the root of its
   variance, weighted and shifted, and the product with its own logistic. Nothing here belongs to one program. -/
module

public import proofs.«01_k».proof.Proof.Merge

@[expose] public section

set_option maxRecDepth 16384

noncomputable section

namespace Cert.Rows

open Idealize.ShloMosaic Idealize.ShloMosaic.ValueIdx

/-- The number of channels a row's mean is taken over, as the programs write it. -/
abbrev chans : EReal := Ideal.ofBits .f32 0x44000000#32

/-- `a` with the first `n` values of `f` added one after the other. -/
def taps (a : EReal) (f : ℕ → EReal) : ℕ → EReal
  | 0 => a
  | n + 1 => taps a f n + f n

/-- The order in which the taps are added does not matter. -/
theorem taps_eq (a : EReal) (f : ℕ → EReal) (n : ℕ) : taps a f n = (∑ w : Fin n, f w.val) + a := by
  rw [Finset.sum_fin_eq_sum_range, Finset.sum_congr rfl fun i hi => dif_pos (Finset.mem_range.mp hi)]
  induction n with
  | zero => simp [taps]
  | succ n ih => rw [taps, ih, Finset.sum_range_succ]; exact add_right_comm _ _ _

/-- A row's mean over its channels. -/
def mid (a : Fin 512 → EReal) : EReal := Ideal.div (∑ e : Fin 512, a e) chans

/-- The row centred, divided by the root of its variance, weighted by `g` and shifted by `b`. -/
def lay (a g b : Fin 512 → EReal) (c : Fin 512) : EReal :=
  (a c - mid a) * Ideal.rsqrt (Ideal.div (∑ e : Fin 512, (a e - mid a) * (a e - mid a)) chans + eps) * g c + b c

/-- That row times its own logistic. -/
def act (a g b : Fin 512 → EReal) (c : Fin 512) : EReal := lay a g b c * sg (lay a g b c)

/-- The convolution of sequence `n` at its row `t`, channel `e`: the 31 rows from `t` on, weighted, and the shift. -/
def seqConv (x : (⟨3, ![128, 34, 512]⟩ : Shape).Idx → EReal) (w : (Sh 31 512).Idx → EReal) (d : (⟨1, ![512]⟩ : Shape).Idx → EReal)
    (n : Fin 128) (t : Fin 4) (e : Fin 512) : EReal :=
  (∑ k : Fin 31, w (ix2 k e) * x (ix3 n ⟨t.val + k.val, by omega⟩ e)) + d (ix1 e)

/-- That convolution's rows, each normalised, weighted, shifted and multiplied by its own logistic. -/
def seqAct (x : (⟨3, ![128, 34, 512]⟩ : Shape).Idx → EReal) (w : (Sh 31 512).Idx → EReal) (d g b : (⟨1, ![512]⟩ : Shape).Idx → EReal) :
    (⟨3, ![128, 4, 512]⟩ : Shape).Idx → EReal :=
  fun j => act (seqConv x w d (j 0) (j 1)) (fun c => g (ix1 c)) (fun c => b (ix1 c)) (j 2)

section Block

variable {M : ℕ} (A : FVec Ideal (Sh M 512) .f32) (g b : FVec Ideal (Sh 1 512) .f32)
  (hr : Shape.Reduces (Sh M 512) [1] ⟨1, ![M]⟩) (hc : Shape.ShapeCasts ⟨1, ![M]⟩ (Sh M 1))
  (hb : Shape.Broadcasts (Sh M 1) (Sh M 512)) (hg : Shape.Broadcasts (Sh 1 512) (Sh M 512))
  (hφ : FKind.Formats .f32) (hn : 0x00000000#32 = FKind.add.neutral .f32 hφ)

/-- A block's rows, each replaced by its mean. -/
def midV : FVec Ideal (Sh M 1) .f32 :=
  divf (shapeCast (Sh M 1) (multiReduction .add [1] ⟨1, ![M]⟩ A 0x00000000#32 hr hφ hn) hc)
    (broadcast (Sh M 1) (Scalar.ofBits .f32 0x44000000#32))

/-- A block's rows centred. -/
def devV : FVec Ideal (Sh M 512) .f32 := subf A (broadcastTo (Sh M 512) (midV A hr hc hφ hn) hb)

/-- A block's rows normalised, weighted and shifted, as the kernels write them. -/
def layV : FVec Ideal (Sh M 512) .f32 :=
  addf (mulf (mulf (devV A hr hc hb hφ hn) (broadcastTo (Sh M 512) (rsqrt (addf
      (midV (mulf (devV A hr hc hb hφ hn) (devV A hr hc hb hφ hn)) hr hc hφ hn)
      (broadcast (Sh M 1) (Scalar.ofBits .f32 0x358637BD#32)))) hb)) (broadcastTo (Sh M 512) g hg))
    (broadcastTo (Sh M 512) b hg)

/-- Those rows times their own logistic. -/
def actV : FVec Ideal (Sh M 512) .f32 :=
  mulf (layV A g b hr hc hb hg hφ hn) (divf (broadcast (Sh M 512) (Scalar.ofBits .f32 0x3F800000#32))
    (addf (broadcast (Sh M 512) (Scalar.ofBits .f32 0x3F800000#32))
      (exp (subf (broadcast (Sh M 512) (Scalar.ofBits .f32 0x00000000#32)) (layV A g b hr hc hb hg hφ hn)))))

theorem midV_apply (r : Fin M) : midV A hr hc hφ hn (ix2 r 0) = mid fun e => A (ix2 r e) := by
  unfold midV mid
  show Ideal.div (shapeCast (Sh M 1) _ hc (ix2 r 0)) chans = _
  rw [shapeCast_apply _ hc (ix2 r 0) (ix1 r) (by
      rw [Shape.rowMajor_val_two, Shape.rowMajor_val_one]; show r.val = r.val * 1 + 0; omega), Ideal.multiReduction_add_single]
  refine congrArg (fun s => Ideal.div s chans) (Finset.sum_congr rfl fun k _ => ?_)
  exact congrArg A (funext fun a => Fin.ext (by match a with | ⟨0, _⟩ => rfl | ⟨1, _⟩ => rfl))

theorem one_col (V : FVec Ideal (Sh M 1) .f32) (r : Fin M) (d : Fin 512) : broadcastTo (Sh M 512) V hb (ix2 r d) = V (ix2 r 0) :=
  broadcastTo_apply _ hb (ix2 r d) (ix2 r 0) fun a => by
    match a with
    | ⟨0, _⟩ => show r.val = if M = 1 then 0 else r.val; have := r.isLt; split <;> omega
    | ⟨1, _⟩ => rfl

theorem one_row (V : FVec Ideal (Sh 1 512) .f32) (r : Fin M) (d : Fin 512) : broadcastTo (Sh M 512) V hg (ix2 r d) = V (ix2 0 d) :=
  broadcastTo_apply _ hg (ix2 r d) (ix2 0 d) fun a => by match a with | ⟨0, _⟩ => rfl | ⟨1, _⟩ => rfl

theorem devV_apply (r : Fin M) (d : Fin 512) :
    devV A hr hc hb hφ hn (ix2 r d) = A (ix2 r d) - mid fun e => A (ix2 r e) := by
  unfold devV
  show A (ix2 r d) - broadcastTo (Sh M 512) _ hb (ix2 r d) = _
  rw [one_col, midV_apply]

theorem layV_apply (r : Fin M) (d : Fin 512) :
    layV A g b hr hc hb hg hφ hn (ix2 r d) = lay (fun e => A (ix2 r e)) (fun e => g (ix2 0 e)) (fun e => b (ix2 0 e)) d := by
  unfold layV lay
  show devV A hr hc hb hφ hn (ix2 r d) * broadcastTo (Sh M 512) _ hb (ix2 r d) * broadcastTo (Sh M 512) g hg (ix2 r d)
    + broadcastTo (Sh M 512) b hg (ix2 r d) = _
  rw [one_col, one_row, one_row, devV_apply]
  show _ * Ideal.rsqrt (midV _ hr hc hφ hn (ix2 r 0) + eps) * _ + _ = _
  rw [midV_apply]
  refine congrArg (fun s => _ * Ideal.rsqrt (Ideal.div s chans + eps) * g (ix2 0 d) + b (ix2 0 d)) (Finset.sum_congr rfl fun k _ => ?_)
  show devV A hr hc hb hφ hn (ix2 r k) * devV A hr hc hb hφ hn (ix2 r k) = _
  rw [devV_apply]

/-- What the block of a kernel's rows holds. -/
theorem actV_apply (r : Fin M) (d : Fin 512) :
    actV A g b hr hc hb hg hφ hn (ix2 r d) = act (fun e => A (ix2 r e)) (fun e => g (ix2 0 e)) (fun e => b (ix2 0 e)) d := by
  unfold actV act sg
  show layV A g b hr hc hb hg hφ hn (ix2 r d) * Ideal.div one (one + Ideal.exp (Ideal.ofBits .f32 0x00000000#32
    - layV A g b hr hc hb hg hφ hn (ix2 r d))) = _
  rw [layV_apply, sub_zero_left]

end Block

end Cert.Rows

end
-- ==== Proof.ConvBody.lean ====
/- The sample's convolution over the extended reals: what its output block holds at a step, a sequence and a channel. -/
module

public import proofs.«01_k».proof.Proof.ConvRows
public import proofs.«01_k».proof.Proof.Gen.Kernel5Ideal.Frame

@[expose] public section

set_option maxRecDepth 16384

noncomputable section

namespace Cert.Kernel5Ideal.Body

open Cert.Kernel5Ideal Cert.Kernel5Ideal.Gen Cert.Rows Idealize.ShloMosaic Idealize.ShloMosaic.ValueIdx

variable (x : Vec Ideal S34x128x512 .f32) (w : Vec Ideal S31x512 .f32) (d g b : Vec Ideal S1x512 .f32)

/-- The rectangle of the weight's row `k`, and that of the input's step `k`. -/
abbrev wRow (k : ℕ) (h : k < 31) : Rect S31x512 := Rect.unit (s := S31x512) ![k, 0] S1x512.size (fun a => by
  match a with | ⟨0, _⟩ => show k + 1 ≤ 31; omega | ⟨1, _⟩ => show 0 + 512 ≤ 512; omega)
abbrev xStep (k : ℕ) (h : k < 34) : Rect S34x128x512 := Rect.unit (s := S34x128x512) ![k, 0, 0] S1x128x512.size (fun a => by
  match a with | ⟨0, _⟩ => show k + 1 ≤ 34; omega | ⟨1, _⟩ => show 0 + 128 ≤ 128; omega | ⟨2, _⟩ => show 0 + 512 ≤ 512; omega)

/-- One tap added to a block. -/
def tapV (V : FVec Ideal S128x512 .f32) (a : Vec Ideal S1x512 .f32) (e : Vec Ideal S1x128x512 .f32) : FVec Ideal S128x512 .f32 :=
  addf V (mulf (broadcastTo S128x512 a broadcasts_S1x512_S128x512) (shapeCast S128x512 e shapeCasts_S1x128x512_S128x512))

/-- The block of step `t` after `n` of its taps. -/
def accV (t : ℕ) (ht : t < 4) : (n : ℕ) → n ≤ 31 → FVec Ideal S128x512 .f32
  | 0, _ => addf (broadcast S128x512 (Scalar.ofBits .f32 0x00000000#32)) (broadcastTo S128x512
      (shapeCast S1x512 (View.ld d r0_0) shapeCasts_S1x512_S1x512) broadcasts_S1x512_S128x512)
  | n + 1, h => tapV (accV t ht n (by omega)) (View.ld w (wRow n (by omega))) (View.ld x (xStep (t + n) (by omega)))

/-- What is stored of step `t`. -/
def stepV (t : ℕ) (ht : t < 4) : FVec Ideal S1x128x512 .bf16 :=
  shapeCast S1x128x512 (truncf .bf16 (actV (accV x w d t ht 31 (le_refl _))
      (shapeCast S1x512 (View.ld g r0_0) shapeCasts_S1x512_S1x512) (shapeCast S1x512 (View.ld b r0_0) shapeCasts_S1x512_S1x512)
      reduces_S128x512_S128 shapeCasts_S128_S128x1 broadcasts_S128x1_S128x512 broadcasts_S1x512_S128x512 (.inl rfl) rfl) bitsLt_bf16_f32)
    shapeCasts_S128x512_S1x128x512

/-- The four steps are stored one after the other. -/
theorem out_eq : out0_5 (F := Ideal) x w d g b
    = View.canon [⟨r0_69, stepV x w d g b 3 (by decide)⟩, ⟨r0_67, stepV x w d g b 2 (by decide)⟩,
      ⟨r0_65, stepV x w d g b 1 (by decide)⟩, ⟨r0_63, stepV x w d g b 0 (by decide)⟩] := by
  rfl

/-- A row read whole. -/
theorem row_whole (v : Vec Ideal S1x512 .f32) : shapeCast S1x512 (View.ld v r0_0) shapeCasts_S1x512_S1x512 = v :=
  (shapeCast_self (View.ld v r0_0 : S1x512.Idx → EReal) shapeCasts_S1x512_S1x512).trans (ld_whole v _)

theorem wRow_apply (k : ℕ) (h : k < 31) (e : Fin 512) : (View.ld w (wRow k h) : S1x512.Idx → EReal) (ix2 0 e) = w (ix2 ⟨k, h⟩ e) := by
  refine congrArg w (funext fun a => Fin.ext ?_)
  match a with
  | ⟨0, _⟩ => show k + 1 * 0 = k; omega
  | ⟨1, _⟩ => show 0 + 1 * e.val = e.val; omega

theorem xStep_apply (k : ℕ) (h : k < 34) (n : Fin 128) (e : Fin 512) :
    (View.ld x (xStep k h) : S1x128x512.Idx → EReal) (ix3 0 n e) = x (ix3 ⟨k, h⟩ n e) := by
  refine congrArg x (funext fun a => Fin.ext ?_)
  match a with
  | ⟨0, _⟩ => show k + 1 * 0 = k; omega
  | ⟨1, _⟩ => show 0 + 1 * n.val = n.val; omega
  | ⟨2, _⟩ => show 0 + 1 * e.val = e.val; omega

theorem tapV_apply (V : FVec Ideal S128x512 .f32) (a : Vec Ideal S1x512 .f32) (u : Vec Ideal S1x128x512 .f32) (n : Fin 128) (e : Fin 512) :
    tapV V a u (ix2 n e) = V (ix2 n e) + a (ix2 0 e) * u (ix3 0 n e) := by
  unfold tapV
  show V (ix2 n e) + broadcastTo S128x512 a _ (ix2 n e) * shapeCast S128x512 u _ (ix2 n e) = _
  rw [one_row, shapeCast_apply u shapeCasts_S1x128x512_S128x512 (ix2 n e) (ix3 0 n e) (by
    rw [Shape.rowMajor_val_two, Shape.rowMajor_val_three]; show (0 * 128 + n.val) * 512 + e.val = n.val * 512 + e.val; omega)]

/-- The product of tap `k` at step `t`; nothing past the last tap. -/
def prod (t : ℕ) (n : Fin 128) (e : Fin 512) (k : ℕ) : EReal :=
  if h : k < 31 ∧ t + k < 34 then w (ix2 ⟨k, h.1⟩ e) * x (ix3 ⟨t + k, h.2⟩ n e) else 0

theorem accV_apply (t : ℕ) (ht : t < 4) (n : Fin 128) (e : Fin 512) : ∀ (k : ℕ) (h : k ≤ 31),
    accV x w d t ht k h (ix2 n e) = taps (d (ix2 0 e)) (prod x w t n e) k
  | 0, _ => by
    unfold accV taps
    show Ideal.ofBits .f32 0x00000000#32 + broadcastTo S128x512 _ _ (ix2 n e) = _
    rw [one_row, row_whole, Ideal.ofBits_zero_f32, zero_add]
  | k + 1, h => by
    unfold accV taps
    rw [tapV_apply, accV_apply t ht n e k (by omega), wRow_apply, xStep_apply]
    unfold prod
    rw [dif_pos ⟨by omega, by omega⟩]

/-- The convolution at step `t` of sequence `n`, channel `e`. -/
def conv (t : Fin 4) (n : Fin 128) (e : Fin 512) : EReal :=
  (∑ k : Fin 31, w (ix2 k e) * x (ix3 ⟨t.val + k.val, by omega⟩ n e)) + d (ix2 0 e)

theorem acc_conv (t : Fin 4) (n : Fin 128) (e : Fin 512) :
    accV x w d t.val t.isLt 31 (le_refl _) (ix2 n e) = conv x w d t n e := by
  rw [accV_apply, taps_eq]
  unfold conv prod
  exact congrArg (· + d (ix2 0 e)) (Finset.sum_congr rfl fun k _ => dif_pos ⟨k.isLt, by omega⟩)

theorem step_apply (t : Fin 4) (n : Fin 128) (e : Fin 512) : stepV x w d g b t.val t.isLt (ix3 0 n e)
    = act (conv x w d t n) (fun c => g (ix2 0 c)) (fun c => b (ix2 0 c)) e := by
  unfold stepV
  rw [shapeCast_apply _ shapeCasts_S128x512_S1x128x512 (ix3 0 n e) (ix2 n e) (by
    rw [Shape.rowMajor_val_two, Shape.rowMajor_val_three]; show n.val * 512 + e.val = (0 * 128 + n.val) * 512 + e.val; omega)]
  refine (actV_apply _ _ _ _ _ _ _ _ _ n e).trans ?_
  rw [row_whole, row_whole]
  exact congrArg (fun f => act f _ _ e) (funext fun c => acc_conv x w d t n c)

/-- A store of step `k` alone, and what lies off it. -/
theorem canon_at (k : ℕ) (inb : ∀ a, (![k, 0, 0] : Fin 3 → ℕ) a + S1x128x512.size a ≤ S4x128x512.size a)
    (p : Vec Ideal S1x128x512 .bf16) (L : List (View.Piece (Elt Ideal) S4x128x512 .bf16)) (t : Fin 4) (ht : t.val = k) (n : Fin 128) (e : Fin 512) :
    View.canon (⟨Rect.unit (s := S4x128x512) ![k, 0, 0] S1x128x512.size inb, p⟩ :: L) (ix3 t n e) = p (ix3 0 n e) := by
  have he : (Rect.unit (s := S4x128x512) ![k, 0, 0] S1x128x512.size inb).emb (ix3 0 n e) = ix3 t n e := funext fun a => Fin.ext (by
    match a with
    | ⟨0, _⟩ => show k + 1 * 0 = t.val; omega
    | ⟨1, _⟩ => show 0 + 1 * n.val = n.val; omega
    | ⟨2, _⟩ => show 0 + 1 * e.val = e.val; omega)
  exact (congrArg (View.canon (⟨Rect.unit (s := S4x128x512) ![k, 0, 0] S1x128x512.size inb, p⟩ :: L)) he).symm.trans
    (View.canon_cons_emb (Val := Elt Ideal) (Rect.unit (s := S4x128x512) ![k, 0, 0] S1x128x512.size inb) p L (ix3 0 n e))

theorem canon_off (k : ℕ) (inb : ∀ a, (![k, 0, 0] : Fin 3 → ℕ) a + S1x128x512.size a ≤ S4x128x512.size a)
    (p : Vec Ideal S1x128x512 .bf16) (L : List (View.Piece (Elt Ideal) S4x128x512 .bf16)) (t : Fin 4) (ht : t.val ≠ k) (n : Fin 128) (e : Fin 512) :
    View.canon (⟨Rect.unit (s := S4x128x512) ![k, 0, 0] S1x128x512.size inb, p⟩ :: L) (ix3 t n e) = View.canon L (ix3 t n e) := by
  refine View.canon_cons_of_not_mem _ _ fun hm => ht ?_
  change ix3 t n e ∈ (Rect.unit (s := S4x128x512) ![k, 0, 0] S1x128x512.size inb).set at hm
  rw [Rect.mem_set_unit] at hm
  have h : k ≤ t.val ∧ t.val < k + 1 := hm 0
  omega

/-- What the output block holds. -/
theorem out_apply (t : Fin 4) (n : Fin 128) (e : Fin 512) : out0_5 (F := Ideal) x w d g b (ix3 t n e)
    = act (conv x w d t n) (fun c => g (ix2 0 c)) (fun c => b (ix2 0 c)) e := by
  rw [out_eq, ← step_apply]
  match t with
  | ⟨0, _⟩ =>
    refine (canon_off 3 _ _ _ _ (by show 0 ≠ 3; decide) n e).trans ((canon_off 2 _ _ _ _ (by show 0 ≠ 2; decide) n e).trans
      ((canon_off 1 _ _ _ _ (by show 0 ≠ 1; decide) n e).trans (canon_at 0 _ _ _ _ rfl n e)))
  | ⟨1, _⟩ =>
    refine (canon_off 3 _ _ _ _ (by show 1 ≠ 3; decide) n e).trans ((canon_off 2 _ _ _ _ (by show 1 ≠ 2; decide) n e).trans (canon_at 1 _ _ _ _ rfl n e))
  | ⟨2, _⟩ => exact (canon_off 3 _ _ _ _ (by show 2 ≠ 3; decide) n e).trans (canon_at 2 _ _ _ _ rfl n e)
  | ⟨3, _⟩ => exact canon_at 3 _ _ _ _ rfl n e

end Cert.Kernel5Ideal.Body

end
-- ==== Proof.ConvArray.lean ====
/- The sample's convolution over the extended reals: the one block is the whole array, and the transpose after the region reads
   it with the sequences first. -/
module

public import proofs.«01_k».proof.Proof.ConvBody
public import Idealize.ShloMosaic.Lib.Pipeline.ValueKit.Geometry

@[expose] public section

set_option maxRecDepth 16384

noncomputable section

namespace Cert.Kernel5Ideal.Arr

open Cert.Kernel5Ideal Cert.Kernel5Ideal.Gen Cert.Rows Cert.Kernel5Ideal.Body
  Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The extended sequences, the taps' weights and the three rows. -/
abbrev xa (c : Dev nD) : S128x34x512.Idx → EReal := m ((c : Thread nD τ).loc main_arg0)
abbrev wa (c : Dev nD) : S31x512.Idx → EReal := m ((c : Thread nD τ).loc main_arg1)
abbrev da (c : Dev nD) : S512.Idx → EReal := m ((c : Thread nD τ).loc main_arg2)
abbrev ga (c : Dev nD) : S512.Idx → EReal := m ((c : Thread nD τ).loc main_arg3)
abbrev ba (c : Dev nD) : S512.Idx → EReal := m ((c : Thread nD τ).loc main_arg4)

theorem V_x (c : Dev nD) (k : Fin 34) (n : Fin 128) (e : Fin 512) :
    (V m c main_v0 : S34x128x512.Idx → EReal) (ix3 k n e) = xa m c (ix3 n k e) := by
  entry_read
  exact transpose_apply _ _ _ _ _ fun a => match a with | ⟨0, _⟩ => rfl | ⟨1, _⟩ => rfl | ⟨2, _⟩ => rfl

theorem one_cast (v : S512.Idx → EReal) (e : Fin 512) : shapeCast S1x512 v shapeCasts_S512_S1x512 (ix2 0 e) = v (ix1 e) :=
  shapeCast_apply _ _ (ix2 0 e) (ix1 e) (by
    rw [Shape.rowMajor_val_two, Shape.rowMajor_val_one]; show e.val = 0 * 512 + e.val; omega)

theorem V_d (c : Dev nD) (e : Fin 512) : (V m c main_v1 : S1x512.Idx → EReal) (ix2 0 e) = da m c (ix1 e) := by
  entry_read
  exact one_cast _ e

theorem V_g (c : Dev nD) (e : Fin 512) : (V m c main_v2 : S1x512.Idx → EReal) (ix2 0 e) = ga m c (ix1 e) := by
  entry_read
  exact one_cast _ e

theorem V_b (c : Dev nD) (e : Fin 512) : (V m c main_v3 : S1x512.Idx → EReal) (ix2 0 e) = ba m c (ix1 e) := by
  entry_read
  exact one_cast _ e

/-- Every window's block is the whole array. -/
theorem idx3 : ∀ t : Fin cfg0.N, (cfg0.win 0).index t = ![0, 0, 0] ∧ (cfg0.win 5).index t = ![0, 0, 0] := by decide +kernel
theorem idx2 : ∀ t : Fin cfg0.N, (cfg0.win 1).index t = ![0, 0] ∧ (cfg0.win 2).index t = ![0, 0]
    ∧ (cfg0.win 3).index t = ![0, 0] ∧ (cfg0.win 4).index t = ![0, 0] := by decide +kernel

theorem x_blk (c : Dev nD) (t : Fin cfg0.N) (k : Fin 34) (n : Fin 128) (e : Fin 512) :
    (iblk m c 0 t : Vec Ideal S34x128x512 .f32) (ix3 k n e) = xa m c (ix3 n k e) := by
  show V m c main_v0 (((cfg0.win 0).rect t).emb (ix3 k n e)) = _
  refine Eq.trans (congrArg (V m c main_v0) (funext fun a => Fin.ext ?_)) (V_x m c k n e)
  refine ((cfg0.win 0).rect_emb_val t (ix3 k n e) a).trans ?_
  rw [(idx3 t).1]
  match a with
  | ⟨0, _⟩ => show 0 * 34 + k.val = k.val; omega
  | ⟨1, _⟩ => show 0 * 128 + n.val = n.val; omega
  | ⟨2, _⟩ => show 0 * 512 + e.val = e.val; omega

theorem w_blk (c : Dev nD) (t : Fin cfg0.N) (k : Fin 31) (e : Fin 512) :
    (iblk m c 1 t : Vec Ideal S31x512 .f32) (ix2 k e) = wa m c (ix2 k e) := by
  show V m c main_arg1 (((cfg0.win 1).rect t).emb (ix2 k e)) = _
  rw [V_main_arg1]
  refine congrArg (wa m c) (funext fun a => Fin.ext ?_)
  refine ((cfg0.win 1).rect_emb_val t (ix2 k e) a).trans ?_
  rw [(idx2 t).1]
  match a with
  | ⟨0, _⟩ => show 0 * 31 + k.val = k.val; omega
  | ⟨1, _⟩ => show 0 * 512 + e.val = e.val; omega

theorem d_blk (c : Dev nD) (t : Fin cfg0.N) (e : Fin 512) : (iblk m c 2 t : Vec Ideal S1x512 .f32) (ix2 0 e) = da m c (ix1 e) := by
  show V m c main_v1 (((cfg0.win 2).rect t).emb (ix2 0 e)) = _
  refine Eq.trans (congrArg (V m c main_v1) (funext fun a => Fin.ext ?_)) (V_d m c e)
  refine ((cfg0.win 2).rect_emb_val t (ix2 0 e) a).trans ?_
  rw [(idx2 t).2.1]
  match a with
  | ⟨0, _⟩ => rfl
  | ⟨1, _⟩ => show 0 * 512 + e.val = e.val; omega

theorem g_blk (c : Dev nD) (t : Fin cfg0.N) (e : Fin 512) : (iblk m c 3 t : Vec Ideal S1x512 .f32) (ix2 0 e) = ga m c (ix1 e) := by
  show V m c main_v2 (((cfg0.win 3).rect t).emb (ix2 0 e)) = _
  refine Eq.trans (congrArg (V m c main_v2) (funext fun a => Fin.ext ?_)) (V_g m c e)
  refine ((cfg0.win 3).rect_emb_val t (ix2 0 e) a).trans ?_
  rw [(idx2 t).2.2.1]
  match a with
  | ⟨0, _⟩ => rfl
  | ⟨1, _⟩ => show 0 * 512 + e.val = e.val; omega

theorem b_blk (c : Dev nD) (t : Fin cfg0.N) (e : Fin 512) : (iblk m c 4 t : Vec Ideal S1x512 .f32) (ix2 0 e) = ba m c (ix1 e) := by
  show V m c main_v3 (((cfg0.win 4).rect t).emb (ix2 0 e)) = _
  refine Eq.trans (congrArg (V m c main_v3) (funext fun a => Fin.ext ?_)) (V_b m c e)
  refine ((cfg0.win 4).rect_emb_val t (ix2 0 e) a).trans ?_
  rw [(idx2 t).2.2.2]
  match a with
  | ⟨0, _⟩ => rfl
  | ⟨1, _⟩ => show 0 * 512 + e.val = e.val; omega

/-- What the result holds. -/
abbrev G (c : Dev nD) : S128x4x512.Idx → EReal := seqAct (xa m c) (wa m c) (da m c) (ga m c) (ba m c)

/-- The array the region leaves: the same with the steps first. -/
def flip (c : Dev nD) : S4x128x512.Idx → EReal := fun j => G m c (ix3 (j 1) (j 0) (j 2))

theorem blk_apply (c : Dev nD) (t : Fin cfg0.N) (k : Fin 4) (n : Fin 128) (e : Fin 512) :
    out0_5 (F := Ideal) (iblk m c 0 t) (iblk m c 1 t) (iblk m c 2 t) (iblk m c 3 t) (iblk m c 4 t) (ix3 k n e) = G m c (ix3 n k e) := by
  rw [out_apply]
  have hc : conv (iblk m c 0 t) (iblk m c 1 t) (iblk m c 2 t) k n = seqConv (xa m c) (wa m c) (da m c) n k := funext fun i => by
    unfold conv seqConv
    refine congrArg₂ (fun p q => p + q) (Finset.sum_congr rfl fun a _ => ?_) (d_blk m c t i)
    exact congrArg₂ (fun p q => p * q) (w_blk m c t a i) (x_blk m c t _ n i)
  have hg : (fun i : Fin 512 => (iblk m c 3 t : Vec Ideal S1x512 .f32) (ix2 0 i)) = fun i => ga m c (ix1 i) := funext fun i => g_blk m c t i
  have hb : (fun i : Fin 512 => (iblk m c 4 t : Vec Ideal S1x512 .f32) (ix2 0 i)) = fun i => ba m c (ix1 i) := funext fun i => b_blk m c t i
  rw [hc, hg, hb]
  rfl

theorem mem_slice (b : Ref sig .tc) {R : Rect b.ty.shape} {i : b.ty.shape.Idx} (h : i ∈ R.set) : i ∈ ((View.whole b).slice R).set := by
  rw [View.set_slice_whole]
  exact h

/-- The output window's block covers its array. -/
theorem emb5 (t : Fin cfg0.N) (j : S4x128x512.Idx) : (((cfg0.win 5).rect t).emb j : S4x128x512.Idx) = j := by
  refine funext fun a => Fin.ext ?_
  refine ((cfg0.win 5).rect_emb_val t j a).trans ?_
  rw [(idx3 t).2]
  match a with
  | ⟨0, _⟩ => show 0 * 4 + (j 0).val = (j 0).val; omega
  | ⟨1, _⟩ => show 0 * 128 + (j 1).val = (j 1).val; omega
  | ⟨2, _⟩ => show 0 * 512 + (j 2).val = (j 2).val; omega

theorem mem5 (t : Fin cfg0.N) (i : S4x128x512.Idx) : i ∈ ((cfg0.win 5).rect t).set := by
  have h : ((cfg0.win 5).rect t).emb i ∈ ((cfg0.win 5).rect t).set := ((cfg0.win 5).rect t).toLoadRect.idx_mem i
  rwa [emb5 t i] at h

theorem arr_o (c : Dev nD) : (dats m 0 c).arrAt 5 cfg0.N = flip m c :=
  (dats m 0 c).arrAt_eq_of_cover 5 (flip m c)
    (fun t _ => (congrArg ((cfg0.win 5).cut (grid0.coords t)) (after0_5 m c t)).trans (funext fun j : S4x128x512.Idx => by
      show out0_5 (F := Ideal) (iblk m c 0 t) (iblk m c 1 t) (iblk m c 2 t) (iblk m c 3 t) (iblk m c 4 t) j
        = flip m c (((cfg0.win 5).rect t).emb j)
      rw [emb5, eq_ix3 j]
      exact blk_apply m c t (j 0) (j 1) (j 2)))
    fun i : S4x128x512.Idx => ⟨⟨0, by decide⟩, flush0_5 _, mem_slice main_v4 (mem5 _ i)⟩

/-- The arrays' contents at the region's end, beside what the region found elsewhere. -/
abbrev atEnd (c : Dev nD) : Valuation τ sig (Elt Ideal) :=
  Pipeline.withArrays (cfgs 0).spec c (V0 m c) fun w => (dats m 0 c).arrAt w (cfgs 0).N

theorem arr_inj : Function.Injective (Pipeline.arrRef spec0) := launch0.win.arr_inj

theorem end_o (c : Dev nD) : atEnd m c (Proc.devRef .tc main_v4) = flip m c :=
  (Pipeline.withArrays_arr spec0 arr_inj c _ _ 5).trans (arr_o m c)

theorem tail_o (c : Dev nD) : Pipeline.afterTail₀ cfgs (dats m) 0 (V0 m) [hostOps1] c main_v5 = G m c := by
  show StableHlo.after hostOps1 (atEnd m c) (Proc.devRef .tc main_v5) = _
  entry_read
  rw [end_o]
  refine funext fun j : S128x4x512.Idx => ?_
  refine (transpose_apply _ _ _ j (ix3 (j 1) (j 0) (j 2)) fun a => match a with | ⟨0, _⟩ => rfl | ⟨1, _⟩ => rfl | ⟨2, _⟩ => rfl).trans ?_
  exact congrArg (G m c) (eq_ix3 j).symm

/-- The kernel's run: what its result holds, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v5 (Pipeline.mem_restRefs_of main_v5 (by decide) (by decide))).trans (tail_o m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.Kernel5Ideal.Arr

end
-- ==== Proof.ConvReference.lean ====
/- The reference's convolution of the sample over the extended reals: its result is the array the kernel's result holds. -/
module

public import proofs.«01_k».proof.Proof.ConvRows
public import proofs.«01_k».proof.Proof.Gen.Reference5Ideal.Read

@[expose] public section

set_option maxRecDepth 16384

noncomputable section

namespace Cert.Reference5Ideal.Read

open Cert.Reference5Ideal Cert.Reference5Ideal.Gen Cert.Rows Idealize.ShloMosaic Idealize.ShloMosaic.ValueIdx

variable (x : (⟨S128x34x512, .f32⟩ : BufTy).Contents (Elt Ideal)) (w : (⟨S31x512, .f32⟩ : BufTy).Contents (Elt Ideal))
  (d g b : (⟨S512, .f32⟩ : BufTy).Contents (Elt Ideal))

theorem wCut (k : ℕ) (h : k < 31) : S31x512.Slices ![k, 0] S1x512 := ⟨rfl, fun a => by
  match a with | ⟨0, _⟩ => show k + 1 ≤ 31; omega | ⟨1, _⟩ => show 0 + 512 ≤ 512; omega⟩
theorem xCut (k : ℕ) (h : k < 31) : S128x34x512.Slices ![0, k, 0] S128x4x512 := ⟨rfl, fun a => by
  match a with | ⟨0, _⟩ => show 0 + 128 ≤ 128; omega | ⟨1, _⟩ => show k + 4 ≤ 34; omega | ⟨2, _⟩ => show 0 + 512 ≤ 512; omega⟩

/-- The rows of tap `k`: the weight's row `k` times the rows from `k` on. -/
def tapV (k : ℕ) (h : k < 31) : FVec Ideal S128x4x512 .f32 :=
  mulf (broadcastInDim S128x4x512 ![0, 1, 2] bcast_S1x1x512_S128x4x512_0_1_2 (broadcastInDim S1x1x512 ![2] bcast_S512_S1x1x512_2
      (shapeCast S512 (extractStridedSlice S1x512 ![k, 0] w (wCut k h)) shapeCasts_S1x512_S512)))
    (extractStridedSlice S128x4x512 ![0, k, 0] x (xCut k h))

/-- The rows after `n` taps. -/
def accV : (n : ℕ) → n ≤ 31 → FVec Ideal S128x4x512 .f32
  | 0, _ => val_main_v6 (F := Ideal)
  | n + 1, h => addf (accV n (by omega)) (tapV x w n (by omega))

theorem acc_eq : val_main_v217 (F := Ideal) x w = accV x w 31 (le_refl _) := by
  rfl

theorem spread (v : FVec Ideal S512 .f32) (n : Fin 128) (t : Fin 4) (e : Fin 512) :
    broadcastInDim S128x4x512 ![0, 1, 2] bcast_S1x1x512_S128x4x512_0_1_2 (broadcastInDim S1x1x512 ![2] bcast_S512_S1x1x512_2 v)
      (ix3 n t e) = v (ix1 e) :=
  (broadcastInDim_apply _ bcast_S1x1x512_S128x4x512_0_1_2 _ (ix3 n t e) (ix3 0 0 e) fun a => by
    match a with | ⟨0, _⟩ => rfl | ⟨1, _⟩ => rfl | ⟨2, _⟩ => rfl).trans
    (broadcastInDim_apply _ bcast_S512_S1x1x512_2 v (ix3 0 0 e) (ix1 e) fun a => by match a with | ⟨0, _⟩ => rfl)

theorem tapV_apply (k : ℕ) (h : k < 31) (n : Fin 128) (t : Fin 4) (e : Fin 512) :
    tapV x w k h (ix3 n t e) = w (ix2 ⟨k, h⟩ e) * x (ix3 n ⟨t.val + k, by omega⟩ e) := by
  unfold tapV
  refine congrArg₂ (fun p q : EReal => p * q) ((spread _ n t e).trans ?_) ?_
  · refine (shapeCast_apply _ shapeCasts_S1x512_S512 (ix1 e) (ix2 0 e) (by
      rw [Shape.rowMajor_val_two, Shape.rowMajor_val_one]; show 0 * 512 + e.val = e.val; omega)).trans ?_
    exact extractStridedSlice_apply _ w _ (ix2 0 e) (ix2 ⟨k, h⟩ e) fun a => by
      match a with | ⟨0, _⟩ => rfl | ⟨1, _⟩ => show e.val = 0 + e.val; omega
  · exact extractStridedSlice_apply _ x _ (ix3 n t e) (ix3 n ⟨t.val + k, by omega⟩ e) fun a => by
      match a with
      | ⟨0, _⟩ => show n.val = 0 + n.val; omega
      | ⟨1, _⟩ => show t.val + k = k + t.val; omega
      | ⟨2, _⟩ => show e.val = 0 + e.val; omega

/-- The product of tap `k`; nothing past the last tap. -/
def prod (n : Fin 128) (t : Fin 4) (e : Fin 512) (k : ℕ) : EReal :=
  if h : k < 31 then w (ix2 ⟨k, h⟩ e) * x (ix3 n ⟨t.val + k, by omega⟩ e) else 0

theorem accV_apply (n : Fin 128) (t : Fin 4) (e : Fin 512) : ∀ (k : ℕ) (h : k ≤ 31),
    accV x w k h (ix3 n t e) = taps 0 (prod x w n t e) k
  | 0, _ => by
    unfold accV taps
    rw [val_main_v6_apply]
    exact Ideal.ofBits_zero_f32
  | k + 1, h => by
    unfold accV taps
    refine congrArg₂ (fun p q : EReal => p + q) (accV_apply n t e k (by omega)) ((tapV_apply x w k (by omega) n t e).trans ?_)
    unfold prod
    rw [dif_pos (by omega)]

/-- The convolution with its shift. -/
theorem conv_apply (n : Fin 128) (t : Fin 4) (e : Fin 512) : val_main_v220 (F := Ideal) x w d (ix3 n t e) = seqConv x w d n t e := by
  rw [val_main_v220_apply, acc_eq]
  unfold seqConv
  refine congrArg₂ (fun p q : EReal => p + q) ?_ (spread d n t e)
  rw [accV_apply, taps_eq, add_zero]
  refine Finset.sum_congr rfl fun k _ => ?_
  unfold prod
  rw [dif_pos k.isLt]

/-- An index with the coordinates `n`, `t` and `e`. -/
theorem at3 {p q r : ℕ} {i : (⟨3, ![p, q, r]⟩ : Shape).Idx} {n : Fin p} {t : Fin q} {e : Fin r}
    (h0 : (i 0).val = n.val) (h1 : (i 1).val = t.val) (h2 : (i 2).val = e.val) : i = ix3 n t e :=
  funext fun a => Fin.ext (by match a with | ⟨0, _⟩ => exact h0 | ⟨1, _⟩ => exact h1 | ⟨2, _⟩ => exact h2)

/-- A row's mean. -/
theorem mean_apply (i : S128x4x1.Idx) (n : Fin 128) (t : Fin 4) (h0 : (i 0).val = n.val) (h1 : (i 1).val = t.val) :
    val_main_v224 (F := Ideal) x w d i = mid (seqConv x w d n t) := by
  rw [val_main_v224_apply, val_main_v222_apply, val_main_v221_apply, val_main_v223_apply]
  show Ideal.div (Ideal.ofBits .f32 0x00000000#32 + _) chans = _
  rw [Ideal.ofBits_zero_f32, zero_add]
  refine congrArg (fun s => Ideal.div s chans) (Finset.sum_congr rfl fun k _ => ?_)
  rw [at3 (i := idx_main_v221 (idx_main_v222 i) k) (n := n) (t := t) (e := k) h0 h1 rfl]
  exact conv_apply x w d n t k

/-- A row centred. -/
theorem dev_apply (n : Fin 128) (t : Fin 4) (e : Fin 512) :
    val_main_v226 (F := Ideal) x w d (ix3 n t e) = seqConv x w d n t e - mid (seqConv x w d n t) := by
  rw [val_main_v226_apply, val_main_v225_apply]
  exact congrArg₂ (fun p q : EReal => p - q) (conv_apply x w d n t e) (mean_apply x w d _ n t rfl rfl)

/-- The root of a row's variance, inverted. -/
theorem root_apply (i : S128x4x1.Idx) (n : Fin 128) (t : Fin 4) (h0 : (i 0).val = n.val) (h1 : (i 1).val = t.val) :
    val_main_v236 (F := Ideal) x w d i = Ideal.rsqrt (Ideal.div (∑ e : Fin 512, (seqConv x w d n t e - mid (seqConv x w d n t))
      * (seqConv x w d n t e - mid (seqConv x w d n t))) chans + eps) := by
  rw [val_main_v236_apply, val_main_v235_apply, val_main_v231_apply, val_main_v229_apply, val_main_v228_apply, val_main_v230_apply,
    val_main_v234_apply]
  show Ideal.rsqrt (Ideal.div (Ideal.ofBits .f32 0x00000000#32 + _) chans + eps) = _
  rw [Ideal.ofBits_zero_f32, zero_add]
  refine congrArg (fun s => Ideal.rsqrt (Ideal.div s chans + eps)) (Finset.sum_congr rfl fun k _ => ?_)
  rw [at3 (i := idx_main_v228 (idx_main_v229 i) k) (n := n) (t := t) (e := k) h0 h1 rfl, val_main_v227_apply, dev_apply]
  rfl

/-- The normalised rows. -/
theorem lay_apply (n : Fin 128) (t : Fin 4) (e : Fin 512) :
    val_main_v244 (F := Ideal) x w d g b (ix3 n t e) = lay (seqConv x w d n t) (fun c => g (ix1 c)) (fun c => b (ix1 c)) e := by
  rw [val_main_v244_apply, val_main_v241_apply, val_main_v238_apply, val_main_v233_apply, val_main_v232_apply, val_main_v237_apply]
  refine congrArg₂ (fun p q : EReal => p + q) (congrArg₂ (fun p q : EReal => p * q) (congrArg₂ (fun p q : EReal => p * q)
    (congrArg₂ (fun p q : EReal => p - q) (conv_apply x w d n t e) (mean_apply x w d _ n t rfl rfl))
    (root_apply x w d _ n t rfl rfl)) (spread g n t e)) (spread b n t e)

theorem act_apply (n : Fin 128) (t : Fin 4) (e : Fin 512) :
    val_main_v246 (F := Ideal) x w d g b (ix3 n t e) = act (seqConv x w d n t) (fun c => g (ix1 c)) (fun c => b (ix1 c)) e := by
  rw [val_main_v246_apply, val_main_v245_apply, val_main_call0_v5_apply, val_main_call0_v4_apply, val_main_call0_v3_apply,
    val_main_call0_v2_apply, val_main_call0_v1_apply, val_main_call0_v0_apply, lay_apply]
  rfl

/-- The reference's result. -/
theorem result_eq : val_main_v246 (F := Ideal) x w d g b = seqAct x w d g b := funext fun j : S128x4x512.Idx =>
  (congrArg (val_main_v246 (F := Ideal) x w d g b) (eq_ix3 j)).trans (act_apply x w d g b (j 0) (j 1) (j 2))

end Cert.Reference5Ideal.Read

end
-- ==== Proof.ConvPromptRows.lean ====
/- The prompt's convolution over the extended reals, as a function of a row and a channel: thirty rows of zeros before the
   prompt's own. Nothing here belongs to one program. -/
module

public import proofs.«01_k».proof.Proof.ConvRows

@[expose] public section

noncomputable section

namespace Cert.Rows

open Idealize.ShloMosaic Idealize.ShloMosaic.ValueIdx

/-- Row `p` of the prompt with thirty rows of zeros before it. -/
def front (u : (Sh 16384 512).Idx → EReal) (p : ℕ) (e : Fin 512) : EReal :=
  if h : 30 ≤ p ∧ p - 30 < 16384 then u (ix2 ⟨p - 30, h.2⟩ e) else 0

/-- The convolution at row `t`, channel `e`: the 31 rows that end at row `t`, weighted, and the shift. -/
def rowConv (u : (Sh 16384 512).Idx → EReal) (w : (Sh 31 512).Idx → EReal) (d : (⟨1, ![512]⟩ : Shape).Idx → EReal)
    (t : Fin 16384) (e : Fin 512) : EReal :=
  (∑ k : Fin 31, w (ix2 k e) * front u (t.val + k.val) e) + d (ix1 e)

/-- That convolution's row, normalised, weighted, shifted and multiplied by its own logistic. -/
def rowAct (u : (Sh 16384 512).Idx → EReal) (w : (Sh 31 512).Idx → EReal) (d g b : (⟨1, ![512]⟩ : Shape).Idx → EReal)
    (t : Fin 16384) (e : Fin 512) : EReal :=
  act (rowConv u w d t) (fun c => g (ix1 c)) (fun c => b (ix1 c)) e

end Cert.Rows

end
-- ==== Proof.ConvPromptBody.lean ====
/- The prompt's convolution over the extended reals: what its output block holds at a row and a channel, of the block of rows
   and the block of rows before it. -/
module

public import proofs.«01_k».proof.Proof.ConvPromptRows
public import proofs.«01_k».proof.Proof.Gen.Kernel6Ideal.Frame

@[expose] public section

set_option maxRecDepth 16384

noncomputable section

namespace Cert.Kernel6Ideal.Body

open Cert.Kernel6Ideal Cert.Kernel6Ideal.Gen Cert.Rows Idealize.ShloMosaic Idealize.ShloMosaic.ValueIdx

/-- The rectangle of the weight's row `k`, that of 32 rows of the extended block, and that of 32 rows of the output. -/
abbrev wRow (k : ℕ) (h : k < 31) : Rect S31x512 := Rect.unit (s := S31x512) ![k, 0] S1x512.size (fun a => by
  match a with | ⟨0, _⟩ => show k + 1 ≤ 31; omega | ⟨1, _⟩ => show 0 + 512 ≤ 512; omega)
abbrev eRows (k : ℕ) (h : k < 257) : Rect S288x512 := Rect.unit (s := S288x512) ![k, 0] S32x512.size (fun a => by
  match a with | ⟨0, _⟩ => show k + 32 ≤ 288; omega | ⟨1, _⟩ => show 0 + 512 ≤ 512; omega)
abbrev oRows (k : ℕ) (h : k < 225) : Rect S256x512 := Rect.unit (s := S256x512) ![k, 0] S32x512.size (fun a => by
  match a with | ⟨0, _⟩ => show k + 32 ≤ 256; omega | ⟨1, _⟩ => show 0 + 512 ≤ 512; omega)
abbrev whole1 : Rect S1x512 := Rect.unit (s := S1x512) ![0, 0] S1x512.size inb_S1x512_S1x512_0_0

variable (c : Dev nD) (i : grid0.Coords) (arg1 : Memref sig .tc .vmem S256x512 .f32) (harg1 : arg1.IsWhole)
  (arg2 : Memref sig .tc .vmem S32x512 .f32) (harg2 : arg2.IsWhole) (arg3 : Memref sig .tc .vmem S31x512 .f32) (harg3 : arg3.IsWhole)
  (arg4 : Memref sig .tc .vmem S1x512 .f32) (harg4 : arg4.IsWhole) (arg5 : Memref sig .tc .vmem S1x512 .f32) (harg5 : arg5.IsWhole)
  (arg6 : Memref sig .tc .vmem S1x512 .f32) (harg6 : arg6.IsWhole) (arg7 : Memref sig .tc .vmem S256x512 .bf16) (harg7 : arg7.IsWhole)
  (arg8 : Memref sig .tc .vmem S288x512 .f32) (harg8 : arg8.IsWhole)
  (x : Vec Ideal S256x512 .f32) (y : Vec Ideal S32x512 .f32) (w : Vec Ideal S31x512 .f32) (d g b : Vec Ideal S1x512 .f32)

/-- One tap added to 32 rows. -/
def tapV (V : FVec Ideal S32x512 .f32) (a : Vec Ideal S1x512 .f32) (u : Vec Ideal S32x512 .f32) : FVec Ideal S32x512 .f32 :=
  addf V (mulf (broadcastTo S32x512 a broadcasts_S1x512_S32x512) u)

/-- The stores that make the extended block, the last first. -/
abbrev ext : List (View.Piece (Elt Ideal) S288x512 .f32) := kernelRun0_A.sl.HS0_2 (F := Ideal) c i arg1 harg1 arg2 harg2 x y

/-- A row of the weight, one read whole, and 32 rows of the extended block, as the body reads them. -/
def wLd (k : ℕ) (h : k < 31) : Vec Ideal S1x512 .f32 :=
  View.readAt (Elt Ideal) arg3.view (wRow k h).toLoadRect (harg3.unread w)
def oneLd (a : Memref sig .tc .vmem S1x512 .f32) (ha : a.IsWhole) (v : Vec Ideal S1x512 .f32) : FVec Ideal S1x512 .f32 :=
  shapeCast S1x512 (View.readAt (Elt Ideal) a.view whole1.toLoadRect (ha.unread v)) shapeCasts_S1x512_S1x512
def eLd (k : ℕ) (h : k < 257) : Vec Ideal S32x512 .f32 :=
  arg8.view.readCov (ext c i arg1 harg1 arg2 harg2 x y) (eRows k h).toLoadRect

/-- The 32 rows from row `32 r` on after `n` of their taps. -/
def accV (r : ℕ) (hr : r < 8) : (n : ℕ) → n ≤ 31 → FVec Ideal S32x512 .f32
  | 0, _ => addf (broadcast S32x512 (Scalar.ofBits .f32 0x00000000#32)) (broadcastTo S32x512 (oneLd arg4 harg4 d) broadcasts_S1x512_S32x512)
  | n + 1, h => tapV (accV r hr n (by omega)) (wLd arg3 harg3 w n (by omega))
      (eLd c i arg1 harg1 arg2 harg2 arg8 x y (32 * r + 2 + n) (by omega))

/-- What is stored of those rows. -/
def rowsV (r : ℕ) (hr : r < 8) : FVec Ideal S32x512 .bf16 :=
  truncf .bf16 (actV (accV c i arg1 harg1 arg2 harg2 arg3 harg3 arg4 harg4 arg8 x y w d r hr 31 (le_refl _))
      (oneLd arg5 harg5 g) (oneLd arg6 harg6 b)
      reduces_S32x512_S32 shapeCasts_S32_S32x1 broadcasts_S32x1_S32x512 broadcasts_S1x512_S32x512 (.inl rfl) rfl) bitsLt_bf16_f32

abbrev piece (r : ℕ) (hr : r < 8) : View.Piece (Elt Ideal) S256x512 .bf16 :=
  ⟨oRows (32 * r) (by omega), rowsV c i arg1 harg1 arg2 harg2 arg3 harg3 arg4 harg4 arg5 harg5 arg6 harg6 arg8 x y w d g b r hr⟩

/-- The eight lots of rows are stored one after the other. -/
theorem run_eq : (kernelRun0_A (F := Ideal) c i arg1 harg1 arg2 harg2 arg3 harg3 arg4 harg4 arg5 harg5 arg6 harg6 arg7 harg7 arg8 harg8
      x y w d g b).1
    = [piece c i arg1 harg1 arg2 harg2 arg3 harg3 arg4 harg4 arg5 harg5 arg6 harg6 arg8 x y w d g b 7 (by decide),
      piece c i arg1 harg1 arg2 harg2 arg3 harg3 arg4 harg4 arg5 harg5 arg6 harg6 arg8 x y w d g b 6 (by decide),
      piece c i arg1 harg1 arg2 harg2 arg3 harg3 arg4 harg4 arg5 harg5 arg6 harg6 arg8 x y w d g b 5 (by decide),
      piece c i arg1 harg1 arg2 harg2 arg3 harg3 arg4 harg4 arg5 harg5 arg6 harg6 arg8 x y w d g b 4 (by decide),
      piece c i arg1 harg1 arg2 harg2 arg3 harg3 arg4 harg4 arg5 harg5 arg6 harg6 arg8 x y w d g b 3 (by decide),
      piece c i arg1 harg1 arg2 harg2 arg3 harg3 arg4 harg4 arg5 harg5 arg6 harg6 arg8 x y w d g b 2 (by decide),
      piece c i arg1 harg1 arg2 harg2 arg3 harg3 arg4 harg4 arg5 harg5 arg6 harg6 arg8 x y w d g b 1 (by decide),
      piece c i arg1 harg1 arg2 harg2 arg3 harg3 arg4 harg4 arg5 harg5 arg6 harg6 arg8 x y w d g b 0 (by decide)] := by
  rfl

/-! A store of whole rows, read at a row of it and off it. -/

theorem canon_at {M n : ℕ} {φ : EltTy} (k : ℕ) (inb : ∀ a, (![k, 0] : Fin 2 → ℕ) a + (![n, 512] : Fin 2 → ℕ) a ≤ (Sh M 512).size a)
    (p : (Sh n 512).Idx → Elt Ideal φ) (L : List (View.Piece (Elt Ideal) (Sh M 512) φ)) (t : Fin M) (a : Fin n) (ht : t.val = k + a.val)
    (e : Fin 512) : View.canon (⟨Rect.unit (s := Sh M 512) ![k, 0] ![n, 512] inb, p⟩ :: L) (ix2 t e) = p (ix2 a e) := by
  have he : (Rect.unit (s := Sh M 512) ![k, 0] ![n, 512] inb).emb (ix2 a e) = ix2 t e := funext fun c => Fin.ext (by
    match c with
    | ⟨0, _⟩ => show k + 1 * a.val = t.val; omega
    | ⟨1, _⟩ => show 0 + 1 * e.val = e.val; omega)
  exact (congrArg (View.canon (⟨Rect.unit (s := Sh M 512) ![k, 0] ![n, 512] inb, p⟩ :: L)) he).symm.trans
    (View.canon_cons_emb (Val := Elt Ideal) (Rect.unit (s := Sh M 512) ![k, 0] ![n, 512] inb) p L (ix2 a e))

theorem canon_off {M n : ℕ} {φ : EltTy} (k : ℕ) (inb : ∀ a, (![k, 0] : Fin 2 → ℕ) a + (![n, 512] : Fin 2 → ℕ) a ≤ (Sh M 512).size a)
    (p : (Sh n 512).Idx → Elt Ideal φ) (L : List (View.Piece (Elt Ideal) (Sh M 512) φ)) (t : Fin M) (ht : t.val < k)
    (e : Fin 512) : View.canon (⟨Rect.unit (s := Sh M 512) ![k, 0] ![n, 512] inb, p⟩ :: L) (ix2 t e) = View.canon L (ix2 t e) := by
  refine View.canon_cons_of_not_mem _ _ fun hm => ?_
  change ix2 t e ∈ (Rect.unit (s := Sh M 512) ![k, 0] ![n, 512] inb).set at hm
  rw [Rect.mem_set_unit] at hm
  have h : k ≤ t.val ∧ t.val < k + n := hm 0
  omega

/-- Row `p` of the extended block: 32 rows from before the block, or zeros at the first point, and then the block's own. -/
def extRow (p : ℕ) (e : Fin 512) : EReal :=
  if h : p < 32 then (if (i 0).val = 0 then 0 else y (ix2 ⟨p, h⟩ e)) else if h : p - 32 < 256 then x (ix2 ⟨p - 32, h⟩ e) else 0

/-- The rows from before the block, as they are stored. -/
theorem halo_apply (v : FVec Ideal S32x512 .f32) (a : Fin 32) (e : Fin 512) :
    k0_pay2 i v (ix2 a e) = if (i 0).val = 0 then 0 else v (ix2 a e) := by
  have hi : (i 0).val < 64 := (i 0).isLt
  unfold k0_pay2
  show shapeCast S32x512 (Scalar.select (IntOp.cmpi .eq (BitVec.ofNat 32 (i 0).val) 0#32)
    (broadcast S32x512 (Scalar.ofBits (F := Ideal) .f32 0x00000000#32)) v) shapeCasts_S32x512_S32x512 (ix2 a e) = _
  rw [shapeCast_self]
  by_cases h : (i 0).val = 0
  · rw [if_pos h, h]
    exact Ideal.ofBits_zero_f32
  · rw [if_neg h]
    have hne : BitVec.ofNat 32 (i 0).val ≠ 0#32 := fun hc => h (by
      have hn := congrArg BitVec.toNat hc
      rw [BitVec.toNat_ofNat, Nat.mod_eq_of_lt (by omega)] at hn
      exact hn)
    have hz : IntOp.cmpi .eq (BitVec.ofNat 32 (i 0).val) 0#32 = 0#1 := congrArg BitVec.ofBool (beq_eq_false_iff_ne.mpr hne)
    rw [hz]
    rfl

theorem ext_apply (p : Fin 288) (e : Fin 512) :
    View.canon (ext c i arg1 harg1 arg2 harg2 x y) (ix2 p e) = extRow i x y p.val e := by
  have hp := p.isLt
  unfold ext kernelRun0_A.sl.HS0_2 extRow
  by_cases h : p.val < 32
  · rw [dif_pos h]
    refine (canon_off 32 _ _ _ p h e).trans ((canon_at (n := 32) 0 _ _ _ p ⟨p.val, h⟩ (by show p.val = 0 + p.val; omega) e).trans ?_)
    refine (halo_apply i _ ⟨p.val, h⟩ e).trans ?_
    refine congrArg (fun z : EReal => if (i 0).val = 0 then 0 else z) ?_
    refine (congrFun (harg2.read_unread y) _).trans (congrArg y (funext fun a => Fin.ext ?_))
    match a with
    | ⟨0, _⟩ => show 0 + 1 * p.val = p.val; omega
    | ⟨1, _⟩ => show 0 + 1 * e.val = e.val; omega
  · rw [dif_neg h, dif_pos (by omega)]
    refine (canon_at (n := 256) 32 _ _ _ p ⟨p.val - 32, by omega⟩ (by show p.val = 32 + (p.val - 32); omega) e).trans ?_
    unfold k0_pay3
    refine (congrFun (shapeCast_self _ shapeCasts_S256x512_S256x512) _).trans ?_
    refine (congrFun (harg1.read_unread x) _).trans (congrArg x (funext fun a => Fin.ext ?_))
    match a with
    | ⟨0, _⟩ => show 0 + 1 * (p.val - 32) = p.val - 32; omega
    | ⟨1, _⟩ => show 0 + 1 * e.val = e.val; omega

theorem eLd_apply (k : ℕ) (h : k < 257) (a : Fin 32) (e : Fin 512) :
    eLd c i arg1 harg1 arg2 harg2 arg8 x y k h (ix2 a e) = extRow i x y (k + a.val) e := by
  unfold eLd
  rw [View.readCov_eq_canon']
  refine (congrArg (View.canon (ext c i arg1 harg1 arg2 harg2 x y)) (funext fun q => Fin.ext ?_)).trans
    (ext_apply c i arg1 harg1 arg2 harg2 x y ⟨k + a.val, by omega⟩ e)
  match q with
  | ⟨0, _⟩ => show k + 1 * a.val = k + a.val; omega
  | ⟨1, _⟩ => show 0 + 1 * e.val = e.val; omega

theorem wLd_apply (k : ℕ) (h : k < 31) (e : Fin 512) : wLd arg3 harg3 w k h (ix2 0 e) = w (ix2 ⟨k, h⟩ e) := by
  unfold wLd
  refine (congrFun (harg3.read_unread w) _).trans (congrArg w (funext fun a => Fin.ext ?_))
  match a with
  | ⟨0, _⟩ => show k + 1 * 0 = k; omega
  | ⟨1, _⟩ => show 0 + 1 * e.val = e.val; omega

theorem oneLd_apply (m : Memref sig .tc .vmem S1x512 .f32) (hm : m.IsWhole) (v : Vec Ideal S1x512 .f32) (e : Fin 512) :
    oneLd m hm v (ix2 0 e) = v (ix2 0 e) := by
  unfold oneLd
  refine (congrFun (shapeCast_self _ shapeCasts_S1x512_S1x512) _).trans ?_
  refine (congrFun (hm.read_unread v) _).trans (congrArg v (funext fun a => Fin.ext ?_))
  match a with
  | ⟨0, _⟩ => rfl
  | ⟨1, _⟩ => show 0 + 1 * e.val = e.val; omega

theorem tapV_apply (V : FVec Ideal S32x512 .f32) (a : Vec Ideal S1x512 .f32) (u : Vec Ideal S32x512 .f32) (n : Fin 32) (e : Fin 512) :
    tapV V a u (ix2 n e) = V (ix2 n e) + a (ix2 0 e) * u (ix2 n e) := by
  unfold tapV
  show V (ix2 n e) + broadcastTo S32x512 a _ (ix2 n e) * u (ix2 n e) = _
  rw [one_row]

/-- The product of tap `k` at row `p`; nothing past the last tap. -/
def prod (p : ℕ) (e : Fin 512) (k : ℕ) : EReal :=
  if h : k < 31 then w (ix2 ⟨k, h⟩ e) * extRow i x y (p + 2 + k) e else 0

theorem accV_apply (r : ℕ) (hr : r < 8) (n : Fin 32) (e : Fin 512) : ∀ (k : ℕ) (h : k ≤ 31),
    accV c i arg1 harg1 arg2 harg2 arg3 harg3 arg4 harg4 arg8 x y w d r hr k h (ix2 n e)
      = taps (d (ix2 0 e)) (prod i x y w (32 * r + n.val) e) k
  | 0, _ => by
    unfold accV taps
    show Ideal.ofBits .f32 0x00000000#32 + broadcastTo S32x512 _ _ (ix2 n e) = _
    rw [one_row, oneLd_apply, Ideal.ofBits_zero_f32, zero_add]
  | k + 1, h => by
    unfold accV taps
    rw [tapV_apply, accV_apply r hr n e k (by omega), wLd_apply, eLd_apply]
    unfold prod
    rw [dif_pos (by omega), show 32 * r + 2 + k + n.val = 32 * r + n.val + 2 + k by omega]

/-- The convolution at row `p` of the block, channel `e`. -/
def conv (p : ℕ) (e : Fin 512) : EReal := (∑ k : Fin 31, w (ix2 k e) * extRow i x y (p + 2 + k.val) e) + d (ix2 0 e)

theorem rows_apply (r : ℕ) (hr : r < 8) (n : Fin 32) (e : Fin 512) :
    rowsV c i arg1 harg1 arg2 harg2 arg3 harg3 arg4 harg4 arg5 harg5 arg6 harg6 arg8 x y w d g b r hr (ix2 n e)
      = act (conv i x y w d (32 * r + n.val)) (fun c => g (ix2 0 c)) (fun c => b (ix2 0 c)) e := by
  unfold rowsV
  refine (actV_apply _ _ _ _ _ _ _ _ _ n e).trans ?_
  have ha : (fun l : Fin 512 => accV c i arg1 harg1 arg2 harg2 arg3 harg3 arg4 harg4 arg8 x y w d r hr 31 (le_refl _) (ix2 n l))
      = conv i x y w d (32 * r + n.val) := funext fun l => by
    rw [accV_apply, taps_eq]
    unfold conv prod
    exact congrArg (· + d (ix2 0 l)) (Finset.sum_congr rfl fun k _ => dif_pos k.isLt)
  rw [ha, funext (oneLd_apply arg5 harg5 g), funext (oneLd_apply arg6 harg6 b)]

/-- What the output block holds. -/
theorem out_apply (p : Fin 256) (e : Fin 512) :
    out0_A_6 (F := Ideal) c i arg1 harg1 arg2 harg2 arg3 harg3 arg4 harg4 arg5 harg5 arg6 harg6 arg7 harg7 arg8 harg8 x y w d g b (ix2 p e)
      = act (conv i x y w d p.val) (fun c => g (ix2 0 c)) (fun c => b (ix2 0 c)) e := by
  unfold out0_A_6
  rw [View.read_writes_junk_eq_canon, run_eq]
  have hp := p.isLt
  have at_ : ∀ (r : ℕ) (hr : r < 8) (inb : ∀ a, (![32 * r, 0] : Fin 2 → ℕ) a + S32x512.size a ≤ S256x512.size a)
      (L : List (View.Piece (Elt Ideal) S256x512 .bf16)), p.val / 32 = r →
      (View.canon (⟨Rect.unit (s := S256x512) ![32 * r, 0] S32x512.size inb,
        rowsV c i arg1 harg1 arg2 harg2 arg3 harg3 arg4 harg4 arg5 harg5 arg6 harg6 arg8 x y w d g b r hr⟩ :: L) : S256x512.Idx → EReal) (ix2 p e)
        = act (conv i x y w d p.val) (fun c => g (ix2 0 c)) (fun c => b (ix2 0 c)) e := fun r hr inb L h => by
    refine (canon_at (n := 32) (32 * r) inb _ L p ⟨p.val - 32 * r, by omega⟩ (by show p.val = 32 * r + (p.val - 32 * r); omega) e).trans ?_
    refine (rows_apply c i arg1 harg1 arg2 harg2 arg3 harg3 arg4 harg4 arg5 harg5 arg6 harg6 arg8 x y w d g b r hr _ e).trans ?_
    rw [show 32 * r + (p.val - 32 * r) = p.val by omega]
  rcases Nat.lt_or_ge p.val 224 with h7 | h7
  · refine (canon_off _ _ _ _ p h7 e).trans ?_
    rcases Nat.lt_or_ge p.val 192 with h6 | h6
    · refine (canon_off _ _ _ _ p h6 e).trans ?_
      rcases Nat.lt_or_ge p.val 160 with h5 | h5
      · refine (canon_off _ _ _ _ p h5 e).trans ?_
        rcases Nat.lt_or_ge p.val 128 with h4 | h4
        · refine (canon_off _ _ _ _ p h4 e).trans ?_
          rcases Nat.lt_or_ge p.val 96 with h3 | h3
          · refine (canon_off _ _ _ _ p h3 e).trans ?_
            rcases Nat.lt_or_ge p.val 64 with h2 | h2
            · refine (canon_off _ _ _ _ p h2 e).trans ?_
              rcases Nat.lt_or_ge p.val 32 with h1 | h1
              · refine (canon_off _ _ _ _ p h1 e).trans ?_
                exact at_ 0 _ _ _ (by omega)
              · exact at_ 1 _ _ _ (by omega)
            · exact at_ 2 _ _ _ (by omega)
          · exact at_ 3 _ _ _ (by omega)
        · exact at_ 4 _ _ _ (by omega)
      · exact at_ 5 _ _ _ (by omega)
    · exact at_ 6 _ _ _ (by omega)
  · exact at_ 7 _ _ _ (by omega)

end Cert.Kernel6Ideal.Body

end
-- ==== Proof.MergeBody.lean ====
/- The merge's body over the extended reals: what its three output blocks hold, from the blocks of rows, branches and gates
   and from the weights. -/
module

public import proofs.«01_k».proof.Proof.Merge
public import proofs.«01_k».proof.Proof.Gen.Kernel3Ideal.Value

@[expose] public section

set_option maxRecDepth 16384

noncomputable section

namespace Cert.Kernel3Ideal.Body

open Cert.Kernel3Ideal Cert.Kernel3Ideal.Gen Cert.Rows Idealize.ShloMosaic Idealize.ShloMosaic.ValueIdx

variable (x : Vec Ideal S256x1024 .f32) (cn an : Vec Ideal S256x512 .bf16) (a b : Vec Ideal S256x1024 .f32)
  (wc wt : Vec Ideal S512x1024 .bf16) (wo : Vec Ideal S1024x1024 .bf16) (g : Vec Ideal S1x1024 .f32) (wq : Vec Ideal S1024x2048 .bf16)

/-- The block of rows with their branches added. -/
theorem row_apply (r : Fin 256) (e : Fin 1024) :
    k0_pay4 (F := Ideal) a cn wc b an wt x wo (ix2 r e) = mgX x cn an a b wc wt wo r e := by
  unfold k0_pay4
  rw [shapeCast_self, shapeCast_self, shapeCast_self]
  refine (congrArg (x (ix2 r e) + ·) (matmul_zero (φ₁ := .bf16) (φ₂ := .bf16) _ _ r e)).trans ?_
  unfold mgX both
  refine congrArg (x (ix2 r e) + ·) (Finset.sum_congr rfl fun d _ => congrArg (· * wo (ix2 d e)) ?_)
  exact congrArg₂ (fun p q => a (ix2 r d) * p + b (ix2 r d) * q) (matmul_zero (φ₁ := .bf16) (φ₂ := .bf16) cn wc r d)
    (matmul_zero (φ₁ := .bf16) (φ₂ := .bf16) an wt r d)

/-- The block of those rows normalised. -/
theorem normed_apply (r : Fin 256) (d : Fin 1024) :
    k0_pay7 (F := Ideal) (k0_pay5 g) (k0_pay6 a cn wc b an wt x wo) (ix2 r d) = mgH x cn an a b wc wt wo (fun e => g (ix2 0 e)) r d := by
  unfold k0_pay7 k0_pay5 k0_pay6
  rw [shapeCast_self]
  refine (nrm_apply (k0_pay4 (F := Ideal) a cn wc b an wt x wo) g reduces_S256x1024_S256 shapeCasts_S256_S256x1
    broadcasts_S256x1_S256x1024 broadcasts_S1x1024_S256x1024 (.inl rfl) rfl r d).trans ?_
  exact congrArg (fun f => nrm f (fun e => g (ix2 0 e)) d) (funext fun e => row_apply x cn an a b wc wt wo r e)

/-- The block of the queries. -/
theorem query_apply (r : Fin 256) (c : Fin 2048) :
    k0_pay8 (F := Ideal) (k0_pay5 g) (k0_pay6 a cn wc b an wt x wo) wq (ix2 r c) = mgQ x cn an a b wc wt wo (fun e => g (ix2 0 e)) wq r c := by
  unfold k0_pay8
  rw [shapeCast_self]
  refine (matmul_zero (φ₁ := .bf16) (φ₂ := .bf16) _ _ r c).trans ?_
  unfold mgQ prj
  exact Finset.sum_congr rfl fun d _ => congrArg (· * wq (ix2 d c)) (normed_apply x cn an a b wc wt wo g r d)

theorem x_apply (r : Fin 256) (e : Fin 1024) :
    out0_10 (F := Ideal) x cn an a b wc wt wo g wq (ix2 r e) = mgX x cn an a b wc wt wo r e := by
  unfold out0_10
  rw [ld_whole a, ld_whole b, ld_whole x, ld_whole cn, ld_whole an, ld_whole wc, ld_whole wt, ld_whole wo]
  exact (canon_whole _ _ r e).trans (row_apply x cn an a b wc wt wo r e)

theorem norm_named : k0_pay23 (F := Ideal) x cn an a b wc wt wo g wq = k0_pay5 g := by
  unfold k0_pay23
  rw [ld_whole g]

theorem rows_named : k0_pay24 (F := Ideal) x cn an a b wc wt wo g wq = k0_pay6 a cn wc b an wt x wo := by
  unfold k0_pay24
  rw [ld_whole a, ld_whole b, ld_whole x, ld_whole cn, ld_whole an, ld_whole wc, ld_whole wt, ld_whole wo]

theorem h_apply (r : Fin 256) (d : Fin 1024) :
    out0_11 (F := Ideal) x cn an a b wc wt wo g wq (ix2 r d) = mgH x cn an a b wc wt wo (fun e => g (ix2 0 e)) r d := by
  unfold out0_11
  rw [norm_named, rows_named]
  exact (canon_whole _ _ r d).trans (normed_apply x cn an a b wc wt wo g r d)

/-- Column `l` of slab `s` of the queries. -/
def slab (s : Fin 16) (l : Fin 128) : Fin 2048 := ⟨s.val * 128 + l.val, by omega⟩

theorem q_apply (y : S16x256x128.Idx) :
    out0_12 (F := Ideal) x cn an a b wc wt wo g wq y
      = mgQ x cn an a b wc wt wo (fun e => g (ix2 0 e)) wq (y 1) (slab (y 0) (y 2)) := by
  unfold out0_12 k0_pay25
  rw [norm_named, rows_named, ld_whole wq]
  refine (Value.canon12_eq g a cn wc b an wt x wo wq y).trans ?_
  refine Eq.trans ?_ (query_apply x cn an a b wc wt wo g wq (y 1) (slab (y 0) (y 2)))
  exact congrArg (k0_pay8 (F := Ideal) (k0_pay5 g) (k0_pay6 a cn wc b an wt x wo) wq)
    (funext fun i => Fin.ext (by match i with | ⟨0, _⟩ => rfl | ⟨1, _⟩ => rfl))

end Cert.Kernel3Ideal.Body

end
-- ==== Proof.InBody.lean ====
/- The input projection's body over the extended reals: what each of its eight output blocks holds at a row and a
   column, from the blocks of rows, weights of the norm and weights of the projection. -/
module

public import proofs.«01_k».proof.Proof.Rows
public import proofs.«01_k».proof.Proof.Gen.Kernel2Ideal.Frame

@[expose] public section

set_option maxRecDepth 16384

noncomputable section

namespace Cert.Kernel2Ideal.Body

open Cert.Kernel2Ideal Cert.Kernel2Ideal.Gen Cert.Rows Idealize.ShloMosaic Idealize.ShloMosaic.ValueIdx

variable (x : Vec Ideal S256x1024 .f32) (g : Vec Ideal S1x1024 .f32) (w : Vec Ideal S1024x4608 .bf16)

theorem ld_x : View.ld x r0_0 = x := by
  refine funext fun j => congrArg x (funext fun e => Fin.ext ?_)
  match e with
  | ⟨0, _⟩ => show 0 + 1 * (j 0).val = (j 0).val; omega
  | ⟨1, _⟩ => show 0 + 1 * (j 1).val = (j 1).val; omega

theorem ld_g : View.ld g r0_1 = g := by
  refine funext fun j => congrArg g (funext fun e => Fin.ext ?_)
  match e with
  | ⟨0, _⟩ => show 0 + 1 * (j 0).val = (j 0).val; omega
  | ⟨1, _⟩ => show 0 + 1 * (j 1).val = (j 1).val; omega

/-- A load of whole columns of the weight, from column `o`. -/
theorem ld_w {N o : ℕ} (h : o + N ≤ 4608) (inb : ∀ a, (![0, o] : Fin 2 → ℕ) a + (![1024, N] : Fin 2 → ℕ) a ≤ S1024x4608.size a)
    (d : Fin 1024) (l : Fin N) :
    (View.ld w (Rect.unit (s := S1024x4608) ![0, o] ![1024, N] inb) : (Sh 1024 N).Idx → EReal) (ix2 d l) = w (ix2 d (colAt o h l)) := by
  refine congrArg w (funext fun e => Fin.ext ?_)
  match e with
  | ⟨0, _⟩ => show 0 + 1 * d.val = d.val; omega
  | ⟨1, _⟩ => show o + 1 * l.val = o + l.val; omega

/-- The block of normalised rows. -/
theorem rows_apply (r : Fin 256) (d : Fin 1024) :
    k0_pay2 (F := Ideal) x g (ix2 r d) = nrm (fun e => x (ix2 r e)) (fun e => g (ix2 0 e)) d := by
  unfold k0_pay2
  rw [shapeCast_self]
  exact nrm_apply x g reduces_S256x1024_S256 shapeCasts_S256_S256x1 broadcasts_S256x1_S256x1024 broadcasts_S1x1024_S256x1024
    (.inl rfl) rfl r d

theorem rows_twice : k0_pay12 (F := Ideal) x g w = k0_pay2 x g := by
  unfold k0_pay12
  rw [ld_x, ld_g]

/-- The product of the normalised rows with the columns from `o`. -/
abbrev pr (r : Fin 256) (c : Fin 4608) : EReal := prj (fun e => x (ix2 r e)) (fun e => g (ix2 0 e)) (fun d => w (ix2 d c))

theorem pr_sum {N o : ℕ} (h : o + N ≤ 4608)
    (inb : ∀ a, (![0, o] : Fin 2 → ℕ) a + (![1024, N] : Fin 2 → ℕ) a ≤ S1024x4608.size a) (r : Fin 256) (l : Fin N) :
    FloatOps.matmul (φ₁ := .bf16) (φ₂ := .bf16) (DotDims.plain 256 1024 N) none (k0_pay2 (F := Ideal) x g)
        (View.ld w (Rect.unit (s := S1024x4608) ![0, o] ![1024, N] inb) : FVec Ideal (Sh 1024 N) .bf16)
        (constant (Sh 256 N) .f32 0x00000000#32) (ix2 r l) = pr x g w r (colAt o h l) := by
  rw [matmul_zero]
  exact Finset.sum_congr rfl fun k _ => by rw [rows_apply, ld_w w h inb]

theorem emb_narrow (r : Fin 256) (l : Fin 512) : r0_4.emb (ix2 r l) = ix2 r l := funext fun a => Fin.ext (by
  match a with
  | ⟨0, _⟩ => show 0 + 1 * r.val = r.val; omega
  | ⟨1, _⟩ => show 0 + 1 * l.val = l.val; omega)

theorem emb_wide (r : Fin 256) (l : Fin 1024) : r0_0.emb (ix2 r l) = ix2 r l := funext fun a => Fin.ext (by
  match a with
  | ⟨0, _⟩ => show 0 + 1 * r.val = r.val; omega
  | ⟨1, _⟩ => show 0 + 1 * l.val = l.val; omega)

/-- What one store of a whole block leaves in it. -/
theorem canon_narrow {e : EltTy} (p : Vec Ideal S256x512 e) (r : Fin 256) (l : Fin 512) :
    View.canon (Val := Elt Ideal) [⟨r0_4, p⟩] (ix2 r l) = p (ix2 r l) := by
  have := View.canon_cons_emb (Val := Elt Ideal) r0_4 p [] (ix2 r l)
  rwa [emb_narrow] at this

theorem canon_wide {e : EltTy} (p : Vec Ideal S256x1024 e) (r : Fin 256) (l : Fin 1024) :
    View.canon (Val := Elt Ideal) [⟨r0_0, p⟩] (ix2 r l) = p (ix2 r l) := by
  have := View.canon_cons_emb (Val := Elt Ideal) r0_0 p [] (ix2 r l)
  rwa [emb_wide] at this

theorem k_apply (r : Fin 256) (l : Fin 512) : out0_4 (F := Ideal) x g w (ix2 r l) = pr x g w r (colAt 1536 (by decide) l) := by
  unfold out0_4
  rw [canon_narrow, rows_twice]
  unfold k0_pay6
  rw [shapeCast_self]
  exact pr_sum x g w _ _ r l

theorem v_apply (r : Fin 256) (l : Fin 512) : out0_5 (F := Ideal) x g w (ix2 r l) = pr x g w r (colAt 2048 (by decide) l) := by
  unfold out0_5
  rw [canon_narrow, rows_twice]
  unfold k0_pay8
  rw [shapeCast_self]
  exact pr_sum x g w _ _ r l

theorem kb_apply (r : Fin 256) (l : Fin 512) : out0_7 (F := Ideal) x g w (ix2 r l) = pr x g w r (colAt 1536 (by decide) l) := by
  refine Eq.trans ?_ (k_apply x g w r l)
  unfold out0_7 out0_4
  rw [canon_narrow, canon_narrow]
  rfl

theorem vb_apply (r : Fin 256) (l : Fin 512) : out0_8 (F := Ideal) x g w (ix2 r l) = pr x g w r (colAt 2048 (by decide) l) := by
  refine Eq.trans ?_ (v_apply x g w r l)
  unfold out0_8 out0_5
  rw [canon_narrow, canon_narrow]
  rfl

theorem u_apply (r : Fin 256) (l : Fin 512) : out0_3 (F := Ideal) x g w (ix2 r l)
    = pr x g w r (colAt 0 (by decide) l) * sg (pr x g w r (colAt 512 (by decide) l)) := by
  unfold out0_3
  rw [canon_narrow, ld_x, ld_g]
  unfold k0_pay3
  rw [shapeCast_self, shapeCast_self]
  show FloatOps.matmul (φ₁ := .bf16) (φ₂ := .bf16) (DotDims.plain 256 1024 512) none (k0_pay2 (F := Ideal) x g) (View.ld w r0_2 : FVec Ideal (Sh 1024 512) .bf16)
      (constant (Sh 256 512) .f32 0x00000000#32) (ix2 r l)
    * Ideal.div one (one + Ideal.exp (Ideal.ofBits .f32 0x00000000#32
      - FloatOps.matmul (φ₁ := .bf16) (φ₂ := .bf16) (DotDims.plain 256 1024 512) none (k0_pay2 (F := Ideal) x g) (View.ld w r0_3 : FVec Ideal (Sh 1024 512) .bf16)
        (constant (Sh 256 512) .f32 0x00000000#32) (ix2 r l))) = _
  rw [pr_sum x g w (by decide), pr_sum x g w (by decide), sub_zero_left]
  rfl

theorem qb_apply (r : Fin 256) (l : Fin 512) :
    out0_6 (F := Ideal) x g w (ix2 r l) = pr x g w r (colAt 1024 (by decide) l) * eighth := by
  unfold out0_6
  rw [canon_narrow, ld_x, ld_g]
  unfold k0_pay5 k0_pay4
  rw [shapeCast_self]
  show FloatOps.matmul (φ₁ := .bf16) (φ₂ := .bf16) (DotDims.plain 256 1024 512) none (k0_pay2 (F := Ideal) x g) (View.ld w r0_5 : FVec Ideal (Sh 1024 512) .bf16)
      (constant (Sh 256 512) .f32 0x00000000#32) (ix2 r l) * eighth = _
  rw [pr_sum x g w (by decide)]

theorem logistic_block (A : FVec Ideal S256x1024 .bf16) (b : Vec Ideal S1024x1024 .bf16) (r : Fin 256) (l : Fin 1024) :
    k0_pay10 (F := Ideal) A b (ix2 r l) = sg (FloatOps.matmul (φ₁ := .bf16) (φ₂ := .bf16) (DotDims.plain 256 1024 1024) none A b
      (constant (Sh 256 1024) .f32 0x00000000#32) (ix2 r l)) := by
  unfold k0_pay10
  rw [shapeCast_self]
  refine Eq.trans ?_ (congrArg (fun z => Ideal.div one (one + Ideal.exp z)) (sub_zero_left _))
  rfl

/-- The gates' blocks. -/
theorem gate_apply {o : ℕ} (h : o + 1024 ≤ 4608)
    (inb : ∀ a, (![0, o] : Fin 2 → ℕ) a + (![1024, 1024] : Fin 2 → ℕ) a ≤ S1024x4608.size a) (r : Fin 256) (l : Fin 1024) :
    k0_pay10 (F := Ideal) (k0_pay2 x g) (View.ld w (Rect.unit (s := S1024x4608) ![0, o] ![1024, 1024] inb)) (ix2 r l)
      = sg (pr x g w r (colAt o h l)) :=
  (logistic_block _ _ r l).trans (congrArg sg (pr_sum x g w h inb r l))

theorem g0_apply (r : Fin 256) (l : Fin 1024) : out0_9 (F := Ideal) x g w (ix2 r l) = sg (pr x g w r (colAt 2560 (by decide) l)) := by
  unfold out0_9
  rw [canon_wide, rows_twice]
  exact gate_apply x g w _ _ r l

theorem g1_apply (r : Fin 256) (l : Fin 1024) : out0_10 (F := Ideal) x g w (ix2 r l) = sg (pr x g w r (colAt 3584 (by decide) l)) := by
  unfold out0_10
  rw [canon_wide, rows_twice]
  exact gate_apply x g w _ _ r l

end Cert.Kernel2Ideal.Body

end
-- ==== Proof.InArray.lean ====
/- The result arrays of the input projection over the extended reals: the 64 blocks of 256 rows cover each of the eight,
   and each block holds the projection of its rows, read from the argument arrays; the operations after the region read the
   keys, the values and the last rows from those arrays. -/
module

public import proofs.«01_k».proof.Proof.InBody
public import proofs.«01_k».proof.Proof.Gen.Kernel2Ideal.Frame
public import Idealize.ShloMosaic.Lib.Claim

@[expose] public section

set_option maxRecDepth 16384

noncomputable section

namespace Cert.Rows

open Idealize.ShloMosaic Idealize.ShloMosaic.ValueIdx

/-! The parts of the input projection, as functions of a row and a column. -/

section

variable {M : ℕ} (x : (Sh M 1024).Idx → EReal) (g : (⟨1, ![1024]⟩ : Shape).Idx → EReal) (w : (Sh 1024 4608).Idx → EReal)

def inU (t : Fin M) (l : Fin 512) : EReal := proj x g w t (colAt 0 (by decide) l) * sg (proj x g w t (colAt 512 (by decide) l))
def inQ (t : Fin M) (l : Fin 512) : EReal := proj x g w t (colAt 1024 (by decide) l) * eighth
def inK (t : Fin M) (l : Fin 512) : EReal := proj x g w t (colAt 1536 (by decide) l)
def inV (t : Fin M) (l : Fin 512) : EReal := proj x g w t (colAt 2048 (by decide) l)
def inG0 (t : Fin M) (l : Fin 1024) : EReal := sg (proj x g w t (colAt 2560 (by decide) l))
def inG1 (t : Fin M) (l : Fin 1024) : EReal := sg (proj x g w t (colAt 3584 (by decide) l))
end

end Cert.Rows

namespace Cert.Kernel2Ideal.Arr

open Cert.Kernel2Ideal Cert.Kernel2Ideal.Gen Cert.Kernel2Ideal.Body Cert.Rows
  Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

abbrev xa (c : Dev nD) : (Sh 16384 1024).Idx → EReal := m ((c : Thread nD τ).loc main_arg0)
abbrev ga (c : Dev nD) : (⟨1, ![1024]⟩ : Shape).Idx → EReal := m ((c : Thread nD τ).loc main_arg1)
abbrev wa (c : Dev nD) : (Sh 1024 4608).Idx → EReal := m ((c : Thread nD τ).loc main_arg2)

theorem V_w (c : Dev nD) : V m c main_v0 = wa m c := by
  entry_read
  rfl

theorem V_g (c : Dev nD) (d : Fin 1024) : (V m c main_v1 : S1x1024.Idx → EReal) (ix2 0 d) = ga m c (ix1 d) := by
  entry_read
  refine shapeCast_apply _ _ (ix2 0 d) (ix1 d) ?_
  rw [Shape.rowMajor_val_two, Shape.rowMajor_val_one]; show d.val = 0 * 1024 + d.val; omega

theorem idx0 : ∀ t : Fin cfg0.N, (cfg0.win 0).index t = ![(grid0.coords t 0).val, 0] := by decide +kernel
theorem idx1 : ∀ t : Fin cfg0.N, (cfg0.win 1).index t = ![0, 0] := by decide +kernel
theorem idx2 : ∀ t : Fin cfg0.N, (cfg0.win 2).index t = ![0, 0] := by decide +kernel

theorem g_lt (t : Fin cfg0.N) : (grid0.coords t 0).val < 64 := (grid0.coords t 0).isLt

theorem x_blk (c : Dev nD) (t : Fin cfg0.N) (r : Fin 256) (d : Fin 1024) (hr : (grid0.coords t 0).val * 256 + r.val < 16384) :
    (iblk m c 0 t : Vec Ideal S256x1024 .f32) (ix2 r d) = xa m c (ix2 ⟨_, hr⟩ d) := by
  show V m c main_arg0 (((cfg0.win 0).rect t).emb (ix2 r d)) = _
  rw [V_main_arg0]
  refine congrArg (xa m c) (funext fun a => Fin.ext ?_)
  match a with
  | ⟨0, _⟩ =>
    refine ((cfg0.win 0).rect_emb_val t (ix2 r d) 0).trans ?_
    rw [idx0]; show (grid0.coords t 0).val * 256 + r.val = (grid0.coords t 0).val * 256 + r.val; rfl
  | ⟨1, _⟩ =>
    refine ((cfg0.win 0).rect_emb_val t (ix2 r d) 1).trans ?_
    rw [idx0]; show 0 * 1024 + d.val = d.val; omega

theorem g_blk (c : Dev nD) (t : Fin cfg0.N) (d : Fin 1024) :
    (iblk m c 1 t : Vec Ideal S1x1024 .f32) (ix2 0 d) = ga m c (ix1 d) := by
  show V m c main_v1 (((cfg0.win 1).rect t).emb (ix2 0 d)) = _
  refine Eq.trans (congrArg (V m c main_v1) (funext fun a => Fin.ext ?_)) (V_g m c d)
  match a with
  | ⟨0, _⟩ =>
    refine ((cfg0.win 1).rect_emb_val t (ix2 0 d) 0).trans ?_
    rw [idx1]; rfl
  | ⟨1, _⟩ =>
    refine ((cfg0.win 1).rect_emb_val t (ix2 0 d) 1).trans ?_
    rw [idx1]; show 0 * 1024 + d.val = d.val; omega

theorem w_blk (c : Dev nD) (t : Fin cfg0.N) (d : Fin 1024) (e : Fin 4608) :
    (iblk m c 2 t : Vec Ideal S1024x4608 .bf16) (ix2 d e) = wa m c (ix2 d e) := by
  show V m c main_v0 (((cfg0.win 2).rect t).emb (ix2 d e)) = _
  rw [V_w]
  refine congrArg (wa m c) (funext fun a => Fin.ext ?_)
  match a with
  | ⟨0, _⟩ =>
    refine ((cfg0.win 2).rect_emb_val t (ix2 d e) 0).trans ?_
    rw [idx2]; show 0 * 1024 + d.val = d.val; omega
  | ⟨1, _⟩ =>
    refine ((cfg0.win 2).rect_emb_val t (ix2 d e) 1).trans ?_
    rw [idx2]; show 0 * 4608 + e.val = e.val; omega

/-- The block's projection is the array's. -/
theorem pr_blk (c : Dev nD) (t : Fin cfg0.N) (r : Fin 256) (e : Fin 4608) (hr : (grid0.coords t 0).val * 256 + r.val < 16384) :
    pr (iblk m c 0 t) (iblk m c 1 t) (iblk m c 2 t) r e = proj (xa m c) (ga m c) (wa m c) ⟨_, hr⟩ e := by
  unfold pr proj
  congr 1
  · exact funext fun d => x_blk m c t r d hr
  · exact funext fun d => g_blk m c t d
  · exact funext fun d => w_blk m c t d e

theorem fits (t : Fin cfg0.N) : (grid0.coords t 0).val * 256 + 256 ≤ 16384 := by have := g_lt t; omega

theorem row0 {v : Fin 2 → ℕ} {a : ℕ} (h : v = ![a, 0]) : v 0 * 256 = a * 256 := by rw [h]; rfl
theorem row1 {v : Fin 2 → ℕ} {a n : ℕ} (h : v = ![a, 0]) : v 1 * n = 0 := by rw [h]; exact Nat.zero_mul n

theorem point_of : ∀ a : Fin 64, ∃ t : Fin cfg0.N, (grid0.coords t 0).val = a.val := by decide +kernel

/-- Some point's rows hold a given row. -/
theorem point (a : Fin 16384) : ∃ t : Fin cfg0.N, a.val / 256 = (grid0.coords t 0).val := by
  have ha := a.isLt
  obtain ⟨t, ht⟩ := point_of ⟨a.val / 256, by omega⟩
  exact ⟨t, ht.symm⟩

/-- The array of a function of a row and a column. -/
abbrev arr {N : ℕ} (G : Fin 16384 → Fin N → EReal) : (Sh 16384 N).Idx → EReal := fun j => G (j 0) (j 1)

/-! Each output window's block is the rows of its point. -/

theorem idx3 : ∀ t : Fin cfg0.N, (cfg0.win 3).index t = ![(grid0.coords t 0).val, 0] := by decide +kernel
theorem idx4 : ∀ t : Fin cfg0.N, (cfg0.win 4).index t = ![(grid0.coords t 0).val, 0] := by decide +kernel
theorem idx5 : ∀ t : Fin cfg0.N, (cfg0.win 5).index t = ![(grid0.coords t 0).val, 0] := by decide +kernel
theorem idx6 : ∀ t : Fin cfg0.N, (cfg0.win 6).index t = ![(grid0.coords t 0).val, 0] := by decide +kernel
theorem idx7 : ∀ t : Fin cfg0.N, (cfg0.win 7).index t = ![(grid0.coords t 0).val, 0] := by decide +kernel
theorem idx8 : ∀ t : Fin cfg0.N, (cfg0.win 8).index t = ![(grid0.coords t 0).val, 0] := by decide +kernel
theorem idx9 : ∀ t : Fin cfg0.N, (cfg0.win 9).index t = ![(grid0.coords t 0).val, 0] := by decide +kernel
theorem idx10 : ∀ t : Fin cfg0.N, (cfg0.win 10).index t = ![(grid0.coords t 0).val, 0] := by decide +kernel

/-! What each output array holds when the launch ends. -/

theorem mem_slice (b : Ref sig .tc) {R : Rect b.ty.shape} {i : b.ty.shape.Idx} (h : i ∈ R.set) : i ∈ ((View.whole b).slice R).set := by
  rw [View.set_slice_whole]
  exact h

theorem arr_u (c : Dev nD) : (dats m 0 c).arrAt 3 cfg0.N = (arr (inU (xa m c) (ga m c) (wa m c)) : S16384x512.Idx → EReal) :=
  (dats m 0 c).arrAt_eq_of_cover 3 (arr (inU (xa m c) (ga m c) (wa m c)) : S16384x512.Idx → EReal)
    (fun t _ => (congrArg ((cfg0.win 3).cut (grid0.coords t)) (after0_3 m c t)).trans (funext (rows_read _ (row0 (idx3 t)) (row1 (idx3 t)) (fits t) (out0_3 (F := Ideal) _ _ _)
      (inU (xa m c) (ga m c) (wa m c)) fun r l hr => (u_apply _ _ _ r l).trans (congrArg₂ (fun p q => p * sg q) (pr_blk m c t r _ hr) (pr_blk m c t r _ hr)))))
    fun i : S16384x512.Idx => (point (i 0)).imp fun t ht => ⟨flush0_3 t,
      mem_slice main_v2_0 (rows_mem _ (row0 (idx3 t)) (row1 (idx3 t)) i ht)⟩

theorem arr_k (c : Dev nD) : (dats m 0 c).arrAt 4 cfg0.N = (arr (inK (xa m c) (ga m c) (wa m c)) : S16384x512.Idx → EReal) :=
  (dats m 0 c).arrAt_eq_of_cover 4 (arr (inK (xa m c) (ga m c) (wa m c)) : S16384x512.Idx → EReal)
    (fun t _ => (congrArg ((cfg0.win 4).cut (grid0.coords t)) (after0_4 m c t)).trans (funext (rows_read _ (row0 (idx4 t)) (row1 (idx4 t)) (fits t) (out0_4 (F := Ideal) _ _ _)
      (inK (xa m c) (ga m c) (wa m c)) fun r l hr => (k_apply _ _ _ r l).trans (pr_blk m c t r _ hr))))
    fun i : S16384x512.Idx => (point (i 0)).imp fun t ht => ⟨flush0_4 t,
      mem_slice main_v2_1 (rows_mem _ (row0 (idx4 t)) (row1 (idx4 t)) i ht)⟩

theorem arr_v (c : Dev nD) : (dats m 0 c).arrAt 5 cfg0.N = (arr (inV (xa m c) (ga m c) (wa m c)) : S16384x512.Idx → EReal) :=
  (dats m 0 c).arrAt_eq_of_cover 5 (arr (inV (xa m c) (ga m c) (wa m c)) : S16384x512.Idx → EReal)
    (fun t _ => (congrArg ((cfg0.win 5).cut (grid0.coords t)) (after0_5 m c t)).trans (funext (rows_read _ (row0 (idx5 t)) (row1 (idx5 t)) (fits t) (out0_5 (F := Ideal) _ _ _)
      (inV (xa m c) (ga m c) (wa m c)) fun r l hr => (v_apply _ _ _ r l).trans (pr_blk m c t r _ hr))))
    fun i : S16384x512.Idx => (point (i 0)).imp fun t ht => ⟨flush0_5 t,
      mem_slice main_v2_2 (rows_mem _ (row0 (idx5 t)) (row1 (idx5 t)) i ht)⟩

theorem arr_qb (c : Dev nD) : (dats m 0 c).arrAt 6 cfg0.N = (arr (inQ (xa m c) (ga m c) (wa m c)) : S16384x512.Idx → EReal) :=
  (dats m 0 c).arrAt_eq_of_cover 6 (arr (inQ (xa m c) (ga m c) (wa m c)) : S16384x512.Idx → EReal)
    (fun t _ => (congrArg ((cfg0.win 6).cut (grid0.coords t)) (after0_6 m c t)).trans (funext (rows_read _ (row0 (idx6 t)) (row1 (idx6 t)) (fits t) (out0_6 (F := Ideal) _ _ _)
      (inQ (xa m c) (ga m c) (wa m c)) fun r l hr => (qb_apply _ _ _ r l).trans (congrArg (· * eighth) (pr_blk m c t r _ hr)))))
    fun i : S16384x512.Idx => (point (i 0)).imp fun t ht => ⟨flush0_6 t,
      mem_slice main_v2_3 (rows_mem _ (row0 (idx6 t)) (row1 (idx6 t)) i ht)⟩

theorem arr_kb (c : Dev nD) : (dats m 0 c).arrAt 7 cfg0.N = (arr (inK (xa m c) (ga m c) (wa m c)) : S16384x512.Idx → EReal) :=
  (dats m 0 c).arrAt_eq_of_cover 7 (arr (inK (xa m c) (ga m c) (wa m c)) : S16384x512.Idx → EReal)
    (fun t _ => (congrArg ((cfg0.win 7).cut (grid0.coords t)) (after0_7 m c t)).trans (funext (rows_read _ (row0 (idx7 t)) (row1 (idx7 t)) (fits t) (out0_7 (F := Ideal) _ _ _)
      (inK (xa m c) (ga m c) (wa m c)) fun r l hr => (kb_apply _ _ _ r l).trans (pr_blk m c t r _ hr))))
    fun i : S16384x512.Idx => (point (i 0)).imp fun t ht => ⟨flush0_7 t,
      mem_slice main_v2_4 (rows_mem _ (row0 (idx7 t)) (row1 (idx7 t)) i ht)⟩

theorem arr_vb (c : Dev nD) : (dats m 0 c).arrAt 8 cfg0.N = (arr (inV (xa m c) (ga m c) (wa m c)) : S16384x512.Idx → EReal) :=
  (dats m 0 c).arrAt_eq_of_cover 8 (arr (inV (xa m c) (ga m c) (wa m c)) : S16384x512.Idx → EReal)
    (fun t _ => (congrArg ((cfg0.win 8).cut (grid0.coords t)) (after0_8 m c t)).trans (funext (rows_read _ (row0 (idx8 t)) (row1 (idx8 t)) (fits t) (out0_8 (F := Ideal) _ _ _)
      (inV (xa m c) (ga m c) (wa m c)) fun r l hr => (vb_apply _ _ _ r l).trans (pr_blk m c t r _ hr))))
    fun i : S16384x512.Idx => (point (i 0)).imp fun t ht => ⟨flush0_8 t,
      mem_slice main_v2_5 (rows_mem _ (row0 (idx8 t)) (row1 (idx8 t)) i ht)⟩

theorem arr_g0 (c : Dev nD) : (dats m 0 c).arrAt 9 cfg0.N = (arr (inG0 (xa m c) (ga m c) (wa m c)) : S16384x1024.Idx → EReal) :=
  (dats m 0 c).arrAt_eq_of_cover 9 (arr (inG0 (xa m c) (ga m c) (wa m c)) : S16384x1024.Idx → EReal)
    (fun t _ => (congrArg ((cfg0.win 9).cut (grid0.coords t)) (after0_9 m c t)).trans (funext (rows_read _ (row0 (idx9 t)) (row1 (idx9 t)) (fits t) (out0_9 (F := Ideal) _ _ _)
      (inG0 (xa m c) (ga m c) (wa m c)) fun r l hr => (g0_apply _ _ _ r l).trans (congrArg sg (pr_blk m c t r _ hr)))))
    fun i : S16384x1024.Idx => (point (i 0)).imp fun t ht => ⟨flush0_9 t,
      mem_slice main_v2_6 (rows_mem _ (row0 (idx9 t)) (row1 (idx9 t)) i ht)⟩

theorem arr_g1 (c : Dev nD) : (dats m 0 c).arrAt 10 cfg0.N = (arr (inG1 (xa m c) (ga m c) (wa m c)) : S16384x1024.Idx → EReal) :=
  (dats m 0 c).arrAt_eq_of_cover 10 (arr (inG1 (xa m c) (ga m c) (wa m c)) : S16384x1024.Idx → EReal)
    (fun t _ => (congrArg ((cfg0.win 10).cut (grid0.coords t)) (after0_10 m c t)).trans (funext (rows_read _ (row0 (idx10 t)) (row1 (idx10 t)) (fits t) (out0_10 (F := Ideal) _ _ _)
      (inG1 (xa m c) (ga m c) (wa m c)) fun r l hr => (g1_apply _ _ _ r l).trans (congrArg sg (pr_blk m c t r _ hr)))))
    fun i : S16384x1024.Idx => (point (i 0)).imp fun t ht => ⟨flush0_10 t,
      mem_slice main_v2_7 (rows_mem _ (row0 (idx10 t)) (row1 (idx10 t)) i ht)⟩

/-! What the operations after the region leave. -/

/-- The arrays' contents at the region's end, beside what the region found elsewhere. -/
abbrev atEnd (c : Dev nD) : Valuation τ sig (Elt Ideal) :=
  Pipeline.withArrays (cfgs 0).spec c (V0 m c) fun w => (dats m 0 c).arrAt w (cfgs 0).N

theorem arr_inj : Function.Injective (Pipeline.arrRef spec0) := launch0.win.arr_inj

theorem end_u (c : Dev nD) : atEnd m c (Proc.devRef .tc main_v2_0) = (arr (inU (xa m c) (ga m c) (wa m c)) : S16384x512.Idx → EReal) :=
  (Pipeline.withArrays_arr spec0 arr_inj c _ _ 3).trans (arr_u m c)

theorem end_k (c : Dev nD) : atEnd m c (Proc.devRef .tc main_v2_1) = (arr (inK (xa m c) (ga m c) (wa m c)) : S16384x512.Idx → EReal) :=
  (Pipeline.withArrays_arr spec0 arr_inj c _ _ 4).trans (arr_k m c)

theorem end_v (c : Dev nD) : atEnd m c (Proc.devRef .tc main_v2_2) = (arr (inV (xa m c) (ga m c) (wa m c)) : S16384x512.Idx → EReal) :=
  (Pipeline.withArrays_arr spec0 arr_inj c _ _ 5).trans (arr_v m c)

/-- A projection's rows, split into heads. -/
abbrev heads (a : S16384x512.Idx → EReal) : S1x16384x8x64.Idx → EReal := shapeCast S1x16384x8x64 a shapeCasts_S16384x512_S1x16384x8x64

/-- The last 30 rows of thirty zero rows followed by the rows. -/
abbrev lastRows (a : S16384x512.Idx → EReal) : S1x30x512.Idx → EReal :=
  extractStridedSlice S1x30x512 ![0, 16384, 0] (concatenate S1x16414x512 1
    [⟨S1x30x512, broadcastInDim S1x30x512 ![] bcast_S_S1x30x512 (constant (F := Ideal) S_ .f32 0x00000000#32)⟩,
      ⟨S1x16384x512, shapeCast S1x16384x512 a shapeCasts_S16384x512_S1x16384x512⟩]
    concatenates_S1x30x512_S1x16384x512_S1x16414x512_d1) slices_S1x16414x512_S1x30x512_0_16384_0

theorem tail_k (c : Dev nD) : Pipeline.afterTail₀ cfgs (dats m) 0 (V0 m) [hostOps1] c main_v7
    = heads (arr (inK (xa m c) (ga m c) (wa m c))) := by
  show StableHlo.after hostOps1 (atEnd m c) (Proc.devRef .tc main_v7) = _
  entry_read
  rw [end_k]
  rfl

theorem tail_v (c : Dev nD) : Pipeline.afterTail₀ cfgs (dats m) 0 (V0 m) [hostOps1] c main_v8
    = heads (arr (inV (xa m c) (ga m c) (wa m c))) := by
  show StableHlo.after hostOps1 (atEnd m c) (Proc.devRef .tc main_v8) = _
  entry_read
  rw [end_v]
  rfl

theorem tail_state (c : Dev nD) : Pipeline.afterTail₀ cfgs (dats m) 0 (V0 m) [hostOps1] c main_v6
    = lastRows (arr (inU (xa m c) (ga m c) (wa m c))) := by
  show StableHlo.after hostOps1 (atEnd m c) (Proc.devRef .tc main_v6) = _
  entry_read
  rw [end_u]
  rfl

/-- The kernel's run: what its results hold, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v7) = heads (arr (inK (xa m c) (ga m c) (wa m c)))
      ∧ r.2.mem ((c : Thread nD τ).loc main_v8) = heads (arr (inV (xa m c) (ga m c) (wa m c)))
      ∧ r.2.mem ((c : Thread nD τ).loc main_v6) = lastRows (arr (inU (xa m c) (ga m c) (wa m c)))
      ∧ r.2.mem ((c : Thread nD τ).loc main_v2_0) = (arr (inU (xa m c) (ga m c) (wa m c)) : S16384x512.Idx → EReal)
      ∧ r.2.mem ((c : Thread nD τ).loc main_v2_3) = (arr (inQ (xa m c) (ga m c) (wa m c)) : S16384x512.Idx → EReal)
      ∧ r.2.mem ((c : Thread nD τ).loc main_v2_4) = (arr (inK (xa m c) (ga m c) (wa m c)) : S16384x512.Idx → EReal)
      ∧ r.2.mem ((c : Thread nD τ).loc main_v2_5) = (arr (inV (xa m c) (ga m c) (wa m c)) : S16384x512.Idx → EReal)
      ∧ r.2.mem ((c : Thread nD τ).loc main_v2_6) = (arr (inG0 (xa m c) (ga m c) (wa m c)) : S16384x1024.Idx → EReal)
      ∧ r.2.mem ((c : Thread nD τ).loc main_v2_7) = (arr (inG1 (xa m c) (ga m c) (wa m c)) : S16384x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v7 (Pipeline.mem_restRefs_of main_v7 (by decide) (by decide))).trans (tail_k m c),
    ((h c).2 main_v8 (Pipeline.mem_restRefs_of main_v8 (by decide) (by decide))).trans (tail_v m c),
    ((h c).2 main_v6 (Pipeline.mem_restRefs_of main_v6 (by decide) (by decide))).trans (tail_state m c),
    ((h c).1 3).trans (arr_u m c),
    ((h c).1 6).trans (arr_qb m c),
    ((h c).1 7).trans (arr_kb m c),
    ((h c).1 8).trans (arr_vb m c),
    ((h c).1 9).trans (arr_g0 m c),
    ((h c).1 10).trans (arr_g1 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)

end Cert.Kernel2Ideal.Arr

end
-- ==== Proof.MergeArray.lean ====
/- The result arrays of the merge over the extended reals: the 64 blocks of 256 rows cover each of the three, and each block
   holds the merge of its rows, read from the argument arrays. -/
module

public import proofs.«01_k».proof.Proof.MergeBody
public import proofs.«01_k».proof.Proof.InArray

@[expose] public section

set_option maxRecDepth 16384

noncomputable section

namespace Cert.Kernel3Ideal.Arr

open Cert.Kernel3Ideal Cert.Kernel3Ideal.Gen Cert.Kernel3Ideal.Body Cert.Rows
  Idealize.ShloMosaic Idealize.ShloMosaic.ValueIdx Idealize.ShloMosaic.TcCoe Idealize.SL.Sem
open Cert.Kernel2Ideal.Arr (arr row0 row1)

variable (m : (ℓ : Loc nD τ sig) → Buf (Elt Ideal) ℓ)

abbrev xa (c : Dev nD) : (Sh 16384 1024).Idx → EReal := m ((c : Thread nD τ).loc main_arg0)
abbrev ca (c : Dev nD) : (Sh 16384 512).Idx → EReal := m ((c : Thread nD τ).loc main_arg1)
abbrev na (c : Dev nD) : (Sh 16384 512).Idx → EReal := m ((c : Thread nD τ).loc main_arg2)
abbrev aa (c : Dev nD) : (Sh 16384 1024).Idx → EReal := m ((c : Thread nD τ).loc main_arg3)
abbrev ba (c : Dev nD) : (Sh 16384 1024).Idx → EReal := m ((c : Thread nD τ).loc main_arg4)
abbrev wca (c : Dev nD) : (Sh 512 1024).Idx → EReal := m ((c : Thread nD τ).loc main_arg5)
abbrev wta (c : Dev nD) : (Sh 512 1024).Idx → EReal := m ((c : Thread nD τ).loc main_arg6)
abbrev woa (c : Dev nD) : (Sh 1024 1024).Idx → EReal := m ((c : Thread nD τ).loc main_arg7)
abbrev ga (c : Dev nD) : (⟨1, ![1024]⟩ : Shape).Idx → EReal := m ((c : Thread nD τ).loc main_arg8)
abbrev wqa (c : Dev nD) : (Sh 1024 2048).Idx → EReal := m ((c : Thread nD τ).loc main_arg9)

theorem V_wc (c : Dev nD) : V m c main_v0 = wca m c := by
  entry_read
  rfl

theorem V_wt (c : Dev nD) : V m c main_v1 = wta m c := by
  entry_read
  rfl

theorem V_wo (c : Dev nD) : V m c main_v2 = woa m c := by
  entry_read
  rfl

theorem V_wq (c : Dev nD) : V m c main_v3 = wqa m c := by
  entry_read
  rfl

theorem V_g (c : Dev nD) (d : Fin 1024) : (V m c main_v4 : S1x1024.Idx → EReal) (ix2 0 d) = ga m c (ix1 d) := by
  entry_read
  refine shapeCast_apply _ _ (ix2 0 d) (ix1 d) ?_
  rw [Shape.rowMajor_val_two, Shape.rowMajor_val_one]; show d.val = 0 * 1024 + d.val; omega

theorem idx0 : ∀ t : Fin cfg0.N, (cfg0.win 0).index t = ![(grid0.coords t 0).val, 0] := by decide +kernel
theorem idx1 : ∀ t : Fin cfg0.N, (cfg0.win 1).index t = ![(grid0.coords t 0).val, 0] := by decide +kernel
theorem idx2 : ∀ t : Fin cfg0.N, (cfg0.win 2).index t = ![(grid0.coords t 0).val, 0] := by decide +kernel
theorem idx3 : ∀ t : Fin cfg0.N, (cfg0.win 3).index t = ![(grid0.coords t 0).val, 0] := by decide +kernel
theorem idx4 : ∀ t : Fin cfg0.N, (cfg0.win 4).index t = ![(grid0.coords t 0).val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![(grid0.coords t 0).val, 0] := by decide +kernel
theorem idx11 : ∀ t : Fin cfg0.N, (cfg0.win 11).index t = ![(grid0.coords t 0).val, 0] := by decide +kernel
theorem idx12 : ∀ t : Fin cfg0.N, (cfg0.win 12).index t = ![0, (grid0.coords t 0).val, 0] := by decide +kernel

/-- A block that is a whole array. -/
theorem whole_emb {M N : ℕ} {off : Fin 2 → ℕ} (inb : ∀ a, off a + (![M, N] : Fin 2 → ℕ) a ≤ (Sh M N).size a)
    (h0 : off 0 = 0) (h1 : off 1 = 0) (k : Fin M) (l : Fin N) :
    (Rect.unit (s := Sh M N) off ![M, N] inb).emb (ix2 k l) = ix2 k l :=
  funext fun a => Fin.ext (by
    match a with
    | ⟨0, _⟩ => show off 0 + 1 * k.val = k.val; omega
    | ⟨1, _⟩ => show off 1 + 1 * l.val = l.val; omega)

theorem col0 {v : Fin 2 → ℕ} {n : ℕ} (h : v = ![0, 0]) : v 0 * n = 0 := by rw [h]; exact Nat.zero_mul n

section

variable (c : Dev nD) (t : Fin cfg0.N) (r : Fin 256) (hr : (grid0.coords t 0).val * 256 + r.val < 16384)

include hr in
theorem x_blk (e : Fin 1024) : (iblk m c 0 t : Vec Ideal S256x1024 .f32) (ix2 r e) = xa m c (ix2 ⟨_, hr⟩ e) :=
  (congrFun (V_main_arg0 m c) _).trans (congrArg (xa m c) (row_emb _ (row0 (idx0 t)) (row1 (idx0 t)) r e hr))

theorem c_blk (k : Fin 512) : (iblk m c 1 t : Vec Ideal S256x512 .bf16) (ix2 r k) = ca m c (ix2 ⟨_, hr⟩ k) :=
  (congrFun (V_main_arg1 m c) _).trans (congrArg (ca m c) (row_emb _ (row0 (idx1 t)) (row1 (idx1 t)) r k hr))

theorem n_blk (k : Fin 512) : (iblk m c 2 t : Vec Ideal S256x512 .bf16) (ix2 r k) = na m c (ix2 ⟨_, hr⟩ k) :=
  (congrFun (V_main_arg2 m c) _).trans (congrArg (na m c) (row_emb _ (row0 (idx2 t)) (row1 (idx2 t)) r k hr))

theorem a_blk (e : Fin 1024) : (iblk m c 3 t : Vec Ideal S256x1024 .f32) (ix2 r e) = aa m c (ix2 ⟨_, hr⟩ e) :=
  (congrFun (V_main_arg3 m c) _).trans (congrArg (aa m c) (row_emb _ (row0 (idx3 t)) (row1 (idx3 t)) r e hr))

theorem b_blk (e : Fin 1024) : (iblk m c 4 t : Vec Ideal S256x1024 .f32) (ix2 r e) = ba m c (ix2 ⟨_, hr⟩ e) :=
  (congrFun (V_main_arg4 m c) _).trans (congrArg (ba m c) (row_emb _ (row0 (idx4 t)) (row1 (idx4 t)) r e hr))

theorem wc_blk (k : Fin 512) (d : Fin 1024) : (iblk m c 5 t : Vec Ideal S512x1024 .bf16) (ix2 k d) = wca m c (ix2 k d) :=
  (congrFun (V_wc m c) _).trans (congrArg (wca m c) (whole_emb _ (col0 (idx5 t)) (row1 (idx5 t)) k d))

theorem wt_blk (k : Fin 512) (d : Fin 1024) : (iblk m c 6 t : Vec Ideal S512x1024 .bf16) (ix2 k d) = wta m c (ix2 k d) :=
  (congrFun (V_wt m c) _).trans (congrArg (wta m c) (whole_emb _ (col0 (idx6 t)) (row1 (idx6 t)) k d))

theorem wo_blk (k d : Fin 1024) : (iblk m c 7 t : Vec Ideal S1024x1024 .bf16) (ix2 k d) = woa m c (ix2 k d) :=
  (congrFun (V_wo m c) _).trans (congrArg (woa m c) (whole_emb _ (col0 (idx7 t)) (row1 (idx7 t)) k d))

theorem g_blk (d : Fin 1024) : (iblk m c 8 t : Vec Ideal S1x1024 .f32) (ix2 0 d) = ga m c (ix1 d) :=
  (congrArg (V m c main_v4 : S1x1024.Idx → EReal) (whole_emb _ (col0 (idx8 t)) (row1 (idx8 t)) 0 d)).trans (V_g m c d)

theorem wq_blk (k : Fin 1024) (d : Fin 2048) : (iblk m c 9 t : Vec Ideal S1024x2048 .bf16) (ix2 k d) = wqa m c (ix2 k d) :=
  (congrFun (V_wq m c) _).trans (congrArg (wqa m c) (whole_emb _ (col0 (idx9 t)) (row1 (idx9 t)) k d))

/-- The merged rows of the argument arrays, their normalised rows and their queries. -/
abbrev X (s : Fin 16384) (e : Fin 1024) : EReal :=
  mgX (xa m c) (ca m c) (na m c) (aa m c) (ba m c) (wca m c) (wta m c) (woa m c) s e
abbrev H (s : Fin 16384) (e : Fin 1024) : EReal :=
  mgH (xa m c) (ca m c) (na m c) (aa m c) (ba m c) (wca m c) (wta m c) (woa m c) (fun d => ga m c (ix1 d)) s e
abbrev Q (s : Fin 16384) (e : Fin 2048) : EReal :=
  mgQ (xa m c) (ca m c) (na m c) (aa m c) (ba m c) (wca m c) (wta m c) (woa m c) (fun d => ga m c (ix1 d)) (wqa m c) s e

/-- The block's merged rows are the arrays'. -/
theorem X_blk : mgX (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16) r
      = X m c ⟨_, hr⟩ :=
  mgX_block (t := ⟨_, hr⟩) _ _ _ _ _ _ _ _ (x_blk m c t r hr) (c_blk m c t r hr) (n_blk m c t r hr) (a_blk m c t r hr)
    (b_blk m c t r hr) (wc_blk m c t) (wt_blk m c t) (wo_blk m c t)

theorem norm_blk : (fun d => (iblk m c 8 t : Vec Ideal S1x1024 .f32) (ix2 0 d)) = fun d => ga m c (ix1 d) :=
  funext (g_blk m c t)

theorem H_blk (d : Fin 1024) : mgH (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16)
    (fun d => (iblk m c 8 t : Vec Ideal S1x1024 .f32) (ix2 0 d)) r d = H m c ⟨_, hr⟩ d :=
  congrArg₂ (fun f g => nrm f g d) (X_blk m c t r hr) (norm_blk m c t)

theorem Q_blk (e : Fin 2048) : mgQ (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16)
    (fun d => (iblk m c 8 t : Vec Ideal S1x1024 .f32) (ix2 0 d)) (iblk m c 9 t : Vec Ideal S1024x2048 .bf16) r e = Q m c ⟨_, hr⟩ e := by
  unfold Q mgQ
  rw [X_blk m c t r hr, norm_blk m c t]
  exact congrArg (prj _ _) (funext fun d => wq_blk m c t d e)

end

theorem fits (t : Fin cfg0.N) : (grid0.coords t 0).val * 256 + 256 ≤ 16384 := by
  have h : (grid0.coords t 0).val < 64 := (grid0.coords t 0).isLt
  omega

theorem point_of : ∀ a : Fin 64, ∃ t : Fin cfg0.N, (grid0.coords t 0).val = a.val := by decide +kernel

/-- Some point's rows hold a given row. -/
theorem point (a : Fin 16384) : ∃ t : Fin cfg0.N, a.val / 256 = (grid0.coords t 0).val := by
  have ha := a.isLt
  obtain ⟨t, ht⟩ := point_of ⟨a.val / 256, by omega⟩
  exact ⟨t, ht.symm⟩

theorem mem_slice (b : Ref sig .tc) {R : Rect b.ty.shape} {i : b.ty.shape.Idx} (h : i ∈ R.set) : i ∈ ((View.whole b).slice R).set := by
  rw [View.set_slice_whole]
  exact h

/-! The queries' array has sixteen slabs of columns. -/

/-- The array of a function of a row and a column, its columns laid out in slabs. -/
abbrev arrS (G : Fin 16384 → Fin 2048 → EReal) : S16x16384x128.Idx → EReal := fun j => G (j 1) (slab (j 0) (j 2))

theorem slabs_read {off : Fin 3 → ℕ} (inb : ∀ a, off a + (![16, 256, 128] : Fin 3 → ℕ) a ≤ S16x16384x128.size a) {t : ℕ}
    (h0 : off 0 = 0) (h1 : off 1 = t * 256) (h2 : off 2 = 0) (ht : t * 256 + 256 ≤ 16384) (B : S16x256x128.Idx → EReal)
    (G : Fin 16384 → Fin 2048 → EReal)
    (hB : ∀ (y : S16x256x128.Idx) (hr : t * 256 + (y 1).val < 16384), B y = G ⟨t * 256 + (y 1).val, hr⟩ (slab (y 0) (y 2)))
    (y : S16x256x128.Idx) : B y = arrS G ((Rect.unit (s := S16x16384x128) off ![16, 256, 128] inb).emb y) := by
  have hy : (y 1).val < 256 := (y 1).isLt
  refine (hB y (by omega)).trans (congrArg₂ G (Fin.ext ?_) (Fin.ext ?_))
  · show t * 256 + (y 1).val = off 1 + 1 * (y 1).val; omega
  · show (y 0).val * 128 + (y 2).val = (off 0 + 1 * (y 0).val) * 128 + (off 2 + 1 * (y 2).val); omega

theorem slabs_mem {off : Fin 3 → ℕ} (inb : ∀ a, off a + (![16, 256, 128] : Fin 3 → ℕ) a ≤ S16x16384x128.size a) {t : ℕ}
    (h0 : off 0 = 0) (h1 : off 1 = t * 256) (h2 : off 2 = 0) (i : S16x16384x128.Idx) (hi : (i 1).val / 256 = t) :
    i ∈ (Rect.unit (s := S16x16384x128) off ![16, 256, 128] inb).set := by
  rw [Rect.mem_set_unit]
  have b0 : (i 0).val < 16 := (i 0).isLt
  have b2 : (i 2).val < 128 := (i 2).isLt
  intro a
  match a with
  | ⟨0, _⟩ => show off 0 ≤ (i 0).val ∧ (i 0).val < off 0 + 16; omega
  | ⟨1, _⟩ => show off 1 ≤ (i 1).val ∧ (i 1).val < off 1 + 256; omega
  | ⟨2, _⟩ => show off 2 ≤ (i 2).val ∧ (i 2).val < off 2 + 128; omega

theorem sl0 {v : Fin 3 → ℕ} {a n : ℕ} (h : v = ![0, a, 0]) : v 0 * n = 0 := by rw [h]; exact Nat.zero_mul n
theorem sl1 {v : Fin 3 → ℕ} {a : ℕ} (h : v = ![0, a, 0]) : v 1 * 256 = a * 256 := by rw [h]; rfl
theorem sl2 {v : Fin 3 → ℕ} {a n : ℕ} (h : v = ![0, a, 0]) : v 2 * n = 0 := by rw [h]; exact Nat.zero_mul n

/-! What each output array holds when the launch ends. -/

theorem arr_x (c : Dev nD) : (dats m 0 c).arrAt 10 cfg0.N = (arr (X m c) : S16384x1024.Idx → EReal) :=
  (dats m 0 c).arrAt_eq_of_cover 10 (arr (X m c) : S16384x1024.Idx → EReal)
    (fun t _ => (Value.flushed10 m c t).trans (funext (rows_read _ (row0 (idx10 t)) (row1 (idx10 t)) (fits t)
      (out0_10 (F := Ideal) _ _ _ _ _ _ _ _ _ _) (X m c) fun r l hr =>
        (x_apply _ _ _ _ _ _ _ _ _ _ r l).trans (congrFun (X_blk m c t r hr) l))))
    fun i : S16384x1024.Idx => (point (i 0)).imp fun t ht => ⟨flush0_10 t,
      mem_slice main_v5_0 (rows_mem _ (row0 (idx10 t)) (row1 (idx10 t)) i ht)⟩

theorem arr_h (c : Dev nD) : (dats m 0 c).arrAt 11 cfg0.N = (arr (H m c) : S16384x1024.Idx → EReal) :=
  (dats m 0 c).arrAt_eq_of_cover 11 (arr (H m c) : S16384x1024.Idx → EReal)
    (fun t _ => (Value.flushed11 m c t).trans (funext (rows_read _ (row0 (idx11 t)) (row1 (idx11 t)) (fits t)
      (out0_11 (F := Ideal) _ _ _ _ _ _ _ _ _ _) (H m c) fun r l hr =>
        (h_apply _ _ _ _ _ _ _ _ _ _ r l).trans (H_blk m c t r hr l))))
    fun i : S16384x1024.Idx => (point (i 0)).imp fun t ht => ⟨flush0_11 t,
      mem_slice main_v5_1 (rows_mem _ (row0 (idx11 t)) (row1 (idx11 t)) i ht)⟩

theorem arr_q (c : Dev nD) : (dats m 0 c).arrAt 12 cfg0.N = arrS (Q m c) :=
  (dats m 0 c).arrAt_eq_of_cover 12 (arrS (Q m c))
    (fun t _ => (Value.flushed12 m c t).trans (funext (slabs_read _ (sl0 (idx12 t)) (sl1 (idx12 t)) (sl2 (idx12 t)) (fits t)
      (out0_12 (F := Ideal) _ _ _ _ _ _ _ _ _ _) (Q m c) fun y hr =>
        (q_apply _ _ _ _ _ _ _ _ _ _ y).trans (Q_blk m c t (y 1) hr _))))
    fun i : S16x16384x128.Idx => (point (i 1)).imp fun t ht => ⟨flush0_12 t,
      mem_slice main_v5_2 (slabs_mem _ (sl0 (idx12 t)) (sl1 (idx12 t)) (sl2 (idx12 t)) i ht)⟩

/-- The kernel's run: its three result arrays hold the merged rows, their normalised rows and their queries; its arguments
    are unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = (arr (X m c) : S16384x1024.Idx → EReal)
      ∧ r.2.mem ((c : Thread nD τ).loc main_v5_1) = (arr (H m c) : S16384x1024.Idx → EReal)
      ∧ r.2.mem ((c : Thread nD τ).loc main_v5_2) = arrS (Q m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    rw [← arr_x m c, ← arr_h m c, ← arr_q m c]
    exact h c)
    (Cert.Kernel3Ideal.Value.run_blocks m ρ)

end Cert.Kernel3Ideal.Arr

end
-- ==== Proof.ConvPromptArray.lean ====
/- The prompt's convolution over the extended reals: the 64 blocks of 256 rows cover the result's array, and each holds the
   convolution of its rows, read from the block and from the 32 rows before it. -/
module

public import proofs.«01_k».proof.Proof.ConvPromptBody
public import proofs.«01_k».proof.Proof.Gen.Kernel6Ideal.Value
public import proofs.«01_k».proof.Proof.MergeArray

@[expose] public section

set_option maxRecDepth 16384

noncomputable section

namespace Cert.Kernel6Ideal.Arr

open Cert.Kernel6Ideal Cert.Kernel6Ideal.Gen Cert.Kernel6Ideal.Body Cert.Rows
  Idealize.ShloMosaic Idealize.ShloMosaic.ValueIdx Idealize.ShloMosaic.TcCoe Idealize.SL.Sem
open Cert.Kernel2Ideal.Arr (arr row0 row1)
open Cert.Kernel3Ideal.Arr (whole_emb col0)

variable (m : (ℓ : Loc nD τ sig) → Buf (Elt Ideal) ℓ)

/-- The prompt's rows, the taps' weights and the three rows. -/
abbrev ua (c : Dev nD) : (Sh 16384 512).Idx → EReal := m ((c : Thread nD τ).loc main_arg0)
abbrev wa (c : Dev nD) : (Sh 31 512).Idx → EReal := m ((c : Thread nD τ).loc main_arg1)
abbrev da (c : Dev nD) : (⟨1, ![512]⟩ : Shape).Idx → EReal := m ((c : Thread nD τ).loc main_arg2)
abbrev ga (c : Dev nD) : (⟨1, ![512]⟩ : Shape).Idx → EReal := m ((c : Thread nD τ).loc main_arg3)
abbrev ba (c : Dev nD) : (⟨1, ![512]⟩ : Shape).Idx → EReal := m ((c : Thread nD τ).loc main_arg4)

theorem one_cast (v : S512.Idx → EReal) (e : Fin 512) : shapeCast S1x512 v shapeCasts_S512_S1x512 (ix2 0 e) = v (ix1 e) :=
  shapeCast_apply _ _ (ix2 0 e) (ix1 e) (by
    rw [Shape.rowMajor_val_two, Shape.rowMajor_val_one]; show e.val = 0 * 512 + e.val; omega)

theorem V_d (c : Dev nD) (e : Fin 512) : (V m c main_v0 : S1x512.Idx → EReal) (ix2 0 e) = da m c (ix1 e) := by
  entry_read
  exact one_cast _ e

theorem V_g (c : Dev nD) (e : Fin 512) : (V m c main_v1 : S1x512.Idx → EReal) (ix2 0 e) = ga m c (ix1 e) := by
  entry_read
  exact one_cast _ e

theorem V_b (c : Dev nD) (e : Fin 512) : (V m c main_v2 : S1x512.Idx → EReal) (ix2 0 e) = ba m c (ix1 e) := by
  entry_read
  exact one_cast _ e

theorem idx0 : ∀ t : Fin cfg0.N, (cfg0.win 0).index t = ![(grid0.coords t 0).val, 0] := by decide +kernel
theorem idx1 : ∀ t : Fin cfg0.N, (cfg0.win 1).index t = ![8 * (grid0.coords t 0).val - 1, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![(grid0.coords t 0).val, 0] := by decide +kernel

section

variable (c : Dev nD) (t : Fin cfg0.N)

theorem x_blk (r : Fin 256) (e : Fin 512) (hr : (grid0.coords t 0).val * 256 + r.val < 16384) :
    (iblk m c 0 t : Vec Ideal S256x512 .f32) (ix2 r e) = ua m c (ix2 ⟨_, hr⟩ e) :=
  (congrFun (V_main_arg0 m c) _).trans (congrArg (ua m c) (row_emb _ (row0 (idx0 t)) (row1 (idx0 t)) r e hr))

/-- The 32 rows before the block, of every point but the first. -/
theorem y_blk (r : Fin 32) (e : Fin 512) (hr : (8 * (grid0.coords t 0).val - 1) * 32 + r.val < 16384) :
    (iblk m c 1 t : Vec Ideal S32x512 .f32) (ix2 r e) = ua m c (ix2 ⟨_, hr⟩ e) := by
  show V m c main_arg0 (((cfg0.win 1).rect t).emb (ix2 r e)) = _
  rw [V_main_arg0]
  refine congrArg (ua m c) (funext fun a => Fin.ext ?_)
  refine ((cfg0.win 1).rect_emb_val t (ix2 r e) a).trans ?_
  rw [idx1 t]
  match a with
  | ⟨0, _⟩ => rfl
  | ⟨1, _⟩ => show 0 * 512 + e.val = e.val; omega

theorem w_blk (k : Fin 31) (e : Fin 512) : (iblk m c 2 t : Vec Ideal S31x512 .f32) (ix2 k e) = wa m c (ix2 k e) :=
  (congrFun (V_main_arg1 m c) _).trans (congrArg (wa m c) (whole_emb _ (col0 (idx2 t)) (row1 (idx2 t)) k e))

theorem d_blk (e : Fin 512) : (iblk m c 3 t : Vec Ideal S1x512 .f32) (ix2 0 e) = da m c (ix1 e) :=
  (congrArg (V m c main_v0 : S1x512.Idx → EReal) (whole_emb _ (col0 (idx3 t)) (row1 (idx3 t)) 0 e)).trans (V_d m c e)

theorem g_blk (e : Fin 512) : (iblk m c 4 t : Vec Ideal S1x512 .f32) (ix2 0 e) = ga m c (ix1 e) :=
  (congrArg (V m c main_v1 : S1x512.Idx → EReal) (whole_emb _ (col0 (idx4 t)) (row1 (idx4 t)) 0 e)).trans (V_g m c e)

theorem b_blk (e : Fin 512) : (iblk m c 5 t : Vec Ideal S1x512 .f32) (ix2 0 e) = ba m c (ix1 e) :=
  (congrArg (V m c main_v2 : S1x512.Idx → EReal) (whole_emb _ (col0 (idx5 t)) (row1 (idx5 t)) 0 e)).trans (V_b m c e)

/-- The extended block's rows are the prompt's, thirty rows of zeros before them. -/
theorem ext_blk (r : Fin 256) (k : Fin 31) (e : Fin 512) :
    extRow (grid0.coords t) (iblk m c 0 t) (iblk m c 1 t) (r.val + 2 + k.val) e
      = front (ua m c) ((grid0.coords t 0).val * 256 + r.val + k.val) e := by
  have hi : (grid0.coords t 0).val < 64 := (grid0.coords t 0).isLt
  have hr := r.isLt
  have hk := k.isLt
  unfold extRow front
  by_cases h : r.val + 2 + k.val < 32
  · rw [dif_pos h]
    by_cases h0 : (grid0.coords t 0).val = 0
    · rw [if_pos h0, dif_neg (by omega)]
    · rw [if_neg h0, dif_pos (by omega)]
      refine (y_blk m c t ⟨_, h⟩ e (by show _ * 32 + (r.val + 2 + k.val) < _; omega)).trans (congrArg (fun a => ua m c (ix2 a e)) (Fin.ext ?_))
      show (8 * (grid0.coords t 0).val - 1) * 32 + (r.val + 2 + k.val) = (grid0.coords t 0).val * 256 + r.val + k.val - 30
      omega
  · rw [dif_neg h, dif_pos (by omega), dif_pos (by omega)]
    refine (x_blk m c t ⟨_, _⟩ e (by show _ * 256 + (r.val + 2 + k.val - 32) < _; omega)).trans (congrArg (fun a => ua m c (ix2 a e)) (Fin.ext ?_))
    show (grid0.coords t 0).val * 256 + (r.val + 2 + k.val - 32) = (grid0.coords t 0).val * 256 + r.val + k.val - 30
    omega

/-- What the result holds. -/
abbrev G : Fin 16384 → Fin 512 → EReal := rowAct (ua m c) (wa m c) (da m c) (ga m c) (ba m c)

theorem blk_act (r : Fin 256) (e : Fin 512) (hr : (grid0.coords t 0).val * 256 + r.val < 16384) :
    act (conv (grid0.coords t) (iblk m c 0 t) (iblk m c 1 t) (iblk m c 2 t) (iblk m c 3 t) r.val)
      (fun l => (iblk m c 4 t : Vec Ideal S1x512 .f32) (ix2 0 l)) (fun l => (iblk m c 5 t : Vec Ideal S1x512 .f32) (ix2 0 l)) e
      = G m c ⟨_, hr⟩ e := by
  have hc : conv (grid0.coords t) (iblk m c 0 t) (iblk m c 1 t) (iblk m c 2 t) (iblk m c 3 t) r.val
      = rowConv (ua m c) (wa m c) (da m c) ⟨_, hr⟩ := funext fun l => by
    unfold conv rowConv
    refine congrArg₂ (fun p q : EReal => p + q) (Finset.sum_congr rfl fun k _ => ?_) (d_blk m c t l)
    exact congrArg₂ (fun p q : EReal => p * q) (w_blk m c t k l) (ext_blk m c t r k l)
  rw [hc, funext (g_blk m c t), funext (b_blk m c t)]
  rfl

end

theorem fits (t : Fin cfg0.N) : (grid0.coords t 0).val * 256 + 256 ≤ 16384 := by
  have h : (grid0.coords t 0).val < 64 := (grid0.coords t 0).isLt
  omega

theorem point_of : ∀ a : Fin 64, ∃ t : Fin cfg0.N, (grid0.coords t 0).val = a.val := by decide +kernel

/-- Some point's rows hold a given row. -/
theorem point (a : Fin 16384) : ∃ t : Fin cfg0.N, a.val / 256 = (grid0.coords t 0).val := by
  have ha := a.isLt
  obtain ⟨t, ht⟩ := point_of ⟨a.val / 256, by omega⟩
  exact ⟨t, ht.symm⟩

theorem mem_slice (b : Ref sig .tc) {R : Rect b.ty.shape} {i : b.ty.shape.Idx} (h : i ∈ R.set) : i ∈ ((View.whole b).slice R).set := by
  rw [View.set_slice_whole]
  exact h

theorem arr_o (c : Dev nD) : (dats m 0 c).arrAt 6 cfg0.N = (arr (G m c) : S16384x512.Idx → EReal) :=
  (dats m 0 c).arrAt_eq_of_cover 6 (arr (G m c) : S16384x512.Idx → EReal)
    (fun t _ => (Value.flushed6_A m c t).trans (funext (rows_read _ (row0 (idx6 t)) (row1 (idx6 t)) (fits t)
      (out0_A_6 (F := Ideal) c (grid0.coords t) _ _ _ _ _ _ _ _ _ _ _ _ _ _ _ _ _ _ _ _ _ _) (G m c) fun r l hr =>
        (out_apply c (grid0.coords t) _ _ _ _ _ _ _ _ _ _ _ _ _ _ _ _ _ _ _ _ _ _ r l).trans (blk_act m c t r l hr))))
    fun i : S16384x512.Idx => (point (i 0)).imp fun t ht => ⟨flush0_6 t,
      mem_slice main_v3 (rows_mem _ (row0 (idx6 t)) (row1 (idx6 t)) i ht)⟩

/-- The kernel's run: its result array holds the convolution's rows; its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3) = (arr (G m c) : S16384x512.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    rw [← arr_o m c]
    exact h c)
    (Cert.Kernel6Ideal.Value.run_blocks m ρ)

end Cert.Kernel6Ideal.Arr

end
-- ==== Proof.ConvPromptReference.lean ====
/- The reference's convolution of the prompt over the extended reals: its result is the array the kernel's result holds. -/
module

public import proofs.«01_k».proof.Proof.ConvPromptRows
public import proofs.«01_k».proof.Proof.Gen.Reference6Ideal.Read

@[expose] public section

set_option maxRecDepth 16384

noncomputable section

namespace Cert.Reference6Ideal.Read

open Cert.Reference6Ideal Cert.Reference6Ideal.Gen Cert.Rows Idealize.ShloMosaic Idealize.ShloMosaic.ValueIdx

variable (x : (⟨S16384x512, .f32⟩ : BufTy).Contents (Elt Ideal)) (w : (⟨S31x512, .f32⟩ : BufTy).Contents (Elt Ideal))
  (d g b : (⟨S512, .f32⟩ : BufTy).Contents (Elt Ideal))

theorem wCut (k : ℕ) (h : k < 31) : S31x512.Slices ![k, 0] S1x512 := ⟨rfl, fun a => by
  match a with | ⟨0, _⟩ => show k + 1 ≤ 31; omega | ⟨1, _⟩ => show 0 + 512 ≤ 512; omega⟩
theorem xCut (k : ℕ) (h : k < 31) : S1x16414x512.Slices ![0, k, 0] S1x16384x512 := ⟨rfl, fun a => by
  match a with | ⟨0, _⟩ => show 0 + 1 ≤ 1; omega | ⟨1, _⟩ => show k + 16384 ≤ 16414; omega | ⟨2, _⟩ => show 0 + 512 ≤ 512; omega⟩

/-- The rows the taps read. -/
theorem front_apply (n : Fin 1) (p : Fin 16414) (e : Fin 512) : val_main_v2 (F := Ideal) x (ix3 n p e) = front x p.val e := by
  unfold val_main_v2 front
  have hp := p.isLt
  by_cases h : p.val < 30
  · rw [dif_neg (by omega)]
    refine (concatenate_pair_apply_left (s₁ := S1x30x512) (s₂ := S1x16384x512) (t := S1x16414x512) 1 _ _ _ (ix3 n p e) rfl
      (ix3 n ⟨p.val, h⟩ e) fun a => by match a with | ⟨0, _⟩ => rfl | ⟨1, _⟩ => rfl | ⟨2, _⟩ => rfl).trans ?_
    exact (val_main_v0_apply (F := Ideal) _).trans Ideal.ofBits_zero_f32
  · rw [dif_pos ⟨by omega, by omega⟩]
    refine (concatenate_pair_apply_right (s₁ := S1x30x512) (s₂ := S1x16384x512) (t := S1x16414x512) 1 _ _ _ (ix3 n p e) rfl rfl
      (ix3 n ⟨p.val - 30, by omega⟩ e) (fun a ha => ?_) ?_).trans ?_
    · match a with
      | ⟨0, _⟩ => rfl
      | ⟨1, _⟩ => exact absurd rfl ha
      | ⟨2, _⟩ => rfl
    · show p.val - 30 + 30 = p.val; omega
    · rw [val_main_v1_apply]
      exact congrArg x (funext fun a => Fin.ext (by match a with | ⟨0, _⟩ => rfl | ⟨1, _⟩ => rfl))

/-- The rows of tap `k`: the weight's row `k` times the rows from `k` on. -/
def tapV (k : ℕ) (h : k < 31) : FVec Ideal S1x16384x512 .f32 :=
  mulf (broadcastInDim S1x16384x512 ![0, 1, 2] bcast_S1x1x512_S1x16384x512_0_1_2 (broadcastInDim S1x1x512 ![2] bcast_S512_S1x1x512_2
      (shapeCast S512 (extractStridedSlice S1x512 ![k, 0] w (wCut k h)) shapeCasts_S1x512_S512)))
    (extractStridedSlice S1x16384x512 ![0, k, 0] (val_main_v2 (F := Ideal) x) (xCut k h))

/-- The rows after `n` taps. -/
def accV : (n : ℕ) → n ≤ 31 → FVec Ideal S1x16384x512 .f32
  | 0, _ => val_main_v9 (F := Ideal)
  | n + 1, h => addf (accV n (by omega)) (tapV x w n (by omega))

theorem acc_eq : val_main_v220 (F := Ideal) x w = accV x w 31 (le_refl _) := by
  rfl

theorem spread (v : FVec Ideal S512 .f32) (n : Fin 1) (t : Fin 16384) (e : Fin 512) :
    broadcastInDim S1x16384x512 ![0, 1, 2] bcast_S1x1x512_S1x16384x512_0_1_2 (broadcastInDim S1x1x512 ![2] bcast_S512_S1x1x512_2 v)
      (ix3 n t e) = v (ix1 e) :=
  (broadcastInDim_apply _ bcast_S1x1x512_S1x16384x512_0_1_2 _ (ix3 n t e) (ix3 0 0 e) fun a => by
    match a with | ⟨0, _⟩ => rfl | ⟨1, _⟩ => rfl | ⟨2, _⟩ => rfl).trans
    (broadcastInDim_apply _ bcast_S512_S1x1x512_2 v (ix3 0 0 e) (ix1 e) fun a => by match a with | ⟨0, _⟩ => rfl)

theorem tapV_apply (k : ℕ) (h : k < 31) (n : Fin 1) (t : Fin 16384) (e : Fin 512) :
    tapV x w k h (ix3 n t e) = w (ix2 ⟨k, h⟩ e) * front x (t.val + k) e := by
  unfold tapV
  refine congrArg₂ (fun p q : EReal => p * q) ((spread _ n t e).trans ?_) ?_
  · refine (shapeCast_apply _ shapeCasts_S1x512_S512 (ix1 e) (ix2 0 e) (by
      rw [Shape.rowMajor_val_two, Shape.rowMajor_val_one]; show 0 * 512 + e.val = e.val; omega)).trans ?_
    exact extractStridedSlice_apply _ w _ (ix2 0 e) (ix2 ⟨k, h⟩ e) fun a => by
      match a with | ⟨0, _⟩ => rfl | ⟨1, _⟩ => show e.val = 0 + e.val; omega
  · refine (extractStridedSlice_apply _ (val_main_v2 (F := Ideal) x) _ (ix3 n t e) (ix3 n ⟨t.val + k, by omega⟩ e) fun a => ?_).trans
      (front_apply x n ⟨t.val + k, by omega⟩ e)
    match a with
      | ⟨0, _⟩ => show n.val = 0 + n.val; omega
      | ⟨1, _⟩ => show t.val + k = k + t.val; omega
      | ⟨2, _⟩ => show e.val = 0 + e.val; omega

/-- The product of tap `k`; nothing past the last tap. -/
def prod (n : Fin 1) (t : Fin 16384) (e : Fin 512) (k : ℕ) : EReal :=
  if h : k < 31 then w (ix2 ⟨k, h⟩ e) * front x (t.val + k) e else 0

theorem accV_apply (n : Fin 1) (t : Fin 16384) (e : Fin 512) : ∀ (k : ℕ) (h : k ≤ 31),
    accV x w k h (ix3 n t e) = taps 0 (prod x w n t e) k
  | 0, _ => by
    unfold accV taps
    rw [val_main_v9_apply]
    exact Ideal.ofBits_zero_f32
  | k + 1, h => by
    unfold accV taps
    refine congrArg₂ (fun p q : EReal => p + q) (accV_apply n t e k (by omega)) ((tapV_apply x w k (by omega) n t e).trans ?_)
    unfold prod
    rw [dif_pos (by omega)]

/-- The convolution with its shift. -/
theorem conv_apply (n : Fin 1) (t : Fin 16384) (e : Fin 512) : val_main_v223 (F := Ideal) x w d (ix3 n t e) = rowConv x w d t e := by
  rw [val_main_v223_apply, acc_eq]
  unfold rowConv
  refine congrArg₂ (fun p q : EReal => p + q) ?_ (spread d n t e)
  rw [accV_apply, taps_eq, add_zero]
  refine Finset.sum_congr rfl fun k _ => ?_
  unfold prod
  rw [dif_pos k.isLt]

/-- An index with the coordinates `t` and `e` on an axis of one. -/
theorem at3 {q r : ℕ} {i : (⟨3, ![1, q, r]⟩ : Shape).Idx} {n : Fin 1} {t : Fin q} {e : Fin r}
    (h1 : (i 1).val = t.val) (h2 : (i 2).val = e.val) : i = ix3 n t e :=
  funext fun a => Fin.ext (by
    have h0 : (i 0).val < 1 := (i 0).isLt
    match a with | ⟨0, _⟩ => show (i 0).val = n.val; omega | ⟨1, _⟩ => exact h1 | ⟨2, _⟩ => exact h2)

/-- A row's mean. -/
theorem mean_apply (i : S1x16384x1.Idx) (t : Fin 16384) (h1 : (i 1).val = t.val) :
    val_main_v227 (F := Ideal) x w d i = mid (rowConv x w d t) := by
  rw [val_main_v227_apply, val_main_v225_apply, val_main_v224_apply, val_main_v226_apply]
  show Ideal.div (Ideal.ofBits .f32 0x00000000#32 + _) chans = _
  rw [Ideal.ofBits_zero_f32, zero_add]
  refine congrArg (fun s => Ideal.div s chans) (Finset.sum_congr rfl fun k _ => ?_)
  rw [at3 (i := idx_main_v224 (idx_main_v225 i) k) (n := 0) (t := t) (e := k) h1 rfl]
  exact conv_apply x w d 0 t k

/-- A row centred. -/
theorem dev_apply (n : Fin 1) (t : Fin 16384) (e : Fin 512) :
    val_main_v229 (F := Ideal) x w d (ix3 n t e) = rowConv x w d t e - mid (rowConv x w d t) := by
  rw [val_main_v229_apply, val_main_v228_apply]
  exact congrArg₂ (fun p q : EReal => p - q) (conv_apply x w d n t e) (mean_apply x w d _ t rfl)

/-- The root of a row's variance, inverted. -/
theorem root_apply (i : S1x16384x1.Idx) (t : Fin 16384) (h1 : (i 1).val = t.val) :
    val_main_v239 (F := Ideal) x w d i = Ideal.rsqrt (Ideal.div (∑ e : Fin 512, (rowConv x w d t e - mid (rowConv x w d t))
      * (rowConv x w d t e - mid (rowConv x w d t))) chans + eps) := by
  rw [val_main_v239_apply, val_main_v238_apply, val_main_v234_apply, val_main_v232_apply, val_main_v231_apply, val_main_v233_apply,
    val_main_v237_apply]
  show Ideal.rsqrt (Ideal.div (Ideal.ofBits .f32 0x00000000#32 + _) chans + eps) = _
  rw [Ideal.ofBits_zero_f32, zero_add]
  refine congrArg (fun s => Ideal.rsqrt (Ideal.div s chans + eps)) (Finset.sum_congr rfl fun k _ => ?_)
  rw [at3 (i := idx_main_v231 (idx_main_v232 i) k) (n := 0) (t := t) (e := k) h1 rfl, val_main_v230_apply, dev_apply]
  rfl

/-- The normalised rows. -/
theorem lay_apply (n : Fin 1) (t : Fin 16384) (e : Fin 512) :
    val_main_v247 (F := Ideal) x w d g b (ix3 n t e) = lay (rowConv x w d t) (fun c => g (ix1 c)) (fun c => b (ix1 c)) e := by
  rw [val_main_v247_apply, val_main_v244_apply, val_main_v241_apply, val_main_v236_apply, val_main_v235_apply, val_main_v240_apply]
  refine congrArg₂ (fun p q : EReal => p + q) (congrArg₂ (fun p q : EReal => p * q) (congrArg₂ (fun p q : EReal => p * q)
    (congrArg₂ (fun p q : EReal => p - q) (conv_apply x w d n t e) (mean_apply x w d _ t rfl))
    (root_apply x w d _ t rfl)) (spread g n t e)) (spread b n t e)

theorem act_apply (n : Fin 1) (t : Fin 16384) (e : Fin 512) :
    val_main_v248 (F := Ideal) x w d g b (ix3 n t e) = rowAct x w d g b t e := by
  rw [val_main_v248_apply, val_main_call0_v5_apply, val_main_call0_v4_apply, val_main_call0_v3_apply,
    val_main_call0_v2_apply, val_main_call0_v1_apply, val_main_call0_v0_apply, lay_apply]
  rfl

/-- The reference's result. -/
theorem result_eq : val_main_v250 (F := Ideal) x w d g b = fun j : S16384x512.Idx => rowAct x w d g b (j 0) (j 1) :=
  funext fun j : S16384x512.Idx => by
    have hj : (j 1).val < 512 := (j 1).isLt
    have h0 : (j 0).val < 16384 := (j 0).isLt
    rw [val_main_v250_apply]
    show val_main_v249 (F := Ideal) x w d g b j = _
    rw [val_main_v249_apply]
    refine (congrArg (val_main_v248 (F := Ideal) x w d g b) (at3 (n := 0) (t := j 0) (e := j 1) ?_ ?_)).trans
      (act_apply x w d g b 0 (j 0) (j 1))
    · show ((j 0).val * 512 + (j 1).val) / 512 % 16384 = (j 0).val; omega
    · show ((j 0).val * 512 + (j 1).val) % 512 = (j 1).val; omega

end Cert.Reference6Ideal.Read

end
-- ==== Proof.Stick.lean ====
/- The mathematics of one row of stick-breaking attention over the extended reals: the softplus, the weight that a
   key gets, and the sums that a sweep over blocks of 256 keys builds up from the last block to the first. No
   program is mentioned here. -/
module

public import Idealize.ShloMosaic.PureOps.Ideal

@[expose] public section

noncomputable section

namespace Cert.Stick

open Idealize.ShloMosaic

/-- `log (1 + e^z)`, in the form that never overflows. -/
def sp (z : EReal) : EReal := max z 0 + Ideal.log (1 + Ideal.exp (-(max z (-z))))

/-- The logarithm of what the keys `a, …, t - 1` leave of the stick, negated. -/
def tail (Z : ℕ → EReal) (t a : ℕ) : EReal := ∑ r ∈ Finset.Ico a t, sp (Z r)

/-- The weight of key `s` for a query at position `t`. -/
def wt (Z : ℕ → EReal) (t s : ℕ) : EReal := Ideal.exp (Z s - tail Z t s)

/-- The attention's value for a query at position `t`, of the keys from `a` on. -/
def att (Z V : ℕ → EReal) (t a : ℕ) : EReal := ∑ s ∈ Finset.Ico a t, wt Z t s * V s

theorem exp_coe (r : ℝ) : Ideal.exp (r : EReal) = ((Real.exp r : ℝ) : EReal) := rfl

theorem log_coe {r : ℝ} (h : 0 < r) : Ideal.log (r : EReal) = ((Real.log r : ℝ) : EReal) := by
  show (if r ≤ 0 then (⊥ : EReal) else _) = _
  rw [if_neg (not_le.mpr h)]

theorem coe_max' (x y : ℝ) : max (x : EReal) (y : EReal) = ((max x y : ℝ) : EReal) :=
  (EReal.coe_strictMono.monotone.map_max).symm

theorem sp_coe (r : ℝ) : sp (r : EReal) = ((max r 0 + Real.log (1 + Real.exp (-|r|)) : ℝ) : EReal) := by
  have h1 : max (r : EReal) (-(r : EReal)) = ((|r| : ℝ) : EReal) := by
    rw [← EReal.coe_neg, coe_max']; rfl
  have h2 : (1 : EReal) + Ideal.exp (-((|r| : ℝ) : EReal)) = ((1 + Real.exp (-|r|) : ℝ) : EReal) := by
    rw [← EReal.coe_neg, exp_coe, EReal.coe_add]; rfl
  have h3 : max (r : EReal) 0 = ((max r 0 : ℝ) : EReal) := by rw [← EReal.coe_zero, coe_max']
  unfold sp
  rw [h1, h2, h3, log_coe (by positivity), ← EReal.coe_add]

theorem log_one : Ideal.log (1 : EReal) = 0 := by
  rw [← EReal.coe_one, log_coe one_pos, Real.log_one]; rfl

theorem sp_top : sp ⊤ = ⊤ := by
  have h1 : max (⊤ : EReal) (-⊤) = ⊤ := by simp
  have h2 : Ideal.exp (⊥ : EReal) = 0 := rfl
  unfold sp
  rw [h1, EReal.neg_top, h2, add_zero, log_one, add_zero]; simp

theorem sp_bot : sp ⊥ = 0 := by
  have h1 : max (⊥ : EReal) (-⊥) = ⊤ := by simp
  have h2 : Ideal.exp (⊥ : EReal) = 0 := rfl
  unfold sp
  rw [h1, EReal.neg_top, h2, add_zero, log_one, add_zero]; simp

theorem sp_nonneg (z : EReal) : 0 ≤ sp z := by
  induction z with
  | bot => rw [sp_bot]
  | top => rw [sp_top]; exact le_top
  | coe r =>
    rw [sp_coe]
    refine EReal.coe_nonneg.mpr (add_nonneg (le_max_right _ _) (Real.log_nonneg ?_))
    have := Real.exp_pos (-|r|)
    linarith

/-- The softplus of a real and of its negation differ by the real. -/
theorem sp_neg_coe (r : ℝ) : sp (-(r : EReal)) = sp r - (r : EReal) := by
  rw [← EReal.coe_neg, sp_coe, sp_coe, ← EReal.coe_sub, abs_neg]
  congr 1
  rcases le_total r 0 with h | h
  · rw [max_eq_right h, max_eq_left (by linarith)]; ring
  · rw [max_eq_left h, max_eq_right (by linarith)]; ring

theorem tail_nonneg (Z : ℕ → EReal) (t a : ℕ) : 0 ≤ tail Z t a := Finset.sum_nonneg fun _ _ => sp_nonneg _

theorem ne_bot_of_nonneg {x : EReal} (h : 0 ≤ x) : x ≠ ⊥ := fun e => by
  rw [e] at h; exact absurd h (by simp)

/-- Negation goes through a sum of nonnegative extended reals. -/
theorem neg_sum_nonneg {ι : Type*} (S : Finset ι) (f : ι → EReal) (h : ∀ i, 0 ≤ f i) :
    ∑ i ∈ S, -(f i) = -(∑ i ∈ S, f i) := by
  classical
  induction S using Finset.induction_on with
  | empty => simp
  | insert a s ha ih =>
    rw [Finset.sum_insert ha, Finset.sum_insert ha, ih,
      EReal.neg_add (Or.inl (ne_bot_of_nonneg (h a)))
        (Or.inr (ne_bot_of_nonneg (Finset.sum_nonneg fun i _ => h i)))]
    rfl

/-- Subtracting two nonnegative terms one after the other subtracts their sum. -/
theorem sub_sub_nonneg (z x y : EReal) (hx : 0 ≤ x) (hy : 0 ≤ y) : z - x - y = z - (x + y) := by
  rw [sub_eq_add_neg, sub_eq_add_neg, sub_eq_add_neg,
    EReal.neg_add (Or.inl (ne_bot_of_nonneg hx)) (Or.inr (ne_bot_of_nonneg hy)), sub_eq_add_neg, add_assoc]

/-- The weight as the log-sigmoid of the score plus what the later keys leave, where the cumulative sum includes the
    key itself and it is subtracted again: at every extended real, the infinite scores included. -/
theorem weight_eq (z S : EReal) (hS : 0 ≤ S) :
    Ideal.exp (-(sp (-z)) + (-(sp z + S) - -(sp z))) = Ideal.exp (z - (sp z + S)) := by
  congr 1
  induction z with
  | bot => rw [EReal.neg_bot, sp_top, EReal.neg_top, EReal.bot_add, EReal.bot_sub]
  | top =>
    rw [sp_top, EReal.top_add_of_ne_bot (ne_bot_of_nonneg hS), EReal.neg_top, EReal.bot_sub, EReal.add_bot]
    rfl
  | coe r =>
    rw [sp_neg_coe]
    obtain ⟨x, hx⟩ : ∃ x : ℝ, sp (r : EReal) = (x : EReal) := ⟨_, sp_coe r⟩
    rw [hx]
    induction S with
    | bot => exact absurd hS (by simp)
    | top =>
      rw [EReal.coe_add_top, EReal.neg_top, EReal.bot_sub, EReal.add_bot]
      rfl
    | coe y =>
      norm_cast
      ring

theorem tail_succ (Z : ℕ → EReal) {t s : ℕ} (h : s < t) : tail Z t s = sp (Z s) + tail Z t (s + 1) :=
  Finset.sum_eq_sum_Ico_succ_bot h _

/-- What the reference computes of a row: the masked cumulative sums over all `N` keys give the row's attention. -/
theorem ref_row (Z V : ℕ → EReal) {t N : ℕ} (htN : t ≤ N) (cum : ℕ → EReal)
    (hcum : ∀ s < N, cum s = ∑ r ∈ Finset.Ico s N, if r < t then -(sp (Z r)) else 0) :
    ∑ s ∈ Finset.range N, (if s < t then Ideal.exp (-(sp (-(Z s)))
        + (cum s - (if s < t then -(sp (Z s)) else 0))) else 0) * V s = att Z V t 0 := by
  have hc : ∀ s < t, cum s = -(tail Z t s) := by
    intro s hs
    rw [hcum s (lt_of_lt_of_le hs htN), ← Finset.sum_Ico_consecutive _ hs.le htN,
      Finset.sum_congr (s₁ := Finset.Ico t N) rfl
        (fun r hr => if_neg (not_lt.mpr (Finset.mem_Ico.mp hr).1)), Finset.sum_const_zero, add_zero,
      Finset.sum_congr rfl (fun r hr => if_pos (Finset.mem_Ico.mp hr).2)]
    exact neg_sum_nonneg _ _ fun _ => sp_nonneg _
  unfold att
  rw [Finset.range_eq_Ico, ← Finset.sum_Ico_consecutive _ (Nat.zero_le t) htN]
  rw [Finset.sum_congr (s₁ := Finset.Ico t N) rfl (g := fun _ => 0) (fun r hr => by
      rw [if_neg (not_lt.mpr (Finset.mem_Ico.mp hr).1), zero_mul]), Finset.sum_const_zero, add_zero]
  refine Finset.sum_congr rfl fun s hs => ?_
  have hst := (Finset.mem_Ico.mp hs).2
  rw [if_pos hst, if_pos hst, hc s hst, tail_succ Z hst, weight_eq _ _ (tail_nonneg _ _ _), ← tail_succ Z hst]
  rfl

/-- A block's inclusive suffix sum, written as a product with the lower triangle of ones. -/
theorem suffix_eq (f : ℕ → EReal) (c : ℕ) :
    ∑ r : Fin 256, f r * (if c ≤ r.val then (1 : EReal) else 0) = ∑ r ∈ Finset.Ico c 256, f r := by
  rw [← Finset.sum_range (fun r => f r * (if c ≤ r then (1 : EReal) else 0))]
  have : ∀ r ∈ Finset.range 256, f r * (if c ≤ r then (1 : EReal) else 0) = if c ≤ r then f r else 0 := by
    intro r _; split_ifs <;> simp
  rw [Finset.sum_congr rfl this, ← Finset.sum_filter]
  congr 1
  ext r; simp [and_comm]

/-- The suffix sums of a whole block below the query, from key `b + c` on: with what the later blocks left it is
    the row's tail. -/
theorem block_tail (Z : ℕ → EReal) {t b c : ℕ} (hc : c ≤ 256) (ht : b + 256 ≤ t) :
    (∑ r : Fin 256, sp (Z (b + r)) * (if c ≤ r.val then (1 : EReal) else 0)) + tail Z t (b + 256)
      = tail Z t (b + c) := by
  rw [suffix_eq (fun r => sp (Z (b + r)))]
  unfold tail
  rw [← Finset.sum_Ico_consecutive _ (Nat.add_le_add_left hc b) ht]
  congr 1
  rw [Finset.sum_Ico_add (fun r => sp (Z r)) c 256 b, add_comm c b, add_comm 256 b]

/-- The carry after a whole block. -/
theorem block_carry (Z : ℕ → EReal) {t b : ℕ} (ht : b + 256 ≤ t) :
    tail Z t (b + 256) + (∑ r : Fin 256, sp (Z (b + r)) * (if 0 ≤ r.val then (1 : EReal) else 0)) = tail Z t b := by
  rw [add_comm]; exact block_tail Z (Nat.zero_le _) ht

/-- The accumulator after a whole block. -/
theorem block_acc (Z V : ℕ → EReal) {t b : ℕ} (ht : b + 256 ≤ t) :
    att Z V t (b + 256) + (∑ c : Fin 256, Ideal.exp (Z (b + c)
        - (∑ r : Fin 256, sp (Z (b + r)) * (if c.val ≤ r.val then (1 : EReal) else 0)) - tail Z t (b + 256))
        * V (b + c)) = att Z V t b := by
  have h : ∀ c : Fin 256, Ideal.exp (Z (b + c)
        - (∑ r : Fin 256, sp (Z (b + r)) * (if c.val ≤ r.val then (1 : EReal) else 0)) - tail Z t (b + 256))
        * V (b + c) = wt Z t (b + c.val) * V (b + c.val) := by
    intro c
    rw [sub_sub_nonneg _ _ _ (Finset.sum_nonneg fun r _ => ?_) (tail_nonneg _ _ _), block_tail Z c.isLt.le ht]
    · rfl
    · split_ifs
      · rw [mul_one]; exact sp_nonneg _
      · rw [mul_zero]
  rw [Finset.sum_congr rfl fun c _ => h c, ← Finset.sum_range (fun c => wt Z t (b + c) * V (b + c))]
  unfold att
  rw [← Finset.sum_Ico_consecutive _ (Nat.le_add_right b 256) ht, add_comm, Finset.range_eq_Ico,
    Finset.sum_Ico_add (fun s => wt Z t s * V s) 0 256 b, zero_add, add_comm 256 b]

/-- The suffix sums of the block that holds the query, the keys from the query on masked. -/
theorem diag_tail (Z : ℕ → EReal) {b q c : ℕ} (hq : q ≤ 256) :
    (∑ r : Fin 256, (if r.val < q then sp (Z (b + r)) else 0) * (if c ≤ r.val then (1 : EReal) else 0))
      = tail Z (b + q) (b + c) := by
  rw [suffix_eq (fun r => if r < q then sp (Z (b + r)) else 0), ← Finset.sum_filter]
  unfold tail
  rw [show (Finset.Ico c 256).filter (fun r => r < q) = Finset.Ico c q by ext r; simp; omega,
    Finset.sum_Ico_add (fun r => sp (Z r)) c q b, add_comm c b, add_comm q b]

/-- The carry after the block that holds the query. -/
theorem diag_carry (Z : ℕ → EReal) {b q : ℕ} (hq : q ≤ 256) :
    0 + (∑ r : Fin 256, (if r.val < q then sp (Z (b + r)) else 0) * (if 0 ≤ r.val then (1 : EReal) else 0))
      = tail Z (b + q) b := by
  rw [zero_add]; exact diag_tail Z hq

/-- The accumulator after the block that holds the query. -/
theorem diag_acc (Z V : ℕ → EReal) {b q : ℕ} (hq : q ≤ 256) :
    0 + (∑ c : Fin 256, (if c.val < q then Ideal.exp (Z (b + c)
        - (∑ r : Fin 256, (if r.val < q then sp (Z (b + r)) else 0) * (if c.val ≤ r.val then (1 : EReal) else 0))
        - 0) else 0) * V (b + c)) = att Z V (b + q) b := by
  have h : ∀ c : Fin 256, (if c.val < q then Ideal.exp (Z (b + c)
        - (∑ r : Fin 256, (if r.val < q then sp (Z (b + r)) else 0) * (if c.val ≤ r.val then (1 : EReal) else 0))
        - 0) else 0) * V (b + c) = if c.val < q then wt Z (b + q) (b + c.val) * V (b + c.val) else 0 := by
    intro c
    split_ifs with hc
    · rw [diag_tail Z hq, sub_zero]; rfl
    · rw [zero_mul]
  rw [zero_add, Finset.sum_congr rfl fun c _ => h c,
    ← Finset.sum_range (fun c => if c < q then wt Z (b + q) (b + c) * V (b + c) else 0), ← Finset.sum_filter]
  unfold att
  rw [show (Finset.range 256).filter (fun c => c < q) = Finset.Ico 0 q by ext r; simp; omega,
    Finset.sum_Ico_add (fun s => wt Z (b + q) s * V s) 0 q b, zero_add, add_comm q b]

end Cert.Stick

end
-- ==== Proof.Trips.lean ====
/- The four counted loops of the attention kernel, read as functions of values: one block of 256 keys takes a carry
   (the negated logarithm of what is left of the stick) and an accumulator to the next ones, a trip of the first loop
   does four blocks for each of the two heads, a trip of the third loop does one, and the other two loops, which take
   what an unrolled loop leaves over, make no trip at all. -/
module

public import proofs.«01_k».proof.Proof.Gen.KernelIdeal.Value
public import Idealize.ShloMosaic.Lib.LoopRemainder
public import Idealize.ShloMosaic.Lib.Pipeline.ReadBack

@[expose] public section

set_option maxRecDepth 16384

noncomputable section

namespace Cert.KernelIdeal.Trips

open Cert.KernelIdeal Cert.KernelIdeal.Gen Idealize.ShloMosaic Idealize.ShloMosaic.TcCoe

variable {F : FTy → Type} [FloatOps F]

/-- The carry after one block of keys. -/
def cSt (q : FVec F S256x128 .bf16) (b : Elt F .f32) (tri : FVec F S256x256 .bf16) (kb : Vec F S256x128 .bf16)
    (car : FVec F S256x1 .f32) : FVec F S256x1 .f32 := k0_pay14 car (k0_pay3 q b tri kb)

/-- The accumulator after one block of keys. -/
def aSt (q : FVec F S256x128 .bf16) (b : Elt F .f32) (tri : FVec F S256x256 .bf16) (kb vb : Vec F S256x128 .bf16)
    (car : FVec F S256x1 .f32) (acc : Vec F S1x256x128 .f32) : Vec F S1x256x128 .f32 :=
  k0_pay13 car (k0_pay2 q b kb) (k0_pay3 q b tri kb) vb acc

/-- The carry after the block that holds the queries. -/
def cDg (q : FVec F S256x128 .bf16) (b : Elt F .f32) (kb : Vec F S256x128 .bf16) : FVec F S256x1 .f32 :=
  k0_pay108 k0_pay94 k0_pay95 k0_pay97 (k0_pay104 q b kb) k0_pay105

/-- The accumulator after the block that holds the queries. -/
def aDg (q : FVec F S256x128 .bf16) (b : Elt F .f32) (kb vb : Vec F S256x128 .bf16) (acc : Vec F S1x256x128 .f32) :
    Vec F S1x256x128 .f32 :=
  k0_pay107 k0_pay94 k0_pay95 k0_pay97 (k0_pay104 q b kb) k0_pay105 vb acc

/-- The first head's half of the accumulator scratch. -/
abbrev h0 : Rect S2x256x128 := Rect.unit ![0, 0, 0] S1x256x128.size inb_S2x256x128_S1x256x128_0_0_0
/-- The second head's half of the accumulator scratch. -/
abbrev h1 : Rect S2x256x128 := Rect.unit ![1, 0, 0] S1x256x128.size inb_S2x256x128_S1x256x128_1_0_0

section
variable {sig : RefSig} {κ : Kind} {sp : Space} {s : Shape} {e : EltTy} {Val : EltTy → Type}

/-- A load of the box written last reads what was written. -/
theorem readAt_same (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load of a box that the last write misses reads what stood before it. -/
theorem readAt_skip (v : View sig κ sp s e) (f : v.ty.Contents Val) (r : Rect s) (w : r.shape.Idx → Val e)
    (L : List (View.Piece Val s e)) (B : LoadRect s) (h : LoadRect.disj r B = true) :
    v.readAt Val B (v.writes Val f (⟨r, w⟩ :: L)) = v.readAt Val B (v.writes Val f L) := by
  funext j
  have hy' : B.idx j ∉ Finset.univ.map r.emb := by
    rw [Rect.map_emb_univ]; exact LoadRect.idx_not_mem_of_disj h j
  rw [View.writes_cons, View.readAt_apply, View.readAt_apply, View.read_slice_write_of_not_mem r _ _ _ hy']

end

variable (𝒱 : Variants) (c : Dev nD) (bd : Option 𝒱.V) (i : grid0.Coords) (arg2 : Memref sig .tc .smem S8 .f32)
  (harg2 : arg2.IsWhole) (arg3 : Memref sig .tc .vmem S256x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S256x128 .bf16) (harg6 : arg6.IsWhole)
  (arg7 : Memref sig .tc .vmem S2x256x128 .f32) (harg7 : arg7.IsWhole) (arg1 : BitVec 32) (v0 : IVec S256x128 32)
  (v6 v9 : FVec F S256x128 .bf16) (v12 v16 : Elt F .f32) (v22 : FVec F S256x256 .bf16) (v71 v114 : FVec F S256x1 .f32)
  (c4_i32 v115 v120 : BitVec 32) (v121 : BitVec 1) (v148 : BitVec 32)
  (X4 : BufTy.Contents (Elt F) arg4.view.ty) (X5 : BufTy.Contents (Elt F) arg5.view.ty)

/-- The block of 256 rows at an offset, of a key or value operand. -/
abbrev ldk (m : Memref sig .tc .vmem S16384x128 .bf16) (X : BufTy.Contents (Elt F) m.view.ty) (off : Fin 2 → ℕ)
    (inb : ∀ a, off a + S256x128.size a ≤ S16384x128.size a) : Vec F S256x128 .bf16 :=
  m.view.readAt (Elt F) (Rect.unit (s := S16384x128) off S256x128.size inb).toLoadRect X

section T1
variable (k : Fin (k0_t1_loop i).trips) (acc : FVec F S256x1 .f32 × FVec F S256x1 .f32)
  (f : BufTy.Contents (Elt F) arg7.view.ty)

/-- The key or value block of the trip's `n`-th step. -/
abbrev kb1 (m : Memref sig .tc .vmem S16384x128 .bf16) (X : BufTy.Contents (Elt F) m.view.ty) (n : Fin 4) :
    Vec F S256x128 .bf16 := ldk m X (k0_off4 i k (BitVec.ofNat 32 n.val)) (k0_off4_inb i k n)

theorem trip1_R : tripR_k0_t1 (F := F) 𝒱 c bd i arg2 harg2 arg3 harg3 arg4 harg4 arg5 harg5 arg6 harg6 arg7 harg7 arg1
      v0 v6 v9 v12 v16 v22 v71 v114 c4_i32 v115 v120 v121 X4 X5 k acc f
    = (cSt v6 v12 v22 (kb1 i k arg4 X4 3) (cSt v6 v12 v22 (kb1 i k arg4 X4 2)
        (cSt v6 v12 v22 (kb1 i k arg4 X4 1) (cSt v6 v12 v22 (kb1 i k arg4 X4 0) acc.1))),
       cSt v9 v16 v22 (kb1 i k arg4 X4 3) (cSt v9 v16 v22 (kb1 i k arg4 X4 2)
        (cSt v9 v16 v22 (kb1 i k arg4 X4 1) (cSt v9 v16 v22 (kb1 i k arg4 X4 0) acc.2)))) := by
  unfold tripR_k0_t1 trip_k0_t1
  rfl

/-- Four blocks, for one head. -/
def aSt4 (q : FVec F S256x128 .bf16) (b : Elt F .f32) (car : FVec F S256x1 .f32) (a : Vec F S1x256x128 .f32) :
    Vec F S1x256x128 .f32 :=
  aSt q b v22 (kb1 i k arg4 X4 3) (kb1 i k arg5 X5 3) (cSt q b v22 (kb1 i k arg4 X4 2)
        (cSt q b v22 (kb1 i k arg4 X4 1) (cSt q b v22 (kb1 i k arg4 X4 0) car)))
    (aSt q b v22 (kb1 i k arg4 X4 2) (kb1 i k arg5 X5 2)
        (cSt q b v22 (kb1 i k arg4 X4 1) (cSt q b v22 (kb1 i k arg4 X4 0) car))
    (aSt q b v22 (kb1 i k arg4 X4 1) (kb1 i k arg5 X5 1) (cSt q b v22 (kb1 i k arg4 X4 0) car)
    (aSt q b v22 (kb1 i k arg4 X4 0) (kb1 i k arg5 X5 0) car a)))

theorem trip1_L0 : arg7.view.readAt (Elt F) h0.toLoadRect (arg7.view.writes (Elt F) f
      (tripL_k0_t1 (F := F) 𝒱 c bd i arg2 harg2 arg3 harg3 arg4 harg4 arg5 harg5 arg6 harg6 arg7 harg7 arg1
      v0 v6 v9 v12 v16 v22 v71 v114 c4_i32 v115 v120 v121 X4 X5 k acc f))
    = aSt4 i arg4 arg5 v22 X4 X5 k v6 v12 acc.1 (arg7.view.readAt (Elt F) h0.toLoadRect f) := by
  unfold tripL_k0_t1 trip_k0_t1
  dsimp only
  sl_unfold_words
  simp (disch := decide) only [readAt_skip, readAt_same, View.readCov_skip, View.readCov_cons_toLoadRect]
  rfl

theorem trip1_L1 : arg7.view.readAt (Elt F) h1.toLoadRect (arg7.view.writes (Elt F) f
      (tripL_k0_t1 (F := F) 𝒱 c bd i arg2 harg2 arg3 harg3 arg4 harg4 arg5 harg5 arg6 harg6 arg7 harg7 arg1
      v0 v6 v9 v12 v16 v22 v71 v114 c4_i32 v115 v120 v121 X4 X5 k acc f))
    = aSt4 i arg4 arg5 v22 X4 X5 k v9 v16 acc.2 (arg7.view.readAt (Elt F) h1.toLoadRect f) := by
  unfold tripL_k0_t1 trip_k0_t1
  dsimp only
  sl_unfold_words
  simp (disch := decide) only [readAt_skip, readAt_same, View.readCov_skip, View.readCov_cons_toLoadRect]
  rfl
end T1

section T3
variable (k : Fin (k0_t3_loop i).trips) (acc : FVec F S256x1 .f32 × FVec F S256x1 .f32)
  (f : BufTy.Contents (Elt F) arg7.view.ty)

/-- The key or value block of the trip. -/
abbrev kb3 (m : Memref sig .tc .vmem S16384x128 .bf16) (X : BufTy.Contents (Elt F) m.view.ty) :
    Vec F S256x128 .bf16 := ldk m X (k0_off6 i k) (k0_off6_inb i k)

theorem trip3_R : tripR_k0_t3 (F := F) 𝒱 c bd i arg2 harg2 arg3 harg3 arg4 harg4 arg5 harg5 arg6 harg6 arg7 harg7 arg1
      v0 v6 v9 v12 v16 v22 v71 v114 c4_i32 v115 v120 v121 v148 X4 X5 k acc f
    = (cSt v6 v12 v22 (kb3 i k arg4 X4) acc.1, cSt v9 v16 v22 (kb3 i k arg4 X4) acc.2) := by
  unfold tripR_k0_t3 trip_k0_t3
  rfl

theorem trip3_L0 : arg7.view.readAt (Elt F) h0.toLoadRect (arg7.view.writes (Elt F) f
      (tripL_k0_t3 (F := F) 𝒱 c bd i arg2 harg2 arg3 harg3 arg4 harg4 arg5 harg5 arg6 harg6 arg7 harg7 arg1
      v0 v6 v9 v12 v16 v22 v71 v114 c4_i32 v115 v120 v121 v148 X4 X5 k acc f))
    = aSt v6 v12 v22 (kb3 i k arg4 X4) (kb3 i k arg5 X5) acc.1 (arg7.view.readAt (Elt F) h0.toLoadRect f) := by
  unfold tripL_k0_t3 trip_k0_t3
  dsimp only
  sl_unfold_words
  simp (disch := decide) only [readAt_skip, readAt_same, View.readCov_skip, View.readCov_cons_toLoadRect]
  rfl

theorem trip3_L1 : arg7.view.readAt (Elt F) h1.toLoadRect (arg7.view.writes (Elt F) f
      (tripL_k0_t3 (F := F) 𝒱 c bd i arg2 harg2 arg3 harg3 arg4 harg4 arg5 harg5 arg6 harg6 arg7 harg7 arg1
      v0 v6 v9 v12 v16 v22 v71 v114 c4_i32 v115 v120 v121 v148 X4 X5 k acc f))
    = aSt v9 v16 v22 (kb3 i k arg4 X4) (kb3 i k arg5 X5) acc.2 (arg7.view.readAt (Elt F) h1.toLoadRect f) := by
  unfold tripL_k0_t3 trip_k0_t3
  dsimp only
  sl_unfold_words
  simp (disch := decide) only [readAt_skip, readAt_same, View.readCov_skip, View.readCov_cons_toLoadRect]
  rfl
end T3

theorem trips1 : ∀ i : grid0.Coords, (k0_t1_loop i).trips = (i 1).val / 4 := by decide +kernel
theorem trips3 : ∀ i : grid0.Coords, (k0_t3_loop i).trips = (i 1).val % 4 := by decide +kernel
theorem trips2 (i : grid0.Coords) : (k0_t2_loop i).trips = 0 := Scf.rem_trips _ _
theorem trips4 (i : grid0.Coords) : (k0_t4_loop i).trips = 0 := Scf.rem_trips _ _
theorem off4_eq : ∀ (i : grid0.Coords) (k : Fin (k0_t1_loop i).trips) (n : Fin 4),
    k0_off4 i k (BitVec.ofNat 32 n.val) = ![256 * ((i 1).val - (4 * k.val + n.val + 1)), 0] := by decide +kernel
theorem off6_eq : ∀ (i : grid0.Coords) (k : Fin (k0_t3_loop i).trips),
    k0_off6 i k = ![256 * ((i 1).val % 4 - (k.val + 1)), 0] := by decide +kernel

end Cert.KernelIdeal.Trips

end
-- ==== Proof.Blocks.lean ====
/- One block of 256 keys over the extended reals: what the block's text computes for each query of the block of
   queries, read at an index and matched with the sums of the row's mathematics. -/
module

public import proofs.«01_k».proof.Proof.Stick
public import proofs.«01_k».proof.Proof.Trips
public import Idealize.ShloMosaic.PureOps.Ideal
public import Idealize.ShloMosaic.Lib.MatmulPlain
public import Idealize.ShloMosaic.Lib.ValueLayout
public import Idealize.ShloMosaic.Lib.IdealHost

@[expose] public section

set_option maxRecDepth 16384

noncomputable section

namespace Cert.KernelIdeal.Blocks

open Cert.KernelIdeal Cert.KernelIdeal.Gen Cert.KernelIdeal.Trips Cert.Stick Idealize.ShloMosaic
  Idealize.ShloMosaic.ValueIdx

theorem zero_sub' (x : EReal) : (0 : EReal) - x = -x := by rw [sub_eq_add_neg, zero_add]

/-- The block's scores. -/
theorem scores_apply (q : FVec Ideal S256x128 .bf16) (b : EReal) (kb : Vec Ideal S256x128 .bf16) (r c : Fin 256) :
    k0_pay2 (F := Ideal) q b kb (ix2 r c) = (∑ d : Fin 128, q (ix2 r d) * kb (ix2 c d)) + b := by
  show FloatOps.matmul (DotDims.transposedRhs 256 128 256) none q
    (shapeCast S256x128 kb shapeCasts_S256x128_S256x128) (constant S256x256 .f32 0x00000000#32) (ix2 r c) + b = _
  rw [Ideal.matmul_transposedRhs_apply, shapeCast_self]
  show Ideal.ofBits .f32 0x00000000#32 + _ + b = _
  rw [Ideal.ofBits_zero_f32, zero_add]

theorem scores_dg (q : FVec Ideal S256x128 .bf16) (b : EReal) (kb : Vec Ideal S256x128 .bf16) :
    k0_pay104 (F := Ideal) q b kb = k0_pay2 (F := Ideal) q b kb := rfl

/-- A comparison of two coordinates below 256, as words. -/
theorem sge_word (r c : Fin 256) :
    IntOp.cmpi .sge (BitVec.ofNat 32 r.val) (BitVec.ofNat 32 c.val) = BitVec.ofBool (decide (c.val ≤ r.val)) := by
  show BitVec.ofBool _ = _
  congr 1
  have hr := r.isLt
  have hc := c.isLt
  have e1 : (BitVec.ofNat 32 r.val).toInt = r.val := by
    rw [BitVec.toInt_eq_toNat_cond, BitVec.toNat_ofNat]; split_ifs <;> omega
  have e2 : (BitVec.ofNat 32 c.val).toInt = c.val := by
    rw [BitVec.toInt_eq_toNat_cond, BitVec.toNat_ofNat]; split_ifs <;> omega
  simp [BitVec.sle, e1, e2]

theorem slt_word (r c : Fin 256) :
    IntOp.cmpi .slt (BitVec.ofNat 32 r.val) (BitVec.ofNat 32 c.val) = BitVec.ofBool (decide (r.val < c.val)) := by
  show BitVec.ofBool _ = _
  congr 1
  have hr := r.isLt
  have hc := c.isLt
  have e1 : (BitVec.ofNat 32 r.val).toInt = r.val := by
    rw [BitVec.toInt_eq_toNat_cond, BitVec.toNat_ofNat]; split_ifs <;> omega
  have e2 : (BitVec.ofNat 32 c.val).toInt = c.val := by
    rw [BitVec.toInt_eq_toNat_cond, BitVec.toNat_ofNat]; split_ifs <;> omega
  simp [BitVec.slt, e1, e2]

/-- The matrix of the suffix sums: one where the row is not before the column. -/
theorem tri_apply (r c : Fin 256) :
    (k0_pay94 (F := Ideal) : FVec Ideal S256x256 .bf16) (ix2 r c) = if c.val ≤ r.val then (1 : EReal) else 0 := by
  show ((((IntOp.cmpi .sge (iota .tc S256x256 32 [0] iota_S256x256_d0_w32 (ix2 r c))
    (iota .tc S256x256 32 [1] iota_S256x256_d1_w32 (ix2 r c))).setWidth 32).toInt : ℝ) : EReal) = _
  rw [iota_single_apply, iota_single_apply]
  show ((((IntOp.cmpi .sge (BitVec.ofNat 32 r.val) (BitVec.ofNat 32 c.val)).setWidth 32).toInt : ℝ) : EReal) = _
  rw [sge_word]
  by_cases h : c.val ≤ r.val <;> simp [h]

/-- The causal mask inside the block of the queries. -/
theorem mask_apply (r c : Fin 256) : k0_pay95 (ix2 r c) = BitVec.ofBool (decide (c.val < r.val)) := by
  show IntOp.cmpi .slt (iota .tc S256x256 32 [1] iota_S256x256_d1_w32 (ix2 r c))
    (iota .tc S256x256 32 [0] iota_S256x256_d0_w32 (ix2 r c)) = _
  rw [iota_single_apply, iota_single_apply]
  exact slt_word c r

theorem select_mask {α : Type} (r c : Fin 256) (x y : α) :
    Scalar.select (BitVec.ofBool (decide (c.val < r.val))) x y = if c.val < r.val then x else y := by
  by_cases h : c.val < r.val
  · rw [if_pos h, decide_eq_true h]; rfl
  · rw [if_neg h, decide_eq_false h]; rfl

/-- The softplus of the scores. -/
theorem soft_eq (z : EReal) :
    max z (Ideal.ofBits .f32 0x00000000#32) + Ideal.log (Ideal.ofBits .f32 0x3F800000#32
      + Ideal.exp (Ideal.ofBits .f32 0x00000000#32 - max z (-z))) = sp z := by
  rw [Ideal.ofBits_zero_f32, Ideal.ofBits_one_f32, zero_sub']; rfl

/-- The block's suffix sums. -/
theorem suffix_apply (q : FVec Ideal S256x128 .bf16) (b : EReal) (kb : Vec Ideal S256x128 .bf16) (r c : Fin 256) :
    k0_pay3 (F := Ideal) q b k0_pay94 kb (ix2 r c)
      = ∑ k : Fin 256, sp (k0_pay2 (F := Ideal) q b kb (ix2 r k)) * (if c.val ≤ k.val then (1 : EReal) else 0) := by
  unfold k0_pay3
  generalize k0_pay2 (F := Ideal) q b kb = z
  show FloatOps.matmul (DotDims.plain 256 256 256) none _ _ (constant S256x256 .f32 0x00000000#32) (ix2 r c) = _
  rw [Ideal.matmul_plain_apply]
  show Ideal.ofBits .f32 0x00000000#32 + _ = _
  rw [Ideal.ofBits_zero_f32, zero_add]
  refine Finset.sum_congr rfl fun k _ => ?_
  rw [tri_apply]
  exact congrArg (· * _) (soft_eq _)

/-- The masked suffix sums of the block of the queries. -/
theorem suffix_dg_apply (z : FVec Ideal S256x256 .f32) (r c : Fin 256) :
    k0_pay106 (F := Ideal) k0_pay94 k0_pay95 z k0_pay105 (ix2 r c)
      = ∑ k : Fin 256, (if k.val < r.val then sp (z (ix2 r k)) else 0) * (if c.val ≤ k.val then (1 : EReal) else 0) := by
  unfold k0_pay106
  show FloatOps.matmul (DotDims.plain 256 256 256) none _ _ (constant S256x256 .f32 0x00000000#32) (ix2 r c) = _
  rw [Ideal.matmul_plain_apply]
  show Ideal.ofBits .f32 0x00000000#32 + _ = _
  rw [Ideal.ofBits_zero_f32, zero_add]
  refine Finset.sum_congr rfl fun k _ => ?_
  rw [tri_apply]
  refine congrArg (· * _) ?_
  show Scalar.select (k0_pay95 (ix2 r k)) _ (Ideal.ofBits .f32 0x00000000#32) = _
  rw [mask_apply, select_mask, Ideal.ofBits_zero_f32]
  exact if_congr Iff.rfl (soft_eq _) rfl

theorem col0_apply (x : FVec Ideal S256x256 .f32) (r : Fin 256) :
    extractStridedSlice S256x1 ![0, 0] x slices_S256x256_o0_0_S256x1 (ix2 r 0) = x (ix2 r 0) :=
  extractStridedSlice_apply _ _ _ _ _ fun a => by
    match a with
    | ⟨0, _⟩ => exact (Nat.zero_add _).symm
    | ⟨1, _⟩ => rfl

theorem bcol_apply (x : FVec Ideal S256x1 .f32) (r c : Fin 256) :
    broadcastTo S256x256 x broadcasts_S256x1_S256x256 (ix2 r c) = x (ix2 r 0) :=
  broadcastTo_apply _ _ _ _ fun a => by
    match a with
    | ⟨0, _⟩ => rfl
    | ⟨1, _⟩ => rfl

theorem cSt_apply (q : FVec Ideal S256x128 .bf16) (b : EReal) (kb : Vec Ideal S256x128 .bf16)
    (car : FVec Ideal S256x1 .f32) (r : Fin 256) :
    cSt (F := Ideal) q b k0_pay94 kb car (ix2 r 0)
      = car (ix2 r 0) + k0_pay3 (F := Ideal) q b k0_pay94 kb (ix2 r 0) := by
  unfold cSt k0_pay14
  show car (ix2 r 0) + extractStridedSlice (s := S256x256) S256x1 ![0, 0] _ slices_S256x256_o0_0_S256x1 (ix2 r 0) = _
  rw [col0_apply]

theorem aSt_apply (q : FVec Ideal S256x128 .bf16) (b : EReal) (kb vb : Vec Ideal S256x128 .bf16)
    (car : FVec Ideal S256x1 .f32) (acc : Vec Ideal S1x256x128 .f32) (r : Fin 256) (l : Fin 128) :
    aSt (F := Ideal) q b k0_pay94 kb vb car acc (ix3 0 r l)
      = acc (ix3 0 r l) + ∑ c : Fin 256, Ideal.exp (k0_pay2 (F := Ideal) q b kb (ix2 r c)
          - k0_pay3 (F := Ideal) q b k0_pay94 kb (ix2 r c) - car (ix2 r 0)) * vb (ix2 c l) := by
  unfold aSt k0_pay13
  generalize k0_pay2 (F := Ideal) q b kb = z
  generalize k0_pay3 (F := Ideal) q b k0_pay94 kb = s
  show shapeCast S1x256x128 _ shapeCasts_S256x128_S1x256x128 (ix3 0 r l) = _
  rw [shapeCast_ab_1ab_apply]
  show shapeCast S256x128 acc shapeCasts_S1x256x128_S256x128 (ix2 r l)
    + FloatOps.matmul (F := Ideal) (DotDims.plain 256 256 128) none _ _ (constant S256x128 .f32 0x00000000#32) (ix2 r l) = _
  rw [Ideal.matmul_plain_apply, shapeCast_self, shapeCast_1ab_ab_apply]
  show _ + (Ideal.ofBits .f32 0x00000000#32 + _) = _
  rw [Ideal.ofBits_zero_f32, zero_add]
  refine congrArg (acc (ix3 0 r l) + ·) (Finset.sum_congr rfl fun c _ => ?_)
  show Ideal.exp (z (ix2 r c) - s (ix2 r c) - broadcastTo S256x256 car broadcasts_S256x1_S256x256 (ix2 r c))
    * vb (ix2 c l) = _
  rw [bcol_apply]

theorem cDg_apply (q : FVec Ideal S256x128 .bf16) (b : EReal) (kb : Vec Ideal S256x128 .bf16) (r : Fin 256) :
    cDg (F := Ideal) q b kb (ix2 r 0)
      = 0 + k0_pay106 (F := Ideal) k0_pay94 k0_pay95 (k0_pay2 (F := Ideal) q b kb) k0_pay105 (ix2 r 0) := by
  unfold cDg k0_pay108
  rw [scores_dg]
  show Ideal.ofBits .f32 0x00000000#32
    + extractStridedSlice (s := S256x256) S256x1 ![0, 0] _ slices_S256x256_o0_0_S256x1 (ix2 r 0) = _
  rw [col0_apply, Ideal.ofBits_zero_f32]

theorem aDg_apply (q : FVec Ideal S256x128 .bf16) (b : EReal) (kb vb : Vec Ideal S256x128 .bf16)
    (acc : Vec Ideal S1x256x128 .f32) (r : Fin 256) (l : Fin 128) :
    aDg (F := Ideal) q b kb vb acc (ix3 0 r l)
      = acc (ix3 0 r l) + ∑ c : Fin 256, (if c.val < r.val then Ideal.exp (k0_pay2 (F := Ideal) q b kb (ix2 r c)
          - k0_pay106 (F := Ideal) k0_pay94 k0_pay95 (k0_pay2 (F := Ideal) q b kb) k0_pay105 (ix2 r c) - 0) else 0)
          * vb (ix2 c l) := by
  unfold aDg k0_pay107
  rw [scores_dg]
  generalize k0_pay2 (F := Ideal) q b kb = z
  generalize k0_pay106 (F := Ideal) k0_pay94 k0_pay95 z k0_pay105 = s
  show shapeCast S1x256x128 _ shapeCasts_S256x128_S1x256x128 (ix3 0 r l) = _
  rw [shapeCast_ab_1ab_apply]
  show shapeCast S256x128 acc shapeCasts_S1x256x128_S256x128 (ix2 r l)
    + FloatOps.matmul (F := Ideal) (DotDims.plain 256 256 128) none _ _ (constant S256x128 .f32 0x00000000#32) (ix2 r l) = _
  rw [Ideal.matmul_plain_apply, shapeCast_self, shapeCast_1ab_ab_apply]
  show _ + (Ideal.ofBits .f32 0x00000000#32 + _) = _
  rw [Ideal.ofBits_zero_f32, zero_add]
  refine congrArg (acc (ix3 0 r l) + ·) (Finset.sum_congr rfl fun c _ => ?_)
  refine congrArg (· * _) ?_
  show Scalar.select (k0_pay95 (ix2 r c)) (Ideal.exp (z (ix2 r c) - s (ix2 r c)
    - broadcastTo S256x256 (k0_pay97 (F := Ideal)) broadcasts_S256x1_S256x256 (ix2 r c)))
    (Ideal.ofBits .f32 0x00000000#32) = _
  rw [mask_apply, select_mask, bcol_apply]
  show (if c.val < r.val then Ideal.exp (z (ix2 r c) - s (ix2 r c) - Ideal.ofBits .f32 0x00000000#32)
    else Ideal.ofBits .f32 0x00000000#32) = _
  rw [Ideal.ofBits_zero_f32]

/-- What holds of a carry and an accumulator when the keys from position `a` on are done, for queries at the
    positions `b, …, b + 255`. -/
def Done (Z V : ℕ → ℕ → EReal) (b a : ℕ) (car : FVec Ideal S256x1 .f32) (acc : Vec Ideal S1x256x128 .f32) : Prop :=
  ∀ r : Fin 256, car (ix2 r 0) = Cert.Stick.tail (Z r) (b + r) a
    ∧ ∀ l : Fin 128, acc (ix3 0 r l) = att (Z r) (V l) (b + r) a

variable (q : FVec Ideal S256x128 .bf16) (bias : EReal) (kb vb : Vec Ideal S256x128 .bf16) (Z V : ℕ → ℕ → EReal)
  (b a : ℕ)

theorem done_step (hZ : ∀ r c : Fin 256, Z r (a + c) = (∑ d : Fin 128, q (ix2 r d) * kb (ix2 c d)) + bias)
    (hV : ∀ (l : Fin 128) (c : Fin 256), V l (a + c) = vb (ix2 c l)) (hab : a + 256 ≤ b)
    (car : FVec Ideal S256x1 .f32) (acc : Vec Ideal S1x256x128 .f32) (h : Done Z V b (a + 256) car acc) :
    Done Z V b a (cSt (F := Ideal) q bias k0_pay94 kb car) (aSt (F := Ideal) q bias k0_pay94 kb vb car acc) := by
  intro r
  obtain ⟨hc, ha⟩ := h r
  have ht : a + 256 ≤ b + r.val := by omega
  have hs : ∀ c : Fin 256, k0_pay2 (F := Ideal) q bias kb (ix2 r c) = Z r (a + c) :=
    fun c => (scores_apply q bias kb r c).trans (hZ r c).symm
  refine ⟨?_, fun l => ?_⟩
  · rw [cSt_apply, suffix_apply, hc, ← block_carry (Z r) ht]
    simp only [hs]
    rfl
  · rw [aSt_apply, ha l, hc, ← block_acc (Z r) (V l) ht]
    simp only [suffix_apply, hs, hV]

theorem done_first (hZ : ∀ r c : Fin 256, Z r (b + c) = (∑ d : Fin 128, q (ix2 r d) * kb (ix2 c d)) + bias)
    (hV : ∀ (l : Fin 128) (c : Fin 256), V l (b + c) = vb (ix2 c l)) (acc : Vec Ideal S1x256x128 .f32)
    (h : ∀ j, acc j = 0) :
    Done Z V b b (cDg (F := Ideal) q bias kb) (aDg (F := Ideal) q bias kb vb acc) := by
  intro r
  have hs : ∀ c : Fin 256, k0_pay2 (F := Ideal) q bias kb (ix2 r c) = Z r (b + c) :=
    fun c => (scores_apply q bias kb r c).trans (hZ r c).symm
  refine ⟨?_, fun l => ?_⟩
  · rw [cDg_apply, suffix_dg_apply, ← diag_carry (Z r) r.isLt.le]
    simp only [hs]
    rfl
  · rw [aDg_apply, h, ← diag_acc (Z r) (V l) r.isLt.le]
    simp only [suffix_dg_apply, hs, hV]

end Cert.KernelIdeal.Blocks

end
-- ==== Proof.Loops.lean ====
/- The attention kernel's grid point as one statement about values: whatever holds after the block that holds the
   queries, and is kept by every block before it, holds at the end of the sweep, of each head's carry and accumulator;
   and the output block is made of the two accumulators. -/
module

public import proofs.«01_k».proof.Proof.Trips

@[expose] public section

set_option maxRecDepth 16384

noncomputable section

namespace Cert.KernelIdeal.Trips

open Cert.KernelIdeal Cert.KernelIdeal.Gen Idealize.ShloMosaic Idealize.ShloMosaic.TcCoe

variable {F : FTy → Type} [FloatOps F]

/-- What one block of keys keeps of a predicate on the blocks done, the carry and the accumulator. -/
def Keeps (P : ℕ → FVec F S256x1 .f32 → Vec F S1x256x128 .f32 → Prop) (N : ℕ) (q : FVec F S256x128 .bf16) (b : Elt F .f32)
    (arg4 arg5 : Memref sig .tc .vmem S16384x128 .bf16)
    (X4 : BufTy.Contents (Elt F) arg4.view.ty) (X5 : BufTy.Contents (Elt F) arg5.view.ty) : Prop :=
  ∀ (J : ℕ) (off : Fin 2 → ℕ) (inb : ∀ a, off a + S256x128.size a ≤ S16384x128.size a), off = ![256 * J, 0] → J < N →
    ∀ car a, P (J + 1) car a → P J (cSt q b k0_pay94 (ldk arg4 X4 off inb) car)
      (aSt q b k0_pay94 (ldk arg4 X4 off inb) (ldk arg5 X5 off inb) car a)

variable (𝒱 : Variants) (c : Dev nD) (bd : Option 𝒱.V) (i : grid0.Coords) (arg2 : Memref sig .tc .smem S8 .f32)
  (harg2 : arg2.IsWhole) (arg3 : Memref sig .tc .vmem S256x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S256x128 .bf16) (harg6 : arg6.IsWhole)
  (arg7 : Memref sig .tc .vmem S2x256x128 .f32) (harg7 : arg7.IsWhole) (arg1 : BitVec 32) (v0 : IVec S256x128 32)
  (v6 v9 : FVec F S256x128 .bf16) (v12 v16 : Elt F .f32) (v22 : FVec F S256x256 .bf16) (v71 v114 : FVec F S256x1 .f32)
  (c4_i32 v115 v120 : BitVec 32) (v121 : BitVec 1) (v148 : BitVec 32)
  (X4 : BufTy.Contents (Elt F) arg4.view.ty) (X5 : BufTy.Contents (Elt F) arg5.view.ty)
  (P0 P1 : ℕ → FVec F S256x1 .f32 → Vec F S1x256x128 .f32 → Prop)
  (G : BufTy.Contents (Elt F) arg7.view.ty) (init : FVec F S256x1 .f32 × FVec F S256x1 .f32)

/-- Four blocks keep the predicate. -/
theorem keeps4 {P : ℕ → FVec F S256x1 .f32 → Vec F S1x256x128 .f32 → Prop} {q : FVec F S256x128 .bf16} {b : Elt F .f32}
    (h : Keeps P (i 1).val q b arg4 arg5 X4 X5) (k : Fin (k0_t1_loop i).trips) (car : FVec F S256x1 .f32)
    (a : Vec F S1x256x128 .f32) (hp : P ((i 1).val - 4 * k.val) car a) :
    P ((i 1).val - 4 * (k.val + 1)) (cSt q b k0_pay94 (kb1 i k arg4 X4 3) (cSt q b k0_pay94 (kb1 i k arg4 X4 2)
        (cSt q b k0_pay94 (kb1 i k arg4 X4 1) (cSt q b k0_pay94 (kb1 i k arg4 X4 0) car))))
      (aSt4 i arg4 arg5 k0_pay94 X4 X5 k q b car a) := by
  have hk : 4 * k.val + 4 ≤ (i 1).val := by
    have := k.isLt
    have := trips1 i
    omega
  have e0 : (i 1).val - 4 * k.val = ((i 1).val - (4 * k.val + (0 : Fin 4).val + 1)) + 1 := by
    show _ = ((i 1).val - (4 * k.val + 0 + 1)) + 1; omega
  have e1 : (i 1).val - (4 * k.val + (0 : Fin 4).val + 1) = ((i 1).val - (4 * k.val + (1 : Fin 4).val + 1)) + 1 := by
    show (i 1).val - (4 * k.val + 0 + 1) = ((i 1).val - (4 * k.val + 1 + 1)) + 1; omega
  have e2 : (i 1).val - (4 * k.val + (1 : Fin 4).val + 1) = ((i 1).val - (4 * k.val + (2 : Fin 4).val + 1)) + 1 := by
    show (i 1).val - (4 * k.val + 1 + 1) = ((i 1).val - (4 * k.val + 2 + 1)) + 1; omega
  have e3 : (i 1).val - (4 * k.val + (2 : Fin 4).val + 1) = ((i 1).val - (4 * k.val + (3 : Fin 4).val + 1)) + 1 := by
    show (i 1).val - (4 * k.val + 2 + 1) = ((i 1).val - (4 * k.val + 3 + 1)) + 1; omega
  have e4 : (i 1).val - 4 * (k.val + 1) = (i 1).val - (4 * k.val + (3 : Fin 4).val + 1) := by
    show _ = (i 1).val - (4 * k.val + 3 + 1); omega
  rw [e0] at hp
  have p0 := h _ _ (k0_off4_inb i k 0) (off4_eq i k 0) (by omega) _ _ hp
  rw [e1] at p0
  have p1 := h _ _ (k0_off4_inb i k 1) (off4_eq i k 1) (by omega) _ _ p0
  rw [e2] at p1
  have p2 := h _ _ (k0_off4_inb i k 2) (off4_eq i k 2) (by omega) _ _ p1
  rw [e3] at p2
  have p3 := h _ _ (k0_off4_inb i k 3) (off4_eq i k 3) (by omega) _ _ p2
  rw [e4]
  exact p3

/-- The first loop, of four blocks a trip. -/
theorem loop1 (h0' : Keeps P0 (i 1).val v6 v12 arg4 arg5 X4 X5) (h1' : Keeps P1 (i 1).val v9 v16 arg4 arg5 X4 X5)
    (i0 : P0 (i 1).val init.1 (arg7.view.readAt (Elt F) h0.toLoadRect G))
    (i1 : P1 (i 1).val init.2 (arg7.view.readAt (Elt F) h1.toLoadRect G)) (n : ℕ) (hn : n ≤ (k0_t1_loop i).trips) :
    P0 ((i 1).val - 4 * n) (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init n).1.1
      (arg7.view.readAt (Elt F) h0.toLoadRect (arg7.view.writes (Elt F) G (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init n).2))
    ∧ P1 ((i 1).val - 4 * n) (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init n).1.2
      (arg7.view.readAt (Elt F) h1.toLoadRect (arg7.view.writes (Elt F) G (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init n).2)) := by
  induction n with
  | zero => exact ⟨i0, i1⟩
  | succ n ih =>
    obtain ⟨p0, p1⟩ := ih (Nat.le_of_succ_le hn)
    rw [st_k0_t1_succ 𝒱 c bd i arg2 harg2 arg3 harg3 arg4 harg4 arg5 harg5 arg6 harg6 arg7 harg7 arg1
        v0 v6 v9 v12 v16 k0_pay94 v71 v114 c4_i32 v115 v120 v121 X4 X5 G init ⟨n, hn⟩]
    dsimp only
    rw [View.writes_append, trip1_R, trip1_L0, trip1_L1]
    exact ⟨keeps4 i arg4 arg5 X4 X5 h0' ⟨n, hn⟩ _ _ p0, keeps4 i arg4 arg5 X4 X5 h1' ⟨n, hn⟩ _ _ p1⟩

/-- The third loop, of one block a trip. -/
theorem loop3 (h0' : Keeps P0 (i 1).val v6 v12 arg4 arg5 X4 X5) (h1' : Keeps P1 (i 1).val v9 v16 arg4 arg5 X4 X5)
    (i0 : P0 ((i 1).val % 4) init.1 (arg7.view.readAt (Elt F) h0.toLoadRect G))
    (i1 : P1 ((i 1).val % 4) init.2 (arg7.view.readAt (Elt F) h1.toLoadRect G)) (n : ℕ) (hn : n ≤ (k0_t3_loop i).trips) :
    P0 ((i 1).val % 4 - n) (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init n).1.1
      (arg7.view.readAt (Elt F) h0.toLoadRect (arg7.view.writes (Elt F) G (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init n).2))
    ∧ P1 ((i 1).val % 4 - n) (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init n).1.2
      (arg7.view.readAt (Elt F) h1.toLoadRect (arg7.view.writes (Elt F) G (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init n).2)) := by
  induction n with
  | zero => exact ⟨i0, i1⟩
  | succ n ih =>
    obtain ⟨p0, p1⟩ := ih (Nat.le_of_succ_le hn)
    have hlt : n < (i 1).val % 4 := (trips3 i) ▸ hn
    have e : (i 1).val % 4 - n = ((i 1).val % 4 - (n + 1)) + 1 := by omega
    have hle : (i 1).val % 4 ≤ (i 1).val := Nat.mod_le _ _
    rw [e] at p0 p1
    rw [st_k0_t3_succ 𝒱 c bd i arg2 harg2 arg3 harg3 arg4 harg4 arg5 harg5 arg6 harg6 arg7 harg7 arg1
        v0 v6 v9 v12 v16 k0_pay94 v71 v114 c4_i32 v115 v120 v121 v148 X4 X5 G init ⟨n, hn⟩]
    dsimp only
    rw [View.writes_append, trip3_R, trip3_L0, trip3_L1]
    exact ⟨h0' _ _ (k0_off6_inb i ⟨n, hn⟩) (off6_eq i ⟨n, hn⟩) (by omega) _ _ p0,
      h1' _ _ (k0_off6_inb i ⟨n, hn⟩) (off6_eq i ⟨n, hn⟩) (by omega) _ _ p1⟩

theorem st2_eq : ∀ v136, st_k0_t2 (F := F) 𝒱 c bd i arg2 harg2 arg3 harg3 arg4 harg4 arg5 harg5 arg6 harg6 arg7 harg7 arg1
        v0 v6 v9 v12 v16 v22 v71 v114 c4_i32 v115 v120 v121 v136 X4 X5 G init
        (Scf.trips (k0_t2_loop i).lb (k0_t2_loop i).ub (k0_t2_loop i).st) = (init, []) := by
  intro v136
  rw [show Scf.trips (k0_t2_loop i).lb (k0_t2_loop i).ub (k0_t2_loop i).st = 0 from trips2 i]
  rfl

/-- The first loop leaves the blocks that do not make a group of four. -/
theorem loop1_end (h0' : Keeps P0 (i 1).val v6 v12 arg4 arg5 X4 X5) (h1' : Keeps P1 (i 1).val v9 v16 arg4 arg5 X4 X5)
    (i0 : P0 ((i 1).val) init.1 (arg7.view.readAt (Elt F) h0.toLoadRect G))
    (i1 : P1 ((i 1).val) init.2 (arg7.view.readAt (Elt F) h1.toLoadRect G)) :
    P0 ((i 1).val % 4) (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init (Scf.trips (k0_t1_loop i).lb (k0_t1_loop i).ub (k0_t1_loop i).st)).1.1
      (arg7.view.readAt (Elt F) h0.toLoadRect (arg7.view.writes (Elt F) G (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init (Scf.trips (k0_t1_loop i).lb (k0_t1_loop i).ub (k0_t1_loop i).st)).2))
    ∧ P1 ((i 1).val % 4) (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init (Scf.trips (k0_t1_loop i).lb (k0_t1_loop i).ub (k0_t1_loop i).st)).1.2
      (arg7.view.readAt (Elt F) h1.toLoadRect (arg7.view.writes (Elt F) G (st_k0_t1 (F := F) 𝒱 c bd i arg2 harg2 arg3 harg3 arg4 harg4 arg5 harg5 arg6 harg6 arg7 harg7 arg1
        v0 v6 v9 v12 v16 k0_pay94 v71 v114 c4_i32 v115 v120 v121 X4 X5 G init (Scf.trips (k0_t1_loop i).lb (k0_t1_loop i).ub (k0_t1_loop i).st)).2)) := by
  have h := loop1 𝒱 c bd i arg2 harg2 arg3 harg3 arg4 harg4 arg5 harg5 arg6 harg6 arg7 harg7 arg1 v0 v6 v9 v12 v16 v71 v114 c4_i32 v115 v120 v121 X4 X5 P0 P1 G init h0' h1' i0 i1 _ (le_refl _)
  rw [show (i 1).val - 4 * (k0_t1_loop i).trips = (i 1).val % 4 by rw [trips1 i]; omega] at h
  exact h

/-- The third loop leaves no block. -/
theorem loop3_end (h0' : Keeps P0 (i 1).val v6 v12 arg4 arg5 X4 X5) (h1' : Keeps P1 (i 1).val v9 v16 arg4 arg5 X4 X5)
    (i0 : P0 ((i 1).val % 4) init.1 (arg7.view.readAt (Elt F) h0.toLoadRect G))
    (i1 : P1 ((i 1).val % 4) init.2 (arg7.view.readAt (Elt F) h1.toLoadRect G)) :
    P0 (0) (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init (Scf.trips (k0_t3_loop i).lb (k0_t3_loop i).ub (k0_t3_loop i).st)).1.1
      (arg7.view.readAt (Elt F) h0.toLoadRect (arg7.view.writes (Elt F) G (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init (Scf.trips (k0_t3_loop i).lb (k0_t3_loop i).ub (k0_t3_loop i).st)).2))
    ∧ P1 (0) (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init (Scf.trips (k0_t3_loop i).lb (k0_t3_loop i).ub (k0_t3_loop i).st)).1.2
      (arg7.view.readAt (Elt F) h1.toLoadRect (arg7.view.writes (Elt F) G (st_k0_t3 (F := F) 𝒱 c bd i arg2 harg2 arg3 harg3 arg4 harg4 arg5 harg5 arg6 harg6 arg7 harg7 arg1
        v0 v6 v9 v12 v16 k0_pay94 v71 v114 c4_i32 v115 v120 v121 v148 X4 X5 G init (Scf.trips (k0_t3_loop i).lb (k0_t3_loop i).ub (k0_t3_loop i).st)).2)) := by
  have h := loop3 𝒱 c bd i arg2 harg2 arg3 harg3 arg4 harg4 arg5 harg5 arg6 harg6 arg7 harg7 arg1 v0 v6 v9 v12 v16 v71 v114 c4_i32 v115 v120 v121 v148 X4 X5 P0 P1 G init h0' h1' i0 i1 _ (le_refl _)
  rw [show (i 1).val % 4 - (k0_t3_loop i).trips = 0 by rw [trips3 i]; omega] at h
  exact h

theorem st4_eq : ∀ v136 v137, st_k0_t4 (F := F) 𝒱 c bd i arg2 harg2 arg3 harg3 arg4 harg4 arg5 harg5 arg6 harg6 arg7 harg7 arg1
        v0 v6 v9 v12 v16 v22 v71 v114 c4_i32 v115 v120 v121 v136 v137 X4 X5 G init
        (Scf.trips (k0_t4_loop i).lb (k0_t4_loop i).ub (k0_t4_loop i).st) = (init, []) := by
  intro v136 v137
  rw [show Scf.trips (k0_t4_loop i).lb (k0_t4_loop i).ub (k0_t4_loop i).st = 0 from trips4 i]
  rfl

/-- What the body stores in its output block, with the accumulators it is made of: whatever predicate holds of the
    carry and the accumulator after the block that holds the queries, and is kept by each block before it, holds after
    the sweep. -/
theorem run_val (x0 : Vec F S8 .f32) (x1 : Vec F S256x128 .bf16) (x2 x3 : Vec F S16384x128 .bf16)
    (k0' : Keeps P0 (i 1).val (k0_pay92 (View.ld x1 (Rect.unit ![0, 0] S256x128.size inb_S256x128_S256x128_0_0)))
      (kernelRun0_A.sl.r c i arg2 harg2 x0) arg4 arg5 (harg4.unread x2) (harg5.unread x3))
    (k1' : Keeps P1 (i 1).val (k0_pay93 (View.ld x1 (Rect.unit ![0, 0] S256x128.size inb_S256x128_S256x128_0_0)))
      (kernelRun0_A.sl.r_1 c i arg2 harg2 x0) arg4 arg5 (harg4.unread x2) (harg5.unread x3))
    (d0 : P0 (i 1).val
      (cDg (k0_pay92 (View.ld x1 (Rect.unit ![0, 0] S256x128.size inb_S256x128_S256x128_0_0)))
        (kernelRun0_A.sl.r c i arg2 harg2 x0) (ldk arg4 (harg4.unread x2) (k0_off3 i) (k0_off3_inb i)))
      (aDg (k0_pay92 (View.ld x1 (Rect.unit ![0, 0] S256x128.size inb_S256x128_S256x128_0_0)))
        (kernelRun0_A.sl.r c i arg2 harg2 x0) (ldk arg4 (harg4.unread x2) (k0_off3 i) (k0_off3_inb i))
        (ldk arg5 (harg5.unread x3) (k0_off3 i) (k0_off3_inb i)) (View.ld k0_pay96 h0)))
    (d1 : P1 (i 1).val
      (cDg (k0_pay93 (View.ld x1 (Rect.unit ![0, 0] S256x128.size inb_S256x128_S256x128_0_0)))
        (kernelRun0_A.sl.r_1 c i arg2 harg2 x0) (ldk arg4 (harg4.unread x2) (k0_off3 i) (k0_off3_inb i)))
      (aDg (k0_pay93 (View.ld x1 (Rect.unit ![0, 0] S256x128.size inb_S256x128_S256x128_0_0)))
        (kernelRun0_A.sl.r_1 c i arg2 harg2 x0) (ldk arg4 (harg4.unread x2) (k0_off3 i) (k0_off3_inb i))
        (ldk arg5 (harg5.unread x3) (k0_off3 i) (k0_off3_inb i)) (View.ld k0_pay96 h1))) :
    ∃ (c0 c1 : FVec F S256x1 .f32) (A0 A1 : Vec F S1x256x128 .f32), P0 0 c0 A0 ∧ P1 0 c1 A1 ∧
      (kernelRun0_A (F := F) c i arg2 harg2 arg3 harg3 arg4 harg4 arg5 harg5 arg6 harg6 arg7 harg7 x0 x1 x2 x3).1
        = [⟨Rect.unit ![0, 0] S256x128.size inb_S256x128_S256x128_0_0,
            k0_pay1 (k0_pay121 (iota .tc S256x128 32 [1] iota_S256x128_d1_w32)) (k0_pay122 A0) A1⟩] := by
  have z0 : ∀ L, arg7.view.readAt (Elt F) h0.toLoadRect (arg7.view.writes (Elt F) arg7.view.junk
      (⟨h1, L⟩ :: kernelRun0_A.sl.HS0_2 c i arg2 harg2 arg3 harg3 arg4 harg4 arg5 harg5 arg7 x0 x1 x2 x3))
      = aDg (k0_pay92 (View.ld x1 (Rect.unit ![0, 0] S256x128.size inb_S256x128_S256x128_0_0)))
        (kernelRun0_A.sl.r c i arg2 harg2 x0) (ldk arg4 (harg4.unread x2) (k0_off3 i) (k0_off3_inb i))
        (ldk arg5 (harg5.unread x3) (k0_off3 i) (k0_off3_inb i)) (View.ld k0_pay96 h0) := by
    intro L
    rw [readAt_skip _ _ _ _ _ _ (by decide)]
    unfold kernelRun0_A.sl.HS0_2
    rw [readAt_same]
    sl_unfold_words
    simp only [View.readAt_eq_ld, harg3.read_unread]
    rw [View.readCov_fill _ _ _ _ _ (by decide)]
    rfl
  have z1 : arg7.view.readAt (Elt F) h1.toLoadRect (arg7.view.writes (Elt F) arg7.view.junk
      (kernelRun0_A.sl.HS0_3 c i arg2 harg2 arg3 harg3 arg4 harg4 arg5 harg5 arg7 x0 x1 x2 x3))
      = aDg (k0_pay93 (View.ld x1 (Rect.unit ![0, 0] S256x128.size inb_S256x128_S256x128_0_0)))
        (kernelRun0_A.sl.r_1 c i arg2 harg2 x0) (ldk arg4 (harg4.unread x2) (k0_off3 i) (k0_off3_inb i))
        (ldk arg5 (harg5.unread x3) (k0_off3 i) (k0_off3_inb i)) (View.ld k0_pay96 h1) := by
    unfold kernelRun0_A.sl.HS0_3
    rw [readAt_same]
    sl_unfold_words
    simp only [View.readAt_eq_ld, harg3.read_unread]
    rw [View.readCov_skip _ _ _ _ _ (by decide), View.readCov_fill _ _ _ _ _ (by decide)]
    rfl
  have q0 : k0_pay92 (View.ld x1 (Rect.unit ![0, 0] S256x128.size inb_S256x128_S256x128_0_0))
      = kernelRun0_A.sl.r_2 c arg3 harg3 x1 := by
    sl_unfold_words
    simp only [View.readAt_eq_ld, harg3.read_unread]
  have q1 : k0_pay93 (View.ld x1 (Rect.unit ![0, 0] S256x128.size inb_S256x128_S256x128_0_0))
      = kernelRun0_A.sl.r_3 c arg3 harg3 x1 := by
    sl_unfold_words
    simp only [View.readAt_eq_ld, harg3.read_unread]
  rw [q0] at k0' d0
  rw [q1] at k1' d1
  simp only [q0] at z0
  rw [q1] at z1
  have c0e : cDg (kernelRun0_A.sl.r_2 c arg3 harg3 x1) (kernelRun0_A.sl.r c i arg2 harg2 x0)
      (ldk arg4 (harg4.unread x2) (k0_off3 i) (k0_off3_inb i))
      = kernelRun0_A.sl.r_7 c i arg2 harg2 arg3 harg3 arg4 harg4 x0 x1 x2 := rfl
  have c1e : cDg (kernelRun0_A.sl.r_3 c arg3 harg3 x1) (kernelRun0_A.sl.r_1 c i arg2 harg2 x0)
      (ldk arg4 (harg4.unread x2) (k0_off3 i) (k0_off3_inb i))
      = kernelRun0_A.sl.r_9 c i arg2 harg2 arg3 harg3 arg4 harg4 x0 x1 x2 := rfl
  have hd0 := fun L => (Eq.mp (congr (congrArg (P0 (i 1).val) c0e) (z0 L).symm) d0)
  have hd1 := (Eq.mp (congr (congrArg (P1 (i 1).val) c1e) z1.symm) d1)
  refine ⟨?c0, ?c1, kernelRun0_A.sl.v158 c i arg2 harg2 arg3 harg3 arg4 harg4 arg5 harg5 arg6 harg6 arg7 harg7 x0 x1 x2 x3,
    kernelRun0_A.sl.v160 c i arg2 harg2 arg3 harg3 arg4 harg4 arg5 harg5 arg6 harg6 arg7 harg7 x0 x1 x2 x3, ?p0, ?p1, ?e⟩
  case e => unfold kernelRun0_A; rfl
  case p0 =>
    unfold kernelRun0_A.sl.v158 View.readCov
    rw [st4_eq, st2_eq, List.nil_append, List.nil_append, View.writes_append, View.writes_append]
    refine (loop3_end _ _ _ _ _ _ _ _ _ _ _ _ _ _ _ _ _ _ _ _ _ _ _ _ _ _ _ _ _ _ _ P0 P1 _ _ k0' k1' ?_ ?_).1
    · refine (loop1_end _ _ _ _ _ _ _ _ _ _ _ _ _ _ _ _ _ _ _ _ _ _ _ _ _ _ _ _ _ _ P0 P1 _ _ k0' k1' ?_ ?_).1
      · exact hd0 _
      · exact hd1
    · refine (loop1_end _ _ _ _ _ _ _ _ _ _ _ _ _ _ _ _ _ _ _ _ _ _ _ _ _ _ _ _ _ _ P0 P1 _ _ k0' k1' ?_ ?_).2
      · exact hd0 _
      · exact hd1
  case p1 =>
    unfold kernelRun0_A.sl.v160 View.readCov
    rw [st4_eq, st2_eq, List.nil_append, List.nil_append, View.writes_append, View.writes_append]
    refine (loop3_end _ _ _ _ _ _ _ _ _ _ _ _ _ _ _ _ _ _ _ _ _ _ _ _ _ _ _ _ _ _ _ P0 P1 _ _ k0' k1' ?_ ?_).2
    · refine (loop1_end _ _ _ _ _ _ _ _ _ _ _ _ _ _ _ _ _ _ _ _ _ _ _ _ _ _ _ _ _ _ P0 P1 _ _ k0' k1' ?_ ?_).1
      · exact hd0 _
      · exact hd1
    · refine (loop1_end _ _ _ _ _ _ _ _ _ _ _ _ _ _ _ _ _ _ _ _ _ _ _ _ _ _ _ _ _ _ P0 P1 _ _ k0' k1' ?_ ?_).2
      · exact hd0 _
      · exact hd1

end Cert.KernelIdeal.Trips

end
-- ==== Proof.Body.lean ====
/- What the body of the attention kernel leaves in its output block at one grid point, over the extended reals: for each
   query of the block and each lane the attention of the head the lane belongs to. -/
module

public import proofs.«01_k».proof.Proof.Blocks
public import proofs.«01_k».proof.Proof.Loops

@[expose] public section

set_option maxRecDepth 16384

noncomputable section

namespace Cert.KernelIdeal.Body

open Cert.KernelIdeal Cert.KernelIdeal.Gen Cert.KernelIdeal.Trips Cert.KernelIdeal.Blocks Cert.Stick
  Idealize.ShloMosaic Idealize.ShloMosaic.ValueIdx Idealize.ShloMosaic.TcCoe

/-- Lane `d` of head `h` of a pair of heads. -/
def lane (h : Fin 2) (d : Fin 64) : Fin 128 := ⟨64 * h.val + d.val, by omega⟩

theorem lane0_lt (d : Fin 64) : (lane 0 d).val < 64 := by show 64 * 0 + d.val < 64; omega
theorem lane1_ge (d : Fin 64) : 64 ≤ (lane 1 d).val := by show 64 ≤ 64 * 1 + d.val; omega

/-- The score of the block's query `r` and key `s`, for head `h` of the pair. -/
def score (x1 : Vec Ideal S256x128 .bf16) (x2 : Vec Ideal S16384x128 .bf16) (b : EReal) (h : Fin 2) (r s : ℕ) : EReal :=
  if H : r < 256 ∧ s < 16384 then
    (∑ d : Fin 64, x1 (ix2 ⟨r, H.1⟩ (lane h d)) * x2 (ix2 ⟨s, H.2⟩ (lane h d))) + b
  else 0

/-- Lane `l` of the values. -/
def vals (x3 : Vec Ideal S16384x128 .bf16) (l s : ℕ) : EReal :=
  if H : s < 16384 ∧ l < 128 then x3 (ix2 ⟨s, H.1⟩ ⟨l, H.2⟩) else 0

theorem off3_eq : ∀ i : grid0.Coords, k0_off3 i = ![256 * (i 1).val, 0] := by decide +kernel
theorem off1_eq : ∀ i : grid0.Coords, k0_off1 i = ![2 * (i 0).val] := by decide +kernel
theorem off2_eq : ∀ i : grid0.Coords, k0_off2 i = ![2 * (i 0).val + 1] := by decide +kernel

theorem ldk_apply (m : Memref sig .tc .vmem S16384x128 .bf16) (hm : m.IsWhole) (X : Vec Ideal S16384x128 .bf16)
    (off : Fin 2 → ℕ) (inb : ∀ a, off a + S256x128.size a ≤ S16384x128.size a) (a : ℕ) (ha : off = ![a, 0])
    (c : Fin 256) (d : Fin 128) (h : a + c.val < 16384) :
    ldk (F := Ideal) m (hm.unread X) off inb (ix2 c d) = X (ix2 ⟨a + c.val, h⟩ d) := by
  subst ha
  unfold ldk
  rw [View.readAt_eq_ld, hm.read_unread]
  refine congrArg X (funext fun e => Fin.ext ?_)
  match e with
  | ⟨0, _⟩ => show a + 1 * c.val = a + c.val; omega
  | ⟨1, _⟩ => show 0 + 1 * d.val = d.val; omega

theorem ld_whole (x1 : Vec Ideal S256x128 .bf16) :
    View.ld x1 (Rect.unit ![0, 0] S256x128.size inb_S256x128_S256x128_0_0) = x1 := by
  refine funext fun j => congrArg x1 (funext fun e => Fin.ext ?_)
  match e with
  | ⟨0, _⟩ => show 0 + 1 * (j 0).val = (j 0).val; omega
  | ⟨1, _⟩ => show 0 + 1 * (j 1).val = (j 1).val; omega

theorem lane_word_lt (d : Fin 128) :
    IntOp.cmpi .slt (BitVec.ofNat 32 d.val) 64#32 = BitVec.ofBool (decide (d.val < 64)) := by
  exact slt_word ⟨d.val, by omega⟩ ⟨64, by omega⟩

theorem lane_word_ge (d : Fin 128) :
    IntOp.cmpi .sge (BitVec.ofNat 32 d.val) 64#32 = BitVec.ofBool (decide (64 ≤ d.val)) := by
  exact sge_word ⟨d.val, by omega⟩ ⟨64, by omega⟩

theorem select_dec {α : Type} (p : Prop) [Decidable p] (x y : α) :
    Scalar.select (BitVec.ofBool (decide p)) x y = if p then x else y := by
  by_cases h : p
  · rw [if_pos h, decide_eq_true h]; rfl
  · rw [if_neg h, decide_eq_false h]; rfl

theorem q0_apply (x1 : Vec Ideal S256x128 .bf16) (r : Fin 256) (d : Fin 128) :
    k0_pay92 (F := Ideal) x1 (ix2 r d) = if d.val < 64 then x1 (ix2 r d) else 0 := by
  show Scalar.select (IntOp.cmpi .slt (iota .tc S256x128 32 [1] iota_S256x128_d1_w32 (ix2 r d)) 64#32)
    (shapeCast S256x128 x1 shapeCasts_S256x128_S256x128 (ix2 r d)) (Ideal.ofBits .bf16 0x0000#16) = _
  rw [iota_single_apply, shapeCast_self, Ideal.ofBits_zero_bf16]
  exact (congrArg (fun w => Scalar.select w _ _) (lane_word_lt d)).trans (select_dec _ _ _)

theorem q1_apply (x1 : Vec Ideal S256x128 .bf16) (r : Fin 256) (d : Fin 128) :
    k0_pay93 (F := Ideal) x1 (ix2 r d) = if 64 ≤ d.val then x1 (ix2 r d) else 0 := by
  show Scalar.select (IntOp.cmpi .sge (iota .tc S256x128 32 [1] iota_S256x128_d1_w32 (ix2 r d)) 64#32)
    (shapeCast S256x128 x1 shapeCasts_S256x128_S256x128 (ix2 r d)) (Ideal.ofBits .bf16 0x0000#16) = _
  rw [iota_single_apply, shapeCast_self, Ideal.ofBits_zero_bf16]
  exact (congrArg (fun w => Scalar.select w _ _) (lane_word_ge d)).trans (select_dec _ _ _)

theorem sum_lanes (f : Fin 128 → EReal) :
    ∑ d : Fin 128, f d = ∑ d : Fin 64, f (lane 0 d) + ∑ d : Fin 64, f (lane 1 d) := by
  show ∑ d : Fin (64 + 64), f d = _
  rw [Fin.sum_univ_add]
  congr 1

/-- The masked queries' scores are the head's. -/
theorem head0 (x1 : Vec Ideal S256x128 .bf16) (k : Fin 128 → EReal) (r : Fin 256) :
    ∑ d : Fin 128, k0_pay92 (F := Ideal) x1 (ix2 r d) * k d
      = ∑ d : Fin 64, x1 (ix2 r (lane 0 d)) * k (lane 0 d) := by
  rw [sum_lanes, Finset.sum_congr (s₁ := Finset.univ) rfl (g := fun d : Fin 64 => x1 (ix2 r (lane 0 d)) * k (lane 0 d))
    (fun d _ => by rw [q0_apply, if_pos (lane0_lt d)]),
    Finset.sum_congr (s₁ := Finset.univ) (f := fun d : Fin 64 => k0_pay92 (F := Ideal) x1 (ix2 r (lane 1 d)) * k (lane 1 d))
      rfl (g := fun d : Fin 64 => (0 : EReal))
    (fun d _ => by rw [q0_apply, if_neg (lane1_ge d).not_gt, zero_mul])]
  simp

theorem head1 (x1 : Vec Ideal S256x128 .bf16) (k : Fin 128 → EReal) (r : Fin 256) :
    ∑ d : Fin 128, k0_pay93 (F := Ideal) x1 (ix2 r d) * k d
      = ∑ d : Fin 64, x1 (ix2 r (lane 1 d)) * k (lane 1 d) := by
  rw [sum_lanes, Finset.sum_congr (s₁ := Finset.univ) rfl (g := fun d : Fin 64 => (0 : EReal))
    (fun d _ => by rw [q1_apply, if_neg (lane0_lt d).not_ge, zero_mul]),
    Finset.sum_congr (s₁ := Finset.univ) (f := fun d : Fin 64 => k0_pay93 (F := Ideal) x1 (ix2 r (lane 1 d)) * k (lane 1 d))
      rfl (g := fun d : Fin 64 => x1 (ix2 r (lane 1 d)) * k (lane 1 d))
    (fun d _ => by rw [q1_apply, if_pos (lane1_ge d)])]
  simp

theorem zero_apply (y : S2x256x128.Idx) : k0_pay96 (F := Ideal) y = (0 : EReal) := by
  show shapeCast S2x256x128 (fun _ => Ideal.ofBits .f32 0x00000000#32) shapeCasts_S2x256x128_S2x256x128 y = _
  rw [shapeCast_self, Ideal.ofBits_zero_f32]

theorem zero_half0 (j : S1x256x128.Idx) : (View.ld (k0_pay96 (F := Ideal)) h0 : Vec Ideal S1x256x128 .f32) j = (0 : EReal) :=
  zero_apply _

theorem zero_half1 (j : S1x256x128.Idx) : (View.ld (k0_pay96 (F := Ideal)) h1 : Vec Ideal S1x256x128 .f32) j = (0 : EReal) :=
  zero_apply _

variable (c : Dev nD) (i : grid0.Coords) (arg2 : Memref sig .tc .smem S8 .f32)
  (harg2 : arg2.IsWhole) (arg3 : Memref sig .tc .vmem S256x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S256x128 .bf16) (harg6 : arg6.IsWhole)
  (arg7 : Memref sig .tc .vmem S2x256x128 .f32) (harg7 : arg7.IsWhole)

theorem i0_lt : (i 0).val < 4 := (i 0).isLt
theorem i1_lt : (i 1).val < 64 := (i 1).isLt

theorem bias0 (x0 : Vec Ideal S8 .f32) (h : 2 * (i 0).val < 8) :
    kernelRun0_A.sl.r (F := Ideal) c i arg2 harg2 x0 = x0 (ix1 ⟨2 * (i 0).val, h⟩) := by
  unfold kernelRun0_A.sl.r
  rw [View.readAt_eq_ld, harg2.read_unread]
  refine congrArg x0 (funext fun e => Fin.ext ?_)
  match e with
  | ⟨0, _⟩ =>
    show k0_off1 i 0 + 1 * 0 = 2 * (i 0).val
    rw [off1_eq]; rfl

theorem bias1 (x0 : Vec Ideal S8 .f32) (h : 2 * (i 0).val + 1 < 8) :
    kernelRun0_A.sl.r_1 (F := Ideal) c i arg2 harg2 x0 = x0 (ix1 ⟨2 * (i 0).val + 1, h⟩) := by
  unfold kernelRun0_A.sl.r_1
  rw [View.readAt_eq_ld, harg2.read_unread]
  refine congrArg x0 (funext fun e => Fin.ext ?_)
  match e with
  | ⟨0, _⟩ =>
    show k0_off2 i 0 + 1 * 0 = 2 * (i 0).val + 1
    rw [off2_eq]; rfl

section
variable (x1 : Vec Ideal S256x128 .bf16) (x2 x3 : Vec Ideal S16384x128 .bf16) (b : EReal) (h : Fin 2)
  (q : FVec Ideal S256x128 .bf16)
  (hq : ∀ (k : Fin 128 → EReal) (r : Fin 256), ∑ d : Fin 128, q (ix2 r d) * k d
    = ∑ d : Fin 64, x1 (ix2 r (lane h d)) * k (lane h d))
include hq

theorem score_blk (a : ℕ) (off : Fin 2 → ℕ) (inb : ∀ a, off a + S256x128.size a ≤ S16384x128.size a)
    (ha : off = ![a, 0]) (hlt : a + 256 ≤ 16384) (r s : Fin 256) :
    score x1 x2 b h r (a + s)
      = (∑ d : Fin 128, q (ix2 r d) * ldk (F := Ideal) arg4 (harg4.unread x2) off inb (ix2 s d)) + b := by
  rw [hq (fun d => ldk (F := Ideal) arg4 (harg4.unread x2) off inb (ix2 s d)) r]
  unfold score
  rw [dif_pos ⟨r.isLt, by omega⟩]
  refine congrArg (· + b) (Finset.sum_congr rfl fun d _ => ?_)
  rw [ldk_apply arg4 harg4 x2 off inb a ha s _ (by omega)]

omit hq in
theorem vals_blk (a : ℕ) (off : Fin 2 → ℕ) (inb : ∀ a, off a + S256x128.size a ≤ S16384x128.size a)
    (ha : off = ![a, 0]) (hlt : a + 256 ≤ 16384) (l : Fin 128) (s : Fin 256) :
    vals x3 l (a + s) = ldk (F := Ideal) arg5 (harg5.unread x3) off inb (ix2 s l) := by
  unfold vals
  rw [dif_pos ⟨by omega, l.isLt⟩, ldk_apply arg5 harg5 x3 off inb a ha s _ (by omega)]

theorem keeps :
    Keeps (F := Ideal) (fun J => Done (score x1 x2 b h) (vals x3) (256 * (i 1).val) (256 * J)) (i 1).val q b arg4 arg5
      (harg4.unread x2) (harg5.unread x3) := by
  intro J off inb hoff hJ car a hp
  have h1 := i1_lt i
  exact done_step q b _ _ _ _ _ _ (score_blk arg4 harg4 x1 x2 b h q hq _ off inb hoff (by omega))
    (vals_blk arg5 harg5 x3 _ off inb hoff (by omega)) (by omega) car a hp

theorem first (acc : Vec Ideal S1x256x128 .f32) (hacc : ∀ j, acc j = (0 : EReal)) :
    Done (score x1 x2 b h) (vals x3) (256 * (i 1).val) (256 * (i 1).val)
      (cDg (F := Ideal) q b (ldk arg4 (harg4.unread x2) (k0_off3 i) (k0_off3_inb i)))
      (aDg (F := Ideal) q b (ldk arg4 (harg4.unread x2) (k0_off3 i) (k0_off3_inb i))
        (ldk arg5 (harg5.unread x3) (k0_off3 i) (k0_off3_inb i)) acc) := by
  have h1 := i1_lt i
  exact done_first q b _ _ _ _ _ (score_blk arg4 harg4 x1 x2 b h q hq _ _ _ (off3_eq i) (by omega))
    (vals_blk arg5 harg5 x3 _ _ _ (off3_eq i) (by omega)) acc hacc
end

/-- The head of a lane. -/
def headOf (l : Fin 128) : Fin 2 := ⟨l.val / 64, by omega⟩

/-- The stored block at an index. -/
theorem out_apply (A0 A1 : Vec Ideal S1x256x128 .f32) (r : Fin 256) (l : Fin 128) :
    k0_pay1 (F := Ideal) (k0_pay121 (iota .tc S256x128 32 [1] iota_S256x128_d1_w32)) (k0_pay122 A0) A1 (ix2 r l)
      = if l.val < 64 then A0 (ix3 0 r l) else A1 (ix3 0 r l) := by
  show Scalar.select (IntOp.cmpi .slt (iota .tc S256x128 32 [1] iota_S256x128_d1_w32 (ix2 r l)) 64#32)
    (shapeCast S256x128 A0 shapeCasts_S1x256x128_S256x128 (ix2 r l))
    (shapeCast S256x128 A1 shapeCasts_S1x256x128_S256x128 (ix2 r l)) = _
  rw [iota_single_apply, shapeCast_1ab_ab_apply, shapeCast_1ab_ab_apply]
  exact (congrArg (fun w => Scalar.select w _ _) (lane_word_lt l)).trans (select_dec _ _ _)

/-- What the body leaves in the output block. -/
theorem out_val (x0 : Vec Ideal S8 .f32) (x1 : Vec Ideal S256x128 .bf16) (x2 x3 : Vec Ideal S16384x128 .bf16)
    (r : Fin 256) (l : Fin 128) (hb : 2 * (i 0).val + (headOf l).val < 8) :
    out0_A_4 (F := Ideal) c i arg2 harg2 arg3 harg3 arg4 harg4 arg5 harg5 arg6 harg6 arg7 harg7 x0 x1 x2 x3 (ix2 r l)
      = att (score x1 x2 (x0 (ix1 ⟨2 * (i 0).val + (headOf l).val, hb⟩)) (headOf l) r) (vals x3 l)
          (256 * (i 1).val + r) 0 := by
  have g0 := i0_lt i
  have w : View.ld x1 (Rect.unit ![0, 0] S256x128.size inb_S256x128_S256x128_0_0) = x1 := ld_whole x1
  obtain ⟨c0, c1, A0, A1, p0, p1, e⟩ := run_val (F := Ideal) c i arg2 harg2 arg3 harg3 arg4 harg4 arg5 harg5 arg6 harg6
    arg7 harg7
    (fun J => Done (score x1 x2 (x0 (ix1 ⟨2 * (i 0).val, by omega⟩)) 0) (vals x3) (256 * (i 1).val) (256 * J))
    (fun J => Done (score x1 x2 (x0 (ix1 ⟨2 * (i 0).val + 1, by omega⟩)) 1) (vals x3) (256 * (i 1).val) (256 * J))
    x0 x1 x2 x3
    (by rw [w, bias0 c i arg2 harg2 x0 (by omega)]; exact keeps i arg4 harg4 arg5 harg5 x1 x2 x3 _ 0 _ (head0 x1))
    (by rw [w, bias1 c i arg2 harg2 x0 (by omega)]; exact keeps i arg4 harg4 arg5 harg5 x1 x2 x3 _ 1 _ (head1 x1))
    (by
      rw [w, bias0 c i arg2 harg2 x0 (by omega)]
      exact first i arg4 harg4 arg5 harg5 x1 x2 x3 _ 0 _ (head0 x1) _ zero_half0)
    (by
      rw [w, bias1 c i arg2 harg2 x0 (by omega)]
      exact first i arg4 harg4 arg5 harg5 x1 x2 x3 _ 1 _ (head1 x1) _ zero_half1)
  unfold out0_A_4
  rw [e]
  have he : (Rect.unit (s := S256x128) ![0, 0] S256x128.size inb_S256x128_S256x128_0_0).emb (ix2 r l) = ix2 r l :=
    funext fun a => Fin.ext (by
      match a with
      | ⟨0, _⟩ => show 0 + 1 * r.val = r.val; omega
      | ⟨1, _⟩ => show 0 + 1 * l.val = l.val; omega)
  have hr := View.read_writes_cons_emb VO0_4 (VO0_4.junk (Val := Elt Ideal))
    (Rect.unit (s := S256x128) ![0, 0] S256x128.size inb_S256x128_S256x128_0_0)
    (k0_pay1 (F := Ideal) (k0_pay121 (iota .tc S256x128 32 [1] iota_S256x128_d1_w32)) (k0_pay122 A0) A1) [] (ix2 r l)
  rw [he] at hr
  rw [hr, out_apply]
  by_cases hl : l.val < 64
  · have hh : headOf l = 0 := Fin.ext (show l.val / 64 = 0 by omega)
    rw [if_pos hl, (p0 r).2 l]
    simp only [hh]
    rfl
  · have hh : headOf l = 1 := Fin.ext (show l.val / 64 = 1 by omega)
    rw [if_neg hl, (p1 r).2 l]
    simp only [hh]
    rfl

end Cert.KernelIdeal.Body

end
-- ==== Proof.Array.lean ====
/- The result array of the attention kernel over the extended reals: the blocks the grid's points write cover it, and
   each holds the attention of its queries and heads, read from the argument arrays. -/
module

public import proofs.«01_k».proof.Proof.Body
public import proofs.«01_k».proof.Proof.Gen.KernelIdeal.Value
public import Idealize.ShloMosaic.Lib.Pipeline.Value
public import Idealize.ShloMosaic.Lib.Claim

@[expose] public section

set_option maxRecDepth 16384

noncomputable section

namespace Cert.KernelIdeal.Arr

open Cert.KernelIdeal Cert.KernelIdeal.Gen Cert.KernelIdeal.Body Cert.Stick
  Idealize.ShloMosaic Idealize.ShloMosaic.ValueIdx Idealize.ShloMosaic.TcCoe Idealize.SL.Sem
open Idealize.ShloMosaic.Pipeline (Dat)

/-- One eighth, as the programs write it. -/
abbrev eighth : EReal := Ideal.ofBits .f32 0x3E000000#32

/-- Column `64 h + d`: lane `d` of head `h`. -/
def col (h : Fin 8) (d : Fin 64) : Fin 512 := ⟨64 * h.val + d.val, by omega⟩

/-- The score of query `t` and key `s` in head `h`, from the whole arrays. -/
def zed (q k : (⟨2, ![16384, 512]⟩ : Shape).Idx → EReal) (b : (⟨1, ![8]⟩ : Shape).Idx → EReal) (h : Fin 8) (t s : ℕ) : EReal :=
  if H : t < 16384 ∧ s < 16384 then
    (∑ d : Fin 64, q (ix2 ⟨t, H.1⟩ (col h d)) * eighth * k (ix2 ⟨s, H.2⟩ (col h d))) + b (ix1 h)
  else 0

/-- Column `e` of the values. -/
def val (v : (⟨2, ![16384, 512]⟩ : Shape).Idx → EReal) (e : Fin 512) (s : ℕ) : EReal :=
  if H : s < 16384 then v (ix2 ⟨s, H⟩ e) else 0

/-- The attention at query `t` and column `e`. -/
def sba (q k v : (⟨2, ![16384, 512]⟩ : Shape).Idx → EReal) (b : (⟨1, ![8]⟩ : Shape).Idx → EReal) (t : Fin 16384) (e : Fin 512) :
    EReal :=
  att (zed q k b ⟨e.val / 64, by omega⟩ t) (val v e) t 0

variable (m : (ℓ : Loc nD τ sig) → Buf (Elt Ideal) ℓ)

abbrev qa (c : Dev nD) : (⟨2, ![16384, 512]⟩ : Shape).Idx → EReal := m ((c : Thread nD τ).loc main_arg0)
abbrev ka (c : Dev nD) : (⟨2, ![16384, 512]⟩ : Shape).Idx → EReal := m ((c : Thread nD τ).loc main_arg1)
abbrev va (c : Dev nD) : (⟨2, ![16384, 512]⟩ : Shape).Idx → EReal := m ((c : Thread nD τ).loc main_arg2)
abbrev ba (c : Dev nD) : (⟨1, ![8]⟩ : Shape).Idx → EReal := m ((c : Thread nD τ).loc main_arg3)

/-- What the result array is shown to hold. -/
def G (c : Dev nD) : Buf (Elt Ideal) ((c : Thread nD τ).loc main_v5) := fun j : S16384x512.Idx =>
  sba (qa m c) (ka m c) (va m c) (ba m c) (j 0) (j 1)

theorem V_q (c : Dev nD) : V m c main_v2 = fun j : S16384x512.Idx => qa m c j * eighth := by
  entry_read
  rfl
theorem V_k (c : Dev nD) : V m c main_v3 = ka m c := by
  entry_read
  rfl
theorem V_v (c : Dev nD) : V m c main_v4 = va m c := by
  entry_read
  rfl

theorem idx0 : ∀ t : Fin cfg0.N, (cfg0.win 0).index t = ![0] := by decide +kernel
theorem idx1 : ∀ t : Fin cfg0.N, (cfg0.win 1).index t = ![(grid0.coords t 1).val, (grid0.coords t 0).val] := by decide +kernel
theorem idx2 : ∀ t : Fin cfg0.N, (cfg0.win 2).index t = ![0, (grid0.coords t 0).val] := by decide +kernel
theorem idx3 : ∀ t : Fin cfg0.N, (cfg0.win 3).index t = ![0, (grid0.coords t 0).val] := by decide +kernel
theorem idx4 : ∀ t : Fin cfg0.N, (cfg0.win 4).index t = ![(grid0.coords t 1).val, (grid0.coords t 0).val] := by decide +kernel

theorem xb (t : Fin cfg0.N) : (cfg0.win 4).xblock (grid0.coords t) = S256x128 := rfl

theorem bias_blk (c : Dev nD) (t : Fin cfg0.N) (h : Fin 8) :
    (iblk m c 0 t : Vec Ideal S8 .f32) (ix1 h) = ba m c (ix1 h) := by
  show V m c main_arg3 (((cfg0.win 0).rect t).emb (ix1 h)) = _
  rw [V_main_arg3]
  refine congrArg (ba m c) (funext fun a => Fin.ext ?_)
  match a with
  | ⟨0, _⟩ =>
    refine ((cfg0.win 0).rect_emb_val t (ix1 h) 0).trans ?_
    rw [idx0]; show 0 * 8 + h.val = h.val; omega

theorem q_blk (c : Dev nD) (t : Fin cfg0.N) (r : Fin 256) (d : Fin 128)
    (h1 : 256 * (grid0.coords t 1).val + r.val < 16384) (h0 : 128 * (grid0.coords t 0).val + d.val < 512) :
    (iblk m c 1 t : Vec Ideal S256x128 .bf16) (ix2 r d) = qa m c (ix2 ⟨_, h1⟩ ⟨_, h0⟩) * eighth := by
  show V m c main_v2 (((cfg0.win 1).rect t).emb (ix2 r d)) = _
  rw [V_q]
  refine congrArg (fun j => qa m c j * eighth) (funext fun a => Fin.ext ?_)
  match a with
  | ⟨0, _⟩ =>
    refine ((cfg0.win 1).rect_emb_val t (ix2 r d) 0).trans ?_
    rw [idx1]; show (grid0.coords t 1).val * 256 + r.val = 256 * (grid0.coords t 1).val + r.val; omega
  | ⟨1, _⟩ =>
    refine ((cfg0.win 1).rect_emb_val t (ix2 r d) 1).trans ?_
    rw [idx1]; show (grid0.coords t 0).val * 128 + d.val = 128 * (grid0.coords t 0).val + d.val; omega

theorem k_blk (c : Dev nD) (t : Fin cfg0.N) (s : Fin 16384) (d : Fin 128)
    (h0 : 128 * (grid0.coords t 0).val + d.val < 512) :
    (iblk m c 2 t : Vec Ideal S16384x128 .bf16) (ix2 s d) = ka m c (ix2 s ⟨_, h0⟩) := by
  show V m c main_v3 (((cfg0.win 2).rect t).emb (ix2 s d)) = _
  rw [V_k]
  refine congrArg (fun j => ka m c j) (funext fun a => Fin.ext ?_)
  match a with
  | ⟨0, _⟩ =>
    refine ((cfg0.win 2).rect_emb_val t (ix2 s d) 0).trans ?_
    rw [idx2]; show 0 * 16384 + s.val = s.val; omega
  | ⟨1, _⟩ =>
    refine ((cfg0.win 2).rect_emb_val t (ix2 s d) 1).trans ?_
    rw [idx2]; show (grid0.coords t 0).val * 128 + d.val = 128 * (grid0.coords t 0).val + d.val; omega

theorem v_blk (c : Dev nD) (t : Fin cfg0.N) (s : Fin 16384) (d : Fin 128)
    (h0 : 128 * (grid0.coords t 0).val + d.val < 512) :
    (iblk m c 3 t : Vec Ideal S16384x128 .bf16) (ix2 s d) = va m c (ix2 s ⟨_, h0⟩) := by
  show V m c main_v4 (((cfg0.win 3).rect t).emb (ix2 s d)) = _
  rw [V_v]
  refine congrArg (fun j => va m c j) (funext fun a => Fin.ext ?_)
  match a with
  | ⟨0, _⟩ =>
    refine ((cfg0.win 3).rect_emb_val t (ix2 s d) 0).trans ?_
    rw [idx3]; show 0 * 16384 + s.val = s.val; omega
  | ⟨1, _⟩ =>
    refine ((cfg0.win 3).rect_emb_val t (ix2 s d) 1).trans ?_
    rw [idx3]; show (grid0.coords t 0).val * 128 + d.val = 128 * (grid0.coords t 0).val + d.val; omega

/-- What a point writes back is its block of the attention. -/
theorem flushed_eq (c : Dev nD) (t : Fin cfg0.N) :
    (dats m 0 c).flushed 4 t = ((cfg0.win 4).blk t).view.read (Elt Ideal) (G m c) := by
  rw [Cert.KernelIdeal.Value.flushed4_A]
  funext (y : S256x128.Idx)
  obtain ⟨r, l, rfl⟩ : ∃ (r : Fin 256) (l : Fin 128), y = ix2 r l := ⟨y 0, y 1, eq_ix2 y⟩
  have g0 := i0_lt (grid0.coords t)
  have g1 := i1_lt (grid0.coords t)
  have hl := l.isLt
  have h1 : 256 * (grid0.coords t 1).val + r.val < 16384 := by omega
  have h0 : 128 * (grid0.coords t 0).val + l.val < 512 := by omega
  have hb : 2 * (grid0.coords t 0).val + (headOf l).val < 8 := by
    show 2 * (grid0.coords t 0).val + l.val / 64 < 8; omega
  have he : ((cfg0.win 4).rect t).emb (ix2 r l)
      = (ix2 ⟨_, h1⟩ ⟨_, h0⟩ : (⟨2, ![16384, 512]⟩ : Shape).Idx) := funext fun a => Fin.ext (by
    match a with
    | ⟨0, _⟩ =>
      refine ((cfg0.win 4).rect_emb_val t (ix2 r l) 0).trans ?_
      rw [idx4]; show (grid0.coords t 1).val * 256 + r.val = 256 * (grid0.coords t 1).val + r.val; omega
    | ⟨1, _⟩ =>
      refine ((cfg0.win 4).rect_emb_val t (ix2 r l) 1).trans ?_
      rw [idx4]; show (grid0.coords t 0).val * 128 + l.val = 128 * (grid0.coords t 0).val + l.val; omega)
  refine (out_val c (grid0.coords t) _ _ _ _ _ _ _ _ _ _ _ _ _ _ _ _ r l hb).trans ?_
  show _ = G m c (((cfg0.win 4).rect t).emb (ix2 r l))
  rw [he]
  show _ = att (zed (qa m c) (ka m c) (ba m c) ⟨(128 * (grid0.coords t 0).val + l.val) / 64, _⟩
    (256 * (grid0.coords t 1).val + r.val)) (val (va m c) ⟨128 * (grid0.coords t 0).val + l.val, h0⟩)
    (256 * (grid0.coords t 1).val + r.val) 0
  have hh : (⟨(128 * (grid0.coords t 0).val + l.val) / 64, by omega⟩ : Fin 8)
      = ⟨2 * (grid0.coords t 0).val + (headOf l).val, hb⟩ := Fin.ext (by
    show (128 * (grid0.coords t 0).val + l.val) / 64 = 2 * (grid0.coords t 0).val + l.val / 64; omega)
  rw [hh]
  congr 1
  · funext s
    unfold score zed
    by_cases hs : s < 16384
    · rw [dif_pos ⟨r.isLt, hs⟩, dif_pos ⟨h1, hs⟩, bias_blk]
      refine congrArg (· + _) (Finset.sum_congr rfl fun d _ => ?_)
      have hd := d.isLt
      have hc : 128 * (grid0.coords t 0).val + (lane (headOf l) d).val < 512 := by
        show 128 * (grid0.coords t 0).val + (64 * (l.val / 64) + d.val) < 512; omega
      have ec : (⟨128 * (grid0.coords t 0).val + (lane (headOf l) d).val, hc⟩ : Fin 512)
          = col ⟨2 * (grid0.coords t 0).val + (headOf l).val, hb⟩ d := Fin.ext (by
        show 128 * (grid0.coords t 0).val + (64 * (l.val / 64) + d.val)
          = 64 * (2 * (grid0.coords t 0).val + l.val / 64) + d.val; omega)
      rw [q_blk m c t ⟨r, r.isLt⟩ (lane (headOf l) d) h1 hc, k_blk m c t ⟨s, hs⟩ (lane (headOf l) d) hc, ec]
    · rw [dif_neg (fun H => hs H.2), dif_neg (fun H => hs H.2)]
  · funext s
    unfold vals val
    by_cases hs : s < 16384
    · rw [dif_pos ⟨hs, l.isLt⟩, dif_pos hs]
      exact v_blk m c t ⟨s, hs⟩ l h0
    · rw [dif_neg (fun H => hs H.1), dif_neg hs]

/-- Some point's block holds a given index. -/
theorem point_of : ∀ (a : Fin 64) (p : Fin 4), ∃ t : Fin cfg0.N, (grid0.coords t 1).val = a.val ∧ (grid0.coords t 0).val = p.val := by
  decide +kernel

theorem cover (i : S16384x512.Idx) : ∃ t : Fin cfg0.N, (cfg0.win 4).flush t = true ∧ i ∈ ((cfg0.win 4).blk t).view.set := by
  have b0 : (i 0).val < 16384 := (i 0).isLt
  have b1 : (i 1).val < 512 := (i 1).isLt
  obtain ⟨t, ht1, ht0⟩ := point_of ⟨(i 0).val / 256, by omega⟩ ⟨(i 1).val / 128, by omega⟩
  refine ⟨t, flush0_4 t, ?_⟩
  show i ∈ ((View.whole main_v5).slice ((cfg0.win 4).rect t)).set
  rw [View.set_slice_whole, Rect.mem_set_unit]
  intro a
  match a with
  | ⟨0, _⟩ =>
    show (cfg0.win 4).index t 0 * 256 ≤ (i 0).val ∧ (i 0).val < (cfg0.win 4).index t 0 * 256 + 256
    rw [idx4]
    show (grid0.coords t 1).val * 256 ≤ (i 0).val ∧ (i 0).val < (grid0.coords t 1).val * 256 + 256
    rw [ht1]; dsimp only; omega
  | ⟨1, _⟩ =>
    show (cfg0.win 4).index t 1 * 128 ≤ (i 1).val ∧ (i 1).val < (cfg0.win 4).index t 1 * 128 + 128
    rw [idx4]
    show (grid0.coords t 0).val * 128 ≤ (i 1).val ∧ (i 1).val < (grid0.coords t 0).val * 128 + 128
    rw [ht0]; dsimp only; omega

/-- The kernel's run: its result array holds the attention, its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 (G m c) (fun t _ => flushed_eq m c t) cover),
      (h c).2⟩) (Cert.KernelIdeal.Value.run_blocks m ρ)

end Cert.KernelIdeal.Arr

end
-- ==== Proof.Attention.lean ====
/- The reference over the extended reals: its scores, its masked cumulative sums and its weights are read at an index,
   and its result is the attention, row by row. -/
module

public import proofs.«01_k».proof.Proof.Array
public import proofs.«01_k».proof.Proof.Gen.ReferenceIdeal.Read
public import Idealize.ShloMosaic.Lib.ValueIdx

@[expose] public section

set_option maxRecDepth 16384

noncomputable section

namespace Cert.ReferenceIdeal.Att

open Cert.ReferenceIdeal Cert.ReferenceIdeal.Gen Cert.ReferenceIdeal.Read Cert.Stick
  Idealize.ShloMosaic Idealize.ShloMosaic.ValueIdx Idealize.ShloMosaic.TcCoe Idealize.SL.Sem
open Cert.KernelIdeal.Arr (eighth col zed val sba)

/-- Adding up a list from a start is the start plus the list's sum. -/
theorem foldl_eq_sum {ι : Type} (g : ι → EReal) (l : List ι) (z : EReal) :
    l.foldl (fun r n => r + g n) z = z + (l.map g).sum := by
  induction l generalizing z with
  | nil => simp
  | cons a l ih => rw [List.foldl_cons, ih, List.map_cons, List.sum_cons, add_assoc]

/-- The window's positions, along its last axis. -/
abbrev W : Shape := ⟨4, ![1, 1, 1, 16384]⟩

def wpos : Fin 16384 ≃ W.Idx where
  toFun k := ix4 (0 : Fin 1) (0 : Fin 1) (0 : Fin 1) k
  invFun i := i 3
  left_inv k := rfl
  right_inv i := by
    refine funext fun c => Fin.ext ?_
    match c with
    | ⟨0, _⟩ => have h : (i 0).val < 1 := (i 0).isLt; show 0 = (i 0).val; omega
    | ⟨1, _⟩ => have h : (i 1).val < 1 := (i 1).isLt; show 0 = (i 1).val; omega
    | ⟨2, _⟩ => have h : (i 2).val < 1 := (i 2).isLt; show 0 = (i 2).val; omega
    | ⟨3, _⟩ => rfl

/-- A window sum from zero is the sum over the window's positions. -/
theorem reduceWindow_eq_sum {s t : Shape} (window strides lo hi : Fin s.rank → ℕ) (h : s.ReduceWindows window strides lo hi t)
    (x : s.Idx → EReal) (j : t.Idx) :
    Ideal.hostReduceWindowAdd window strides lo hi h x 0 j
      = ∑ w : (⟨s.rank, window⟩ : Shape).Idx,
          if hin : ∀ c, lo c ≤ (j (c.cast h.1.symm)).val * strides c + (w c).val
              ∧ (j (c.cast h.1.symm)).val * strides c + (w c).val - lo c < s.size c
          then x (fun c => ⟨(j (c.cast h.1.symm)).val * strides c + (w c).val - lo c, (hin c).2⟩) else 0 := by
  unfold Ideal.hostReduceWindowAdd Host.reduceWindow
  refine (foldl_eq_sum _ _ _).trans ?_
  rw [zero_add, ← List.ofFn_eq_map, List.sum_ofFn, ← Equiv.sum_comp (⟨s.rank, window⟩ : Shape).rowMajor.symm]
  refine Finset.sum_congr rfl fun i _ => ?_
  split_ifs <;> rfl

/-- The sum over a window of `N` positions that starts at `s`, of zeros past the row's end, is the row's tail sum. -/
theorem window_sum (f : ℕ → EReal) {N s : ℕ} (hs : s ≤ N) :
    (∑ k : Fin N, if s + k.val < N then f (s + k.val) else 0) = ∑ r ∈ Finset.Ico s N, f r := by
  rw [Fin.sum_univ_eq_sum_range (fun k => if s + k < N then f (s + k) else 0) N, Finset.sum_Ico_eq_sum_range,
    ← Finset.sum_filter]
  refine Finset.sum_congr (Finset.ext fun k => ?_) fun _ _ => rfl
  simp only [Finset.mem_filter, Finset.mem_range]; omega

/-- The cumulative sum from the right, at an index. -/
theorem cumsum_apply (x : S1x8x16384x16384.Idx → EReal) (init : EReal) (h0 : init = 0)
    (h : S1x8x16384x16384.ReduceWindows ![1, 1, 1, 16384] ![1, 1, 1, 1] ![0, 0, 0, 0] ![0, 0, 0, 16383] S1x8x16384x16384)
    (a : Fin 1) (b : Fin 8) (t s : Fin 16384) (f : ℕ → EReal) (hf : ∀ r : Fin 16384, x (ix4 a b t r) = f r.val) :
    Ideal.hostReduceWindowAdd ![1, 1, 1, 16384] ![1, 1, 1, 1] ![0, 0, 0, 0] ![0, 0, 0, 16383] h x init (ix4 a b t s)
      = ∑ r ∈ Finset.Ico s.val 16384, f r := by
  subst h0
  rw [reduceWindow_eq_sum, ← window_sum f s.isLt.le]
  refine (Equiv.sum_comp wpos _).symm.trans ?_
  refine Finset.sum_congr rfl fun k _ => ?_
  by_cases hk : s.val + k.val < 16384
  · rw [if_pos hk, dif_pos (fun c => ?_), ← hf ⟨s.val + k.val, hk⟩]
    · refine congrArg x (funext fun c => Fin.ext ?_)
      match c with
      | ⟨0, _⟩ => show a.val * 1 + 0 - 0 = a.val; omega
      | ⟨1, _⟩ => show b.val * 1 + 0 - 0 = b.val; omega
      | ⟨2, _⟩ => show t.val * 1 + 0 - 0 = t.val; omega
      | ⟨3, _⟩ => show s.val * 1 + k.val - 0 = s.val + k.val; omega
    · match c with
      | ⟨0, _⟩ => exact ⟨Nat.zero_le _, by show a.val * 1 + 0 - 0 < 1; omega⟩
      | ⟨1, _⟩ => exact ⟨Nat.zero_le _, by show b.val * 1 + 0 - 0 < 8; omega⟩
      | ⟨2, _⟩ => exact ⟨Nat.zero_le _, by show t.val * 1 + 0 - 0 < 16384; omega⟩
      | ⟨3, _⟩ => exact ⟨Nat.zero_le _, by show s.val * 1 + k.val - 0 < 16384; omega⟩
  · rw [if_neg hk, dif_neg]
    intro H
    have h3 : s.val * 1 + k.val - 0 < 16384 := (H 3).2
    omega

theorem eighth_eq : eighth = ((1 / 8 : ℝ) : EReal) := by
  simp [eighth, Ideal.ofBits, Ideal.ieee, -EReal.coe_mul]; norm_num

/-- A factor of one eighth moves into a sum. -/
theorem sum_eighth {n : ℕ} (f : Fin n → EReal) : (∑ d, f d) * eighth = ∑ d, f d * eighth := by
  have h0 : (0 : EReal) ≤ eighth := by rw [eighth_eq]; exact_mod_cast (by norm_num : (0 : ℝ) ≤ 1 / 8)
  have ht : eighth ≠ ⊤ := by rw [eighth_eq]; exact EReal.coe_ne_top _
  generalize eighth = e at *
  induction (Finset.univ : Finset (Fin n)) using Finset.induction_on with
  | empty => simp
  | insert a S ha ih => rw [Finset.sum_insert ha, Finset.sum_insert ha, EReal.right_distrib_of_nonneg_of_ne_top h0 ht, ih]

/-- The reference's softplus is `sp`: nothing differs from itself, so the guarded branch is never taken. -/
theorem softplus (y : EReal) (w : EReal) :
    Scalar.select (Ideal.cmp .une (y - 0) (y - 0)) w (max y 0 + Ideal.log1p (Ideal.exp (-(max (y - 0) (-(y - 0)))))) = sp y := by
  have hc : Ideal.cmp .une (y - 0) (y - 0) = 0#1 := by simp [Ideal.cmp]
  rw [hc, sub_zero]
  rfl

variable (q k v : (⟨2, ![16384, 512]⟩ : Shape).Idx → EReal) (b : (⟨1, ![8]⟩ : Shape).Idx → EReal)

theorem zero_cst : Ideal.ofBits .f32 0x00000000#32 = 0 := Ideal.ofBits_zero_f32

/-- The reference's score. -/
theorem score_apply (h : Fin 8) (t s : Fin 16384) :
    val_main_v10 (F := Ideal) q k b (ix4 (0 : Fin 1) h t s) = zed q k b h t s := by
  rw [val_main_v10_apply, val_main_v7_apply, val_main_v6_apply, val_main_cst_apply, val_main_v5_apply, val_main_v9_apply, val_main_v8_apply]
  show (∑ d : Fin 64, val_main_v0 (F := Ideal) q _ * val_main_v1 (F := Ideal) k _) * eighth + _ = _
  unfold zed
  rw [dif_pos ⟨t.isLt, s.isLt⟩, sum_eighth]
  have e2 : idx_main_v8 (idx_main_v9 (ix4 (0 : Fin 1) h t s)) = ix1 h := funext fun a => Fin.ext (by
    match a with
    | ⟨0, _⟩ => rfl)
  rw [e2]
  refine congrArg (· + _) (Finset.sum_congr rfl fun d _ => ?_)
  have ea : idx_main_v0 (lidx_main_v5 (ix4 (0 : Fin 1) h t s) d) = ix2 t (col h d) := funext fun a => Fin.ext (by
    have := h.isLt; have := t.isLt; have := d.isLt
    match a with
    | ⟨0, _⟩ => show (((0 * 16384 + t.val) * 8 + h.val) * 64 + d.val) / 512 = t.val; omega
    | ⟨1, _⟩ => show (((0 * 16384 + t.val) * 8 + h.val) * 64 + d.val) % 512 = 64 * h.val + d.val; omega)
  have eb : idx_main_v1 (ridx_main_v5 (ix4 (0 : Fin 1) h t s) d) = ix2 s (col h d) := funext fun a => Fin.ext (by
    have := h.isLt; have := s.isLt; have := d.isLt
    match a with
    | ⟨0, _⟩ => show (((0 * 16384 + s.val) * 8 + h.val) * 64 + d.val) / 512 = s.val; omega
    | ⟨1, _⟩ => show (((0 * 16384 + s.val) * 8 + h.val) * 64 + d.val) % 512 = 64 * h.val + d.val; omega)
  rw [val_main_v0_apply, val_main_v1_apply, ea, eb, mul_assoc, mul_comm (k _) eighth, ← mul_assoc]

/-- The causal mask. -/
theorem mask_apply (t s : Fin 16384) :
    val_main_v15 (F := Ideal) (ix2 t s) = if s.val < t.val then 1#1 else 0#1 := by
  rw [val_main_v15_apply, val_main_v13_apply, val_main_v14_apply, val_main_v11_apply, val_main_v12_apply, val_main_v4_apply, val_main_v3_apply]
  show IntOp.cmpi .slt (BitVec.ofNat 32 s.val) (BitVec.ofNat 32 t.val) = _
  have := s.isLt; have := t.isLt
  have e : (BitVec.ofNat 32 s.val).slt (BitVec.ofNat 32 t.val) = decide (s.val < t.val) := by
    unfold BitVec.slt
    rw [BitVec.toInt_eq_toNat_cond, BitVec.toInt_eq_toNat_cond, BitVec.toNat_ofNat, BitVec.toNat_ofNat]
    refine decide_eq_decide.mpr ?_
    split_ifs <;> omega
  show BitVec.ofBool ((BitVec.ofNat 32 s.val).slt (BitVec.ofNat 32 t.val)) = _
  rw [e]
  by_cases hst : s.val < t.val <;> simp [hst]

/-- The logarithm of what a key leaves of the stick. -/
theorem keep_apply (i : S1x8x16384x16384.Idx) :
    val_main_v17 (F := Ideal) q k b i = -(sp (val_main_v10 (F := Ideal) q k b i)) := by
  rw [val_main_v17_apply, val_main_call0_v1_apply, val_main_call0_call0_v11_apply, val_main_call0_call0_v10_apply,
    val_main_call0_call0_v9_apply, val_main_call0_call0_v8_apply, val_main_call0_call0_v7_apply, val_main_call0_call0_v4_apply,
    val_main_call0_call0_v3_apply, val_main_call0_call0_v1_apply, val_main_call0_call0_v0_apply, val_main_call0_call0_v2_apply,
    val_main_call0_call0_cst_apply, val_main_call0_v0_apply, val_main_v16_apply]
  generalize val_main_call0_call0_v6 (F := Ideal) q k b i = w
  generalize val_main_v10 (F := Ideal) q k b i = z
  refine congrArg (fun y => -y) ?_
  refine Eq.trans ?_ ((softplus (- -z) w).trans (by rw [neg_neg]))
  rw [← zero_cst]
  rfl

/-- The logarithm of the share a key takes. -/
theorem take_apply (i : S1x8x16384x16384.Idx) :
    val_main_v21 (F := Ideal) q k b i = -(sp (-(val_main_v10 (F := Ideal) q k b i))) := by
  rw [val_main_v21_apply, val_main_call3_v1_apply, val_main_call3_call0_v11_apply, val_main_call3_call0_v10_apply,
    val_main_call3_call0_v9_apply, val_main_call3_call0_v8_apply, val_main_call3_call0_v7_apply, val_main_call3_call0_v4_apply,
    val_main_call3_call0_v3_apply, val_main_call3_call0_v1_apply, val_main_call3_call0_v0_apply, val_main_call3_call0_v2_apply,
    val_main_call3_call0_cst_apply, val_main_call3_v0_apply]
  generalize val_main_call3_call0_v6 (F := Ideal) q k b i = w
  generalize val_main_v10 (F := Ideal) q k b i = z
  refine congrArg (fun y => -y) ?_
  refine Eq.trans ?_ (softplus (-z) w)
  rw [← zero_cst]
  rfl

theorem masked_apply (h : Fin 8) (t s : Fin 16384) :
    val_main_v18 (F := Ideal) q k b (ix4 (0 : Fin 1) h t s) = if s.val < t.val then -(sp (zed q k b h t s)) else 0 := by
  rw [val_main_v18_apply, val_main_call1_v1_apply, keep_apply, score_apply, val_main_call1_v2_apply, val_main_call1_v0_apply,
    val_main_cst_0_apply]
  have e : idx_main_call1_v1 (ix4 (0 : Fin 1) h t s) = ix2 t s := funext fun a => Fin.ext (by
    match a with
    | ⟨0, _⟩ => rfl
    | ⟨1, _⟩ => rfl)
  rw [e, mask_apply]
  by_cases hst : s.val < t.val
  · rw [if_pos hst, if_pos hst]; rfl
  · rw [if_neg hst, if_neg hst]; exact zero_cst

theorem cum_apply (h : Fin 8) (t s : Fin 16384) :
    val_main_v19 (F := Ideal) q k b (ix4 (0 : Fin 1) h t s)
      = ∑ r ∈ Finset.Ico s.val 16384, if r < t.val then -(sp (zed q k b h t r)) else 0 := by
  unfold val_main_v19 Host.reduceWindowAdd
  rw [Ideal.hostReduceWindowAdd_def]
  refine cumsum_apply (val_main_v18 (F := Ideal) q k b) _ ?_ _ 0 h t s (fun r => if r < t.val then -(sp (zed q k b h t r)) else 0)
    (fun r => masked_apply q k b h t r)
  rw [val_main_call2_v0_apply, val_main_call2_cst_apply]
  exact zero_cst

/-- The reference's weight. -/
theorem weight_apply (h : Fin 8) (t s : Fin 16384) :
    val_main_v24 (F := Ideal) q k b (ix4 (0 : Fin 1) h t s)
      = if s.val < t.val then Ideal.exp (-(sp (-(zed q k b h t s)))
          + ((∑ r ∈ Finset.Ico s.val 16384, if r < t.val then -(sp (zed q k b h t r)) else 0)
            - (if s.val < t.val then -(sp (zed q k b h t s)) else 0))) else 0 := by
  rw [val_main_v24_apply, val_main_call4_v1_apply, val_main_v23_apply, val_main_v22_apply, take_apply, score_apply,
    val_main_v20_apply, cum_apply, masked_apply, val_main_call4_v2_apply, val_main_call4_v0_apply, val_main_cst_1_apply]
  have e : idx_main_call4_v1 (ix4 (0 : Fin 1) h t s) = ix2 t s := funext fun a => Fin.ext (by
    match a with
    | ⟨0, _⟩ => rfl
    | ⟨1, _⟩ => rfl)
  rw [e, mask_apply]
  by_cases hst : s.val < t.val
  · simp only [if_pos hst]; rfl
  · simp only [if_neg hst]; exact zero_cst

/-- The reference's result is the attention. -/
theorem result_apply (t : Fin 16384) (e : Fin 512) :
    val_main_v28 (F := Ideal) q k v b (ix2 t e) = sba q k v b t e := by
  rw [val_main_v28_apply]
  show val_main_v27 (F := Ideal) q k v b (ix2 t e) = _
  rw [val_main_v27_apply, val_main_v26_apply, val_main_v25_apply]
  unfold sba
  have he := e.isLt
  rw [← ref_row (zed q k b ⟨e.val / 64, by omega⟩ t) (val v e) t.isLt.le
    (fun s => ∑ r ∈ Finset.Ico s 16384, if r < t.val then -(sp (zed q k b ⟨e.val / 64, by omega⟩ t r)) else 0) (fun _ _ => rfl),
    ← Fin.sum_univ_eq_sum_range]
  refine Finset.sum_congr rfl fun s _ => ?_
  have er : ridx_main_v25 (idx_main_v26 (idx_main_v27 (ix2 t e))) s = ix4 (0 : Fin 1) ⟨e.val / 64, by omega⟩ t s :=
    funext fun a => Fin.ext (by
      have := t.isLt
      match a with
      | ⟨0, _⟩ => rfl
      | ⟨1, _⟩ => show (t.val * 512 + e.val) / 64 % 8 = e.val / 64; omega
      | ⟨2, _⟩ => show (t.val * 512 + e.val) / 512 % 16384 = t.val; omega
      | ⟨3, _⟩ => rfl)
  have el : idx_main_v2 (lidx_main_v25 (idx_main_v26 (idx_main_v27 (ix2 t e))) s) = ix2 s e :=
    funext fun a => Fin.ext (by
      have := t.isLt; have := s.isLt
      match a with
      | ⟨0, _⟩ =>
        show (((0 * 16384 + s.val) * 8 + (t.val * 512 + e.val) / 64 % 8) * 64 + (t.val * 512 + e.val) % 64) / 512 = s.val; omega
      | ⟨1, _⟩ =>
        show (((0 * 16384 + s.val) * 8 + (t.val * 512 + e.val) / 64 % 8) * 64 + (t.val * 512 + e.val) % 64) % 512 = e.val; omega)
  rw [er, val_main_v2_apply, el, weight_apply, mul_comm]
  have ev : val v e s.val = v (ix2 s e) := dif_pos s.isLt
  rw [ev]

end Cert.ReferenceIdeal.Att
-- ==== Proof.InReference.lean ====
/- The reference's input projection over the extended reals: each of its results is what the kernel's result of the same
   place holds. -/
module

public import proofs.«01_k».proof.Proof.InArray
public import proofs.«01_k».proof.Proof.Gen.Reference2Ideal.Read

@[expose] public section

set_option maxRecDepth 16384

noncomputable section

namespace Cert.Reference2Ideal.Read

open Cert.Reference2Ideal Cert.Reference2Ideal.Gen Cert.Rows Idealize.ShloMosaic Idealize.ShloMosaic.ValueIdx

variable (x : (⟨S16384x1024, .f32⟩ : BufTy).Contents (Elt Ideal)) (g : (⟨S1024, .f32⟩ : BufTy).Contents (Elt Ideal))
  (w : (⟨S1024x4608, .f32⟩ : BufTy).Contents (Elt Ideal))

/-- The reference's normalised rows. -/
theorem rows_apply (t : Fin 16384) (d : Fin 1024) :
    val_main_v12 (F := Ideal) x g (ix2 t d) = nrm (fun e => x (ix2 t e)) (fun e => g (ix1 e)) d := by
  rw [val_main_v12_apply, val_main_v9_apply, val_main_v8_apply, val_main_v7_apply, val_main_v6_apply, val_main_v4_apply,
    val_main_v5_apply, val_main_v3_apply, val_main_v2_apply, val_main_v1_apply, val_main_v11_apply, val_main_v10_apply]
  show x (ix2 t d) * Ideal.rsqrt (Ideal.div (Ideal.ofBits .f32 0x00000000#32
    + ∑ k : Fin 1024, val_main_v0 (F := Ideal) x (idx_main_v1 _ k)) dim + eps) * g _ = _
  rw [Ideal.ofBits_zero_f32, zero_add]
  have hg : ∀ j : S1024.Idx, (j 0).val = d.val → g j = g (ix1 d) := fun j h =>
    congrArg g (funext fun a => Fin.ext (by match a with | ⟨0, _⟩ => exact h))
  rw [hg _ rfl]
  refine congrArg (fun s => x (ix2 t d) * Ideal.rsqrt (Ideal.div s dim + eps) * g (ix1 d)) (Finset.sum_congr rfl fun k _ => ?_)
  rw [val_main_v0_apply]
  have hx : ∀ j : S16384x1024.Idx, (j 0).val = t.val → (j 1).val = k.val → x j = x (ix2 t k) := fun j h0 h1 =>
    congrArg x (funext fun a => Fin.ext (by match a with | ⟨0, _⟩ => exact h0 | ⟨1, _⟩ => exact h1))
  rw [hx _ rfl rfl]
  rfl

/-- The reference's projection, at any index of row `i 0` and column `i 1`. -/
theorem proj_apply (i : S16384x4608.Idx) (t : Fin 16384) (e : Fin 4608) (h0 : (i 0).val = t.val) (h1 : (i 1).val = e.val) :
    val_main_v13 (F := Ideal) x g w i = proj x g w t e := by
  obtain rfl : i = ix2 t e := funext fun a => Fin.ext (by match a with | ⟨0, _⟩ => exact h0 | ⟨1, _⟩ => exact h1)
  rw [val_main_v13_apply]
  unfold proj prj
  refine Finset.sum_congr rfl fun k _ => ?_
  have hl : lidx_main_v13 (ix2 t e) k = ix2 t k := funext fun a => Fin.ext (by match a with | ⟨0, _⟩ => rfl | ⟨1, _⟩ => rfl)
  have hr : ridx_main_v13 (ix2 t e) k = ix2 k e := funext fun a => Fin.ext (by match a with | ⟨0, _⟩ => rfl | ⟨1, _⟩ => rfl)
  rw [hl, hr, rows_apply]

open Cert.Kernel2Ideal.Arr (arr heads lastRows)

theorem k_eq : val_main_v25 (F := Ideal) x g w = arr (inK x g w) := funext fun i => by
  rw [val_main_v25_apply]
  exact proj_apply x g w _ (i 0) _ rfl rfl

theorem v_eq : val_main_v26 (F := Ideal) x g w = arr (inV x g w) := funext fun i => by
  rw [val_main_v26_apply]
  exact proj_apply x g w _ (i 0) _ rfl rfl

theorem kb_eq : val_main_v37 (F := Ideal) x g w = arr (inK x g w) := (k_eq x g w).symm ▸ rfl

theorem vb_eq : val_main_v38 (F := Ideal) x g w = arr (inV x g w) := (v_eq x g w).symm ▸ rfl

theorem qb_eq : val_main_v36 (F := Ideal) x g w = arr (inQ x g w) := funext fun i => by
  show val_main_v24 (F := Ideal) x g w i * val_main_v34 (F := Ideal) i = _
  rw [val_main_v24_apply, val_main_v34_apply]
  exact congrArg (· * eighth) (proj_apply x g w _ (i 0) _ rfl rfl)

theorem u_eq : val_main_v23 (F := Ideal) x g w = arr (inU x g w) := funext fun i => by
  rw [val_main_v23_apply, val_main_v22_apply, val_main_v21_apply, val_main_v20_apply, val_main_v19_apply, val_main_v18_apply,
    val_main_v17_apply, val_main_v16_apply, val_main_v15_apply, val_main_v14_apply, val_main_v14_apply,
    proj_apply x g w _ (i 0) (colAt 0 (by decide) (i 1)) rfl (Nat.zero_add _).symm,
    proj_apply x g w _ (i 0) (colAt 512 (by decide) (i 1)) rfl rfl]
  rfl

/-- The reference's gates. -/
theorem gate_eq (i : S16384x2048.Idx) (t : Fin 16384) (e : Fin 4608) (h0 : (i 0).val = t.val) (h1 : 2560 + (i 1).val = e.val) :
    val_main_v33 (F := Ideal) x g w i = sg (proj x g w t e) := by
  rw [val_main_v33_apply, val_main_v32_apply, val_main_v31_apply, val_main_v30_apply, val_main_v29_apply, val_main_v28_apply,
    val_main_v27_apply, proj_apply x g w _ t e h0 h1]
  rfl

theorem g0_eq : val_main_v39 (F := Ideal) x g w = arr (inG0 x g w) := funext fun i => by
  rw [val_main_v39_apply]
  exact gate_eq x g w _ (i 0) _ rfl rfl

theorem g1_eq : val_main_v40 (F := Ideal) x g w = arr (inG1 x g w) := funext fun i => by
  rw [val_main_v40_apply]
  exact gate_eq x g w _ (i 0) (colAt 3584 (by decide) (i 1)) rfl (by show 2560 + (1024 + (i 1).val) = 3584 + (i 1).val; omega)

theorem heads_k_eq : val_main_v44 (F := Ideal) x g w = heads (arr (inK x g w)) := congrArg heads (k_eq x g w)

theorem heads_v_eq : val_main_v45 (F := Ideal) x g w = heads (arr (inV x g w)) := congrArg heads (v_eq x g w)

theorem state_eq : val_main_v46 (F := Ideal) x g w = lastRows (arr (inU x g w)) := congrArg lastRows (u_eq x g w)

end Cert.Reference2Ideal.Read

end
-- ==== Proof.MergeReference.lean ====
/- The reference's merge over the extended reals: each of its three results is the array the kernel's result of the same
   place holds. -/
module

public import proofs.«01_k».proof.Proof.MergeArray
public import proofs.«01_k».proof.Proof.Gen.Reference3Ideal.Read

@[expose] public section

set_option maxRecDepth 16384

noncomputable section

namespace Cert.Reference3Ideal.Read

open Cert.Reference3Ideal Cert.Reference3Ideal.Gen Cert.Rows Idealize.ShloMosaic Idealize.ShloMosaic.ValueIdx
open Cert.Kernel2Ideal.Arr (arr)
open Cert.Kernel3Ideal.Arr (arrS)
open Cert.Kernel3Ideal.Body (slab)

variable (x : (⟨S16384x1024, .f32⟩ : BufTy).Contents (Elt Ideal)) (cn an : (⟨S16384x512, .bf16⟩ : BufTy).Contents (Elt Ideal))
  (a b : (⟨S16384x1024, .f32⟩ : BufTy).Contents (Elt Ideal)) (wc wt : (⟨S512x1024, .f32⟩ : BufTy).Contents (Elt Ideal))
  (wo : (⟨S1024x1024, .f32⟩ : BufTy).Contents (Elt Ideal)) (g : (⟨S1024, .f32⟩ : BufTy).Contents (Elt Ideal))
  (wq : (⟨S1024x2048, .f32⟩ : BufTy).Contents (Elt Ideal))

/-- An index with the coordinates `p` and `q`. -/
theorem at2 {m n : ℕ} {i : (Sh m n).Idx} {p : Fin m} {q : Fin n} (h0 : (i 0).val = p.val) (h1 : (i 1).val = q.val) : i = ix2 p q :=
  funext fun a => Fin.ext (by match a with | ⟨0, _⟩ => exact h0 | ⟨1, _⟩ => exact h1)

/-- A branch's product with its weight. -/
theorem conv_apply (t : Fin 16384) (d : Fin 1024) :
    val_main_v1 (F := Ideal) cn wc (ix2 t d) = ∑ k : Fin 512, cn (ix2 t k) * wc (ix2 k d) := by
  rw [val_main_v1_apply]
  refine Finset.sum_congr rfl fun k _ => congrArg₂ (fun p q => p * q) ?_ (congrArg wc (at2 rfl rfl))
  rw [val_main_v0_apply]
  exact congrArg cn (at2 rfl rfl)

theorem att_apply (t : Fin 16384) (d : Fin 1024) :
    val_main_v3 (F := Ideal) an wt (ix2 t d) = ∑ k : Fin 512, an (ix2 t k) * wt (ix2 k d) :=
  conv_apply an wt t d

theorem both_apply (t : Fin 16384) (d : Fin 1024) :
    val_main_v6 (F := Ideal) cn an a b wc wt (ix2 t d) = both cn an a b wc wt t d := by
  rw [val_main_v6_apply, val_main_v4_apply, val_main_v5_apply, conv_apply, att_apply]
  rfl

theorem row_apply (t : Fin 16384) (e : Fin 1024) :
    val_main_v8 (F := Ideal) x cn an a b wc wt wo (ix2 t e) = mgX x cn an a b wc wt wo t e := by
  rw [val_main_v8_apply, val_main_v7_apply]
  unfold mgX
  refine congrArg (x (ix2 t e) + ·) (Finset.sum_congr rfl fun k _ => congrArg₂ (fun p q => p * q) ?_ (congrArg wo (at2 rfl rfl)))
  exact (congrArg (val_main_v6 (F := Ideal) cn an a b wc wt) (at2 rfl rfl)).trans (both_apply cn an a b wc wt t k)

/-- The reference's normalised rows. -/
theorem normed_apply (t : Fin 16384) (d : Fin 1024) :
    val_main_v21 (F := Ideal) x cn an a b wc wt wo g (ix2 t d) = mgH x cn an a b wc wt wo (fun e => g (ix1 e)) t d := by
  rw [val_main_v21_apply, val_main_v18_apply, val_main_v17_apply, val_main_v16_apply, val_main_v15_apply, val_main_v13_apply,
    val_main_v14_apply, val_main_v12_apply, val_main_v11_apply, val_main_v10_apply, val_main_v20_apply, val_main_v19_apply,
    row_apply]
  show mgX x cn an a b wc wt wo t d * Ideal.rsqrt (Ideal.div (Ideal.ofBits .f32 0x00000000#32
    + ∑ k : Fin 1024, val_main_v9 (F := Ideal) x cn an a b wc wt wo (idx_main_v10 _ k)) dim + eps) * g _ = _
  rw [Ideal.ofBits_zero_f32, zero_add]
  have hg : ∀ j : S1024.Idx, (j 0).val = d.val → g j = g (ix1 d) := fun j h =>
    congrArg g (funext fun a => Fin.ext (by match a with | ⟨0, _⟩ => exact h))
  rw [hg _ rfl]
  refine congrArg (fun s => mgX x cn an a b wc wt wo t d * Ideal.rsqrt (Ideal.div s dim + eps) * g (ix1 d))
    (Finset.sum_congr rfl fun k _ => ?_)
  have hk : ∀ j : S16384x1024.Idx, (j 0).val = t.val → (j 1).val = k.val →
      val_main_v8 (F := Ideal) x cn an a b wc wt wo j = mgX x cn an a b wc wt wo t k := fun j h0 h1 =>
    (congrArg (val_main_v8 (F := Ideal) x cn an a b wc wt wo) (at2 h0 h1)).trans (row_apply x cn an a b wc wt wo t k)
  rw [val_main_v9_apply, hk _ rfl rfl]
  rfl

/-- The reference's queries, at any index of row `i 0` and column `i 1`. -/
theorem query_apply (i : S16384x2048.Idx) (t : Fin 16384) (e : Fin 2048) (h0 : (i 0).val = t.val) (h1 : (i 1).val = e.val) :
    val_main_v22 (F := Ideal) x cn an a b wc wt wo g wq i = mgQ x cn an a b wc wt wo (fun e => g (ix1 e)) wq t e := by
  obtain rfl : i = ix2 t e := at2 h0 h1
  rw [val_main_v22_apply]
  unfold mgQ prj
  refine Finset.sum_congr rfl fun k _ => congrArg₂ (fun p q => p * q) ?_ (congrArg wq (at2 rfl rfl))
  exact (congrArg (val_main_v21 (F := Ideal) x cn an a b wc wt wo g) (at2 rfl rfl)).trans (normed_apply x cn an a b wc wt wo g t k)

theorem x_eq : val_main_v8 (F := Ideal) x cn an a b wc wt wo = arr (mgX x cn an a b wc wt wo) := funext fun i => by
  rw [eq_ix2 i]
  exact row_apply x cn an a b wc wt wo (i 0) (i 1)

theorem h_eq : val_main_v24 (F := Ideal) x cn an a b wc wt wo g = arr (mgH x cn an a b wc wt wo (fun e => g (ix1 e))) :=
  funext fun i : S16384x1024.Idx => by
    rw [val_main_v24_apply, eq_ix2 i]
    exact normed_apply x cn an a b wc wt wo g (i 0) (i 1)

theorem q_eq : val_main_v25 (F := Ideal) x cn an a b wc wt wo g wq = arrS (mgQ x cn an a b wc wt wo (fun e => g (ix1 e)) wq) :=
  funext fun i => by
    have b0 : (i 0).val < 16 := (i 0).isLt
    have b2 : (i 2).val < 128 := (i 2).isLt
    rw [val_main_v25_apply, val_main_v23_apply]
    refine query_apply x cn an a b wc wt wo g wq _ (i 1) (slab (i 0) (i 2)) ?_ ?_
    · show (((i 1).val * 16 + (i 0).val) * 128 + (i 2).val) / 2048 = (i 1).val; omega
    · show (((i 1).val * 16 + (i 0).val) * 128 + (i 2).val) % 2048 = (i 0).val * 128 + (i 2).val; omega

end Cert.Reference3Ideal.Read

end
-- ==== Proof.SampleBody.lean ====
/- The sample's input projection leaves in each output's block what the prompt's does: the two bodies differ by a cast of
   the rows' block to its own shape. -/
module

public import proofs.«01_k».proof.Proof.InBody
public import proofs.«01_k».proof.Proof.Gen.Kernel4Ideal.Frame

@[expose] public section

set_option maxRecDepth 16384

noncomputable section

namespace Cert.Kernel4Ideal.Body

open Cert.Kernel4Ideal Cert.Kernel4Ideal.Gen Cert.Rows Idealize.ShloMosaic Idealize.ShloMosaic.ValueIdx

variable (x : Vec Ideal S256x1024 .f32) (g : Vec Ideal S1x1024 .f32) (w : Vec Ideal S1024x4608 .bf16)

theorem rows_eq : k0_pay2 (F := Ideal) x g = Cert.Kernel2Ideal.Gen.k0_pay2 (F := Ideal) x g := by
  unfold k0_pay2 Cert.Kernel2Ideal.Gen.k0_pay2
  rw [shapeCast_self x]

theorem rows_twice : k0_pay13 (F := Ideal) x g w = Cert.Kernel2Ideal.Gen.k0_pay12 (F := Ideal) x g w := by
  unfold k0_pay13 Cert.Kernel2Ideal.Gen.k0_pay12
  exact rows_eq _ _

theorem out3 : out0_3 (F := Ideal) x g w = Cert.Kernel2Ideal.Gen.out0_3 (F := Ideal) x g w := by
  unfold out0_3 Cert.Kernel2Ideal.Gen.out0_3 k0_pay3 Cert.Kernel2Ideal.Gen.k0_pay3
  rw [rows_eq]
  rfl

theorem out4 : out0_4 (F := Ideal) x g w = Cert.Kernel2Ideal.Gen.out0_4 (F := Ideal) x g w := by
  unfold out0_4 Cert.Kernel2Ideal.Gen.out0_4
  rw [rows_twice]
  rfl

theorem out5 : out0_5 (F := Ideal) x g w = Cert.Kernel2Ideal.Gen.out0_5 (F := Ideal) x g w := by
  unfold out0_5 Cert.Kernel2Ideal.Gen.out0_5
  rw [rows_twice]
  rfl

theorem out6 : out0_6 (F := Ideal) x g w = Cert.Kernel2Ideal.Gen.out0_6 (F := Ideal) x g w := by
  unfold out0_6 Cert.Kernel2Ideal.Gen.out0_6 k0_pay4 Cert.Kernel2Ideal.Gen.k0_pay4
  rw [rows_eq]
  rfl

theorem out7 : out0_7 (F := Ideal) x g w = Cert.Kernel2Ideal.Gen.out0_7 (F := Ideal) x g w := by
  unfold out0_7 Cert.Kernel2Ideal.Gen.out0_7
  rw [rows_twice]
  rfl

theorem out8 : out0_8 (F := Ideal) x g w = Cert.Kernel2Ideal.Gen.out0_8 (F := Ideal) x g w := by
  unfold out0_8 Cert.Kernel2Ideal.Gen.out0_8
  rw [rows_twice]
  rfl

theorem out9 : out0_9 (F := Ideal) x g w = Cert.Kernel2Ideal.Gen.out0_9 (F := Ideal) x g w := by
  unfold out0_9 Cert.Kernel2Ideal.Gen.out0_9
  rw [rows_twice]
  rfl

theorem out10 : out0_10 (F := Ideal) x g w = Cert.Kernel2Ideal.Gen.out0_10 (F := Ideal) x g w := by
  unfold out0_10 Cert.Kernel2Ideal.Gen.out0_10
  rw [rows_twice]
  rfl

end Cert.Kernel4Ideal.Body

end
-- ==== Proof.SampleArray.lean ====
/- The sample's input projection over the extended reals: the two blocks of 256 rows cover each of the eight arrays, each
   holding the projection of its rows, and the operations after the region read the keys, the values and the state's tail
   from those arrays. The blocks' values are the prompt's (`Proof/SampleBody.lean`). -/
module

public import proofs.«01_k».proof.Proof.InArray
public import proofs.«01_k».proof.Proof.SampleBody
public import Idealize.ShloMosaic.Lib.Pipeline.ValueKit.Geometry

@[expose] public section

set_option maxRecDepth 16384

noncomputable section

namespace Cert.Kernel4Ideal.Arr

open Cert.Kernel4Ideal Cert.Kernel4Ideal.Gen Cert.Rows
  Idealize.ShloMosaic Idealize.ShloMosaic.ValueIdx Idealize.ShloMosaic.TcCoe Idealize.SL.Sem
open Idealize.ShloMosaic.Pipeline (Dat)
open Cert.Kernel2Ideal.Body (pr u_apply k_apply v_apply qb_apply kb_apply vb_apply g0_apply g1_apply)
open Cert.Kernel2Ideal.Arr (row0 row1)
open Cert.Kernel4Ideal.Body (out3 out4 out5 out6 out7 out8 out9 out10)

variable (m : (ℓ : Loc nD τ sig) → Buf (Elt Ideal) ℓ)

/-- The rows, the state, the row weight and the projection's weight. -/
def xa (c : Dev nD) : (Sh 512 1024).Idx → EReal :=
  shapeCast S512x1024 (m ((c : Thread nD τ).loc main_arg0) : S128x4x1024.Idx → EReal) shapeCasts_S128x4x1024_S512x1024
abbrev sa (c : Dev nD) : S128x30x512.Idx → EReal := m ((c : Thread nD τ).loc main_arg1)
abbrev ga (c : Dev nD) : (⟨1, ![1024]⟩ : Shape).Idx → EReal := m ((c : Thread nD τ).loc main_arg2)
abbrev wa (c : Dev nD) : (Sh 1024 4608).Idx → EReal := m ((c : Thread nD τ).loc main_arg3)

theorem V_x (c : Dev nD) : V m c main_v0 = xa m c := by
  entry_read
  rfl

theorem V_w (c : Dev nD) : V m c main_v1 = wa m c := by
  entry_read
  rfl

theorem V_g (c : Dev nD) (d : Fin 1024) : (V m c main_v2 : S1x1024.Idx → EReal) (ix2 0 d) = ga m c (ix1 d) := by
  entry_read
  refine shapeCast_apply _ _ (ix2 0 d) (ix1 d) ?_
  rw [Shape.rowMajor_val_two, Shape.rowMajor_val_one]; show d.val = 0 * 1024 + d.val; omega

/-- Every row window's block is at the point's rows; the two weights' blocks are the whole arrays. -/
theorem idx_row : ∀ t : Fin cfg0.N, (cfg0.win 0).index t = ![(grid0.coords t 0).val, 0]
    ∧ (cfg0.win 3).index t = ![(grid0.coords t 0).val, 0] ∧ (cfg0.win 4).index t = ![(grid0.coords t 0).val, 0]
    ∧ (cfg0.win 5).index t = ![(grid0.coords t 0).val, 0] ∧ (cfg0.win 6).index t = ![(grid0.coords t 0).val, 0]
    ∧ (cfg0.win 7).index t = ![(grid0.coords t 0).val, 0] ∧ (cfg0.win 8).index t = ![(grid0.coords t 0).val, 0]
    ∧ (cfg0.win 9).index t = ![(grid0.coords t 0).val, 0] ∧ (cfg0.win 10).index t = ![(grid0.coords t 0).val, 0] := by decide +kernel
theorem idx_whole : ∀ t : Fin cfg0.N, (cfg0.win 1).index t = ![0, 0] ∧ (cfg0.win 2).index t = ![0, 0] := by decide +kernel

theorem g_lt (t : Fin cfg0.N) : (grid0.coords t 0).val < 2 := (grid0.coords t 0).isLt

theorem x_blk (c : Dev nD) (t : Fin cfg0.N) (r : Fin 256) (d : Fin 1024) (hr : (grid0.coords t 0).val * 256 + r.val < 512) :
    (iblk m c 0 t : Vec Ideal S256x1024 .f32) (ix2 r d) = xa m c (ix2 ⟨_, hr⟩ d) := by
  show V m c main_v0 (((cfg0.win 0).rect t).emb (ix2 r d)) = _
  rw [V_x]
  refine congrArg (xa m c) (funext fun a => Fin.ext ?_)
  match a with
  | ⟨0, _⟩ =>
    refine ((cfg0.win 0).rect_emb_val t (ix2 r d) 0).trans ?_
    rw [(idx_row t).1]; show (grid0.coords t 0).val * 256 + r.val = (grid0.coords t 0).val * 256 + r.val; rfl
  | ⟨1, _⟩ =>
    refine ((cfg0.win 0).rect_emb_val t (ix2 r d) 1).trans ?_
    rw [(idx_row t).1]; show 0 * 1024 + d.val = d.val; omega

theorem g_blk (c : Dev nD) (t : Fin cfg0.N) (d : Fin 1024) :
    (iblk m c 1 t : Vec Ideal S1x1024 .f32) (ix2 0 d) = ga m c (ix1 d) := by
  show V m c main_v2 (((cfg0.win 1).rect t).emb (ix2 0 d)) = _
  refine Eq.trans (congrArg (V m c main_v2) (funext fun a => Fin.ext ?_)) (V_g m c d)
  match a with
  | ⟨0, _⟩ =>
    refine ((cfg0.win 1).rect_emb_val t (ix2 0 d) 0).trans ?_
    rw [(idx_whole t).1]; rfl
  | ⟨1, _⟩ =>
    refine ((cfg0.win 1).rect_emb_val t (ix2 0 d) 1).trans ?_
    rw [(idx_whole t).1]; show 0 * 1024 + d.val = d.val; omega

theorem w_blk (c : Dev nD) (t : Fin cfg0.N) (d : Fin 1024) (e : Fin 4608) :
    (iblk m c 2 t : Vec Ideal S1024x4608 .bf16) (ix2 d e) = wa m c (ix2 d e) := by
  show V m c main_v1 (((cfg0.win 2).rect t).emb (ix2 d e)) = _
  rw [V_w]
  refine congrArg (wa m c) (funext fun a => Fin.ext ?_)
  match a with
  | ⟨0, _⟩ =>
    refine ((cfg0.win 2).rect_emb_val t (ix2 d e) 0).trans ?_
    rw [(idx_whole t).2]; show 0 * 1024 + d.val = d.val; omega
  | ⟨1, _⟩ =>
    refine ((cfg0.win 2).rect_emb_val t (ix2 d e) 1).trans ?_
    rw [(idx_whole t).2]; show 0 * 4608 + e.val = e.val; omega

theorem prj_congr {a a' b b' d d' : Fin 1024 → EReal} (ha : ∀ i, a i = a' i) (hb : ∀ i, b i = b' i) (hd : ∀ i, d i = d' i) :
    prj a b d = prj a' b' d' := by rw [funext ha, funext hb, funext hd]

/-- The block's projection is the array's. -/
theorem pr_blk (c : Dev nD) (t : Fin cfg0.N) (r : Fin 256) (e : Fin 4608) (hr : (grid0.coords t 0).val * 256 + r.val < 512) :
    pr (iblk m c 0 t) (iblk m c 1 t) (iblk m c 2 t) r e = proj (xa m c) (ga m c) (wa m c) ⟨_, hr⟩ e := by
  exact prj_congr (fun d => x_blk m c t r d hr) (fun d => g_blk m c t d) fun d => w_blk m c t d e

theorem fits (t : Fin cfg0.N) : (grid0.coords t 0).val * 256 + 256 ≤ 512 := by have := g_lt t; omega

theorem point_of : ∀ a : Fin 2, ∃ t : Fin cfg0.N, (grid0.coords t 0).val = a.val := by decide +kernel

/-- Some point's rows hold a given row. -/
theorem point (a : Fin 512) : ∃ t : Fin cfg0.N, a.val / 256 = (grid0.coords t 0).val := by
  have ha := a.isLt
  obtain ⟨t, ht⟩ := point_of ⟨a.val / 256, by omega⟩
  exact ⟨t, ht.symm⟩

/-- The array of a function of a row and a column. -/
abbrev arr {N : ℕ} (G : Fin 512 → Fin N → EReal) : (Sh 512 N).Idx → EReal := fun j => G (j 0) (j 1)

theorem mem_slice (b : Ref sig .tc) {R : Rect b.ty.shape} {i : b.ty.shape.Idx} (h : i ∈ R.set) : i ∈ ((View.whole b).slice R).set := by
  rw [View.set_slice_whole]
  exact h

/-! What each output array holds when the region ends. -/

theorem arr_u (c : Dev nD) : (dats m 0 c).arrAt 3 cfg0.N = (arr (inU (xa m c) (ga m c) (wa m c)) : S512x512.Idx → EReal) :=
  (dats m 0 c).arrAt_eq_of_cover 3 (arr (inU (xa m c) (ga m c) (wa m c)) : S512x512.Idx → EReal)
    (fun t _ => (congrArg ((cfg0.win 3).cut (grid0.coords t)) ((after0_3 m c t).trans (out3 _ _ _))).trans
      (funext (rows_read _ (row0 (idx_row t).2.1) (row1 (idx_row t).2.1) (fits t) (Cert.Kernel2Ideal.Gen.out0_3 (F := Ideal) _ _ _)
      (inU (xa m c) (ga m c) (wa m c)) fun r l hr => (u_apply _ _ _ r l).trans (congrArg₂ (fun p q => p * sg q) (pr_blk m c t r _ hr) (pr_blk m c t r _ hr)))))
    fun i : S512x512.Idx => (point (i 0)).imp fun t ht => ⟨flush0_3 t,
      mem_slice main_v3_0 (rows_mem _ (row0 (idx_row t).2.1) (row1 (idx_row t).2.1) i ht)⟩

theorem arr_k (c : Dev nD) : (dats m 0 c).arrAt 4 cfg0.N = (arr (inK (xa m c) (ga m c) (wa m c)) : S512x512.Idx → EReal) :=
  (dats m 0 c).arrAt_eq_of_cover 4 (arr (inK (xa m c) (ga m c) (wa m c)) : S512x512.Idx → EReal)
    (fun t _ => (congrArg ((cfg0.win 4).cut (grid0.coords t)) ((after0_4 m c t).trans (out4 _ _ _))).trans
      (funext (rows_read _ (row0 (idx_row t).2.2.1) (row1 (idx_row t).2.2.1) (fits t) (Cert.Kernel2Ideal.Gen.out0_4 (F := Ideal) _ _ _)
      (inK (xa m c) (ga m c) (wa m c)) fun r l hr => (k_apply _ _ _ r l).trans (pr_blk m c t r _ hr))))
    fun i : S512x512.Idx => (point (i 0)).imp fun t ht => ⟨flush0_4 t,
      mem_slice main_v3_1 (rows_mem _ (row0 (idx_row t).2.2.1) (row1 (idx_row t).2.2.1) i ht)⟩

theorem arr_v (c : Dev nD) : (dats m 0 c).arrAt 5 cfg0.N = (arr (inV (xa m c) (ga m c) (wa m c)) : S512x512.Idx → EReal) :=
  (dats m 0 c).arrAt_eq_of_cover 5 (arr (inV (xa m c) (ga m c) (wa m c)) : S512x512.Idx → EReal)
    (fun t _ => (congrArg ((cfg0.win 5).cut (grid0.coords t)) ((after0_5 m c t).trans (out5 _ _ _))).trans
      (funext (rows_read _ (row0 (idx_row t).2.2.2.1) (row1 (idx_row t).2.2.2.1) (fits t) (Cert.Kernel2Ideal.Gen.out0_5 (F := Ideal) _ _ _)
      (inV (xa m c) (ga m c) (wa m c)) fun r l hr => (v_apply _ _ _ r l).trans (pr_blk m c t r _ hr))))
    fun i : S512x512.Idx => (point (i 0)).imp fun t ht => ⟨flush0_5 t,
      mem_slice main_v3_2 (rows_mem _ (row0 (idx_row t).2.2.2.1) (row1 (idx_row t).2.2.2.1) i ht)⟩

theorem arr_qb (c : Dev nD) : (dats m 0 c).arrAt 6 cfg0.N = (arr (inQ (xa m c) (ga m c) (wa m c)) : S512x512.Idx → EReal) :=
  (dats m 0 c).arrAt_eq_of_cover 6 (arr (inQ (xa m c) (ga m c) (wa m c)) : S512x512.Idx → EReal)
    (fun t _ => (congrArg ((cfg0.win 6).cut (grid0.coords t)) ((after0_6 m c t).trans (out6 _ _ _))).trans
      (funext (rows_read _ (row0 (idx_row t).2.2.2.2.1) (row1 (idx_row t).2.2.2.2.1) (fits t) (Cert.Kernel2Ideal.Gen.out0_6 (F := Ideal) _ _ _)
      (inQ (xa m c) (ga m c) (wa m c)) fun r l hr => (qb_apply _ _ _ r l).trans (congrArg (· * eighth) (pr_blk m c t r _ hr)))))
    fun i : S512x512.Idx => (point (i 0)).imp fun t ht => ⟨flush0_6 t,
      mem_slice main_v3_3 (rows_mem _ (row0 (idx_row t).2.2.2.2.1) (row1 (idx_row t).2.2.2.2.1) i ht)⟩

theorem arr_kb (c : Dev nD) : (dats m 0 c).arrAt 7 cfg0.N = (arr (inK (xa m c) (ga m c) (wa m c)) : S512x512.Idx → EReal) :=
  (dats m 0 c).arrAt_eq_of_cover 7 (arr (inK (xa m c) (ga m c) (wa m c)) : S512x512.Idx → EReal)
    (fun t _ => (congrArg ((cfg0.win 7).cut (grid0.coords t)) ((after0_7 m c t).trans (out7 _ _ _))).trans
      (funext (rows_read _ (row0 (idx_row t).2.2.2.2.2.1) (row1 (idx_row t).2.2.2.2.2.1) (fits t) (Cert.Kernel2Ideal.Gen.out0_7 (F := Ideal) _ _ _)
      (inK (xa m c) (ga m c) (wa m c)) fun r l hr => (kb_apply _ _ _ r l).trans (pr_blk m c t r _ hr))))
    fun i : S512x512.Idx => (point (i 0)).imp fun t ht => ⟨flush0_7 t,
      mem_slice main_v3_4 (rows_mem _ (row0 (idx_row t).2.2.2.2.2.1) (row1 (idx_row t).2.2.2.2.2.1) i ht)⟩

theorem arr_vb (c : Dev nD) : (dats m 0 c).arrAt 8 cfg0.N = (arr (inV (xa m c) (ga m c) (wa m c)) : S512x512.Idx → EReal) :=
  (dats m 0 c).arrAt_eq_of_cover 8 (arr (inV (xa m c) (ga m c) (wa m c)) : S512x512.Idx → EReal)
    (fun t _ => (congrArg ((cfg0.win 8).cut (grid0.coords t)) ((after0_8 m c t).trans (out8 _ _ _))).trans
      (funext (rows_read _ (row0 (idx_row t).2.2.2.2.2.2.1) (row1 (idx_row t).2.2.2.2.2.2.1) (fits t) (Cert.Kernel2Ideal.Gen.out0_8 (F := Ideal) _ _ _)
      (inV (xa m c) (ga m c) (wa m c)) fun r l hr => (vb_apply _ _ _ r l).trans (pr_blk m c t r _ hr))))
    fun i : S512x512.Idx => (point (i 0)).imp fun t ht => ⟨flush0_8 t,
      mem_slice main_v3_5 (rows_mem _ (row0 (idx_row t).2.2.2.2.2.2.1) (row1 (idx_row t).2.2.2.2.2.2.1) i ht)⟩

theorem arr_g0 (c : Dev nD) : (dats m 0 c).arrAt 9 cfg0.N = (arr (inG0 (xa m c) (ga m c) (wa m c)) : S512x1024.Idx → EReal) :=
  (dats m 0 c).arrAt_eq_of_cover 9 (arr (inG0 (xa m c) (ga m c) (wa m c)) : S512x1024.Idx → EReal)
    (fun t _ => (congrArg ((cfg0.win 9).cut (grid0.coords t)) ((after0_9 m c t).trans (out9 _ _ _))).trans
      (funext (rows_read _ (row0 (idx_row t).2.2.2.2.2.2.2.1) (row1 (idx_row t).2.2.2.2.2.2.2.1) (fits t) (Cert.Kernel2Ideal.Gen.out0_9 (F := Ideal) _ _ _)
      (inG0 (xa m c) (ga m c) (wa m c)) fun r l hr => (g0_apply _ _ _ r l).trans (congrArg sg (pr_blk m c t r _ hr)))))
    fun i : S512x1024.Idx => (point (i 0)).imp fun t ht => ⟨flush0_9 t,
      mem_slice main_v3_6 (rows_mem _ (row0 (idx_row t).2.2.2.2.2.2.2.1) (row1 (idx_row t).2.2.2.2.2.2.2.1) i ht)⟩

theorem arr_g1 (c : Dev nD) : (dats m 0 c).arrAt 10 cfg0.N = (arr (inG1 (xa m c) (ga m c) (wa m c)) : S512x1024.Idx → EReal) :=
  (dats m 0 c).arrAt_eq_of_cover 10 (arr (inG1 (xa m c) (ga m c) (wa m c)) : S512x1024.Idx → EReal)
    (fun t _ => (congrArg ((cfg0.win 10).cut (grid0.coords t)) ((after0_10 m c t).trans (out10 _ _ _))).trans
      (funext (rows_read _ (row0 (idx_row t).2.2.2.2.2.2.2.2) (row1 (idx_row t).2.2.2.2.2.2.2.2) (fits t) (Cert.Kernel2Ideal.Gen.out0_10 (F := Ideal) _ _ _)
      (inG1 (xa m c) (ga m c) (wa m c)) fun r l hr => (g1_apply _ _ _ r l).trans (congrArg sg (pr_blk m c t r _ hr)))))
    fun i : S512x1024.Idx => (point (i 0)).imp fun t ht => ⟨flush0_10 t,
      mem_slice main_v3_7 (rows_mem _ (row0 (idx_row t).2.2.2.2.2.2.2.2) (row1 (idx_row t).2.2.2.2.2.2.2.2) i ht)⟩

/-! What the operations after the region leave. -/

/-- The arrays' contents at the region's end, beside what the region found elsewhere. -/
abbrev atEnd (c : Dev nD) : Valuation τ sig (Elt Ideal) :=
  Pipeline.withArrays (cfgs 0).spec c (V0 m c) fun w => (dats m 0 c).arrAt w (cfgs 0).N

theorem arr_inj : Function.Injective (Pipeline.arrRef spec0) := launch0.win.arr_inj

theorem end_u (c : Dev nD) : atEnd m c (Proc.devRef .tc main_v3_0) = (arr (inU (xa m c) (ga m c) (wa m c)) : S512x512.Idx → EReal) :=
  (Pipeline.withArrays_arr spec0 arr_inj c _ _ 3).trans (arr_u m c)

theorem end_k (c : Dev nD) : atEnd m c (Proc.devRef .tc main_v3_1) = (arr (inK (xa m c) (ga m c) (wa m c)) : S512x512.Idx → EReal) :=
  (Pipeline.withArrays_arr spec0 arr_inj c _ _ 4).trans (arr_k m c)

theorem end_v (c : Dev nD) : atEnd m c (Proc.devRef .tc main_v3_2) = (arr (inV (xa m c) (ga m c) (wa m c)) : S512x512.Idx → EReal) :=
  (Pipeline.withArrays_arr spec0 arr_inj c _ _ 5).trans (arr_v m c)

theorem end_state (c : Dev nD) : atEnd m c (Proc.devRef .tc main_arg1) = sa m c :=
  (Pipeline.withArrays_of_ne spec0 c (V0 m c) _ main_arg1 (by exact (by decide : ∀ w, Pipeline.arrRef spec0 w ≠ main_arg1))).trans
    (V_main_arg1 m c)

/-- A projection's rows, split into sequences and heads. -/
abbrev heads (a : S512x512.Idx → EReal) : S128x4x8x64.Idx → EReal := shapeCast S128x4x8x64 a shapeCasts_S512x512_S128x4x8x64

/-- The last 30 rows of each sequence's state followed by its rows. -/
abbrev lastRows (s : S128x30x512.Idx → EReal) (a : S512x512.Idx → EReal) : S128x30x512.Idx → EReal :=
  extractStridedSlice S128x30x512 ![0, 4, 0] (concatenate S128x34x512 1 [⟨S128x30x512, s⟩,
    ⟨S128x4x512, shapeCast S128x4x512 a shapeCasts_S512x512_S128x4x512⟩] concatenates_S128x30x512_S128x4x512_S128x34x512_d1)
    slices_S128x34x512_S128x30x512_0_4_0

theorem tail_k (c : Dev nD) : Pipeline.afterTail₀ cfgs (dats m) 0 (V0 m) [hostOps1] c main_v6
    = heads (arr (inK (xa m c) (ga m c) (wa m c))) := by
  show StableHlo.after hostOps1 (atEnd m c) (Proc.devRef .tc main_v6) = _
  entry_read
  rw [end_k]
  rfl

theorem tail_v (c : Dev nD) : Pipeline.afterTail₀ cfgs (dats m) 0 (V0 m) [hostOps1] c main_v7
    = heads (arr (inV (xa m c) (ga m c) (wa m c))) := by
  show StableHlo.after hostOps1 (atEnd m c) (Proc.devRef .tc main_v7) = _
  entry_read
  rw [end_v]
  rfl

theorem tail_state (c : Dev nD) : Pipeline.afterTail₀ cfgs (dats m) 0 (V0 m) [hostOps1] c main_v8
    = lastRows (sa m c) (arr (inU (xa m c) (ga m c) (wa m c))) := by
  show StableHlo.after hostOps1 (atEnd m c) (Proc.devRef .tc main_v8) = _
  entry_read
  rw [end_u, end_state]
  rfl

/-- The kernel's run: what its results hold, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v6) = heads (arr (inK (xa m c) (ga m c) (wa m c)))
      ∧ r.2.mem ((c : Thread nD τ).loc main_v7) = heads (arr (inV (xa m c) (ga m c) (wa m c)))
      ∧ r.2.mem ((c : Thread nD τ).loc main_v8) = lastRows (sa m c) (arr (inU (xa m c) (ga m c) (wa m c)))
      ∧ r.2.mem ((c : Thread nD τ).loc main_v3_0) = (arr (inU (xa m c) (ga m c) (wa m c)) : S512x512.Idx → EReal)
      ∧ r.2.mem ((c : Thread nD τ).loc main_v3_3) = (arr (inQ (xa m c) (ga m c) (wa m c)) : S512x512.Idx → EReal)
      ∧ r.2.mem ((c : Thread nD τ).loc main_v3_4) = (arr (inK (xa m c) (ga m c) (wa m c)) : S512x512.Idx → EReal)
      ∧ r.2.mem ((c : Thread nD τ).loc main_v3_5) = (arr (inV (xa m c) (ga m c) (wa m c)) : S512x512.Idx → EReal)
      ∧ r.2.mem ((c : Thread nD τ).loc main_v3_6) = (arr (inG0 (xa m c) (ga m c) (wa m c)) : S512x1024.Idx → EReal)
      ∧ r.2.mem ((c : Thread nD τ).loc main_v3_7) = (arr (inG1 (xa m c) (ga m c) (wa m c)) : S512x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v6 (Pipeline.mem_restRefs_of main_v6 (by decide) (by decide))).trans (tail_k m c),
    ((h c).2 main_v7 (Pipeline.mem_restRefs_of main_v7 (by decide) (by decide))).trans (tail_v m c),
    ((h c).2 main_v8 (Pipeline.mem_restRefs_of main_v8 (by decide) (by decide))).trans (tail_state m c),
    ((h c).1 3).trans (arr_u m c),
    ((h c).1 6).trans (arr_qb m c),
    ((h c).1 7).trans (arr_kb m c),
    ((h c).1 8).trans (arr_vb m c),
    ((h c).1 9).trans (arr_g0 m c),
    ((h c).1 10).trans (arr_g1 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m ρ)

end Cert.Kernel4Ideal.Arr

end
-- ==== Proof.SampleReference.lean ====
/- The reference's input projection of the sample over the extended reals: each of its results is what the kernel's result of
   the same place holds. -/
module

public import proofs.«01_k».proof.Proof.SampleArray
public import proofs.«01_k».proof.Proof.Gen.Reference4Ideal.Read

@[expose] public section

set_option maxRecDepth 16384

noncomputable section

namespace Cert.Reference4Ideal.Read

open Cert.Reference4Ideal Cert.Reference4Ideal.Gen Cert.Rows Idealize.ShloMosaic Idealize.ShloMosaic.ValueIdx

variable (x : (⟨S128x4x1024, .f32⟩ : BufTy).Contents (Elt Ideal)) (g : (⟨S1024, .f32⟩ : BufTy).Contents (Elt Ideal))
  (w : (⟨S1024x4608, .f32⟩ : BufTy).Contents (Elt Ideal))

/-- The sequences' rows, one after another. -/
def flat : (Sh 512 1024).Idx → EReal := val_main_v0 (F := Ideal) x

/-- The reference's normalised rows. -/
theorem rows_apply (t : Fin 512) (d : Fin 1024) :
    val_main_v13 (F := Ideal) x g (ix2 t d) = nrm (fun e => flat x (ix2 t e)) (fun e => g (ix1 e)) d := by
  rw [val_main_v13_apply, val_main_v10_apply, val_main_v9_apply, val_main_v8_apply, val_main_v7_apply, val_main_v5_apply,
    val_main_v6_apply, val_main_v4_apply, val_main_v3_apply, val_main_v2_apply, val_main_v12_apply, val_main_v11_apply]
  show flat x (ix2 t d) * Ideal.rsqrt (Ideal.div (Ideal.ofBits .f32 0x00000000#32
    + ∑ k : Fin 1024, val_main_v1 (F := Ideal) x (idx_main_v2 _ k)) dim + eps) * g _ = _
  rw [Ideal.ofBits_zero_f32, zero_add]
  have hg : ∀ j : S1024.Idx, (j 0).val = d.val → g j = g (ix1 d) := fun j h =>
    congrArg g (funext fun a => Fin.ext (by match a with | ⟨0, _⟩ => exact h))
  rw [hg _ rfl]
  refine congrArg (fun s => flat x (ix2 t d) * Ideal.rsqrt (Ideal.div s dim + eps) * g (ix1 d)) (Finset.sum_congr rfl fun k _ => ?_)
  rw [val_main_v1_apply]
  have hx : ∀ j : S512x1024.Idx, (j 0).val = t.val → (j 1).val = k.val → flat x j = flat x (ix2 t k) := fun j h0 h1 =>
    congrArg (flat x) (funext fun a => Fin.ext (by match a with | ⟨0, _⟩ => exact h0 | ⟨1, _⟩ => exact h1))
  exact congrArg₂ (fun p q => p * q) (hx _ rfl rfl) (hx _ rfl rfl)

/-- The reference's projection, at any index of row `i 0` and column `i 1`. -/
theorem proj_apply (i : S512x4608.Idx) (t : Fin 512) (e : Fin 4608) (h0 : (i 0).val = t.val) (h1 : (i 1).val = e.val) :
    val_main_v14 (F := Ideal) x g w i = proj (flat x) g w t e := by
  obtain rfl : i = ix2 t e := funext fun a => Fin.ext (by match a with | ⟨0, _⟩ => exact h0 | ⟨1, _⟩ => exact h1)
  rw [val_main_v14_apply]
  unfold proj prj
  refine Finset.sum_congr rfl fun k _ => ?_
  have hl : lidx_main_v14 (ix2 t e) k = ix2 t k := funext fun a => Fin.ext (by match a with | ⟨0, _⟩ => rfl | ⟨1, _⟩ => rfl)
  have hr : ridx_main_v14 (ix2 t e) k = ix2 k e := funext fun a => Fin.ext (by match a with | ⟨0, _⟩ => rfl | ⟨1, _⟩ => rfl)
  rw [hl, hr, rows_apply]

open Cert.Kernel4Ideal.Arr (arr heads lastRows)

theorem k_eq : val_main_v26 (F := Ideal) x g w = arr (inK (flat x) g w) := funext fun i => by
  rw [val_main_v26_apply]
  exact proj_apply x g w _ (i 0) _ rfl rfl

theorem v_eq : val_main_v27 (F := Ideal) x g w = arr (inV (flat x) g w) := funext fun i => by
  rw [val_main_v27_apply]
  exact proj_apply x g w _ (i 0) _ rfl rfl

theorem kb_eq : val_main_v38 (F := Ideal) x g w = arr (inK (flat x) g w) := (k_eq x g w).symm ▸ rfl

theorem vb_eq : val_main_v39 (F := Ideal) x g w = arr (inV (flat x) g w) := (v_eq x g w).symm ▸ rfl

theorem qb_eq : val_main_v37 (F := Ideal) x g w = arr (inQ (flat x) g w) := funext fun i => by
  show val_main_v25 (F := Ideal) x g w i * val_main_v35 (F := Ideal) i = _
  rw [val_main_v25_apply, val_main_v35_apply]
  exact congrArg (· * eighth) (proj_apply x g w _ (i 0) _ rfl rfl)

theorem u_eq : val_main_v24 (F := Ideal) x g w = arr (inU (flat x) g w) := funext fun i => by
  rw [val_main_v24_apply, val_main_v23_apply, val_main_v22_apply, val_main_v21_apply, val_main_v20_apply, val_main_v19_apply,
    val_main_v18_apply, val_main_v17_apply, val_main_v16_apply, val_main_v15_apply, val_main_v15_apply,
    proj_apply x g w _ (i 0) (colAt 0 (by decide) (i 1)) rfl (Nat.zero_add _).symm,
    proj_apply x g w _ (i 0) (colAt 512 (by decide) (i 1)) rfl rfl]
  rfl

/-- The reference's gates. -/
theorem gate_eq (i : S512x2048.Idx) (t : Fin 512) (e : Fin 4608) (h0 : (i 0).val = t.val) (h1 : 2560 + (i 1).val = e.val) :
    val_main_v34 (F := Ideal) x g w i = sg (proj (flat x) g w t e) := by
  rw [val_main_v34_apply, val_main_v33_apply, val_main_v32_apply, val_main_v31_apply, val_main_v30_apply, val_main_v29_apply,
    val_main_v28_apply, proj_apply x g w _ t e h0 h1]
  rfl

theorem g0_eq : val_main_v40 (F := Ideal) x g w = arr (inG0 (flat x) g w) := funext fun i => by
  rw [val_main_v40_apply]
  exact gate_eq x g w _ (i 0) _ rfl rfl

theorem g1_eq : val_main_v41 (F := Ideal) x g w = arr (inG1 (flat x) g w) := funext fun i => by
  rw [val_main_v41_apply]
  exact gate_eq x g w _ (i 0) (colAt 3584 (by decide) (i 1)) rfl (by show 2560 + (1024 + (i 1).val) = 3584 + (i 1).val; omega)

theorem heads_k_eq : val_main_v44 (F := Ideal) x g w = heads (arr (inK (flat x) g w)) :=
  congrArg heads (k_eq x g w)

theorem heads_v_eq : val_main_v45 (F := Ideal) x g w = heads (arr (inV (flat x) g w)) :=
  congrArg heads (v_eq x g w)

theorem state_eq (s : (⟨S128x30x512, .f32⟩ : BufTy).Contents (Elt Ideal)) :
    val_main_v46 (F := Ideal) x s g w = lastRows s (arr (inU (flat x) g w)) :=
  congrArg (lastRows s) (u_eq x g w)

end Cert.Reference4Ideal.Read

end
-- ==== Proof.SampleMergeBody.lean ====
/- The body of the samples' merge over the extended reals: what its three output blocks hold, from the blocks of rows, branches and gates
   and from the weights. -/
module

public import proofs.«01_k».proof.Proof.MergeBody
public import proofs.«01_k».proof.Proof.Gen.Kernel7Ideal.Value

@[expose] public section

set_option maxRecDepth 16384

noncomputable section

namespace Cert.Kernel7Ideal.Body

open Cert.Kernel7Ideal Cert.Kernel7Ideal.Gen Cert.Rows Idealize.ShloMosaic Idealize.ShloMosaic.ValueIdx
open Cert.Kernel3Ideal.Body (slab)

variable (x : Vec Ideal S256x1024 .f32) (cn an : Vec Ideal S256x512 .bf16) (a b : Vec Ideal S256x1024 .f32)
  (wc wt : Vec Ideal S512x1024 .bf16) (wo : Vec Ideal S1024x1024 .bf16) (g : Vec Ideal S1x1024 .f32) (wq : Vec Ideal S1024x2048 .bf16)

/-- The block of rows with their branches added. -/
theorem row_apply (r : Fin 256) (e : Fin 1024) :
    k0_pay4 (F := Ideal) a cn wc b an wt x wo (ix2 r e) = mgX x cn an a b wc wt wo r e := by
  unfold k0_pay4
  rw [shapeCast_self, shapeCast_self, shapeCast_self, shapeCast_self]
  refine (congrArg (x (ix2 r e) + ·) (matmul_zero (φ₁ := .bf16) (φ₂ := .bf16) _ _ r e)).trans ?_
  unfold mgX both
  refine congrArg (x (ix2 r e) + ·) (Finset.sum_congr rfl fun d _ => congrArg (· * wo (ix2 d e)) ?_)
  exact congrArg₂ (fun p q => a (ix2 r d) * p + b (ix2 r d) * q) (matmul_zero (φ₁ := .bf16) (φ₂ := .bf16) cn wc r d)
    (matmul_zero (φ₁ := .bf16) (φ₂ := .bf16) an wt r d)

/-- The block of those rows normalised. -/
theorem normed_apply (r : Fin 256) (d : Fin 1024) :
    k0_pay7 (F := Ideal) (k0_pay4 a cn wc b an wt x wo) (k0_pay5 g) (k0_pay6 a cn wc b an wt x wo) (ix2 r d) = mgH x cn an a b wc wt wo (fun e => g (ix2 0 e)) r d := by
  unfold k0_pay7 k0_pay5 k0_pay6
  rw [shapeCast_self]
  refine (nrm_apply (k0_pay4 (F := Ideal) a cn wc b an wt x wo) g reduces_S256x1024_S256 shapeCasts_S256_S256x1
    broadcasts_S256x1_S256x1024 broadcasts_S1x1024_S256x1024 (.inl rfl) rfl r d).trans ?_
  exact congrArg (fun f => nrm f (fun e => g (ix2 0 e)) d) (funext fun e => row_apply x cn an a b wc wt wo r e)

/-- The block of the queries. -/
theorem query_apply (r : Fin 256) (c : Fin 2048) :
    k0_pay8 (F := Ideal) (k0_pay4 a cn wc b an wt x wo) (k0_pay5 g) (k0_pay6 a cn wc b an wt x wo) wq (ix2 r c) = mgQ x cn an a b wc wt wo (fun e => g (ix2 0 e)) wq r c := by
  unfold k0_pay8
  rw [shapeCast_self]
  refine (matmul_zero (φ₁ := .bf16) (φ₂ := .bf16) _ _ r c).trans ?_
  unfold mgQ prj
  exact Finset.sum_congr rfl fun d _ => congrArg (· * wq (ix2 d c)) (normed_apply x cn an a b wc wt wo g r d)

theorem x_apply (r : Fin 256) (e : Fin 1024) :
    out0_10 (F := Ideal) x cn an a b wc wt wo g wq (ix2 r e) = mgX x cn an a b wc wt wo r e := by
  unfold out0_10
  rw [ld_whole a, ld_whole b, ld_whole x, ld_whole cn, ld_whole an, ld_whole wc, ld_whole wt, ld_whole wo]
  exact (canon_whole _ _ r e).trans (row_apply x cn an a b wc wt wo r e)

theorem sum_named : k0_pay24 (F := Ideal) x cn an a b wc wt wo g wq = k0_pay4 a cn wc b an wt x wo := by
  unfold k0_pay24
  rw [ld_whole a, ld_whole b, ld_whole x, ld_whole cn, ld_whole an, ld_whole wc, ld_whole wt, ld_whole wo]

theorem norm_named : k0_pay25 (F := Ideal) x cn an a b wc wt wo g wq = k0_pay5 g := by
  unfold k0_pay25
  rw [ld_whole g]

theorem rows_named : k0_pay26 (F := Ideal) x cn an a b wc wt wo g wq = k0_pay6 a cn wc b an wt x wo := by
  unfold k0_pay26
  rw [ld_whole a, ld_whole b, ld_whole x, ld_whole cn, ld_whole an, ld_whole wc, ld_whole wt, ld_whole wo]

theorem h_apply (r : Fin 256) (d : Fin 1024) :
    out0_11 (F := Ideal) x cn an a b wc wt wo g wq (ix2 r d) = mgH x cn an a b wc wt wo (fun e => g (ix2 0 e)) r d := by
  unfold out0_11
  rw [sum_named, norm_named, rows_named]
  exact (canon_whole _ _ r d).trans (normed_apply x cn an a b wc wt wo g r d)

theorem q_apply (y : S16x256x128.Idx) :
    out0_12 (F := Ideal) x cn an a b wc wt wo g wq y
      = mgQ x cn an a b wc wt wo (fun e => g (ix2 0 e)) wq (y 1) (slab (y 0) (y 2)) := by
  unfold out0_12 k0_pay27
  rw [sum_named, norm_named, rows_named, ld_whole wq]
  refine (Value.canon12_eq a cn wc b an wt x wo g wq y).trans ?_
  refine Eq.trans ?_ (query_apply x cn an a b wc wt wo g wq (y 1) (slab (y 0) (y 2)))
  exact congrArg (k0_pay8 (F := Ideal) (k0_pay4 a cn wc b an wt x wo) (k0_pay5 g) (k0_pay6 a cn wc b an wt x wo) wq)
    (funext fun i => Fin.ext (by match i with | ⟨0, _⟩ => rfl | ⟨1, _⟩ => rfl))

end Cert.Kernel7Ideal.Body

end
-- ==== Proof.SampleMergeArray.lean ====
/- The result arrays of the samples' merge over the extended reals: the two blocks of 256 rows cover each of the three, and each block
   holds the merge of its rows, read from the argument arrays. -/
module

public import proofs.«01_k».proof.Proof.SampleMergeBody
public import proofs.«01_k».proof.Proof.MergeArray
public import proofs.«01_k».proof.Proof.SampleArray

@[expose] public section

set_option maxRecDepth 16384

noncomputable section

namespace Cert.Kernel7Ideal.Arr

open Cert.Kernel7Ideal Cert.Kernel7Ideal.Gen Cert.Kernel7Ideal.Body Cert.Rows
  Idealize.ShloMosaic Idealize.ShloMosaic.ValueIdx Idealize.ShloMosaic.TcCoe Idealize.SL.Sem
open Cert.Kernel2Ideal.Arr (row0 row1)
open Cert.Kernel4Ideal.Arr (arr)
open Cert.Kernel3Ideal.Arr (whole_emb col0 sl0 sl1 sl2)
open Cert.Kernel3Ideal.Body (slab)

variable (m : (ℓ : Loc nD τ sig) → Buf (Elt Ideal) ℓ)

def xa (c : Dev nD) : (Sh 512 1024).Idx → EReal :=
  shapeCast S512x1024 (m ((c : Thread nD τ).loc main_arg0) : S128x4x1024.Idx → EReal) shapeCasts_S128x4x1024_S512x1024
abbrev ca (c : Dev nD) : (Sh 512 512).Idx → EReal := m ((c : Thread nD τ).loc main_arg1)
abbrev na (c : Dev nD) : (Sh 512 512).Idx → EReal := m ((c : Thread nD τ).loc main_arg2)
abbrev aa (c : Dev nD) : (Sh 512 1024).Idx → EReal := m ((c : Thread nD τ).loc main_arg3)
abbrev ba (c : Dev nD) : (Sh 512 1024).Idx → EReal := m ((c : Thread nD τ).loc main_arg4)
abbrev wca (c : Dev nD) : (Sh 512 1024).Idx → EReal := m ((c : Thread nD τ).loc main_arg5)
abbrev wta (c : Dev nD) : (Sh 512 1024).Idx → EReal := m ((c : Thread nD τ).loc main_arg6)
abbrev woa (c : Dev nD) : (Sh 1024 1024).Idx → EReal := m ((c : Thread nD τ).loc main_arg7)
abbrev ga (c : Dev nD) : (⟨1, ![1024]⟩ : Shape).Idx → EReal := m ((c : Thread nD τ).loc main_arg8)
abbrev wqa (c : Dev nD) : (Sh 1024 2048).Idx → EReal := m ((c : Thread nD τ).loc main_arg9)

theorem V_x (c : Dev nD) : V m c main_v0 = xa m c := by
  entry_read
  rfl

theorem V_wc (c : Dev nD) : V m c main_v1 = wca m c := by
  entry_read
  rfl

theorem V_wt (c : Dev nD) : V m c main_v2 = wta m c := by
  entry_read
  rfl

theorem V_wo (c : Dev nD) : V m c main_v3 = woa m c := by
  entry_read
  rfl

theorem V_wq (c : Dev nD) : V m c main_v4 = wqa m c := by
  entry_read
  rfl

theorem V_g (c : Dev nD) (d : Fin 1024) : (V m c main_v5 : S1x1024.Idx → EReal) (ix2 0 d) = ga m c (ix1 d) := by
  entry_read
  refine shapeCast_apply _ _ (ix2 0 d) (ix1 d) ?_
  rw [Shape.rowMajor_val_two, Shape.rowMajor_val_one]; show d.val = 0 * 1024 + d.val; omega

theorem idx0 : ∀ t : Fin cfg0.N, (cfg0.win 0).index t = ![(grid0.coords t 0).val, 0] := by decide +kernel
theorem idx1 : ∀ t : Fin cfg0.N, (cfg0.win 1).index t = ![(grid0.coords t 0).val, 0] := by decide +kernel
theorem idx2 : ∀ t : Fin cfg0.N, (cfg0.win 2).index t = ![(grid0.coords t 0).val, 0] := by decide +kernel
theorem idx3 : ∀ t : Fin cfg0.N, (cfg0.win 3).index t = ![(grid0.coords t 0).val, 0] := by decide +kernel
theorem idx4 : ∀ t : Fin cfg0.N, (cfg0.win 4).index t = ![(grid0.coords t 0).val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![(grid0.coords t 0).val, 0] := by decide +kernel
theorem idx11 : ∀ t : Fin cfg0.N, (cfg0.win 11).index t = ![(grid0.coords t 0).val, 0] := by decide +kernel
theorem idx12 : ∀ t : Fin cfg0.N, (cfg0.win 12).index t = ![0, (grid0.coords t 0).val, 0] := by decide +kernel

section

variable (c : Dev nD) (t : Fin cfg0.N) (r : Fin 256) (hr : (grid0.coords t 0).val * 256 + r.val < 512)

include hr in
theorem x_blk (e : Fin 1024) : (iblk m c 0 t : Vec Ideal S256x1024 .f32) (ix2 r e) = xa m c (ix2 ⟨_, hr⟩ e) :=
  (congrFun (V_x m c) _).trans (congrArg (xa m c) (row_emb _ (row0 (idx0 t)) (row1 (idx0 t)) r e hr))

theorem c_blk (k : Fin 512) : (iblk m c 1 t : Vec Ideal S256x512 .bf16) (ix2 r k) = ca m c (ix2 ⟨_, hr⟩ k) :=
  (congrFun (V_main_arg1 m c) _).trans (congrArg (ca m c) (row_emb _ (row0 (idx1 t)) (row1 (idx1 t)) r k hr))

theorem n_blk (k : Fin 512) : (iblk m c 2 t : Vec Ideal S256x512 .bf16) (ix2 r k) = na m c (ix2 ⟨_, hr⟩ k) :=
  (congrFun (V_main_arg2 m c) _).trans (congrArg (na m c) (row_emb _ (row0 (idx2 t)) (row1 (idx2 t)) r k hr))

theorem a_blk (e : Fin 1024) : (iblk m c 3 t : Vec Ideal S256x1024 .f32) (ix2 r e) = aa m c (ix2 ⟨_, hr⟩ e) :=
  (congrFun (V_main_arg3 m c) _).trans (congrArg (aa m c) (row_emb _ (row0 (idx3 t)) (row1 (idx3 t)) r e hr))

theorem b_blk (e : Fin 1024) : (iblk m c 4 t : Vec Ideal S256x1024 .f32) (ix2 r e) = ba m c (ix2 ⟨_, hr⟩ e) :=
  (congrFun (V_main_arg4 m c) _).trans (congrArg (ba m c) (row_emb _ (row0 (idx4 t)) (row1 (idx4 t)) r e hr))

theorem wc_blk (k : Fin 512) (d : Fin 1024) : (iblk m c 5 t : Vec Ideal S512x1024 .bf16) (ix2 k d) = wca m c (ix2 k d) :=
  (congrFun (V_wc m c) _).trans (congrArg (wca m c) (whole_emb _ (col0 (idx5 t)) (row1 (idx5 t)) k d))

theorem wt_blk (k : Fin 512) (d : Fin 1024) : (iblk m c 6 t : Vec Ideal S512x1024 .bf16) (ix2 k d) = wta m c (ix2 k d) :=
  (congrFun (V_wt m c) _).trans (congrArg (wta m c) (whole_emb _ (col0 (idx6 t)) (row1 (idx6 t)) k d))

theorem wo_blk (k d : Fin 1024) : (iblk m c 7 t : Vec Ideal S1024x1024 .bf16) (ix2 k d) = woa m c (ix2 k d) :=
  (congrFun (V_wo m c) _).trans (congrArg (woa m c) (whole_emb _ (col0 (idx7 t)) (row1 (idx7 t)) k d))

theorem g_blk (d : Fin 1024) : (iblk m c 8 t : Vec Ideal S1x1024 .f32) (ix2 0 d) = ga m c (ix1 d) :=
  (congrArg (V m c main_v5 : S1x1024.Idx → EReal) (whole_emb _ (col0 (idx8 t)) (row1 (idx8 t)) 0 d)).trans (V_g m c d)

theorem wq_blk (k : Fin 1024) (d : Fin 2048) : (iblk m c 9 t : Vec Ideal S1024x2048 .bf16) (ix2 k d) = wqa m c (ix2 k d) :=
  (congrFun (V_wq m c) _).trans (congrArg (wqa m c) (whole_emb _ (col0 (idx9 t)) (row1 (idx9 t)) k d))

/-- The merged rows of the argument arrays, their normalised rows and their queries. -/
abbrev X (s : Fin 512) (e : Fin 1024) : EReal :=
  mgX (xa m c) (ca m c) (na m c) (aa m c) (ba m c) (wca m c) (wta m c) (woa m c) s e
abbrev H (s : Fin 512) (e : Fin 1024) : EReal :=
  mgH (xa m c) (ca m c) (na m c) (aa m c) (ba m c) (wca m c) (wta m c) (woa m c) (fun d => ga m c (ix1 d)) s e
abbrev Q (s : Fin 512) (e : Fin 2048) : EReal :=
  mgQ (xa m c) (ca m c) (na m c) (aa m c) (ba m c) (wca m c) (wta m c) (woa m c) (fun d => ga m c (ix1 d)) (wqa m c) s e

/-- The block's merged rows are the arrays'. -/
theorem X_blk : mgX (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16) r
      = X m c ⟨_, hr⟩ :=
  mgX_block (t := ⟨_, hr⟩) _ _ _ _ _ _ _ _ (x_blk m c t r hr) (c_blk m c t r hr) (n_blk m c t r hr) (a_blk m c t r hr)
    (b_blk m c t r hr) (wc_blk m c t) (wt_blk m c t) (wo_blk m c t)

theorem norm_blk : (fun d => (iblk m c 8 t : Vec Ideal S1x1024 .f32) (ix2 0 d)) = fun d => ga m c (ix1 d) :=
  funext (g_blk m c t)

theorem H_blk (d : Fin 1024) : mgH (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16)
    (fun d => (iblk m c 8 t : Vec Ideal S1x1024 .f32) (ix2 0 d)) r d = H m c ⟨_, hr⟩ d :=
  congrArg₂ (fun f g => nrm f g d) (X_blk m c t r hr) (norm_blk m c t)

theorem Q_blk (e : Fin 2048) : mgQ (iblk m c 0 t : Vec Ideal S256x1024 .f32) (iblk m c 1 t : Vec Ideal S256x512 .bf16)
    (iblk m c 2 t : Vec Ideal S256x512 .bf16) (iblk m c 3 t : Vec Ideal S256x1024 .f32) (iblk m c 4 t : Vec Ideal S256x1024 .f32)
    (iblk m c 5 t : Vec Ideal S512x1024 .bf16) (iblk m c 6 t : Vec Ideal S512x1024 .bf16) (iblk m c 7 t : Vec Ideal S1024x1024 .bf16)
    (fun d => (iblk m c 8 t : Vec Ideal S1x1024 .f32) (ix2 0 d)) (iblk m c 9 t : Vec Ideal S1024x2048 .bf16) r e = Q m c ⟨_, hr⟩ e := by
  unfold Q mgQ
  rw [X_blk m c t r hr, norm_blk m c t]
  exact congrArg (prj _ _) (funext fun d => wq_blk m c t d e)

end

theorem fits (t : Fin cfg0.N) : (grid0.coords t 0).val * 256 + 256 ≤ 512 := by
  have h : (grid0.coords t 0).val < 2 := (grid0.coords t 0).isLt
  omega

theorem point_of : ∀ a : Fin 2, ∃ t : Fin cfg0.N, (grid0.coords t 0).val = a.val := by decide +kernel

/-- Some point's rows hold a given row. -/
theorem point (a : Fin 512) : ∃ t : Fin cfg0.N, a.val / 256 = (grid0.coords t 0).val := by
  have ha := a.isLt
  obtain ⟨t, ht⟩ := point_of ⟨a.val / 256, by omega⟩
  exact ⟨t, ht.symm⟩

theorem mem_slice (b : Ref sig .tc) {R : Rect b.ty.shape} {i : b.ty.shape.Idx} (h : i ∈ R.set) : i ∈ ((View.whole b).slice R).set := by
  rw [View.set_slice_whole]
  exact h

/-! The queries' array has sixteen slabs of columns. -/

/-- The array of a function of a row and a column, its columns laid out in slabs. -/
abbrev arrS (G : Fin 512 → Fin 2048 → EReal) : S16x512x128.Idx → EReal := fun j => G (j 1) (slab (j 0) (j 2))

theorem slabs_read {off : Fin 3 → ℕ} (inb : ∀ a, off a + (![16, 256, 128] : Fin 3 → ℕ) a ≤ S16x512x128.size a) {t : ℕ}
    (h0 : off 0 = 0) (h1 : off 1 = t * 256) (h2 : off 2 = 0) (ht : t * 256 + 256 ≤ 512) (B : S16x256x128.Idx → EReal)
    (G : Fin 512 → Fin 2048 → EReal)
    (hB : ∀ (y : S16x256x128.Idx) (hr : t * 256 + (y 1).val < 512), B y = G ⟨t * 256 + (y 1).val, hr⟩ (slab (y 0) (y 2)))
    (y : S16x256x128.Idx) : B y = arrS G ((Rect.unit (s := S16x512x128) off ![16, 256, 128] inb).emb y) := by
  have hy : (y 1).val < 256 := (y 1).isLt
  refine (hB y (by omega)).trans (congrArg₂ G (Fin.ext ?_) (Fin.ext ?_))
  · show t * 256 + (y 1).val = off 1 + 1 * (y 1).val; omega
  · show (y 0).val * 128 + (y 2).val = (off 0 + 1 * (y 0).val) * 128 + (off 2 + 1 * (y 2).val); omega

theorem slabs_mem {off : Fin 3 → ℕ} (inb : ∀ a, off a + (![16, 256, 128] : Fin 3 → ℕ) a ≤ S16x512x128.size a) {t : ℕ}
    (h0 : off 0 = 0) (h1 : off 1 = t * 256) (h2 : off 2 = 0) (i : S16x512x128.Idx) (hi : (i 1).val / 256 = t) :
    i ∈ (Rect.unit (s := S16x512x128) off ![16, 256, 128] inb).set := by
  rw [Rect.mem_set_unit]
  have b0 : (i 0).val < 16 := (i 0).isLt
  have b2 : (i 2).val < 128 := (i 2).isLt
  intro a
  match a with
  | ⟨0, _⟩ => show off 0 ≤ (i 0).val ∧ (i 0).val < off 0 + 16; omega
  | ⟨1, _⟩ => show off 1 ≤ (i 1).val ∧ (i 1).val < off 1 + 256; omega
  | ⟨2, _⟩ => show off 2 ≤ (i 2).val ∧ (i 2).val < off 2 + 128; omega

/-! What each output array holds when the launch ends. -/

theorem arr_x (c : Dev nD) : (dats m 0 c).arrAt 10 cfg0.N = (arr (X m c) : S512x1024.Idx → EReal) :=
  (dats m 0 c).arrAt_eq_of_cover 10 (arr (X m c) : S512x1024.Idx → EReal)
    (fun t _ => (Value.flushed10 m c t).trans (funext (rows_read _ (row0 (idx10 t)) (row1 (idx10 t)) (fits t)
      (out0_10 (F := Ideal) _ _ _ _ _ _ _ _ _ _) (X m c) fun r l hr =>
        (x_apply _ _ _ _ _ _ _ _ _ _ r l).trans (congrFun (X_blk m c t r hr) l))))
    fun i : S512x1024.Idx => (point (i 0)).imp fun t ht => ⟨flush0_10 t,
      mem_slice main_v6_0 (rows_mem _ (row0 (idx10 t)) (row1 (idx10 t)) i ht)⟩

theorem arr_h (c : Dev nD) : (dats m 0 c).arrAt 11 cfg0.N = (arr (H m c) : S512x1024.Idx → EReal) :=
  (dats m 0 c).arrAt_eq_of_cover 11 (arr (H m c) : S512x1024.Idx → EReal)
    (fun t _ => (Value.flushed11 m c t).trans (funext (rows_read _ (row0 (idx11 t)) (row1 (idx11 t)) (fits t)
      (out0_11 (F := Ideal) _ _ _ _ _ _ _ _ _ _) (H m c) fun r l hr =>
        (h_apply _ _ _ _ _ _ _ _ _ _ r l).trans (H_blk m c t r hr l))))
    fun i : S512x1024.Idx => (point (i 0)).imp fun t ht => ⟨flush0_11 t,
      mem_slice main_v6_1 (rows_mem _ (row0 (idx11 t)) (row1 (idx11 t)) i ht)⟩

theorem arr_q (c : Dev nD) : (dats m 0 c).arrAt 12 cfg0.N = arrS (Q m c) :=
  (dats m 0 c).arrAt_eq_of_cover 12 (arrS (Q m c))
    (fun t _ => (Value.flushed12 m c t).trans (funext (slabs_read _ (sl0 (idx12 t)) (sl1 (idx12 t)) (sl2 (idx12 t)) (fits t)
      (out0_12 (F := Ideal) _ _ _ _ _ _ _ _ _ _) (Q m c) fun y hr =>
        (q_apply _ _ _ _ _ _ _ _ _ _ y).trans (Q_blk m c t (y 1) hr _))))
    fun i : S16x512x128.Idx => (point (i 1)).imp fun t ht => ⟨flush0_12 t,
      mem_slice main_v6_2 (slabs_mem _ (sl0 (idx12 t)) (sl1 (idx12 t)) (sl2 (idx12 t)) i ht)⟩

/-- The kernel's run: its three result arrays hold the merged rows, their normalised rows and their queries; its arguments
    are unchanged. -/
theorem run (ρ : Dev nD → PrngReg) : θ_run defs (onTc (τ := τ) (main (F := Ideal))) ⟨m, fun _ => 0, ρ⟩ fun r => ∀ c : Dev nD,
      r.2.mem ((c : Thread nD τ).loc main_v6_0) = (arr (X m c) : S512x1024.Idx → EReal)
      ∧ r.2.mem ((c : Thread nD τ).loc main_v6_1) = (arr (H m c) : S512x1024.Idx → EReal)
      ∧ r.2.mem ((c : Thread nD τ).loc main_v6_2) = arrS (Q m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    rw [← arr_x m c, ← arr_h m c, ← arr_q m c]
    exact h c)
    (Cert.Kernel7Ideal.Value.run_blocks m ρ)

end Cert.Kernel7Ideal.Arr

end
-- ==== Proof.SampleMergeReference.lean ====
/- The reference's merge of the samples over the extended reals: each of its three results is the array the kernel's result of the same
   place holds. -/
module

public import proofs.«01_k».proof.Proof.SampleMergeArray
public import proofs.«01_k».proof.Proof.Gen.Reference7Ideal.Read

@[expose] public section

set_option maxRecDepth 16384

noncomputable section

namespace Cert.Reference7Ideal.Read

open Cert.Reference7Ideal Cert.Reference7Ideal.Gen Cert.Rows Idealize.ShloMosaic Idealize.ShloMosaic.ValueIdx
open Cert.Kernel4Ideal.Arr (arr)
open Cert.Kernel7Ideal.Arr (arrS)
open Cert.Kernel3Ideal.Body (slab)

variable (x : (⟨S128x4x1024, .f32⟩ : BufTy).Contents (Elt Ideal)) (cn an : (⟨S512x512, .bf16⟩ : BufTy).Contents (Elt Ideal))
  (a b : (⟨S512x1024, .f32⟩ : BufTy).Contents (Elt Ideal)) (wc wt : (⟨S512x1024, .f32⟩ : BufTy).Contents (Elt Ideal))
  (wo : (⟨S1024x1024, .f32⟩ : BufTy).Contents (Elt Ideal)) (g : (⟨S1024, .f32⟩ : BufTy).Contents (Elt Ideal))
  (wq : (⟨S1024x2048, .f32⟩ : BufTy).Contents (Elt Ideal))

/-- The sequences' rows, one after another. -/
def flat : (Sh 512 1024).Idx → EReal := val_main_v0 (F := Ideal) x

/-- An index with the coordinates `p` and `q`. -/
theorem at2 {m n : ℕ} {i : (Sh m n).Idx} {p : Fin m} {q : Fin n} (h0 : (i 0).val = p.val) (h1 : (i 1).val = q.val) : i = ix2 p q :=
  funext fun a => Fin.ext (by match a with | ⟨0, _⟩ => exact h0 | ⟨1, _⟩ => exact h1)

/-- A branch's product with its weight. -/
theorem conv_apply (t : Fin 512) (d : Fin 1024) :
    val_main_v2 (F := Ideal) cn wc (ix2 t d) = ∑ k : Fin 512, cn (ix2 t k) * wc (ix2 k d) := by
  rw [val_main_v2_apply]
  refine Finset.sum_congr rfl fun k _ => congrArg₂ (fun p q => p * q) ?_ (congrArg wc (at2 rfl rfl))
  rw [val_main_v1_apply]
  exact congrArg cn (at2 rfl rfl)

theorem att_apply (t : Fin 512) (d : Fin 1024) :
    val_main_v4 (F := Ideal) an wt (ix2 t d) = ∑ k : Fin 512, an (ix2 t k) * wt (ix2 k d) :=
  conv_apply an wt t d

theorem both_apply (t : Fin 512) (d : Fin 1024) :
    val_main_v7 (F := Ideal) cn an a b wc wt (ix2 t d) = both cn an a b wc wt t d := by
  rw [val_main_v7_apply, val_main_v5_apply, val_main_v6_apply, conv_apply, att_apply]
  rfl

theorem row_apply (t : Fin 512) (e : Fin 1024) :
    val_main_v9 (F := Ideal) x cn an a b wc wt wo (ix2 t e) = mgX (flat x) cn an a b wc wt wo t e := by
  rw [val_main_v9_apply, val_main_v8_apply]
  unfold mgX
  refine congrArg (flat x (ix2 t e) + ·) (Finset.sum_congr rfl fun k _ => congrArg₂ (fun p q => p * q) ?_ (congrArg wo (at2 rfl rfl)))
  exact (congrArg (val_main_v7 (F := Ideal) cn an a b wc wt) (at2 rfl rfl)).trans (both_apply cn an a b wc wt t k)

/-- The reference's normalised rows. -/
theorem normed_apply (t : Fin 512) (d : Fin 1024) :
    val_main_v22 (F := Ideal) x cn an a b wc wt wo g (ix2 t d) = mgH (flat x) cn an a b wc wt wo (fun e => g (ix1 e)) t d := by
  rw [val_main_v22_apply, val_main_v19_apply, val_main_v18_apply, val_main_v17_apply, val_main_v16_apply, val_main_v14_apply,
    val_main_v15_apply, val_main_v13_apply, val_main_v12_apply, val_main_v11_apply, val_main_v21_apply, val_main_v20_apply,
    row_apply]
  show mgX (flat x) cn an a b wc wt wo t d * Ideal.rsqrt (Ideal.div (Ideal.ofBits .f32 0x00000000#32
    + ∑ k : Fin 1024, val_main_v10 (F := Ideal) x cn an a b wc wt wo (idx_main_v11 _ k)) dim + eps) * g _ = _
  rw [Ideal.ofBits_zero_f32, zero_add]
  have hg : ∀ j : S1024.Idx, (j 0).val = d.val → g j = g (ix1 d) := fun j h =>
    congrArg g (funext fun a => Fin.ext (by match a with | ⟨0, _⟩ => exact h))
  rw [hg _ rfl]
  refine congrArg (fun s => mgX (flat x) cn an a b wc wt wo t d * Ideal.rsqrt (Ideal.div s dim + eps) * g (ix1 d))
    (Finset.sum_congr rfl fun k _ => ?_)
  have hk : ∀ j : S512x1024.Idx, (j 0).val = t.val → (j 1).val = k.val →
      val_main_v9 (F := Ideal) x cn an a b wc wt wo j = mgX (flat x) cn an a b wc wt wo t k := fun j h0 h1 =>
    (congrArg (val_main_v9 (F := Ideal) x cn an a b wc wt wo) (at2 h0 h1)).trans (row_apply x cn an a b wc wt wo t k)
  rw [val_main_v10_apply, hk _ rfl rfl]
  rfl

/-- The reference's queries, at any index of row `i 0` and column `i 1`. -/
theorem query_apply (i : S512x2048.Idx) (t : Fin 512) (e : Fin 2048) (h0 : (i 0).val = t.val) (h1 : (i 1).val = e.val) :
    val_main_v23 (F := Ideal) x cn an a b wc wt wo g wq i = mgQ (flat x) cn an a b wc wt wo (fun e => g (ix1 e)) wq t e := by
  obtain rfl : i = ix2 t e := at2 h0 h1
  rw [val_main_v23_apply]
  unfold mgQ prj
  refine Finset.sum_congr rfl fun k _ => congrArg₂ (fun p q => p * q) ?_ (congrArg wq (at2 rfl rfl))
  exact (congrArg (val_main_v22 (F := Ideal) x cn an a b wc wt wo g) (at2 rfl rfl)).trans (normed_apply x cn an a b wc wt wo g t k)

theorem x_eq : val_main_v9 (F := Ideal) x cn an a b wc wt wo = arr (mgX (flat x) cn an a b wc wt wo) := funext fun i => by
  rw [eq_ix2 i]
  exact row_apply x cn an a b wc wt wo (i 0) (i 1)

theorem h_eq : val_main_v25 (F := Ideal) x cn an a b wc wt wo g = arr (mgH (flat x) cn an a b wc wt wo (fun e => g (ix1 e))) :=
  funext fun i : S512x1024.Idx => by
    rw [val_main_v25_apply, eq_ix2 i]
    exact normed_apply x cn an a b wc wt wo g (i 0) (i 1)

theorem q_eq : val_main_v26 (F := Ideal) x cn an a b wc wt wo g wq = arrS (mgQ (flat x) cn an a b wc wt wo (fun e => g (ix1 e)) wq) :=
  funext fun i => by
    have b0 : (i 0).val < 16 := (i 0).isLt
    have b2 : (i 2).val < 128 := (i 2).isLt
    rw [val_main_v26_apply, val_main_v24_apply]
    refine query_apply x cn an a b wc wt wo g wq _ (i 1) (slab (i 0) (i 2)) ?_ ?_
    · show (((i 1).val * 16 + (i 0).val) * 128 + (i 2).val) / 2048 = (i 1).val; omega
    · show (((i 1).val * 16 + (i 0).val) * 128 + (i 2).val) % 2048 = (i 0).val * 128 + (i 2).val; omega

end Cert.Reference7Ideal.Read

end
-- ==== Proof.SelectBody.lean ====
/- The key scores' body over the extended reals: what the loop over the heads leaves in the block of scores, from the block of
   queries and the keys. Each trip writes the two sides of one head, and the trips' boxes cover the block. -/
module

public import proofs.«01_k».proof.Proof.Gen.Kernel8Ideal.Frame
public import Idealize.ShloMosaic.Lib.MatmulPlain
public import Idealize.ShloMosaic.Lib.ValueLayout
public import Idealize.ShloMosaic.Lib.Pipeline.Value
public import Idealize.ShloMosaic.Lib.Pipeline.ReadBack

@[expose] public section

set_option maxRecDepth 16384

noncomputable section

namespace Cert.Kernel8Ideal.Body

open Cert.Kernel8Ideal Cert.Kernel8Ideal.Gen Idealize.ShloMosaic Idealize.ShloMosaic.ValueIdx Idealize.ShloMosaic.TcCoe

section
variable {F : FTy → Type} [FloatOps F]
variable (𝒱 : Variants) (c : Dev nD) (bd : Option 𝒱.V) (i : grid0.Coords)
  (arg1 : Memref sig .tc .vmem S16x512x128 .f32) (harg1 : arg1.IsWhole)
  (arg2 : Memref sig .tc .vmem S16x128x128 .bf16) (harg2 : arg2.IsWhole)
  (arg3 : Memref sig .tc .vmem S2x8x128x512 .f32) (harg3 : arg3.IsWhole)
  (arg4 : Memref sig .tc .vmem S2x8x128x512 .f32) (harg4 : arg4.IsWhole)
  (arg5 : Memref sig .tc .vmem S8x8x512 .f32) (harg5 : arg5.IsWhole) (v0 : IVec S8x512 32)
  (X1 : BufTy.Contents (Elt F) arg1.view.ty) (X2 : BufTy.Contents (Elt F) arg2.view.ty) (k : Fin k0_t1_loop.trips)

/-- The queries and the keys of one side of the trip's head. -/
abbrev qld (s : Fin 2) : Vec F S1x512x128 .f32 :=
  arg1.view.readAt (Elt F) (Rect.unit (s := S16x512x128) (k0_off2 k (BitVec.ofNat 32 s.val)) S1x512x128.size (k0_off2_inb k s)).toLoadRect X1
abbrev kld (s : Fin 2) : Vec F S1x128x128 .bf16 :=
  arg2.view.readAt (Elt F) (Rect.unit (s := S16x128x128) (k0_off1 k (BitVec.ofNat 32 s.val)) S1x128x128.size (k0_off1_inb k s)).toLoadRect X2

/-- What one trip stores in the scores. -/
theorem trip_scores : (tripL_k0_t1 (F := F) 𝒱 c bd i arg1 harg1 arg2 harg2 arg3 harg3 arg4 harg4 arg5 harg5 v0 X1 X2 k).1
    = [⟨Rect.unit (s := S2x8x128x512) (k0_off4 k) S1x1x128x512.size (k0_off4_inb k), k0_pay418 (kld arg2 X2 k 1) (qld arg1 X1 k 1)⟩,
       ⟨Rect.unit (s := S2x8x128x512) (k0_off3 k) S1x1x128x512.size (k0_off3_inb k), k0_pay4 (kld arg2 X2 k 0) (qld arg1 X1 k 0)⟩] := by
  unfold tripL_k0_t1 trip_k0_t1
  rfl

/-- A predicate every piece of every trip has is had by every piece of the trips before `n`. -/
theorem pieces_forall (P : View.Piece (Elt F) S2x8x128x512 .f32 → Prop)
    (h : ∀ k : Fin k0_t1_loop.trips, ∀ p ∈ (tripL_k0_t1 (F := F) 𝒱 c bd i arg1 harg1 arg2 harg2 arg3 harg3 arg4 harg4 arg5 harg5 v0 X1 X2 k).1, P p) :
    ∀ n : ℕ, n ≤ k0_t1_loop.trips →
      ∀ p ∈ (pb_k0_t1 (F := F) 𝒱 c bd i arg1 harg1 arg2 harg2 arg3 harg3 arg4 harg4 arg5 harg5 v0 X1 X2 n).1, P p
  | 0, _ => fun p hp => absurd hp List.not_mem_nil
  | n + 1, hn => fun p hp => by
    rw [pb_k0_t1_succ 𝒱 c bd i arg1 harg1 arg2 harg2 arg3 harg3 arg4 harg4 arg5 harg5 v0 X1 X2 ⟨n, hn⟩] at hp
    rcases List.mem_append.mp hp with hp | hp
    · exact h ⟨n, hn⟩ p hp
    · exact pieces_forall P h n (Nat.le_of_succ_le hn) p hp

end

/-- The slab of a head's side. -/
def slab (s : Fin 2) (h : Fin 8) : Fin 16 := ⟨2 * h.val + s.val, by omega⟩

/-- The block's scores: each key of a head's side times each query of it. -/
def scores (x0 : Vec Ideal S16x512x128 .f32) (x1 : Vec Ideal S16x128x128 .bf16) (j : S2x8x128x512.Idx) : EReal :=
  ∑ d : Fin 128, x1 (ix3 (slab (j 0) (j 1)) (j 2) d) * x0 (ix3 (slab (j 0) (j 1)) (j 3) d)

theorem trips_eq : k0_t1_loop.trips = 8 := by decide
theorem off1_eq : ∀ (k : Fin k0_t1_loop.trips) (s : Fin 2), k0_off1 k (BitVec.ofNat 32 s.val) = ![2 * k.val + s.val, 0, 0] := by
  decide +kernel
theorem off2_eq : ∀ (k : Fin k0_t1_loop.trips) (s : Fin 2), k0_off2 k (BitVec.ofNat 32 s.val) = ![2 * k.val + s.val, 0, 0] := by
  decide +kernel
theorem off3_eq : ∀ k : Fin k0_t1_loop.trips, k0_off3 k = ![0, k.val, 0, 0] := by decide +kernel
theorem off4_eq : ∀ k : Fin k0_t1_loop.trips, k0_off4 k = ![1, k.val, 0, 0] := by decide +kernel

section
variable (arg1 : Memref sig .tc .vmem S16x512x128 .f32) (harg1 : arg1.IsWhole)
  (arg2 : Memref sig .tc .vmem S16x128x128 .bf16) (harg2 : arg2.IsWhole)
  (x0 : Vec Ideal S16x512x128 .f32) (x1 : Vec Ideal S16x128x128 .bf16) (k : Fin k0_t1_loop.trips) (h : Fin 8) (hk : h.val = k.val)
include hk

theorem qld_apply (s : Fin 2) (r : Fin 512) (d : Fin 128) :
    qld (F := Ideal) arg1 (harg1.unread x0) k s (ix3 0 r d) = x0 (ix3 (slab s h) r d) := by
  unfold qld
  rw [View.readAt_eq_ld, harg1.read_unread]
  refine congrArg x0 (funext fun e => Fin.ext ?_)
  match e with
  | ⟨0, _⟩ =>
    show k0_off2 k (BitVec.ofNat 32 s.val) 0 + 1 * 0 = 2 * h.val + s.val
    rw [off2_eq]; show 2 * k.val + s.val + 1 * 0 = _; omega
  | ⟨1, _⟩ =>
    show k0_off2 k (BitVec.ofNat 32 s.val) 1 + 1 * r.val = r.val
    rw [off2_eq]; show 0 + 1 * r.val = r.val; omega
  | ⟨2, _⟩ =>
    show k0_off2 k (BitVec.ofNat 32 s.val) 2 + 1 * d.val = d.val
    rw [off2_eq]; show 0 + 1 * d.val = d.val; omega

theorem kld_apply (s : Fin 2) (n : Fin 128) (d : Fin 128) :
    kld (F := Ideal) arg2 (harg2.unread x1) k s (ix3 0 n d) = x1 (ix3 (slab s h) n d) := by
  unfold kld
  rw [View.readAt_eq_ld, harg2.read_unread]
  refine congrArg x1 (funext fun e => Fin.ext ?_)
  match e with
  | ⟨0, _⟩ =>
    show k0_off1 k (BitVec.ofNat 32 s.val) 0 + 1 * 0 = 2 * h.val + s.val
    rw [off1_eq]; show 2 * k.val + s.val + 1 * 0 = _; omega
  | ⟨1, _⟩ =>
    show k0_off1 k (BitVec.ofNat 32 s.val) 1 + 1 * n.val = n.val
    rw [off1_eq]; show 0 + 1 * n.val = n.val; omega
  | ⟨2, _⟩ =>
    show k0_off1 k (BitVec.ofNat 32 s.val) 2 + 1 * d.val = d.val
    rw [off1_eq]; show 0 + 1 * d.val = d.val; omega
end

/-- The product of one side's keys and queries. -/
theorem prod_apply (kb : Vec Ideal S1x128x128 .bf16) (qb : Vec Ideal S1x512x128 .f32) (n : Fin 128) (r : Fin 512) :
    k0_pay3 (F := Ideal) kb qb (ix2 n r) = ∑ d : Fin 128, kb (ix3 0 n d) * qb (ix3 0 r d) := by
  show FloatOps.matmul (DotDims.transposedRhs 128 128 512) none (shapeCast S128x128 kb shapeCasts_S1x128x128_S128x128)
    (shapeCast S512x128 qb shapeCasts_S1x512x128_S512x128 : FVec Ideal S512x128 .bf16) (constant S128x512 .f32 0x00000000#32) (ix2 n r) = _
  rw [Ideal.matmul_transposedRhs_apply]
  show Ideal.ofBits .f32 0x00000000#32 + _ = _
  rw [Ideal.ofBits_zero_f32, zero_add]
  refine Finset.sum_congr rfl fun d _ => ?_
  rw [shapeCast_1ab_ab_apply, shapeCast_1ab_ab_apply]

theorem store_apply (kb : Vec Ideal S1x128x128 .bf16) (qb : Vec Ideal S1x512x128 .f32) (n : Fin 128) (r : Fin 512) :
    k0_pay4 (F := Ideal) kb qb (ix4 0 0 n r) = ∑ d : Fin 128, kb (ix3 0 n d) * qb (ix3 0 r d) := by
  unfold k0_pay4
  refine (shapeCast_apply _ shapeCasts_S128x512_S1x1x128x512 (ix4 0 0 n r) (ix2 n r) (by
    rw [Shape.rowMajor_val_two, Shape.rowMajor_val_four]
    show n.val * 512 + r.val = ((0 * 1 + 0) * 128 + n.val) * 512 + r.val; omega)).trans ?_
  exact prod_apply kb qb n r

theorem store_same : k0_pay418 (F := Ideal) = k0_pay4 (F := Ideal) := rfl

variable (c : Dev nD) (i : grid0.Coords)
  (arg1 : Memref sig .tc .vmem S16x512x128 .f32) (harg1 : arg1.IsWhole)
  (arg2 : Memref sig .tc .vmem S16x128x128 .bf16) (harg2 : arg2.IsWhole)
  (arg3 : Memref sig .tc .vmem S2x8x128x512 .f32) (harg3 : arg3.IsWhole)
  (arg4 : Memref sig .tc .vmem S2x8x128x512 .f32) (harg4 : arg4.IsWhole)
  (arg5 : Memref sig .tc .vmem S8x8x512 .f32) (harg5 : arg5.IsWhole) (v0 : IVec S8x512 32)
  (x0 : Vec Ideal S16x512x128 .f32) (x1 : Vec Ideal S16x128x128 .bf16)

/-- A box of one side of one head that holds that side's scores is the block of scores there. -/
theorem box_scores (k : Fin k0_t1_loop.trips) (s : Fin 2) (off : Fin 4 → ℕ) (hoff : off = ![s.val, k.val, 0, 0])
    (inb : ∀ a, off a + S1x1x128x512.size a ≤ S2x8x128x512.size a) (x : S1x1x128x512.Idx) :
    k0_pay4 (F := Ideal) (kld arg2 (harg2.unread x1) k s) (qld arg1 (harg1.unread x0) k s) x
      = scores x0 x1 ((Rect.unit (s := S2x8x128x512) off S1x1x128x512.size inb).emb x) := by
  subst hoff
  have h8 : k.val < 8 := trips_eq ▸ k.isLt
  obtain ⟨n, r, rfl⟩ : ∃ (n : Fin 128) (r : Fin 512), x = ix4 0 0 n r := ⟨x 2, x 3, funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl
    | ⟨3, _⟩ => rfl)⟩
  have e : (Rect.unit (s := S2x8x128x512) ![s.val, k.val, 0, 0] S1x1x128x512.size inb).emb (ix4 0 0 n r)
      = (ix4 s ⟨k.val, h8⟩ n r : S2x8x128x512.Idx) := funext fun a => Fin.ext (by
    match a with
    | ⟨0, _⟩ => show s.val + 1 * 0 = s.val; omega
    | ⟨1, _⟩ => show k.val + 1 * 0 = k.val; omega
    | ⟨2, _⟩ => show 0 + 1 * n.val = n.val; omega
    | ⟨3, _⟩ => show 0 + 1 * r.val = r.val; omega)
  rw [e, store_apply]
  refine Finset.sum_congr rfl fun d _ => ?_
  rw [kld_apply arg2 harg2 x1 k ⟨k.val, h8⟩ rfl, qld_apply arg1 harg1 x0 k ⟨k.val, h8⟩ rfl]

/-- What the body leaves in the block of scores. -/
theorem out_scores : out0_A_2 (F := Ideal) c i arg1 harg1 arg2 harg2 arg3 harg3 arg4 harg4 arg5 harg5 x0 x1 = scores x0 x1 := by
  unfold out0_A_2
  rw [View.read_writes_junk_eq_canon]
  refine funext fun y => View.canon_apply_of_pieces (scores x0 x1) _ ?_ y (cover0_A_2 c i arg1 harg1 arg2 harg2 arg3 harg3 arg4 harg4 arg5 harg5 x0 x1 y)
  unfold kernelRun0_A
  dsimp only
  refine pieces_forall (F := Ideal) _ _ _ _ _ _ _ _ _ _ _ _ _ _ _ _ _ (fun p => ∀ x : p.1.shape.Idx, p.2 x = scores x0 x1 (p.1.emb x)) ?_ _ (le_refl _)
  intro k p hp
  rw [trip_scores] at hp
  rcases List.mem_cons.mp hp with rfl | hp
  · exact box_scores arg1 harg1 arg2 harg2 x0 x1 k 1 _ (off4_eq k) (k0_off4_inb k)
  · rcases List.mem_cons.mp hp with rfl | hp
    · exact box_scores arg1 harg1 arg2 harg2 x0 x1 k 0 _ (off3_eq k) (k0_off3_inb k)
    · exact absurd hp List.not_mem_nil

end Cert.Kernel8Ideal.Body

end
-- ==== Proof.SelectArray.lean ====
/- The scores over the extended reals: the blocks of the call's 32 points are the array's columns, and every entry is one dot
   product of a key and a query. -/
module

public import proofs.«01_k».proof.Proof.SelectBody
public import Idealize.ShloMosaic.Lib.Pipeline.ValueKit.Geometry

@[expose] public section

set_option maxRecDepth 16384

noncomputable section

namespace Cert.Kernel8Ideal.Arr

open Cert.Kernel8Ideal Cert.Kernel8Ideal.Gen Cert.Kernel8Ideal.Body
  Idealize.ShloMosaic Idealize.ShloMosaic.ValueIdx Idealize.ShloMosaic.TcCoe Idealize.SL.Sem
open Idealize.ShloMosaic.Pipeline (Dat)

/-- The scores of every head's keys against every token's queries. -/
abbrev scored (q : S16x16384x128.Idx → EReal) (k : S2x8x128x128.Idx → EReal) : S2x8x128x16384.Idx → EReal := fun j =>
  ∑ d : Fin 128, k (ix4 (j 0) (j 1) (j 2) d) * q (ix3 (slab (j 0) (j 1)) (j 3) d)

variable (m : (ℓ : Loc nD τ sig) → Buf (Elt Ideal) ℓ)

/-- The queries and the keys. -/
abbrev qa (c : Dev nD) : S16x16384x128.Idx → EReal := m ((c : Thread nD τ).loc main_arg0)
abbrev ka (c : Dev nD) : S2x8x128x128.Idx → EReal := m ((c : Thread nD τ).loc main_arg1)

theorem V_k (c : Dev nD) (s : Fin 2) (h : Fin 8) (n d : Fin 128) :
    (V m c main_v2 : S16x128x128.Idx → EReal) (ix3 (slab s h) n d) = ka m c (ix4 s h n d) := by
  entry_read
  refine (shapeCast_apply _ _ (ix3 (slab s h) n d) (ix4 h s n d) (by
    rw [Shape.rowMajor_val_three, Shape.rowMajor_val_four]
    show ((h.val * 2 + s.val) * 128 + n.val) * 128 + d.val = ((2 * h.val + s.val) * 128 + n.val) * 128 + d.val; omega)).trans ?_
  exact transpose_apply _ _ _ _ _ fun a => match a with | ⟨0, _⟩ => rfl | ⟨1, _⟩ => rfl | ⟨2, _⟩ => rfl | ⟨3, _⟩ => rfl

theorem idx_q : ∀ t : Fin cfg0.N, (cfg0.win 0).index t = ![0, t.val, 0] := by decide +kernel
theorem idx_k : ∀ t : Fin cfg0.N, (cfg0.win 1).index t = ![0, 0, 0] := by decide +kernel
theorem idx_o : ∀ t : Fin cfg0.N, (cfg0.win 2).index t = ![0, 0, 0, t.val] := by decide +kernel

theorem fits (t : Fin cfg0.N) (r : Fin 512) : 512 * t.val + r.val < 16384 := by
  have h : t.val < 32 := t.isLt
  have h' := r.isLt
  omega

theorem q_blk (c : Dev nD) (t : Fin cfg0.N) (a : Fin 16) (r : Fin 512) (d : Fin 128) :
    (iblk m c 0 t : Vec Ideal S16x512x128 .f32) (ix3 a r d) = qa m c (ix3 a ⟨_, fits t r⟩ d) := by
  show V m c main_arg0 (((cfg0.win 0).rect t).emb (ix3 a r d)) = _
  rw [V_main_arg0]
  refine congrArg (fun j => qa m c j) (funext fun b => Fin.ext ?_)
  refine ((cfg0.win 0).rect_emb_val t (ix3 a r d) b).trans ?_
  rw [idx_q]
  match b with
  | ⟨0, _⟩ => show 0 * 16 + a.val = a.val; omega
  | ⟨1, _⟩ => show t.val * 512 + r.val = 512 * t.val + r.val; omega
  | ⟨2, _⟩ => show 0 * 128 + d.val = d.val; omega

theorem k_blk (c : Dev nD) (t : Fin cfg0.N) (s : Fin 2) (h : Fin 8) (n d : Fin 128) :
    (iblk m c 1 t : Vec Ideal S16x128x128 .bf16) (ix3 (slab s h) n d) = ka m c (ix4 s h n d) := by
  show V m c main_v2 (((cfg0.win 1).rect t).emb (ix3 (slab s h) n d)) = _
  refine Eq.trans (congrArg (V m c main_v2) (funext fun b => Fin.ext ?_)) (V_k m c s h n d)
  refine ((cfg0.win 1).rect_emb_val t (ix3 (slab s h) n d) b).trans ?_
  rw [idx_k]
  match b with
  | ⟨0, _⟩ => show 0 * 16 + (slab s h).val = (slab s h).val; omega
  | ⟨1, _⟩ => show 0 * 128 + n.val = n.val; omega
  | ⟨2, _⟩ => show 0 * 128 + d.val = d.val; omega

/-- What the result holds. -/
abbrev G (c : Dev nD) : S2x8x128x16384.Idx → EReal := scored (qa m c) (ka m c)

/-- What a point writes back is its columns of the scores. -/
theorem flushed_eq (c : Dev nD) (t : Fin cfg0.N) :
    (dats m 0 c).flushed 2 t = ((cfg0.win 2).blk t).view.read (Elt Ideal) (G m c) := by
  refine (show _ = (dats m 0 c).after 2 t from rfl).trans ?_
  rw [after0_2]
  unfold outsAt0
  dsimp only
  rw [out_scores]
  funext (y : S2x8x128x512.Idx)
  have he : ((cfg0.win 2).rect t).emb y = (ix4 (y 0) (y 1) (y 2) ⟨_, fits t (y 3)⟩ : S2x8x128x16384.Idx) := funext fun b => Fin.ext (by
    refine ((cfg0.win 2).rect_emb_val t y b).trans ?_
    rw [idx_o]
    match b with
    | ⟨0, _⟩ => show 0 * 2 + (y 0).val = (y 0).val; omega
    | ⟨1, _⟩ => show 0 * 8 + (y 1).val = (y 1).val; omega
    | ⟨2, _⟩ => show 0 * 128 + (y 2).val = (y 2).val; omega
    | ⟨3, _⟩ => show t.val * 512 + (y 3).val = 512 * t.val + (y 3).val; omega)
  show _ = G m c (((cfg0.win 2).rect t).emb y)
  rw [he]
  refine Finset.sum_congr rfl fun d _ => ?_
  exact congrArg₂ (fun p q : EReal => p * q) (k_blk m c t (y 0) (y 1) (y 2) d) (q_blk m c t (slab (y 0) (y 1)) (y 3) d)

/-- Some point's block holds a given index. -/
theorem cover (i : S2x8x128x16384.Idx) : ∃ t : Fin cfg0.N, (cfg0.win 2).flush t = true ∧ i ∈ ((cfg0.win 2).blk t).view.set := by
  have b0 : (i 0).val < 2 := (i 0).isLt
  have b1 : (i 1).val < 8 := (i 1).isLt
  have b2 : (i 2).val < 128 := (i 2).isLt
  have b3 : (i 3).val < 16384 := (i 3).isLt
  obtain ⟨t, ht⟩ : ∃ t : Fin cfg0.N, t.val = (i 3).val / 512 := ⟨⟨(i 3).val / 512, show (i 3).val / 512 < 32 by omega⟩, rfl⟩
  refine ⟨t, flush0_2 t, ?_⟩
  show i ∈ ((View.whole main_v3_0).slice ((cfg0.win 2).rect t)).set
  rw [View.set_slice_whole, Rect.mem_set_unit]
  intro a
  match a with
  | ⟨0, _⟩ =>
    show (cfg0.win 2).index t 0 * 2 ≤ (i 0).val ∧ (i 0).val < (cfg0.win 2).index t 0 * 2 + 2
    rw [idx_o]; show 0 * 2 ≤ (i 0).val ∧ (i 0).val < 0 * 2 + 2; omega
  | ⟨1, _⟩ =>
    show (cfg0.win 2).index t 1 * 8 ≤ (i 1).val ∧ (i 1).val < (cfg0.win 2).index t 1 * 8 + 8
    rw [idx_o]; show 0 * 8 ≤ (i 1).val ∧ (i 1).val < 0 * 8 + 8; omega
  | ⟨2, _⟩ =>
    show (cfg0.win 2).index t 2 * 128 ≤ (i 2).val ∧ (i 2).val < (cfg0.win 2).index t 2 * 128 + 128
    rw [idx_o]; show 0 * 128 ≤ (i 2).val ∧ (i 2).val < 0 * 128 + 128; omega
  | ⟨3, _⟩ =>
    show (cfg0.win 2).index t 3 * 512 ≤ (i 3).val ∧ (i 3).val < (cfg0.win 2).index t 3 * 512 + 512
    rw [idx_o]
    show t.val * 512 ≤ (i 3).val ∧ (i 3).val < t.val * 512 + 512; omega

theorem arr_o (c : Dev nD) : (dats m 0 c).arrAt 2 cfg0.N = G m c :=
  (dats m 0 c).arrAt_eq_of_cover 2 (G m c) (fun t _ => flushed_eq m c t) cover

/-- The kernel's run: its first result array holds the scores; its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (arr_o m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.Kernel8Ideal.Arr

end
-- ==== Proof.SelectReference.lean ====
/- The reference's scores over the extended reals: each side's product is read at an index, and the two sides are put together. -/
module

public import proofs.«01_k».proof.Proof.SelectArray
public import proofs.«01_k».proof.Proof.Gen.Reference8Ideal.Read

@[expose] public section

set_option maxRecDepth 16384

noncomputable section

namespace Cert.Reference8Ideal.Read

open Cert.Reference8Ideal Cert.Reference8Ideal.Gen Idealize.ShloMosaic Idealize.ShloMosaic.ValueIdx

variable (x0 : (⟨S16x16384x128, .f32⟩ : BufTy).Contents (Elt Ideal)) (x1 : (⟨S2x8x128x128, .f32⟩ : BufTy).Contents (Elt Ideal))

/-- A side's slab of a head's queries. -/
abbrev at16 (s : Fin 2) (h : Fin 8) : Fin 16 := ⟨2 * h.val + s.val, by omega⟩

theorem q0 (i : Fin 16384) (h : Fin 8) (d : Fin 128) : val_main_v2 (F := Ideal) x0 (ix3 i h d) = x0 (ix3 (at16 0 h) i d) := by
  rw [val_main_v2_apply, val_main_v1_apply, val_main_v0_apply]
  refine congrArg x0 (funext fun a => Fin.ext ?_)
  have hi := i.isLt; have hh := h.isLt; have hd := d.isLt
  match a with
  | ⟨0, _⟩ => show ((i.val * 8 + h.val) * 256 + d.val) / 128 % 16 = 2 * h.val + 0; omega
  | ⟨1, _⟩ => show ((i.val * 8 + h.val) * 256 + d.val) / 2048 = i.val; omega
  | ⟨2, _⟩ => show ((i.val * 8 + h.val) * 256 + d.val) % 128 = d.val; omega

theorem q1 (i : Fin 16384) (h : Fin 8) (d : Fin 128) : val_main_v3 (F := Ideal) x0 (ix3 i h d) = x0 (ix3 (at16 1 h) i d) := by
  rw [val_main_v3_apply, val_main_v1_apply, val_main_v0_apply]
  refine congrArg x0 (funext fun a => Fin.ext ?_)
  have hi := i.isLt; have hh := h.isLt; have hd := d.isLt
  match a with
  | ⟨0, _⟩ => show ((i.val * 8 + h.val) * 256 + (128 + d.val)) / 128 % 16 = 2 * h.val + 1; omega
  | ⟨1, _⟩ => show ((i.val * 8 + h.val) * 256 + (128 + d.val)) / 2048 = i.val; omega
  | ⟨2, _⟩ => show ((i.val * 8 + h.val) * 256 + (128 + d.val)) % 128 = d.val; omega

theorem k0 (h : Fin 8) (n d : Fin 128) : val_main_v5 (F := Ideal) x1 (ix3 h n d) = x1 (ix4 0 h n d) := by
  rw [val_main_v5_apply, val_main_v4_apply]
  refine congrArg x1 (funext fun a => Fin.ext ?_)
  have hn := n.isLt; have hh := h.isLt; have hd := d.isLt
  match a with
  | ⟨0, _⟩ => rfl
  | ⟨1, _⟩ => show ((h.val * 128 + n.val) * 128 + d.val) / 16384 % 8 = h.val; omega
  | ⟨2, _⟩ => show ((h.val * 128 + n.val) * 128 + d.val) / 128 % 128 = n.val; omega
  | ⟨3, _⟩ => show ((h.val * 128 + n.val) * 128 + d.val) % 128 = d.val; omega

theorem k1 (h : Fin 8) (n d : Fin 128) : val_main_v9 (F := Ideal) x1 (ix3 h n d) = x1 (ix4 1 h n d) := by
  rw [val_main_v9_apply, val_main_v8_apply]
  refine congrArg x1 (funext fun a => Fin.ext ?_)
  have hn := n.isLt; have hh := h.isLt; have hd := d.isLt
  match a with
  | ⟨0, _⟩ => rfl
  | ⟨1, _⟩ => show ((h.val * 128 + n.val) * 128 + d.val) / 16384 % 8 = h.val; omega
  | ⟨2, _⟩ => show ((h.val * 128 + n.val) * 128 + d.val) / 128 % 128 = n.val; omega
  | ⟨3, _⟩ => show ((h.val * 128 + n.val) * 128 + d.val) % 128 = d.val; omega

theorem side0 (h : Fin 8) (n : Fin 128) (i : Fin 16384) :
    val_main_v12 (F := Ideal) x0 x1 (ix4 0 i h n) = ∑ d : Fin 128, x1 (ix4 0 h n d) * x0 (ix3 (at16 0 h) i d) := by
  rw [val_main_v12_apply, val_main_v7_apply, val_main_v6_apply]
  refine Finset.sum_congr rfl fun d _ => ?_
  refine congrArg₂ (fun p q : EReal => p * q) (Eq.trans ?_ (k0 x1 h n d)) (Eq.trans ?_ (q0 x0 i h d))
  · exact congrArg (val_main_v5 (F := Ideal) x1) (funext fun a => match a with | ⟨0, _⟩ => rfl | ⟨1, _⟩ => rfl | ⟨2, _⟩ => rfl)
  · exact congrArg (val_main_v2 (F := Ideal) x0) (funext fun a => match a with | ⟨0, _⟩ => rfl | ⟨1, _⟩ => rfl | ⟨2, _⟩ => rfl)

theorem side1 (h : Fin 8) (n : Fin 128) (i : Fin 16384) :
    val_main_v13 (F := Ideal) x0 x1 (ix4 0 i h n) = ∑ d : Fin 128, x1 (ix4 1 h n d) * x0 (ix3 (at16 1 h) i d) := by
  rw [val_main_v13_apply, val_main_v11_apply, val_main_v10_apply]
  refine Finset.sum_congr rfl fun d _ => ?_
  refine congrArg₂ (fun p q : EReal => p * q) (Eq.trans ?_ (k1 x1 h n d)) (Eq.trans ?_ (q1 x0 i h d))
  · exact congrArg (val_main_v9 (F := Ideal) x1) (funext fun a => match a with | ⟨0, _⟩ => rfl | ⟨1, _⟩ => rfl | ⟨2, _⟩ => rfl)
  · exact congrArg (val_main_v3 (F := Ideal) x0) (funext fun a => match a with | ⟨0, _⟩ => rfl | ⟨1, _⟩ => rfl | ⟨2, _⟩ => rfl)

theorem left_of (a b : S1x16384x8x128.Idx → EReal) (i : Fin 16384) (h : Fin 8) (n : Fin 128) :
    concatenate S2x16384x8x128 0 [⟨S1x16384x8x128, a⟩, ⟨S1x16384x8x128, b⟩]
      concatenates_S1x16384x8x128_S1x16384x8x128_S2x16384x8x128_d0 (ix4 0 i h n) = a (ix4 0 i h n) :=
  concatenate_pair_apply_left (0 : Fin S2x16384x8x128.rank) a b _ (ix4 0 i h n) rfl (ix4 0 i h n) fun e => match e with
    | ⟨0, _⟩ => rfl | ⟨1, _⟩ => rfl | ⟨2, _⟩ => rfl | ⟨3, _⟩ => rfl

theorem right_of (a b : S1x16384x8x128.Idx → EReal) (i : Fin 16384) (h : Fin 8) (n : Fin 128) :
    concatenate S2x16384x8x128 0 [⟨S1x16384x8x128, a⟩, ⟨S1x16384x8x128, b⟩]
      concatenates_S1x16384x8x128_S1x16384x8x128_S2x16384x8x128_d0 (ix4 1 i h n) = b (ix4 0 i h n) :=
  concatenate_pair_apply_right (0 : Fin S2x16384x8x128.rank) a b _ (ix4 1 i h n) rfl rfl (ix4 0 i h n) (fun e he => match e with
    | ⟨0, _⟩ => absurd rfl he | ⟨1, _⟩ => rfl | ⟨2, _⟩ => rfl | ⟨3, _⟩ => rfl) rfl

theorem both (s : Fin 2) (h : Fin 8) (n : Fin 128) (i : Fin 16384) :
    val_main_v14 (F := Ideal) x0 x1 (ix4 s i h n) = ∑ d : Fin 128, x1 (ix4 s h n d) * x0 (ix3 (at16 s h) i d) := by
  unfold val_main_v14
  obtain rfl | rfl : s = 0 ∨ s = 1 := by omega
  · rw [left_of]
    exact side0 x0 x1 h n i
  · rw [right_of]
    exact side1 x0 x1 h n i

/-- The reference's result is the array of scores. -/
theorem result_eq : (val_main_v15 (F := Ideal) x0 x1 : S2x8x128x16384.Idx → EReal) = Cert.Kernel8Ideal.Arr.scored x0 x1 := by
  funext j
  rw [val_main_v15_apply]
  refine Eq.trans (congrArg (val_main_v14 (F := Ideal) x0 x1) (funext fun a => ?_)) (both x0 x1 (j 0) (j 1) (j 2) (j 3))
  match a with | ⟨0, _⟩ => rfl | ⟨1, _⟩ => rfl | ⟨2, _⟩ => rfl | ⟨3, _⟩ => rfl

end Cert.Reference8Ideal.Read

end
-- ==== Proof.SampleSelectBody.lean ====
/- The samples' key scores' body over the extended reals: what the loop over the heads leaves in the block of scores, from the block of
   queries and the keys. Each trip writes the two sides of one head, and the trips' boxes cover the block. -/
module

public import proofs.«01_k».proof.Proof.Gen.Kernel9Ideal.Frame
public import Idealize.ShloMosaic.Lib.MatmulPlain
public import Idealize.ShloMosaic.Lib.ValueLayout
public import Idealize.ShloMosaic.Lib.Pipeline.Value
public import Idealize.ShloMosaic.Lib.Pipeline.ReadBack

@[expose] public section

set_option maxRecDepth 16384

noncomputable section

namespace Cert.Kernel9Ideal.Body

open Cert.Kernel9Ideal Cert.Kernel9Ideal.Gen Idealize.ShloMosaic Idealize.ShloMosaic.ValueIdx Idealize.ShloMosaic.TcCoe

section
variable {F : FTy → Type} [FloatOps F]
variable (𝒱 : Variants) (c : Dev nD) (bd : Option 𝒱.V) (i : grid0.Coords)
  (arg1 : Memref sig .tc .vmem S16x512x128 .f32) (harg1 : arg1.IsWhole)
  (arg2 : Memref sig .tc .vmem S16x128x128 .bf16) (harg2 : arg2.IsWhole)
  (arg3 : Memref sig .tc .vmem S2x8x128x512 .f32) (harg3 : arg3.IsWhole)
  (arg4 : Memref sig .tc .vmem S2x8x128x512 .f32) (harg4 : arg4.IsWhole)
  (arg5 : Memref sig .tc .vmem S8x8x512 .f32) (harg5 : arg5.IsWhole) (v0 : IVec S8x512 32)
  (X1 : BufTy.Contents (Elt F) arg1.view.ty) (X2 : BufTy.Contents (Elt F) arg2.view.ty) (k : Fin k0_t1_loop.trips)

/-- The queries and the keys of one side of the trip's head. -/
abbrev qld (s : Fin 2) : Vec F S1x512x128 .f32 :=
  arg1.view.readAt (Elt F) (Rect.unit (s := S16x512x128) (k0_off2 k (BitVec.ofNat 32 s.val)) S1x512x128.size (k0_off2_inb k s)).toLoadRect X1
abbrev kld (s : Fin 2) : Vec F S1x128x128 .bf16 :=
  arg2.view.readAt (Elt F) (Rect.unit (s := S16x128x128) (k0_off1 k (BitVec.ofNat 32 s.val)) S1x128x128.size (k0_off1_inb k s)).toLoadRect X2

/-- What one trip stores in the scores. -/
theorem trip_scores : (tripL_k0_t1 (F := F) 𝒱 c bd i arg1 harg1 arg2 harg2 arg3 harg3 arg4 harg4 arg5 harg5 v0 X1 X2 k).1
    = [⟨Rect.unit (s := S2x8x128x512) (k0_off4 k) S1x1x128x512.size (k0_off4_inb k), k0_pay418 (kld arg2 X2 k 1) (qld arg1 X1 k 1)⟩,
       ⟨Rect.unit (s := S2x8x128x512) (k0_off3 k) S1x1x128x512.size (k0_off3_inb k), k0_pay4 (kld arg2 X2 k 0) (qld arg1 X1 k 0)⟩] := by
  unfold tripL_k0_t1 trip_k0_t1
  rfl

/-- A predicate every piece of every trip has is had by every piece of the trips before `n`. -/
theorem pieces_forall (P : View.Piece (Elt F) S2x8x128x512 .f32 → Prop)
    (h : ∀ k : Fin k0_t1_loop.trips, ∀ p ∈ (tripL_k0_t1 (F := F) 𝒱 c bd i arg1 harg1 arg2 harg2 arg3 harg3 arg4 harg4 arg5 harg5 v0 X1 X2 k).1, P p) :
    ∀ n : ℕ, n ≤ k0_t1_loop.trips →
      ∀ p ∈ (pb_k0_t1 (F := F) 𝒱 c bd i arg1 harg1 arg2 harg2 arg3 harg3 arg4 harg4 arg5 harg5 v0 X1 X2 n).1, P p
  | 0, _ => fun p hp => absurd hp List.not_mem_nil
  | n + 1, hn => fun p hp => by
    rw [pb_k0_t1_succ 𝒱 c bd i arg1 harg1 arg2 harg2 arg3 harg3 arg4 harg4 arg5 harg5 v0 X1 X2 ⟨n, hn⟩] at hp
    rcases List.mem_append.mp hp with hp | hp
    · exact h ⟨n, hn⟩ p hp
    · exact pieces_forall P h n (Nat.le_of_succ_le hn) p hp

end

/-- The slab of a head's side. -/
def slab (s : Fin 2) (h : Fin 8) : Fin 16 := ⟨2 * h.val + s.val, by omega⟩

/-- The block's scores: each key of a head's side times each query of it. -/
def scores (x0 : Vec Ideal S16x512x128 .f32) (x1 : Vec Ideal S16x128x128 .bf16) (j : S2x8x128x512.Idx) : EReal :=
  ∑ d : Fin 128, x1 (ix3 (slab (j 0) (j 1)) (j 2) d) * x0 (ix3 (slab (j 0) (j 1)) (j 3) d)

theorem trips_eq : k0_t1_loop.trips = 8 := by decide
theorem off1_eq : ∀ (k : Fin k0_t1_loop.trips) (s : Fin 2), k0_off1 k (BitVec.ofNat 32 s.val) = ![2 * k.val + s.val, 0, 0] := by
  decide +kernel
theorem off2_eq : ∀ (k : Fin k0_t1_loop.trips) (s : Fin 2), k0_off2 k (BitVec.ofNat 32 s.val) = ![2 * k.val + s.val, 0, 0] := by
  decide +kernel
theorem off3_eq : ∀ k : Fin k0_t1_loop.trips, k0_off3 k = ![0, k.val, 0, 0] := by decide +kernel
theorem off4_eq : ∀ k : Fin k0_t1_loop.trips, k0_off4 k = ![1, k.val, 0, 0] := by decide +kernel

section
variable (arg1 : Memref sig .tc .vmem S16x512x128 .f32) (harg1 : arg1.IsWhole)
  (arg2 : Memref sig .tc .vmem S16x128x128 .bf16) (harg2 : arg2.IsWhole)
  (x0 : Vec Ideal S16x512x128 .f32) (x1 : Vec Ideal S16x128x128 .bf16) (k : Fin k0_t1_loop.trips) (h : Fin 8) (hk : h.val = k.val)
include hk

theorem qld_apply (s : Fin 2) (r : Fin 512) (d : Fin 128) :
    qld (F := Ideal) arg1 (harg1.unread x0) k s (ix3 0 r d) = x0 (ix3 (slab s h) r d) := by
  unfold qld
  rw [View.readAt_eq_ld, harg1.read_unread]
  refine congrArg x0 (funext fun e => Fin.ext ?_)
  match e with
  | ⟨0, _⟩ =>
    show k0_off2 k (BitVec.ofNat 32 s.val) 0 + 1 * 0 = 2 * h.val + s.val
    rw [off2_eq]; show 2 * k.val + s.val + 1 * 0 = _; omega
  | ⟨1, _⟩ =>
    show k0_off2 k (BitVec.ofNat 32 s.val) 1 + 1 * r.val = r.val
    rw [off2_eq]; show 0 + 1 * r.val = r.val; omega
  | ⟨2, _⟩ =>
    show k0_off2 k (BitVec.ofNat 32 s.val) 2 + 1 * d.val = d.val
    rw [off2_eq]; show 0 + 1 * d.val = d.val; omega

theorem kld_apply (s : Fin 2) (n : Fin 128) (d : Fin 128) :
    kld (F := Ideal) arg2 (harg2.unread x1) k s (ix3 0 n d) = x1 (ix3 (slab s h) n d) := by
  unfold kld
  rw [View.readAt_eq_ld, harg2.read_unread]
  refine congrArg x1 (funext fun e => Fin.ext ?_)
  match e with
  | ⟨0, _⟩ =>
    show k0_off1 k (BitVec.ofNat 32 s.val) 0 + 1 * 0 = 2 * h.val + s.val
    rw [off1_eq]; show 2 * k.val + s.val + 1 * 0 = _; omega
  | ⟨1, _⟩ =>
    show k0_off1 k (BitVec.ofNat 32 s.val) 1 + 1 * n.val = n.val
    rw [off1_eq]; show 0 + 1 * n.val = n.val; omega
  | ⟨2, _⟩ =>
    show k0_off1 k (BitVec.ofNat 32 s.val) 2 + 1 * d.val = d.val
    rw [off1_eq]; show 0 + 1 * d.val = d.val; omega
end

/-- The product of one side's keys and queries. -/
theorem prod_apply (kb : Vec Ideal S1x128x128 .bf16) (qb : Vec Ideal S1x512x128 .f32) (n : Fin 128) (r : Fin 512) :
    k0_pay3 (F := Ideal) kb qb (ix2 n r) = ∑ d : Fin 128, kb (ix3 0 n d) * qb (ix3 0 r d) := by
  show FloatOps.matmul (DotDims.transposedRhs 128 128 512) none (shapeCast S128x128 kb shapeCasts_S1x128x128_S128x128)
    (shapeCast S512x128 qb shapeCasts_S1x512x128_S512x128 : FVec Ideal S512x128 .bf16) (constant S128x512 .f32 0x00000000#32) (ix2 n r) = _
  rw [Ideal.matmul_transposedRhs_apply]
  show Ideal.ofBits .f32 0x00000000#32 + _ = _
  rw [Ideal.ofBits_zero_f32, zero_add]
  refine Finset.sum_congr rfl fun d _ => ?_
  rw [shapeCast_1ab_ab_apply, shapeCast_1ab_ab_apply]

theorem store_apply (kb : Vec Ideal S1x128x128 .bf16) (qb : Vec Ideal S1x512x128 .f32) (n : Fin 128) (r : Fin 512) :
    k0_pay4 (F := Ideal) kb qb (ix4 0 0 n r) = ∑ d : Fin 128, kb (ix3 0 n d) * qb (ix3 0 r d) := by
  unfold k0_pay4
  refine (shapeCast_apply _ shapeCasts_S128x512_S1x1x128x512 (ix4 0 0 n r) (ix2 n r) (by
    rw [Shape.rowMajor_val_two, Shape.rowMajor_val_four]
    show n.val * 512 + r.val = ((0 * 1 + 0) * 128 + n.val) * 512 + r.val; omega)).trans ?_
  exact prod_apply kb qb n r

theorem store_same : k0_pay418 (F := Ideal) = k0_pay4 (F := Ideal) := rfl

variable (c : Dev nD) (i : grid0.Coords)
  (arg1 : Memref sig .tc .vmem S16x512x128 .f32) (harg1 : arg1.IsWhole)
  (arg2 : Memref sig .tc .vmem S16x128x128 .bf16) (harg2 : arg2.IsWhole)
  (arg3 : Memref sig .tc .vmem S2x8x128x512 .f32) (harg3 : arg3.IsWhole)
  (arg4 : Memref sig .tc .vmem S2x8x128x512 .f32) (harg4 : arg4.IsWhole)
  (arg5 : Memref sig .tc .vmem S8x8x512 .f32) (harg5 : arg5.IsWhole) (v0 : IVec S8x512 32)
  (x0 : Vec Ideal S16x512x128 .f32) (x1 : Vec Ideal S16x128x128 .bf16)

/-- A box of one side of one head that holds that side's scores is the block of scores there. -/
theorem box_scores (k : Fin k0_t1_loop.trips) (s : Fin 2) (off : Fin 4 → ℕ) (hoff : off = ![s.val, k.val, 0, 0])
    (inb : ∀ a, off a + S1x1x128x512.size a ≤ S2x8x128x512.size a) (x : S1x1x128x512.Idx) :
    k0_pay4 (F := Ideal) (kld arg2 (harg2.unread x1) k s) (qld arg1 (harg1.unread x0) k s) x
      = scores x0 x1 ((Rect.unit (s := S2x8x128x512) off S1x1x128x512.size inb).emb x) := by
  subst hoff
  have h8 : k.val < 8 := trips_eq ▸ k.isLt
  obtain ⟨n, r, rfl⟩ : ∃ (n : Fin 128) (r : Fin 512), x = ix4 0 0 n r := ⟨x 2, x 3, funext fun a => Fin.ext (by
    match a with
    | ⟨0, _⟩ => have h : (x 0).val < 1 := (x 0).isLt; show (x 0).val = 0; omega
    | ⟨1, _⟩ => have h : (x 1).val < 1 := (x 1).isLt; show (x 1).val = 0; omega
    | ⟨2, _⟩ => rfl
    | ⟨3, _⟩ => rfl)⟩
  have e : (Rect.unit (s := S2x8x128x512) ![s.val, k.val, 0, 0] S1x1x128x512.size inb).emb (ix4 0 0 n r)
      = (ix4 s ⟨k.val, h8⟩ n r : S2x8x128x512.Idx) := funext fun a => Fin.ext (by
    match a with
    | ⟨0, _⟩ => show s.val + 1 * 0 = s.val; omega
    | ⟨1, _⟩ => show k.val + 1 * 0 = k.val; omega
    | ⟨2, _⟩ => show 0 + 1 * n.val = n.val; omega
    | ⟨3, _⟩ => show 0 + 1 * r.val = r.val; omega)
  rw [e, store_apply]
  refine Finset.sum_congr rfl fun d _ => ?_
  rw [kld_apply arg2 harg2 x1 k ⟨k.val, h8⟩ rfl, qld_apply arg1 harg1 x0 k ⟨k.val, h8⟩ rfl]

/-- What the body leaves in the block of scores. -/
theorem out_scores : out0_A_2 (F := Ideal) c i arg1 harg1 arg2 harg2 arg3 harg3 arg4 harg4 arg5 harg5 x0 x1 = scores x0 x1 := by
  unfold out0_A_2
  rw [View.read_writes_junk_eq_canon]
  refine funext fun y => View.canon_apply_of_pieces (scores x0 x1) _ ?_ y (cover0_A_2 c i arg1 harg1 arg2 harg2 arg3 harg3 arg4 harg4 arg5 harg5 x0 x1 y)
  unfold kernelRun0_A
  dsimp only
  refine pieces_forall (F := Ideal) _ _ _ _ _ _ _ _ _ _ _ _ _ _ _ _ _ (fun p => ∀ x : p.1.shape.Idx, p.2 x = scores x0 x1 (p.1.emb x)) ?_ _ (le_refl _)
  intro k p hp
  rw [trip_scores] at hp
  rcases List.mem_cons.mp hp with rfl | hp
  · exact box_scores arg1 harg1 arg2 harg2 x0 x1 k 1 _ (off4_eq k) (k0_off4_inb k)
  · rcases List.mem_cons.mp hp with rfl | hp
    · exact box_scores arg1 harg1 arg2 harg2 x0 x1 k 0 _ (off3_eq k) (k0_off3_inb k)
    · exact absurd hp List.not_mem_nil

end Cert.Kernel9Ideal.Body

end
-- ==== Proof.SampleSelectArray.lean ====
/- The samples' scores over the extended reals: the call's one block is the whole array, and every entry is one dot product of a
   key and a query. -/
module

public import proofs.«01_k».proof.Proof.SampleSelectBody
public import Idealize.ShloMosaic.Lib.Pipeline.ValueKit.Geometry

@[expose] public section

set_option maxRecDepth 16384

noncomputable section

namespace Cert.Kernel9Ideal.Arr

open Cert.Kernel9Ideal Cert.Kernel9Ideal.Gen Cert.Kernel9Ideal.Body
  Idealize.ShloMosaic Idealize.ShloMosaic.ValueIdx Idealize.ShloMosaic.TcCoe Idealize.SL.Sem
open Idealize.ShloMosaic.Pipeline (Dat)

/-- The scores of every head's keys against every token's queries. -/
abbrev scored (q : S16x512x128.Idx → EReal) (k : S2x8x128x128.Idx → EReal) : S2x8x128x512.Idx → EReal := fun j =>
  ∑ d : Fin 128, k (ix4 (j 0) (j 1) (j 2) d) * q (ix3 (slab (j 0) (j 1)) (j 3) d)

variable (m : (ℓ : Loc nD τ sig) → Buf (Elt Ideal) ℓ)

/-- The queries and the keys. -/
abbrev qa (c : Dev nD) : S16x512x128.Idx → EReal := m ((c : Thread nD τ).loc main_arg0)
abbrev ka (c : Dev nD) : S2x8x128x128.Idx → EReal := m ((c : Thread nD τ).loc main_arg1)

theorem V_k (c : Dev nD) (s : Fin 2) (h : Fin 8) (n d : Fin 128) :
    (V m c main_v2 : S16x128x128.Idx → EReal) (ix3 (slab s h) n d) = ka m c (ix4 s h n d) := by
  entry_read
  refine (shapeCast_apply _ _ (ix3 (slab s h) n d) (ix4 h s n d) (by
    rw [Shape.rowMajor_val_three, Shape.rowMajor_val_four]
    show ((h.val * 2 + s.val) * 128 + n.val) * 128 + d.val = ((2 * h.val + s.val) * 128 + n.val) * 128 + d.val; omega)).trans ?_
  exact transpose_apply _ _ _ _ _ fun a => match a with | ⟨0, _⟩ => rfl | ⟨1, _⟩ => rfl | ⟨2, _⟩ => rfl | ⟨3, _⟩ => rfl

theorem idx_q : ∀ t : Fin cfg0.N, (cfg0.win 0).index t = ![0, t.val, 0] := by decide +kernel
theorem idx_k : ∀ t : Fin cfg0.N, (cfg0.win 1).index t = ![0, 0, 0] := by decide +kernel
theorem idx_o : ∀ t : Fin cfg0.N, (cfg0.win 2).index t = ![0, 0, 0, t.val] := by decide +kernel

theorem fits (t : Fin cfg0.N) (r : Fin 512) : 512 * t.val + r.val < 512 := by
  have h : t.val < 1 := t.isLt
  have h' := r.isLt
  omega

theorem q_blk (c : Dev nD) (t : Fin cfg0.N) (a : Fin 16) (r : Fin 512) (d : Fin 128) :
    (iblk m c 0 t : Vec Ideal S16x512x128 .f32) (ix3 a r d) = qa m c (ix3 a ⟨_, fits t r⟩ d) := by
  show V m c main_arg0 (((cfg0.win 0).rect t).emb (ix3 a r d)) = _
  rw [V_main_arg0]
  refine congrArg (fun j => qa m c j) (funext fun b => Fin.ext ?_)
  refine ((cfg0.win 0).rect_emb_val t (ix3 a r d) b).trans ?_
  rw [idx_q]
  match b with
  | ⟨0, _⟩ => show 0 * 16 + a.val = a.val; omega
  | ⟨1, _⟩ => show t.val * 512 + r.val = 512 * t.val + r.val; omega
  | ⟨2, _⟩ => show 0 * 128 + d.val = d.val; omega

theorem k_blk (c : Dev nD) (t : Fin cfg0.N) (s : Fin 2) (h : Fin 8) (n d : Fin 128) :
    (iblk m c 1 t : Vec Ideal S16x128x128 .bf16) (ix3 (slab s h) n d) = ka m c (ix4 s h n d) := by
  show V m c main_v2 (((cfg0.win 1).rect t).emb (ix3 (slab s h) n d)) = _
  refine Eq.trans (congrArg (V m c main_v2) (funext fun b => Fin.ext ?_)) (V_k m c s h n d)
  refine ((cfg0.win 1).rect_emb_val t (ix3 (slab s h) n d) b).trans ?_
  rw [idx_k]
  match b with
  | ⟨0, _⟩ => show 0 * 16 + (slab s h).val = (slab s h).val; omega
  | ⟨1, _⟩ => show 0 * 128 + n.val = n.val; omega
  | ⟨2, _⟩ => show 0 * 128 + d.val = d.val; omega

/-- What the result holds. -/
abbrev G (c : Dev nD) : S2x8x128x512.Idx → EReal := scored (qa m c) (ka m c)

/-- What a point writes back is its columns of the scores. -/
theorem flushed_eq (c : Dev nD) (t : Fin cfg0.N) :
    (dats m 0 c).flushed 2 t = ((cfg0.win 2).blk t).view.read (Elt Ideal) (G m c) := by
  refine (show _ = (dats m 0 c).after 2 t from rfl).trans ?_
  rw [after0_2]
  unfold outsAt0
  dsimp only
  rw [out_scores]
  funext (y : S2x8x128x512.Idx)
  have he : ((cfg0.win 2).rect t).emb y = (ix4 (y 0) (y 1) (y 2) ⟨_, fits t (y 3)⟩ : S2x8x128x512.Idx) := funext fun b => Fin.ext (by
    refine ((cfg0.win 2).rect_emb_val t y b).trans ?_
    rw [idx_o]
    match b with
    | ⟨0, _⟩ => show 0 * 2 + (y 0).val = (y 0).val; omega
    | ⟨1, _⟩ => show 0 * 8 + (y 1).val = (y 1).val; omega
    | ⟨2, _⟩ => show 0 * 128 + (y 2).val = (y 2).val; omega
    | ⟨3, _⟩ => show t.val * 512 + (y 3).val = 512 * t.val + (y 3).val; omega)
  show _ = G m c (((cfg0.win 2).rect t).emb y)
  rw [he]
  refine Finset.sum_congr rfl fun d _ => ?_
  exact congrArg₂ (fun p q : EReal => p * q) (k_blk m c t (y 0) (y 1) (y 2) d) (q_blk m c t (slab (y 0) (y 1)) (y 3) d)

/-- Some point's block holds a given index. -/
theorem cover (i : S2x8x128x512.Idx) : ∃ t : Fin cfg0.N, (cfg0.win 2).flush t = true ∧ i ∈ ((cfg0.win 2).blk t).view.set := by
  have b0 : (i 0).val < 2 := (i 0).isLt
  have b1 : (i 1).val < 8 := (i 1).isLt
  have b2 : (i 2).val < 128 := (i 2).isLt
  have b3 : (i 3).val < 512 := (i 3).isLt
  obtain ⟨t, ht⟩ : ∃ t : Fin cfg0.N, t.val = (i 3).val / 512 := ⟨⟨(i 3).val / 512, show (i 3).val / 512 < 1 by omega⟩, rfl⟩
  refine ⟨t, flush0_2 t, ?_⟩
  show i ∈ ((View.whole main_v3_0).slice ((cfg0.win 2).rect t)).set
  rw [View.set_slice_whole, Rect.mem_set_unit]
  intro a
  match a with
  | ⟨0, _⟩ =>
    show (cfg0.win 2).index t 0 * 2 ≤ (i 0).val ∧ (i 0).val < (cfg0.win 2).index t 0 * 2 + 2
    rw [idx_o]; show 0 * 2 ≤ (i 0).val ∧ (i 0).val < 0 * 2 + 2; omega
  | ⟨1, _⟩ =>
    show (cfg0.win 2).index t 1 * 8 ≤ (i 1).val ∧ (i 1).val < (cfg0.win 2).index t 1 * 8 + 8
    rw [idx_o]; show 0 * 8 ≤ (i 1).val ∧ (i 1).val < 0 * 8 + 8; omega
  | ⟨2, _⟩ =>
    show (cfg0.win 2).index t 2 * 128 ≤ (i 2).val ∧ (i 2).val < (cfg0.win 2).index t 2 * 128 + 128
    rw [idx_o]; show 0 * 128 ≤ (i 2).val ∧ (i 2).val < 0 * 128 + 128; omega
  | ⟨3, _⟩ =>
    show (cfg0.win 2).index t 3 * 512 ≤ (i 3).val ∧ (i 3).val < (cfg0.win 2).index t 3 * 512 + 512
    rw [idx_o]
    show t.val * 512 ≤ (i 3).val ∧ (i 3).val < t.val * 512 + 512; omega

theorem arr_o (c : Dev nD) : (dats m 0 c).arrAt 2 cfg0.N = G m c :=
  (dats m 0 c).arrAt_eq_of_cover 2 (G m c) (fun t _ => flushed_eq m c t) cover

/-- The kernel's run: its first result array holds the scores; its arguments are unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (arr_o m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.Kernel9Ideal.Arr

end
-- ==== Proof.SampleSelectReference.lean ====
/- The reference's scores of the samples' rows over the extended reals: each side's product is read at an index, and the two sides are put together. -/
module

public import proofs.«01_k».proof.Proof.SampleSelectArray
public import proofs.«01_k».proof.Proof.Gen.Reference9Ideal.Read

@[expose] public section

set_option maxRecDepth 16384

noncomputable section

namespace Cert.Reference9Ideal.Read

open Cert.Reference9Ideal Cert.Reference9Ideal.Gen Idealize.ShloMosaic Idealize.ShloMosaic.ValueIdx

variable (x0 : (⟨S16x512x128, .f32⟩ : BufTy).Contents (Elt Ideal)) (x1 : (⟨S2x8x128x128, .f32⟩ : BufTy).Contents (Elt Ideal))

/-- A side's slab of a head's queries. -/
abbrev at16 (s : Fin 2) (h : Fin 8) : Fin 16 := ⟨2 * h.val + s.val, by omega⟩

theorem q0 (i : Fin 512) (h : Fin 8) (d : Fin 128) : val_main_v2 (F := Ideal) x0 (ix3 i h d) = x0 (ix3 (at16 0 h) i d) := by
  rw [val_main_v2_apply, val_main_v1_apply, val_main_v0_apply]
  refine congrArg x0 (funext fun a => Fin.ext ?_)
  have hi := i.isLt; have hh := h.isLt; have hd := d.isLt
  match a with
  | ⟨0, _⟩ => show ((i.val * 8 + h.val) * 256 + d.val) / 128 % 16 = 2 * h.val + 0; omega
  | ⟨1, _⟩ => show ((i.val * 8 + h.val) * 256 + d.val) / 2048 = i.val; omega
  | ⟨2, _⟩ => show ((i.val * 8 + h.val) * 256 + d.val) % 128 = d.val; omega

theorem q1 (i : Fin 512) (h : Fin 8) (d : Fin 128) : val_main_v3 (F := Ideal) x0 (ix3 i h d) = x0 (ix3 (at16 1 h) i d) := by
  rw [val_main_v3_apply, val_main_v1_apply, val_main_v0_apply]
  refine congrArg x0 (funext fun a => Fin.ext ?_)
  have hi := i.isLt; have hh := h.isLt; have hd := d.isLt
  match a with
  | ⟨0, _⟩ => show ((i.val * 8 + h.val) * 256 + (128 + d.val)) / 128 % 16 = 2 * h.val + 1; omega
  | ⟨1, _⟩ => show ((i.val * 8 + h.val) * 256 + (128 + d.val)) / 2048 = i.val; omega
  | ⟨2, _⟩ => show ((i.val * 8 + h.val) * 256 + (128 + d.val)) % 128 = d.val; omega

theorem k0 (h : Fin 8) (n d : Fin 128) : val_main_v5 (F := Ideal) x1 (ix3 h n d) = x1 (ix4 0 h n d) := by
  rw [val_main_v5_apply, val_main_v4_apply]
  refine congrArg x1 (funext fun a => Fin.ext ?_)
  have hn := n.isLt; have hh := h.isLt; have hd := d.isLt
  match a with
  | ⟨0, _⟩ => rfl
  | ⟨1, _⟩ => show ((h.val * 128 + n.val) * 128 + d.val) / 16384 % 8 = h.val; omega
  | ⟨2, _⟩ => show ((h.val * 128 + n.val) * 128 + d.val) / 128 % 128 = n.val; omega
  | ⟨3, _⟩ => show ((h.val * 128 + n.val) * 128 + d.val) % 128 = d.val; omega

theorem k1 (h : Fin 8) (n d : Fin 128) : val_main_v9 (F := Ideal) x1 (ix3 h n d) = x1 (ix4 1 h n d) := by
  rw [val_main_v9_apply, val_main_v8_apply]
  refine congrArg x1 (funext fun a => Fin.ext ?_)
  have hn := n.isLt; have hh := h.isLt; have hd := d.isLt
  match a with
  | ⟨0, _⟩ => rfl
  | ⟨1, _⟩ => show ((h.val * 128 + n.val) * 128 + d.val) / 16384 % 8 = h.val; omega
  | ⟨2, _⟩ => show ((h.val * 128 + n.val) * 128 + d.val) / 128 % 128 = n.val; omega
  | ⟨3, _⟩ => show ((h.val * 128 + n.val) * 128 + d.val) % 128 = d.val; omega

theorem side0 (h : Fin 8) (n : Fin 128) (i : Fin 512) :
    val_main_v12 (F := Ideal) x0 x1 (ix4 0 i h n) = ∑ d : Fin 128, x1 (ix4 0 h n d) * x0 (ix3 (at16 0 h) i d) := by
  rw [val_main_v12_apply, val_main_v7_apply, val_main_v6_apply]
  refine Finset.sum_congr rfl fun d _ => ?_
  refine congrArg₂ (fun p q : EReal => p * q) (Eq.trans ?_ (k0 x1 h n d)) (Eq.trans ?_ (q0 x0 i h d))
  · exact congrArg (val_main_v5 (F := Ideal) x1) (funext fun a => match a with | ⟨0, _⟩ => rfl | ⟨1, _⟩ => rfl | ⟨2, _⟩ => rfl)
  · exact congrArg (val_main_v2 (F := Ideal) x0) (funext fun a => match a with | ⟨0, _⟩ => rfl | ⟨1, _⟩ => rfl | ⟨2, _⟩ => rfl)

theorem side1 (h : Fin 8) (n : Fin 128) (i : Fin 512) :
    val_main_v13 (F := Ideal) x0 x1 (ix4 0 i h n) = ∑ d : Fin 128, x1 (ix4 1 h n d) * x0 (ix3 (at16 1 h) i d) := by
  rw [val_main_v13_apply, val_main_v11_apply, val_main_v10_apply]
  refine Finset.sum_congr rfl fun d _ => ?_
  refine congrArg₂ (fun p q : EReal => p * q) (Eq.trans ?_ (k1 x1 h n d)) (Eq.trans ?_ (q1 x0 i h d))
  · exact congrArg (val_main_v9 (F := Ideal) x1) (funext fun a => match a with | ⟨0, _⟩ => rfl | ⟨1, _⟩ => rfl | ⟨2, _⟩ => rfl)
  · exact congrArg (val_main_v3 (F := Ideal) x0) (funext fun a => match a with | ⟨0, _⟩ => rfl | ⟨1, _⟩ => rfl | ⟨2, _⟩ => rfl)

theorem left_of (a b : S1x512x8x128.Idx → EReal) (i : Fin 512) (h : Fin 8) (n : Fin 128) :
    concatenate S2x512x8x128 0 [⟨S1x512x8x128, a⟩, ⟨S1x512x8x128, b⟩]
      concatenates_S1x512x8x128_S1x512x8x128_S2x512x8x128_d0 (ix4 0 i h n) = a (ix4 0 i h n) :=
  concatenate_pair_apply_left (0 : Fin S2x512x8x128.rank) a b _ (ix4 0 i h n) rfl (ix4 0 i h n) fun e => match e with
    | ⟨0, _⟩ => rfl | ⟨1, _⟩ => rfl | ⟨2, _⟩ => rfl | ⟨3, _⟩ => rfl

theorem right_of (a b : S1x512x8x128.Idx → EReal) (i : Fin 512) (h : Fin 8) (n : Fin 128) :
    concatenate S2x512x8x128 0 [⟨S1x512x8x128, a⟩, ⟨S1x512x8x128, b⟩]
      concatenates_S1x512x8x128_S1x512x8x128_S2x512x8x128_d0 (ix4 1 i h n) = b (ix4 0 i h n) :=
  concatenate_pair_apply_right (0 : Fin S2x512x8x128.rank) a b _ (ix4 1 i h n) rfl rfl (ix4 0 i h n) (fun e he => match e with
    | ⟨0, _⟩ => absurd rfl he | ⟨1, _⟩ => rfl | ⟨2, _⟩ => rfl | ⟨3, _⟩ => rfl) rfl

theorem both (s : Fin 2) (h : Fin 8) (n : Fin 128) (i : Fin 512) :
    val_main_v14 (F := Ideal) x0 x1 (ix4 s i h n) = ∑ d : Fin 128, x1 (ix4 s h n d) * x0 (ix3 (at16 s h) i d) := by
  unfold val_main_v14
  obtain rfl | rfl : s = 0 ∨ s = 1 := by omega
  · rw [left_of]
    exact side0 x0 x1 h n i
  · rw [right_of]
    exact side1 x0 x1 h n i

/-- The reference's result is the array of scores. -/
theorem result_eq : (val_main_v15 (F := Ideal) x0 x1 : S2x8x128x512.Idx → EReal) = Cert.Kernel9Ideal.Arr.scored x0 x1 := by
  funext j
  rw [val_main_v15_apply]
  refine Eq.trans (congrArg (val_main_v14 (F := Ideal) x0 x1) (funext fun a => ?_)) (both x0 x1 (j 0) (j 1) (j 2) (j 3))
  match a with | ⟨0, _⟩ => rfl | ⟨1, _⟩ => rfl | ⟨2, _⟩ => rfl | ⟨3, _⟩ => rfl

end Cert.Reference9Ideal.Read

end
-- ==== Proof.lean ====
module

public import proofs.«01_k».proof.Proof.ConvArray
public import proofs.«01_k».proof.Proof.ConvReference
public import proofs.«01_k».proof.Proof.ConvPromptArray
public import proofs.«01_k».proof.Proof.ConvPromptReference
public import proofs.«01_k».proof.Proof.Gen.KernelIdeal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Defs
public import proofs.«01_k».proof.Proof.Attention
public import proofs.«01_k».proof.Proof.InReference
public import proofs.«01_k».proof.Proof.MergeReference
public import proofs.«01_k».proof.Proof.SampleReference
public import proofs.«01_k».proof.Proof.SampleMergeReference
public import Idealize.ShloMosaic.Lib.Quiescent
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8.Loops
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Loops
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9.Loops
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Loops
public import proofs.«01_k».proof.Proof.Gen.Reference9Ideal
public import proofs.«01_k».proof.Proof.Gen.Reference9Ideal.Run
public import proofs.«01_k».proof.Proof.Gen.Reference9Ideal.Read
public import proofs.«01_k».proof.Proof.SelectReference
public import proofs.«01_k».proof.Proof.SampleSelectReference
public import Idealize.ShloMosaic.Adequacy
public import Idealize.ShloMosaic.Init

@[expose] public section

noncomputable section

namespace Cert.Proof

open Idealize.ShloMosaic Idealize.SL.Sem Cert.Kernel

theorem frame_reference : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- From arguments that agree, the reference's result is the array the kernel's run leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = Cert.KernelIdeal.Arr.qa m c)
    (h1 : m' ((c.tc : Thread Cert.ReferenceIdeal.nD Cert.ReferenceIdeal.τ).loc Cert.ReferenceIdeal.main_arg1) = Cert.KernelIdeal.Arr.ka m c)
    (h2 : m' ((c.tc : Thread Cert.ReferenceIdeal.nD Cert.ReferenceIdeal.τ).loc Cert.ReferenceIdeal.main_arg2) = Cert.KernelIdeal.Arr.va m c)
    (h3 : m' ((c.tc : Thread Cert.ReferenceIdeal.nD Cert.ReferenceIdeal.τ).loc Cert.ReferenceIdeal.main_arg3) = Cert.KernelIdeal.Arr.ba m c) :
    Cert.ReferenceIdeal.Value.res_main_v28 m' c = Cert.KernelIdeal.Arr.G m c := by
  rw [Cert.ReferenceIdeal.Read.val_main_v28_eq, h0, h1, h2, h3]
  refine funext fun j : (⟨2, ![16384, 512]⟩ : Shape).Idx => ?_
  rw [ValueIdx.eq_ix2 j]
  exact Cert.ReferenceIdeal.Att.result_apply _ _ _ _ (j 0) (j 1)

theorem algebraic : algebraic_KernelIdeal_ReferenceIdeal (hKernelIdeal := Cert.KernelIdeal.Gen.facts)
    (hReferenceIdeal := Cert.ReferenceIdeal.Gen.facts) := fun m ρ m' ρ' _ hag =>
  ⟨fun c => Cert.KernelIdeal.Arr.G m c, Cert.KernelIdeal.Arr.run m ρ,
    (θ_run Cert.ReferenceIdeal.defs _ _).mono (fun r h c =>
      ⟨(h c).1.trans (result_eq m m' c (hag c).1 (hag c).2.1 (hag c).2.2.1 (hag c).2.2.2), (h c).2⟩)
      (Cert.ReferenceIdeal.Value.run m' ρ')⟩

theorem frame_reference2 : quiescent_Reference2Ideal (hReference2Ideal := Cert.Reference2Ideal.Gen.facts) := fun m ρ _ =>
  (θ_run Cert.Reference2Ideal.defs _ _).mono
    (fun r h => ⟨fun c => (h c).2.2.2.2.2.2.2.2.2, Idealize.ShloMosaic.sem_eq_zero_of_no_sems (by decide) r.2⟩)
    (Cert.Reference2Ideal.Value.run m ρ)

section
open Cert.Kernel2Ideal.Arr Cert.Reference2Ideal.Read Cert.Rows

theorem algebraic2 : algebraic_Kernel2Ideal_Reference2Ideal (hKernel2Ideal := Cert.Kernel2Ideal.Gen.facts)
    (hReference2Ideal := Cert.Reference2Ideal.Gen.facts) := fun m ρ m' ρ' _ hag =>
  ⟨fun c => heads (arr (inK (xa m c) (ga m c) (wa m c))), fun c => heads (arr (inV (xa m c) (ga m c) (wa m c))),
    fun c => lastRows (arr (inU (xa m c) (ga m c) (wa m c))),
    fun c => arr (inU (xa m c) (ga m c) (wa m c)), fun c => arr (inQ (xa m c) (ga m c) (wa m c)),
    fun c => arr (inK (xa m c) (ga m c) (wa m c)), fun c => arr (inV (xa m c) (ga m c) (wa m c)),
    fun c => arr (inG0 (xa m c) (ga m c) (wa m c)), fun c => arr (inG1 (xa m c) (ga m c) (wa m c)),
    Cert.Kernel2Ideal.Arr.run m ρ,
    (θ_run Cert.Reference2Ideal.defs _ _).mono (fun r h c => by
      obtain ⟨e0, e1, e2, e3, e4, e5, e6, e7, e8, hk⟩ := h c
      obtain ⟨a0, a1, a2⟩ := hag c
      rw [val_main_v44_eq, a0, a1, a2] at e0
      rw [val_main_v45_eq, a0, a1, a2] at e1
      rw [val_main_v46_eq, a0, a1, a2] at e2
      rw [val_main_v23_eq, a0, a1, a2] at e3
      rw [val_main_v36_eq, a0, a1, a2] at e4
      rw [val_main_v37_eq, a0, a1, a2] at e5
      rw [val_main_v38_eq, a0, a1, a2] at e6
      rw [val_main_v39_eq, a0, a1, a2] at e7
      rw [val_main_v40_eq, a0, a1, a2] at e8
      exact ⟨e0.trans (heads_k_eq _ _ _), e1.trans (heads_v_eq _ _ _), e2.trans (state_eq _ _ _), e3.trans (u_eq _ _ _),
        e4.trans (qb_eq _ _ _), e5.trans (kb_eq _ _ _), e6.trans (vb_eq _ _ _), e7.trans (g0_eq _ _ _), e8.trans (g1_eq _ _ _), hk⟩)
      (Cert.Reference2Ideal.Value.run m' ρ')⟩

end

theorem frame_reference3 : quiescent_Reference3Ideal (hReference3Ideal := Cert.Reference3Ideal.Gen.facts) := fun m ρ _ =>
  (θ_run Cert.Reference3Ideal.defs _ _).mono
    (fun r h => ⟨fun c => (h c).2.2.2, Idealize.ShloMosaic.sem_eq_zero_of_no_sems (by decide) r.2⟩)
    (Cert.Reference3Ideal.Value.run m ρ)

section
open Cert.Kernel3Ideal.Arr Cert.Reference3Ideal.Read

theorem algebraic3 : algebraic_Kernel3Ideal_Reference3Ideal (hKernel3Ideal := Cert.Kernel3Ideal.Gen.facts)
    (hReference3Ideal := Cert.Reference3Ideal.Gen.facts) := fun m ρ m' ρ' _ hag =>
  ⟨fun c => Cert.Kernel2Ideal.Arr.arr (X m c), fun c => Cert.Kernel2Ideal.Arr.arr (H m c), fun c => arrS (Q m c),
    Cert.Kernel3Ideal.Arr.run m ρ,
    (θ_run Cert.Reference3Ideal.defs _ _).mono (fun r h c => by
      obtain ⟨e0, e1, e2, hk⟩ := h c
      obtain ⟨a0, a1, a2, a3, a4, a5, a6, a7, a8, a9⟩ := hag c
      rw [val_main_v8_eq, a0, a1, a2, a3, a4, a5, a6, a7] at e0
      rw [val_main_v24_eq, a0, a1, a2, a3, a4, a5, a6, a7, a8] at e1
      rw [val_main_v25_eq, a0, a1, a2, a3, a4, a5, a6, a7, a8, a9] at e2
      exact ⟨e0.trans (x_eq _ _ _ _ _ _ _ _), e1.trans (h_eq _ _ _ _ _ _ _ _ _), e2.trans (q_eq _ _ _ _ _ _ _ _ _ _), hk⟩)
      (Cert.Reference3Ideal.Value.run m' ρ')⟩

end

theorem frame_reference4 : quiescent_Reference4Ideal (hReference4Ideal := Cert.Reference4Ideal.Gen.facts) := fun m ρ _ =>
  (θ_run Cert.Reference4Ideal.defs _ _).mono
    (fun r h => ⟨fun c => (h c).2.2.2.2.2.2.2.2.2, Idealize.ShloMosaic.sem_eq_zero_of_no_sems (by decide) r.2⟩)
    (Cert.Reference4Ideal.Value.run m ρ)

section
open Cert.Kernel4Ideal.Arr Cert.Reference4Ideal.Read Cert.Rows

theorem algebraic4 : algebraic_Kernel4Ideal_Reference4Ideal (hKernel4Ideal := Cert.Kernel4Ideal.Gen.facts)
    (hReference4Ideal := Cert.Reference4Ideal.Gen.facts) := fun m ρ m' ρ' _ hag =>
  ⟨fun c => heads (arr (inK (xa m c) (ga m c) (wa m c))), fun c => heads (arr (inV (xa m c) (ga m c) (wa m c))),
    fun c => lastRows (sa m c) (arr (inU (xa m c) (ga m c) (wa m c))),
    fun c => arr (inU (xa m c) (ga m c) (wa m c)), fun c => arr (inQ (xa m c) (ga m c) (wa m c)),
    fun c => arr (inK (xa m c) (ga m c) (wa m c)), fun c => arr (inV (xa m c) (ga m c) (wa m c)),
    fun c => arr (inG0 (xa m c) (ga m c) (wa m c)), fun c => arr (inG1 (xa m c) (ga m c) (wa m c)),
    Cert.Kernel4Ideal.Arr.run m ρ,
    (θ_run Cert.Reference4Ideal.defs _ _).mono (fun r h c => by
      obtain ⟨e0, e1, e2, e3, e4, e5, e6, e7, e8, hk⟩ := h c
      obtain ⟨a0, a1, a2, a3⟩ := hag c
      rw [val_main_v44_eq, a0, a2, a3] at e0
      rw [val_main_v45_eq, a0, a2, a3] at e1
      rw [val_main_v46_eq, a0, a1, a2, a3] at e2
      rw [val_main_v24_eq, a0, a2, a3] at e3
      rw [val_main_v37_eq, a0, a2, a3] at e4
      rw [val_main_v38_eq, a0, a2, a3] at e5
      rw [val_main_v39_eq, a0, a2, a3] at e6
      rw [val_main_v40_eq, a0, a2, a3] at e7
      rw [val_main_v41_eq, a0, a2, a3] at e8
      exact ⟨e0.trans (heads_k_eq _ _ _), e1.trans (heads_v_eq _ _ _), e2.trans (state_eq _ _ _ _), e3.trans (u_eq _ _ _),
        e4.trans (qb_eq _ _ _), e5.trans (kb_eq _ _ _), e6.trans (vb_eq _ _ _), e7.trans (g0_eq _ _ _), e8.trans (g1_eq _ _ _), hk⟩)
      (Cert.Reference4Ideal.Value.run m' ρ')⟩

end

theorem frame_reference5 : quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

theorem algebraic5 : algebraic_Kernel5Ideal_Reference5Ideal (hKernel5Ideal := Cert.Kernel5Ideal.Gen.facts)
    (hReference5Ideal := Cert.Reference5Ideal.Gen.facts) := fun m ρ m' ρ' _ hag =>
  ⟨fun c => Cert.Kernel5Ideal.Arr.G m c, Cert.Kernel5Ideal.Arr.run m ρ,
    (θ_run Cert.Reference5Ideal.defs _ _).mono (fun r h c => by
      obtain ⟨e0, hk⟩ := h c
      obtain ⟨a0, a1, a2, a3, a4⟩ := hag c
      have e := e0.trans (show _ = Cert.Reference5Ideal.Read.val_main_v246 (F := Ideal)
        (m' ((c.tc : Thread Cert.Reference5Ideal.nD Cert.Reference5Ideal.τ).loc Cert.Reference5Ideal.main_arg0))
        (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2))
        (m' ((c.tc : Thread Cert.Reference5Ideal.nD Cert.Reference5Ideal.τ).loc Cert.Reference5Ideal.main_arg3))
        (m' ((c.tc : Thread Cert.Reference5Ideal.nD Cert.Reference5Ideal.τ).loc Cert.Reference5Ideal.main_arg4)) from
        Cert.Reference5Ideal.Read.val_main_v246_eq _)
      rw [a0, a1, a2, a3, a4] at e
      exact ⟨e.trans (Cert.Reference5Ideal.Read.result_eq _ _ _ _ _), hk⟩)
      (Cert.Reference5Ideal.Value.run m' ρ')⟩

theorem frame_reference6 : quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

theorem algebraic6 : algebraic_Kernel6Ideal_Reference6Ideal (hKernel6Ideal := Cert.Kernel6Ideal.Gen.facts)
    (hReference6Ideal := Cert.Reference6Ideal.Gen.facts) := fun m ρ m' ρ' _ hag =>
  ⟨fun c => Cert.Kernel2Ideal.Arr.arr (Cert.Kernel6Ideal.Arr.G m c), Cert.Kernel6Ideal.Arr.run m ρ,
    (θ_run Cert.Reference6Ideal.defs _ _).mono (fun r h c => by
      obtain ⟨e0, hk⟩ := h c
      obtain ⟨a0, a1, a2, a3, a4⟩ := hag c
      have e := e0.trans (show _ = Cert.Reference6Ideal.Read.val_main_v250 (F := Ideal)
        (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2))
        (m' ((c.tc : Thread Cert.Reference6Ideal.nD Cert.Reference6Ideal.τ).loc Cert.Reference6Ideal.main_arg3))
        (m' ((c.tc : Thread Cert.Reference6Ideal.nD Cert.Reference6Ideal.τ).loc Cert.Reference6Ideal.main_arg4)) from
        Cert.Reference6Ideal.Read.val_main_v250_eq _)
      rw [a0, a1, a2, a3, a4] at e
      exact ⟨e.trans (Cert.Reference6Ideal.Read.result_eq _ _ _ _ _), hk⟩)
      (Cert.Reference6Ideal.Value.run m' ρ')⟩

theorem frame_reference7 : quiescent_Reference7Ideal (hReference7Ideal := Cert.Reference7Ideal.Gen.facts) := fun m ρ _ =>
  (θ_run Cert.Reference7Ideal.defs _ _).mono
    (fun r h => ⟨fun c => (h c).2.2.2, Idealize.ShloMosaic.sem_eq_zero_of_no_sems (by decide) r.2⟩)
    (Cert.Reference7Ideal.Value.run m ρ)

section
open Cert.Kernel7Ideal.Arr Cert.Reference7Ideal.Read

theorem algebraic7 : algebraic_Kernel7Ideal_Reference7Ideal (hKernel7Ideal := Cert.Kernel7Ideal.Gen.facts)
    (hReference7Ideal := Cert.Reference7Ideal.Gen.facts) := fun m ρ m' ρ' _ hag =>
  ⟨fun c => Cert.Kernel4Ideal.Arr.arr (X m c), fun c => Cert.Kernel4Ideal.Arr.arr (H m c), fun c => arrS (Q m c),
    Cert.Kernel7Ideal.Arr.run m ρ,
    (θ_run Cert.Reference7Ideal.defs _ _).mono (fun r h c => by
      obtain ⟨e0, e1, e2, hk⟩ := h c
      obtain ⟨a0, a1, a2, a3, a4, a5, a6, a7, a8, a9⟩ := hag c
      rw [val_main_v9_eq, a0, a1, a2, a3, a4, a5, a6, a7] at e0
      rw [val_main_v25_eq, a0, a1, a2, a3, a4, a5, a6, a7, a8] at e1
      rw [val_main_v26_eq, a0, a1, a2, a3, a4, a5, a6, a7, a8, a9] at e2
      exact ⟨e0.trans (x_eq _ _ _ _ _ _ _ _), e1.trans (h_eq _ _ _ _ _ _ _ _ _), e2.trans (q_eq _ _ _ _ _ _ _ _ _ _), hk⟩)
      (Cert.Reference7Ideal.Value.run m' ρ')⟩

end

theorem frame_reference8 : quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

theorem algebraic8 : algebraic_Kernel8Ideal_Reference8Ideal (hKernel8Ideal := Cert.Kernel8Ideal.Gen.facts)
    (hReference8Ideal := Cert.Reference8Ideal.Gen.facts) := fun m ρ m' ρ' _ hag =>
  ⟨fun c => Cert.Kernel8Ideal.Arr.G m c, Cert.Kernel8Ideal.Arr.run m ρ,
    (θ_run Cert.Reference8Ideal.defs _ _).mono (fun r h c => by
      obtain ⟨e0, hk⟩ := h c
      obtain ⟨a0, a1⟩ := hag c
      rw [Cert.Reference8Ideal.Read.val_main_v15_eq, a0, a1] at e0
      exact ⟨e0.trans (Cert.Reference8Ideal.Read.result_eq _ _), hk⟩)
      (Cert.Reference8Ideal.Value.run m' ρ')⟩

theorem frame_reference9 : quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

theorem algebraic9 : algebraic_Kernel9Ideal_Reference9Ideal (hKernel9Ideal := Cert.Kernel9Ideal.Gen.facts)
    (hReference9Ideal := Cert.Reference9Ideal.Gen.facts) := fun m ρ m' ρ' _ hag =>
  ⟨fun c => Cert.Kernel9Ideal.Arr.G m c, Cert.Kernel9Ideal.Arr.run m ρ,
    (θ_run Cert.Reference9Ideal.defs _ _).mono (fun r h c => by
      obtain ⟨e0, hk⟩ := h c
      obtain ⟨a0, a1⟩ := hag c
      rw [Cert.Reference9Ideal.Read.val_main_v15_eq, a0, a1] at e0
      exact ⟨e0.trans (Cert.Reference9Ideal.Read.result_eq _ _), hk⟩)
      (Cert.Reference9Ideal.Value.run m' ρ')⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    fun m ρ _ => Cert.Kernel7.Gen.frame m ρ, fun m ρ _ => Cert.Kernel7Ideal.Gen.frame m ρ, frame_reference7,
    fun m ρ _ => Cert.Kernel8.Gen.frame m ρ, fun m ρ _ => Cert.Kernel8Ideal.Gen.frame m ρ, frame_reference8,
    fun m ρ _ => Cert.Kernel9.Gen.frame m ρ, fun m ρ _ => Cert.Kernel9Ideal.Gen.frame m ρ, frame_reference9,
    trivial, algebraic, trivial, algebraic2, trivial, algebraic3, trivial, algebraic4, trivial, algebraic5, trivial, algebraic6,
    trivial, algebraic7, trivial, algebraic8, trivial, algebraic9⟩

end Cert.Proof

end
